-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ClippedIdeal_on_within [hKernelIdeal : Cert.KernelIdeal.Facts] [hClippedIdeal : Cert.ClippedIdeal.Facts] [hOn_within : Cert.On_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)
      ∧ m ((c.tc : Thread Cert.KernelIdeal.nD Cert.KernelIdeal.τ).loc Cert.KernelIdeal.main_arg2) = m' (((0 : Dev Cert.ClippedIdeal.nD).tc : Thread Cert.ClippedIdeal.nD Cert.ClippedIdeal.τ).loc Cert.ClippedIdeal.main_arg2)
      ∧ m ((c.tc : Thread Cert.KernelIdeal.nD Cert.KernelIdeal.τ).loc Cert.KernelIdeal.main_arg3) = m' (((0 : Dev Cert.ClippedIdeal.nD).tc : Thread Cert.ClippedIdeal.nD Cert.ClippedIdeal.τ).loc Cert.ClippedIdeal.main_arg3)) →
    ∃ (v0 : Buf (Elt Ideal) (((0 : Dev Cert.ClippedIdeal.nD).tc : Thread Cert.ClippedIdeal.nD Cert.ClippedIdeal.τ).loc Cert.ClippedIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 2048]⟩ : Shape).Idx, (Layout.block ⟨2, ![128, 2048]⟩ ⟨2, ![4096, 2048]⟩ 0 32 c ((Cert.On_within.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3)))) : (⟨2, ![128, 2048]⟩ : Shape).Idx → _) i = 1#1 → r.2.mem ((c.tc : Thread Cert.KernelIdeal.nD Cert.KernelIdeal.τ).loc Cert.KernelIdeal.main_v1) i = (Layout.block ⟨2, ![128, 2048]⟩ ⟨2, ![4096, 2048]⟩ 0 32 c v0 : (⟨2, ![128, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 2048]⟩ : Shape).Idx, (Cert.On_within.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3))) i = 1#1 → r.2.mem (((0 : Dev Cert.ClippedIdeal.nD).tc : Thread Cert.ClippedIdeal.nD Cert.ClippedIdeal.τ).loc Cert.ClippedIdeal.main_v10) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1)
          ∧ r.2.mem (((0 : Dev Cert.ClippedIdeal.nD).tc : Thread Cert.ClippedIdeal.nD Cert.ClippedIdeal.τ).loc Cert.ClippedIdeal.main_arg2) = m' (((0 : Dev Cert.ClippedIdeal.nD).tc : Thread Cert.ClippedIdeal.nD Cert.ClippedIdeal.τ).loc Cert.ClippedIdeal.main_arg2)
          ∧ r.2.mem (((0 : Dev Cert.ClippedIdeal.nD).tc : Thread Cert.ClippedIdeal.nD Cert.ClippedIdeal.τ).loc Cert.ClippedIdeal.main_arg3) = m' (((0 : Dev Cert.ClippedIdeal.nD).tc : Thread Cert.ClippedIdeal.nD Cert.ClippedIdeal.τ).loc Cert.ClippedIdeal.main_arg3))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within : Cert.On_within.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within (hKernelIdeal := hKernelIdeal) (hClippedIdeal := hClippedIdeal) (hOn_within := hOn_within)
-- ==== On_within.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) (main_arg2 : FVec F S1 .f32) (main_arg3 : FVec F S1 .f32) : IVec S4096x2048 1 :=
  let main_v0 : FVec F S4096x2048 .f32 := (fun l r => Host.dotGeneral dot_S4096x4096_S4096x2048_S4096x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x2048 .f32 := broadcastInDim S4096x2048 ![0, 1] bcast_S1x1_S4096x2048_0_1 main_v2
  let main_v4 : FVec F S4096x2048 .f32 := mulf main_v0 main_v3
  let main_cst : FVec F S_ .f32 := constant S_ .f32 0xC2700000#32
  let main_v5 : FVec F S4096x2048 .f32 := broadcastInDim S4096x2048 ![] bcast_S_S4096x2048 main_cst
  let main_v6 : IVec S4096x2048 1 := cmpf .oge main_v4 main_v5
  let main_cst_0 : FVec F S_ .f32 := constant S_ .f32 0x42700000#32
  let main_v7 : FVec F S4096x2048 .f32 := broadcastInDim S4096x2048 ![] bcast_S_S4096x2048 main_cst_0
  let main_v8 : IVec S4096x2048 1 := cmpf .ole main_v4 main_v7
  let main_v9 : IVec S4096x2048 1 := andi main_v6 main_v8
  main_v9
-- ==== Kernel.lean ====
abbrev S4096x128 : Shape := ⟨2, ![4096, 128]⟩
abbrev S4096x2048 : Shape := ⟨2, ![4096, 2048]⟩
abbrev S1 : Shape := ⟨1, ![1]⟩
abbrev S128x2048 : Shape := ⟨2, ![128, 2048]⟩
abbrev S128x4096 : Shape := ⟨2, ![128, 4096]⟩
abbrev S4x512x2048 : Shape := ⟨3, ![4, 512, 2048]⟩
abbrev S4 : Shape := ⟨1, ![4]⟩
abbrev S32 : Shape := ⟨1, ![32]⟩
abbrev S_ : Shape := ⟨0, ![]⟩
abbrev S1x512x2048 : Shape := ⟨3, ![1, 512, 2048]⟩
abbrev S512x2048 : Shape := ⟨2, ![512, 2048]⟩
abbrev S128x128 : Shape := ⟨2, ![128, 128]⟩
abbrev S128x512 : Shape := ⟨2, ![128, 512]⟩

abbrev nBuf : Space → Nat
  | .hbm => 5
  | .vmem => 5
  | .smem => 2
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S4096x128, .fp8e5m2⟩
  | .local _ .vmem, ⟨3, _⟩ => ⟨S128x4096, .fp8e5m2⟩
  | .local _ .vmem, ⟨4, _⟩ => ⟨S4x512x2048, .f32⟩
  | .local _ .smem, ⟨0, _⟩ => ⟨S1, .f32⟩
  | .local _ .smem, ⟨1, _⟩ => ⟨S1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 33 72 bufScoped semScoped dmaSemScoped tileCredit tileCredit_eq_zero tileCredit_pos).withBarriers [(0, 32)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 32

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let c0_i32_3 : BitVec 32 := 0#32
  let v6 : BitVec 1 := Scalar.cmpi .eq c32_i32_2 c0_i32_3
  let c1_i32_4 : BitVec 32 := 1#32
  let v7 : BitVec 32 := Scalar.select v6 c1_i32_4 c32_i32_2
  let v8 : BitVec 32 := Scalar.remsi v5 v7
  let c0_i32_6 : BitVec 32 := 0#32
  let v10 : BitVec 1 := Scalar.cmpi .slt v8 c0_i32_6
  let c0_i32_7 : BitVec 32 := 0#32
  let v11 : BitVec 1 := Scalar.cmpi .slt v7 c0_i32_7
  let v12 : BitVec 1 := Scalar.xori v10 v11
  let c0_i32_5 : BitVec 32 := 0#32
  let v9 : BitVec 1 := Scalar.cmpi .ne v8 c0_i32_5
  let v13 : BitVec 1 := Scalar.andi v12 v9
  let v14 : BitVec 32 := Scalar.addi v8 v7
  let v15 : BitVec 32 := Scalar.select v13 v14 v8
  let c1_i32_9 : BitVec 32 := 1#32
  let v18 : BitVec 32 := Scalar.muli v15 c1_i32_9
  let v19 : BitVec 32 := Scalar.addi c0_i32_10 v18
  v19.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v20 : BitVec 32 := Scalar.addi v2 c2_i32
  let c32_i32_11 : BitVec 32 := 32#32
  let c0_i32_12 : BitVec 32 := 0#32
  let v21 : BitVec 1 := Scalar.cmpi .eq c32_i32_11 c0_i32_12
  let c1_i32_13 : BitVec 32 := 1#32
  let v22 : BitVec 32 := Scalar.select v21 c1_i32_13 c32_i32_11
  let v23 : BitVec 32 := Scalar.remsi v20 v22
  let c0_i32_15 : BitVec 32 := 0#32
  let v25 : BitVec 1 := Scalar.cmpi .slt v23 c0_i32_15
  let c0_i32_16 : BitVec 32 := 0#32
  let v26 : BitVec 1 := Scalar.cmpi .slt v22 c0_i32_16
  let v27 : BitVec 1 := Scalar.xori v25 v26
  let c0_i32_14 : BitVec 32 := 0#32
  let v24 : BitVec 1 := Scalar.cmpi .ne v23 c0_i32_14
  let v28 : BitVec 1 := Scalar.andi v27 v24
  let v29 : BitVec 32 := Scalar.addi v23 v22
  let v30 : BitVec 32 := Scalar.select v28 v29 v23
  let c1_i32_18 : BitVec 32 := 1#32
  let v33 : BitVec 32 := Scalar.muli v30 c1_i32_18
  let v34 : BitVec 32 := Scalar.addi c0_i32_19 v33
  v34.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v35 : BitVec 32 := Scalar.addi v2 c3_i32
  let c32_i32_20 : BitVec 32 := 32#32
  let c0_i32_21 : BitVec 32 := 0#32
  let v36 : BitVec 1 := Scalar.cmpi .eq c32_i32_20 c0_i32_21
  let c1_i32_22 : BitVec 32 := 1#32
  let v37 : BitVec 32 := Scalar.select v36 c1_i32_22 c32_i32_20
  let v38 : BitVec 32 := Scalar.remsi v35 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  let c1_i32_27 : BitVec 32 := 1#32
  let v48 : BitVec 32 := Scalar.muli v45 c1_i32_27
  let v49 : BitVec 32 := Scalar.addi c0_i32_28 v48
  v49.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v50 : BitVec 32 := Scalar.addi v2 c4_i32
  let c32_i32_29 : BitVec 32 := 32#32
  let c0_i32_30 : BitVec 32 := 0#32
  let v51 : BitVec 1 := Scalar.cmpi .eq c32_i32_29 c0_i32_30
  let c1_i32_31 : BitVec 32 := 1#32
  let v52 : BitVec 32 := Scalar.select v51 c1_i32_31 c32_i32_29
  let v53 : BitVec 32 := Scalar.remsi v50 v52
  let c0_i32_33 : BitVec 32 := 0#32
  let v55 : BitVec 1 := Scalar.cmpi .slt v53 c0_i32_33
  let c0_i32_34 : BitVec 32 := 0#32
  let v56 : BitVec 1 := Scalar.cmpi .slt v52 c0_i32_34
  let v57 : BitVec 1 := Scalar.xori v55 v56
  let c0_i32_32 : BitVec 32 := 0#32
  let v54 : BitVec 1 := Scalar.cmpi .ne v53 c0_i32_32
  let v58 : BitVec 1 := Scalar.andi v57 v54
  let v59 : BitVec 32 := Scalar.addi v53 v52
  let v60 : BitVec 32 := Scalar.select v58 v59 v53
  let c1_i32_36 : BitVec 32 := 1#32
  let v63 : BitVec 32 := Scalar.muli v60 c1_i32_36
  let v64 : BitVec 32 := Scalar.addi c0_i32_37 v63
  v64.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v65 : BitVec 32 := Scalar.addi v2 c5_i32
  let c32_i32_38 : BitVec 32 := 32#32
  let c0_i32_39 : BitVec 32 := 0#32
  let v66 : BitVec 1 := Scalar.cmpi .eq c32_i32_38 c0_i32_39
  let c1_i32_40 : BitVec 32 := 1#32
  let v67 : BitVec 32 := Scalar.select v66 c1_i32_40 c32_i32_38
  let v68 : BitVec 32 := Scalar.remsi v65 v67
  let c0_i32_42 : BitVec 32 := 0#32
  let v70 : BitVec 1 := Scalar.cmpi .slt v68 c0_i32_42
  let c0_i32_43 : BitVec 32 := 0#32
  let v71 : BitVec 1 := Scalar.cmpi .slt v67 c0_i32_43
  let v72 : BitVec 1 := Scalar.xori v70 v71
  let c0_i32_41 : BitVec 32 := 0#32
  let v69 : BitVec 1 := Scalar.cmpi .ne v68 c0_i32_41
  let v73 : BitVec 1 := Scalar.andi v72 v69
  let v74 : BitVec 32 := Scalar.addi v68 v67
  let v75 : BitVec 32 := Scalar.select v73 v74 v68
  let c1_i32_45 : BitVec 32 := 1#32
  let v78 : BitVec 32 := Scalar.muli v75 c1_i32_45
  let v79 : BitVec 32 := Scalar.addi c0_i32_46 v78
  v79.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v80 : BitVec 32 := Scalar.addi v2 c6_i32
  let c32_i32_47 : BitVec 32 := 32#32
  let c0_i32_48 : BitVec 32 := 0#32
  let v81 : BitVec 1 := Scalar.cmpi .eq c32_i32_47 c0_i32_48
  let c1_i32_49 : BitVec 32 := 1#32
  let v82 : BitVec 32 := Scalar.select v81 c1_i32_49 c32_i32_47
  let v83 : BitVec 32 := Scalar.remsi v80 v82
  let c0_i32_51 : BitVec 32 := 0#32
  let v85 : BitVec 1 := Scalar.cmpi .slt v83 c0_i32_51
  let c0_i32_52 : BitVec 32 := 0#32
  let v86 : BitVec 1 := Scalar.cmpi .slt v82 c0_i32_52
  let v87 : BitVec 1 := Scalar.xori v85 v86
  let c0_i32_50 : BitVec 32 := 0#32
  let v84 : BitVec 1 := Scalar.cmpi .ne v83 c0_i32_50
  let v88 : BitVec 1 := Scalar.andi v87 v84
  let v89 : BitVec 32 := Scalar.addi v83 v82
  let v90 : BitVec 32 := Scalar.select v88 v89 v83
  let c1_i32_54 : BitVec 32 := 1#32
  let v93 : BitVec 32 := Scalar.muli v90 c1_i32_54
  let v94 : BitVec 32 := Scalar.addi c0_i32_55 v93
  v94.toNat
def k0_dev7 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v95 : BitVec 32 := Scalar.addi v2 c7_i32
  let c32_i32_56 : BitVec 32 := 32#32
  let c0_i32_57 : BitVec 32 := 0#32
  let v96 : BitVec 1 := Scalar.cmpi .eq c32_i32_56 c0_i32_57
  let c1_i32_58 : BitVec 32 := 1#32
  let v97 : BitVec 32 := Scalar.select v96 c1_i32_58 c32_i32_56
  let v98 : BitVec 32 := Scalar.remsi v95 v97
  let c0_i32_60 : BitVec 32 := 0#32
  let v100 : BitVec 1 := Scalar.cmpi .slt v98 c0_i32_60
  let c0_i32_61 : BitVec 32 := 0#32
  let v101 : BitVec 1 := Scalar.cmpi .slt v97 c0_i32_61
  let v102 : BitVec 1 := Scalar.xori v100 v101
  let c0_i32_59 : BitVec 32 := 0#32
  let v99 : BitVec 1 := Scalar.cmpi .ne v98 c0_i32_59
  let v103 : BitVec 1 := Scalar.andi v102 v99
  let v104 : BitVec 32 := Scalar.addi v98 v97
  let v105 : BitVec 32 := Scalar.select v103 v104 v98
  let c1_i32_63 : BitVec 32 := 1#32
  let v108 : BitVec 32 := Scalar.muli v105 c1_i32_63
  let v109 : BitVec 32 := Scalar.addi c0_i32_64 v108
  v109.toNat
def k0_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v110 : BitVec 32 := Scalar.addi v2 c8_i32
  let c32_i32_65 : BitVec 32 := 32#32
  let c0_i32_66 : BitVec 32 := 0#32
  let v111 : BitVec 1 := Scalar.cmpi .eq c32_i32_65 c0_i32_66
  let c1_i32_67 : BitVec 32 := 1#32
  let v112 : BitVec 32 := Scalar.select v111 c1_i32_67 c32_i32_65
  let v113 : BitVec 32 := Scalar.remsi v110 v112
  let c0_i32_69 : BitVec 32 := 0#32
  let v115 : BitVec 1 := Scalar.cmpi .slt v113 c0_i32_69
  let c0_i32_70 : BitVec 32 := 0#32
  let v116 : BitVec 1 := Scalar.cmpi .slt v112 c0_i32_70
  let v117 : BitVec 1 := Scalar.xori v115 v116
  let c0_i32_68 : BitVec 32 := 0#32
  let v114 : BitVec 1 := Scalar.cmpi .ne v113 c0_i32_68
  let v118 : BitVec 1 := Scalar.andi v117 v114
  let v119 : BitVec 32 := Scalar.addi v113 v112
  let v120 : BitVec 32 := Scalar.select v118 v119 v113
  let c1_i32_72 : BitVec 32 := 1#32
  let v123 : BitVec 32 := Scalar.muli v120 c1_i32_72
  let v124 : BitVec 32 := Scalar.addi c0_i32_73 v123
  v124.toNat
def k0_dev9 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v125 : BitVec 32 := Scalar.addi v2 c9_i32
  let c32_i32_74 : BitVec 32 := 32#32
  let c0_i32_75 : BitVec 32 := 0#32
  let v126 : BitVec 1 := Scalar.cmpi .eq c32_i32_74 c0_i32_75
  let c1_i32_76 : BitVec 32 := 1#32
  let v127 : BitVec 32 := Scalar.select v126 c1_i32_76 c32_i32_74
  let v128 : BitVec 32 := Scalar.remsi v125 v127
  let c0_i32_78 : BitVec 32 := 0#32
  let v130 : BitVec 1 := Scalar.cmpi .slt v128 c0_i32_78
  let c0_i32_79 : BitVec 32 := 0#32
  let v131 : BitVec 1 := Scalar.cmpi .slt v127 c0_i32_79
  let v132 : BitVec 1 := Scalar.xori v130 v131
  let c0_i32_77 : BitVec 32 := 0#32
  let v129 : BitVec 1 := Scalar.cmpi .ne v128 c0_i32_77
  let v133 : BitVec 1 := Scalar.andi v132 v129
  let v134 : BitVec 32 := Scalar.addi v128 v127
  let v135 : BitVec 32 := Scalar.select v133 v134 v128
  let c1_i32_81 : BitVec 32 := 1#32
  let v138 : BitVec 32 := Scalar.muli v135 c1_i32_81
  let v139 : BitVec 32 := Scalar.addi c0_i32_82 v138
  v139.toNat
def k0_dev10 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v140 : BitVec 32 := Scalar.addi v2 c10_i32
  let c32_i32_83 : BitVec 32 := 32#32
  let c0_i32_84 : BitVec 32 := 0#32
  let v141 : BitVec 1 := Scalar.cmpi .eq c32_i32_83 c0_i32_84
  let c1_i32_85 : BitVec 32 := 1#32
  let v142 : BitVec 32 := Scalar.select v141 c1_i32_85 c32_i32_83
  let v143 : BitVec 32 := Scalar.remsi v140 v142
  let c0_i32_87 : BitVec 32 := 0#32
  let v145 : BitVec 1 := Scalar.cmpi .slt v143 c0_i32_87
  let c0_i32_88 : BitVec 32 := 0#32
  let v146 : BitVec 1 := Scalar.cmpi .slt v142 c0_i32_88
  let v147 : BitVec 1 := Scalar.xori v145 v146
  let c0_i32_86 : BitVec 32 := 0#32
  let v144 : BitVec 1 := Scalar.cmpi .ne v143 c0_i32_86
  let v148 : BitVec 1 := Scalar.andi v147 v144
  let v149 : BitVec 32 := Scalar.addi v143 v142
  let v150 : BitVec 32 := Scalar.select v148 v149 v143
  let c1_i32_90 : BitVec 32 := 1#32
  let v153 : BitVec 32 := Scalar.muli v150 c1_i32_90
  let v154 : BitVec 32 := Scalar.addi c0_i32_91 v153
  v154.toNat
def k0_dev11 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v155 : BitVec 32 := Scalar.addi v2 c11_i32
  let c32_i32_92 : BitVec 32 := 32#32
  let c0_i32_93 : BitVec 32 := 0#32
  let v156 : BitVec 1 := Scalar.cmpi .eq c32_i32_92 c0_i32_93
  let c1_i32_94 : BitVec 32 := 1#32
  let v157 : BitVec 32 := Scalar.select v156 c1_i32_94 c32_i32_92
  let v158 : BitVec 32 := Scalar.remsi v155 v157
  let c0_i32_96 : BitVec 32 := 0#32
  let v160 : BitVec 1 := Scalar.cmpi .slt v158 c0_i32_96
  let c0_i32_97 : BitVec 32 := 0#32
  let v161 : BitVec 1 := Scalar.cmpi .slt v157 c0_i32_97
  let v162 : BitVec 1 := Scalar.xori v160 v161
  let c0_i32_95 : BitVec 32 := 0#32
  let v159 : BitVec 1 := Scalar.cmpi .ne v158 c0_i32_95
  let v163 : BitVec 1 := Scalar.andi v162 v159
  let v164 : BitVec 32 := Scalar.addi v158 v157
  let v165 : BitVec 32 := Scalar.select v163 v164 v158
  let c1_i32_99 : BitVec 32 := 1#32
  let v168 : BitVec 32 := Scalar.muli v165 c1_i32_99
  let v169 : BitVec 32 := Scalar.addi c0_i32_100 v168
  v169.toNat
def k0_dev12 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v170 : BitVec 32 := Scalar.addi v2 c12_i32
  let c32_i32_101 : BitVec 32 := 32#32
  let c0_i32_102 : BitVec 32 := 0#32
  let v171 : BitVec 1 := Scalar.cmpi .eq c32_i32_101 c0_i32_102
  let c1_i32_103 : BitVec 32 := 1#32
  let v172 : BitVec 32 := Scalar.select v171 c1_i32_103 c32_i32_101
  let v173 : BitVec 32 := Scalar.remsi v170 v172
  let c0_i32_105 : BitVec 32 := 0#32
  let v175 : BitVec 1 := Scalar.cmpi .slt v173 c0_i32_105
  let c0_i32_106 : BitVec 32 := 0#32
  let v176 : BitVec 1 := Scalar.cmpi .slt v172 c0_i32_106
  let v177 : BitVec 1 := Scalar.xori v175 v176
  let c0_i32_104 : BitVec 32 := 0#32
  let v174 : BitVec 1 := Scalar.cmpi .ne v173 c0_i32_104
  let v178 : BitVec 1 := Scalar.andi v177 v174
  let v179 : BitVec 32 := Scalar.addi v173 v172
  let v180 : BitVec 32 := Scalar.select v178 v179 v173
  let c1_i32_108 : BitVec 32 := 1#32
  let v183 : BitVec 32 := Scalar.muli v180 c1_i32_108
  let v184 : BitVec 32 := Scalar.addi c0_i32_109 v183
  v184.toNat
def k0_dev13 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v185 : BitVec 32 := Scalar.addi v2 c13_i32
  let c32_i32_110 : BitVec 32 := 32#32
  let c0_i32_111 : BitVec 32 := 0#32
  let v186 : BitVec 1 := Scalar.cmpi .eq c32_i32_110 c0_i32_111
  let c1_i32_112 : BitVec 32 := 1#32
  let v187 : BitVec 32 := Scalar.select v186 c1_i32_112 c32_i32_110
  let v188 : BitVec 32 := Scalar.remsi v185 v187
  let c0_i32_114 : BitVec 32 := 0#32
  let v190 : BitVec 1 := Scalar.cmpi .slt v188 c0_i32_114
  let c0_i32_115 : BitVec 32 := 0#32
  let v191 : BitVec 1 := Scalar.cmpi .slt v187 c0_i32_115
  let v192 : BitVec 1 := Scalar.xori v190 v191
  let c0_i32_113 : BitVec 32 := 0#32
  let v189 : BitVec 1 := Scalar.cmpi .ne v188 c0_i32_113
  let v193 : BitVec 1 := Scalar.andi v192 v189
  let v194 : BitVec 32 := Scalar.addi v188 v187
  let v195 : BitVec 32 := Scalar.select v193 v194 v188
  let c1_i32_117 : BitVec 32 := 1#32
  let v198 : BitVec 32 := Scalar.muli v195 c1_i32_117
  let v199 : BitVec 32 := Scalar.addi c0_i32_118 v198
  v199.toNat
def k0_dev14 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v200 : BitVec 32 := Scalar.addi v2 c14_i32
  let c32_i32_119 : BitVec 32 := 32#32
  let c0_i32_120 : BitVec 32 := 0#32
  let v201 : BitVec 1 := Scalar.cmpi .eq c32_i32_119 c0_i32_120
  let c1_i32_121 : BitVec 32 := 1#32
  let v202 : BitVec 32 := Scalar.select v201 c1_i32_121 c32_i32_119
  let v203 : BitVec 32 := Scalar.remsi v200 v202
  let c0_i32_123 : BitVec 32 := 0#32
  let v205 : BitVec 1 := Scalar.cmpi .slt v203 c0_i32_123
  let c0_i32_124 : BitVec 32 := 0#32
  let v206 : BitVec 1 := Scalar.cmpi .slt v202 c0_i32_124
  let v207 : BitVec 1 := Scalar.xori v205 v206
  let c0_i32_122 : BitVec 32 := 0#32
  let v204 : BitVec 1 := Scalar.cmpi .ne v203 c0_i32_122
  let v208 : BitVec 1 := Scalar.andi v207 v204
  let v209 : BitVec 32 := Scalar.addi v203 v202
  let v210 : BitVec 32 := Scalar.select v208 v209 v203
  let c1_i32_126 : BitVec 32 := 1#32
  let v213 : BitVec 32 := Scalar.muli v210 c1_i32_126
  let v214 : BitVec 32 := Scalar.addi c0_i32_127 v213
  v214.toNat
def k0_dev15 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v215 : BitVec 32 := Scalar.addi v2 c15_i32
  let c32_i32_128 : BitVec 32 := 32#32
  let c0_i32_129 : BitVec 32 := 0#32
  let v216 : BitVec 1 := Scalar.cmpi .eq c32_i32_128 c0_i32_129
  let c1_i32_130 : BitVec 32 := 1#32
  let v217 : BitVec 32 := Scalar.select v216 c1_i32_130 c32_i32_128
  let v218 : BitVec 32 := Scalar.remsi v215 v217
  let c0_i32_132 : BitVec 32 := 0#32
  let v220 : BitVec 1 := Scalar.cmpi .slt v218 c0_i32_132
  let c0_i32_133 : BitVec 32 := 0#32
  let v221 : BitVec 1 := Scalar.cmpi .slt v217 c0_i32_133
  let v222 : BitVec 1 := Scalar.xori v220 v221
  let c0_i32_131 : BitVec 32 := 0#32
  let v219 : BitVec 1 := Scalar.cmpi .ne v218 c0_i32_131
  let v223 : BitVec 1 := Scalar.andi v222 v219
  let v224 : BitVec 32 := Scalar.addi v218 v217
  let v225 : BitVec 32 := Scalar.select v223 v224 v218
  let c1_i32_135 : BitVec 32 := 1#32
  let v228 : BitVec 32 := Scalar.muli v225 c1_i32_135
  let v229 : BitVec 32 := Scalar.addi c0_i32_136 v228
  v229.toNat
def k0_dev16 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v230 : BitVec 32 := Scalar.addi v2 c16_i32
  let c32_i32_137 : BitVec 32 := 32#32
  let c0_i32_138 : BitVec 32 := 0#32
  let v231 : BitVec 1 := Scalar.cmpi .eq c32_i32_137 c0_i32_138
  let c1_i32_139 : BitVec 32 := 1#32
  let v232 : BitVec 32 := Scalar.select v231 c1_i32_139 c32_i32_137
  let v233 : BitVec 32 := Scalar.remsi v230 v232
  let c0_i32_141 : BitVec 32 := 0#32
  let v235 : BitVec 1 := Scalar.cmpi .slt v233 c0_i32_141
  let c0_i32_142 : BitVec 32 := 0#32
  let v236 : BitVec 1 := Scalar.cmpi .slt v232 c0_i32_142
  let v237 : BitVec 1 := Scalar.xori v235 v236
  let c0_i32_140 : BitVec 32 := 0#32
  let v234 : BitVec 1 := Scalar.cmpi .ne v233 c0_i32_140
  let v238 : BitVec 1 := Scalar.andi v237 v234
  let v239 : BitVec 32 := Scalar.addi v233 v232
  let v240 : BitVec 32 := Scalar.select v238 v239 v233
  let c1_i32_145 : BitVec 32 := 1#32
  let v243 : BitVec 32 := Scalar.muli v240 c1_i32_145
  let v244 : BitVec 32 := Scalar.addi c0_i32_146 v243
  v244.toNat
def k0_dev17 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_147 : BitVec 32 := 17#32
  let v245 : BitVec 32 := Scalar.addi v2 c17_i32_147
  let c32_i32_148 : BitVec 32 := 32#32
  let c0_i32_149 : BitVec 32 := 0#32
  let v246 : BitVec 1 := Scalar.cmpi .eq c32_i32_148 c0_i32_149
  let c1_i32_150 : BitVec 32 := 1#32
  let v247 : BitVec 32 := Scalar.select v246 c1_i32_150 c32_i32_148
  let v248 : BitVec 32 := Scalar.remsi v245 v247
  let c0_i32_152 : BitVec 32 := 0#32
  let v250 : BitVec 1 := Scalar.cmpi .slt v248 c0_i32_152
  let c0_i32_153 : BitVec 32 := 0#32
  let v251 : BitVec 1 := Scalar.cmpi .slt v247 c0_i32_153
  let v252 : BitVec 1 := Scalar.xori v250 v251
  let c0_i32_151 : BitVec 32 := 0#32
  let v249 : BitVec 1 := Scalar.cmpi .ne v248 c0_i32_151
  let v253 : BitVec 1 := Scalar.andi v252 v249
  let v254 : BitVec 32 := Scalar.addi v248 v247
  let v255 : BitVec 32 := Scalar.select v253 v254 v248
  let c1_i32_156 : BitVec 32 := 1#32
  let v258 : BitVec 32 := Scalar.muli v255 c1_i32_156
  let v259 : BitVec 32 := Scalar.addi c0_i32_157 v258
  v259.toNat
def k0_dev18 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_158 : BitVec 32 := 18#32
  let v260 : BitVec 32 := Scalar.addi v2 c18_i32_158
  let c32_i32_159 : BitVec 32 := 32#32
  let c0_i32_160 : BitVec 32 := 0#32
  let v261 : BitVec 1 := Scalar.cmpi .eq c32_i32_159 c0_i32_160
  let c1_i32_161 : BitVec 32 := 1#32
  let v262 : BitVec 32 := Scalar.select v261 c1_i32_161 c32_i32_159
  let v263 : BitVec 32 := Scalar.remsi v260 v262
  let c0_i32_163 : BitVec 32 := 0#32
  let v265 : BitVec 1 := Scalar.cmpi .slt v263 c0_i32_163
  let c0_i32_164 : BitVec 32 := 0#32
  let v266 : BitVec 1 := Scalar.cmpi .slt v262 c0_i32_164
  let v267 : BitVec 1 := Scalar.xori v265 v266
  let c0_i32_162 : BitVec 32 := 0#32
  let v264 : BitVec 1 := Scalar.cmpi .ne v263 c0_i32_162
  let v268 : BitVec 1 := Scalar.andi v267 v264
  let v269 : BitVec 32 := Scalar.addi v263 v262
  let v270 : BitVec 32 := Scalar.select v268 v269 v263
  let c1_i32_167 : BitVec 32 := 1#32
  let v273 : BitVec 32 := Scalar.muli v270 c1_i32_167
  let v274 : BitVec 32 := Scalar.addi c0_i32_168 v273
  v274.toNat
def k0_dev19 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_169 : BitVec 32 := 19#32
  let v275 : BitVec 32 := Scalar.addi v2 c19_i32_169
  let c32_i32_170 : BitVec 32 := 32#32
  let c0_i32_171 : BitVec 32 := 0#32
  let v276 : BitVec 1 := Scalar.cmpi .eq c32_i32_170 c0_i32_171
  let c1_i32_172 : BitVec 32 := 1#32
  let v277 : BitVec 32 := Scalar.select v276 c1_i32_172 c32_i32_170
  let v278 : BitVec 32 := Scalar.remsi v275 v277
  let c0_i32_174 : BitVec 32 := 0#32
  let v280 : BitVec 1 := Scalar.cmpi .slt v278 c0_i32_174
  let c0_i32_175 : BitVec 32 := 0#32
  let v281 : BitVec 1 := Scalar.cmpi .slt v277 c0_i32_175
  let v282 : BitVec 1 := Scalar.xori v280 v281
  let c0_i32_173 : BitVec 32 := 0#32
  let v279 : BitVec 1 := Scalar.cmpi .ne v278 c0_i32_173
  let v283 : BitVec 1 := Scalar.andi v282 v279
  let v284 : BitVec 32 := Scalar.addi v278 v277
  let v285 : BitVec 32 := Scalar.select v283 v284 v278
  let c1_i32_178 : BitVec 32 := 1#32
  let v288 : BitVec 32 := Scalar.muli v285 c1_i32_178
  let v289 : BitVec 32 := Scalar.addi c0_i32_179 v288
  v289.toNat
def k0_dev20 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_180 : BitVec 32 := 20#32
  let v290 : BitVec 32 := Scalar.addi v2 c20_i32_180
  let c32_i32_181 : BitVec 32 := 32#32
  let c0_i32_182 : BitVec 32 := 0#32
  let v291 : BitVec 1 := Scalar.cmpi .eq c32_i32_181 c0_i32_182
  let c1_i32_183 : BitVec 32 := 1#32
  let v292 : BitVec 32 := Scalar.select v291 c1_i32_183 c32_i32_181
  let v293 : BitVec 32 := Scalar.remsi v290 v292
  let c0_i32_185 : BitVec 32 := 0#32
  let v295 : BitVec 1 := Scalar.cmpi .slt v293 c0_i32_185
  let c0_i32_186 : BitVec 32 := 0#32
  let v296 : BitVec 1 := Scalar.cmpi .slt v292 c0_i32_186
  let v297 : BitVec 1 := Scalar.xori v295 v296
  let c0_i32_184 : BitVec 32 := 0#32
  let v294 : BitVec 1 := Scalar.cmpi .ne v293 c0_i32_184
  let v298 : BitVec 1 := Scalar.andi v297 v294
  let v299 : BitVec 32 := Scalar.addi v293 v292
  let v300 : BitVec 32 := Scalar.select v298 v299 v293
  let c1_i32_189 : BitVec 32 := 1#32
  let v303 : BitVec 32 := Scalar.muli v300 c1_i32_189
  let v304 : BitVec 32 := Scalar.addi c0_i32_190 v303
  v304.toNat
def k0_dev21 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_191 : BitVec 32 := 21#32
  let v305 : BitVec 32 := Scalar.addi v2 c21_i32_191
  let c32_i32_192 : BitVec 32 := 32#32
  let c0_i32_193 : BitVec 32 := 0#32
  let v306 : BitVec 1 := Scalar.cmpi .eq c32_i32_192 c0_i32_193
  let c1_i32_194 : BitVec 32 := 1#32
  let v307 : BitVec 32 := Scalar.select v306 c1_i32_194 c32_i32_192
  let v308 : BitVec 32 := Scalar.remsi v305 v307
  let c0_i32_196 : BitVec 32 := 0#32
  let v310 : BitVec 1 := Scalar.cmpi .slt v308 c0_i32_196
  let c0_i32_197 : BitVec 32 := 0#32
  let v311 : BitVec 1 := Scalar.cmpi .slt v307 c0_i32_197
  let v312 : BitVec 1 := Scalar.xori v310 v311
  let c0_i32_195 : BitVec 32 := 0#32
  let v309 : BitVec 1 := Scalar.cmpi .ne v308 c0_i32_195
  let v313 : BitVec 1 := Scalar.andi v312 v309
  let v314 : BitVec 32 := Scalar.addi v308 v307
  let v315 : BitVec 32 := Scalar.select v313 v314 v308
  let c1_i32_200 : BitVec 32 := 1#32
  let v318 : BitVec 32 := Scalar.muli v315 c1_i32_200
  let v319 : BitVec 32 := Scalar.addi c0_i32_201 v318
  v319.toNat
def k0_dev22 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_202 : BitVec 32 := 22#32
  let v320 : BitVec 32 := Scalar.addi v2 c22_i32_202
  let c32_i32_203 : BitVec 32 := 32#32
  let c0_i32_204 : BitVec 32 := 0#32
  let v321 : BitVec 1 := Scalar.cmpi .eq c32_i32_203 c0_i32_204
  let c1_i32_205 : BitVec 32 := 1#32
  let v322 : BitVec 32 := Scalar.select v321 c1_i32_205 c32_i32_203
  let v323 : BitVec 32 := Scalar.remsi v320 v322
  let c0_i32_207 : BitVec 32 := 0#32
  let v325 : BitVec 1 := Scalar.cmpi .slt v323 c0_i32_207
  let c0_i32_208 : BitVec 32 := 0#32
  let v326 : BitVec 1 := Scalar.cmpi .slt v322 c0_i32_208
  let v327 : BitVec 1 := Scalar.xori v325 v326
  let c0_i32_206 : BitVec 32 := 0#32
  let v324 : BitVec 1 := Scalar.cmpi .ne v323 c0_i32_206
  let v328 : BitVec 1 := Scalar.andi v327 v324
  let v329 : BitVec 32 := Scalar.addi v323 v322
  let v330 : BitVec 32 := Scalar.select v328 v329 v323
  let c1_i32_211 : BitVec 32 := 1#32
  let v333 : BitVec 32 := Scalar.muli v330 c1_i32_211
  let v334 : BitVec 32 := Scalar.addi c0_i32_212 v333
  v334.toNat
def k0_dev23 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_213 : BitVec 32 := 23#32
  let v335 : BitVec 32 := Scalar.addi v2 c23_i32_213
  let c32_i32_214 : BitVec 32 := 32#32
  let c0_i32_215 : BitVec 32 := 0#32
  let v336 : BitVec 1 := Scalar.cmpi .eq c32_i32_214 c0_i32_215
  let c1_i32_216 : BitVec 32 := 1#32
  let v337 : BitVec 32 := Scalar.select v336 c1_i32_216 c32_i32_214
  let v338 : BitVec 32 := Scalar.remsi v335 v337
  let c0_i32_218 : BitVec 32 := 0#32
  let v340 : BitVec 1 := Scalar.cmpi .slt v338 c0_i32_218
  let c0_i32_219 : BitVec 32 := 0#32
  let v341 : BitVec 1 := Scalar.cmpi .slt v337 c0_i32_219
  let v342 : BitVec 1 := Scalar.xori v340 v341
  let c0_i32_217 : BitVec 32 := 0#32
  let v339 : BitVec 1 := Scalar.cmpi .ne v338 c0_i32_217
  let v343 : BitVec 1 := Scalar.andi v342 v339
  let v344 : BitVec 32 := Scalar.addi v338 v337
  let v345 : BitVec 32 := Scalar.select v343 v344 v338
  let c1_i32_222 : BitVec 32 := 1#32
  let v348 : BitVec 32 := Scalar.muli v345 c1_i32_222
  let v349 : BitVec 32 := Scalar.addi c0_i32_223 v348
  v349.toNat
def k0_dev24 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_224 : BitVec 32 := 24#32
  let v350 : BitVec 32 := Scalar.addi v2 c24_i32_224
  let c32_i32_225 : BitVec 32 := 32#32
  let c0_i32_226 : BitVec 32 := 0#32
  let v351 : BitVec 1 := Scalar.cmpi .eq c32_i32_225 c0_i32_226
  let c1_i32_227 : BitVec 32 := 1#32
  let v352 : BitVec 32 := Scalar.select v351 c1_i32_227 c32_i32_225
  let v353 : BitVec 32 := Scalar.remsi v350 v352
  let c0_i32_229 : BitVec 32 := 0#32
  let v355 : BitVec 1 := Scalar.cmpi .slt v353 c0_i32_229
  let c0_i32_230 : BitVec 32 := 0#32
  let v356 : BitVec 1 := Scalar.cmpi .slt v352 c0_i32_230
  let v357 : BitVec 1 := Scalar.xori v355 v356
  let c0_i32_228 : BitVec 32 := 0#32
  let v354 : BitVec 1 := Scalar.cmpi .ne v353 c0_i32_228
  let v358 : BitVec 1 := Scalar.andi v357 v354
  let v359 : BitVec 32 := Scalar.addi v353 v352
  let v360 : BitVec 32 := Scalar.select v358 v359 v353
  let c1_i32_233 : BitVec 32 := 1#32
  let v363 : BitVec 32 := Scalar.muli v360 c1_i32_233
  let v364 : BitVec 32 := Scalar.addi c0_i32_234 v363
  v364.toNat
def k0_dev25 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_235 : BitVec 32 := 25#32
  let v365 : BitVec 32 := Scalar.addi v2 c25_i32_235
  let c32_i32_236 : BitVec 32 := 32#32
  let c0_i32_237 : BitVec 32 := 0#32
  let v366 : BitVec 1 := Scalar.cmpi .eq c32_i32_236 c0_i32_237
  let c1_i32_238 : BitVec 32 := 1#32
  let v367 : BitVec 32 := Scalar.select v366 c1_i32_238 c32_i32_236
  let v368 : BitVec 32 := Scalar.remsi v365 v367
  let c0_i32_240 : BitVec 32 := 0#32
  let v370 : BitVec 1 := Scalar.cmpi .slt v368 c0_i32_240
  let c0_i32_241 : BitVec 32 := 0#32
  let v371 : BitVec 1 := Scalar.cmpi .slt v367 c0_i32_241
  let v372 : BitVec 1 := Scalar.xori v370 v371
  let c0_i32_239 : BitVec 32 := 0#32
  let v369 : BitVec 1 := Scalar.cmpi .ne v368 c0_i32_239
  let v373 : BitVec 1 := Scalar.andi v372 v369
  let v374 : BitVec 32 := Scalar.addi v368 v367
  let v375 : BitVec 32 := Scalar.select v373 v374 v368
  let c1_i32_244 : BitVec 32 := 1#32
  let v378 : BitVec 32 := Scalar.muli v375 c1_i32_244
  let v379 : BitVec 32 := Scalar.addi c0_i32_245 v378
  v379.toNat
def k0_dev26 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_246 : BitVec 32 := 26#32
  let v380 : BitVec 32 := Scalar.addi v2 c26_i32_246
  let c32_i32_247 : BitVec 32 := 32#32
  let c0_i32_248 : BitVec 32 := 0#32
  let v381 : BitVec 1 := Scalar.cmpi .eq c32_i32_247 c0_i32_248
  let c1_i32_249 : BitVec 32 := 1#32
  let v382 : BitVec 32 := Scalar.select v381 c1_i32_249 c32_i32_247
  let v383 : BitVec 32 := Scalar.remsi v380 v382
  let c0_i32_251 : BitVec 32 := 0#32
  let v385 : BitVec 1 := Scalar.cmpi .slt v383 c0_i32_251
  let c0_i32_252 : BitVec 32 := 0#32
  let v386 : BitVec 1 := Scalar.cmpi .slt v382 c0_i32_252
  let v387 : BitVec 1 := Scalar.xori v385 v386
  let c0_i32_250 : BitVec 32 := 0#32
  let v384 : BitVec 1 := Scalar.cmpi .ne v383 c0_i32_250
  let v388 : BitVec 1 := Scalar.andi v387 v384
  let v389 : BitVec 32 := Scalar.addi v383 v382
  let v390 : BitVec 32 := Scalar.select v388 v389 v383
  let c1_i32_255 : BitVec 32 := 1#32
  let v393 : BitVec 32 := Scalar.muli v390 c1_i32_255
  let v394 : BitVec 32 := Scalar.addi c0_i32_256 v393
  v394.toNat
def k0_dev27 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_257 : BitVec 32 := 27#32
  let v395 : BitVec 32 := Scalar.addi v2 c27_i32_257
  let c32_i32_258 : BitVec 32 := 32#32
  let c0_i32_259 : BitVec 32 := 0#32
  let v396 : BitVec 1 := Scalar.cmpi .eq c32_i32_258 c0_i32_259
  let c1_i32_260 : BitVec 32 := 1#32
  let v397 : BitVec 32 := Scalar.select v396 c1_i32_260 c32_i32_258
  let v398 : BitVec 32 := Scalar.remsi v395 v397
  let c0_i32_262 : BitVec 32 := 0#32
  let v400 : BitVec 1 := Scalar.cmpi .slt v398 c0_i32_262
  let c0_i32_263 : BitVec 32 := 0#32
  let v401 : BitVec 1 := Scalar.cmpi .slt v397 c0_i32_263
  let v402 : BitVec 1 := Scalar.xori v400 v401
  let c0_i32_261 : BitVec 32 := 0#32
  let v399 : BitVec 1 := Scalar.cmpi .ne v398 c0_i32_261
  let v403 : BitVec 1 := Scalar.andi v402 v399
  let v404 : BitVec 32 := Scalar.addi v398 v397
  let v405 : BitVec 32 := Scalar.select v403 v404 v398
  let c1_i32_266 : BitVec 32 := 1#32
  let v408 : BitVec 32 := Scalar.muli v405 c1_i32_266
  let v409 : BitVec 32 := Scalar.addi c0_i32_267 v408
  v409.toNat
def k0_dev28 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_268 : BitVec 32 := 28#32
  let v410 : BitVec 32 := Scalar.addi v2 c28_i32_268
  let c32_i32_269 : BitVec 32 := 32#32
  let c0_i32_270 : BitVec 32 := 0#32
  let v411 : BitVec 1 := Scalar.cmpi .eq c32_i32_269 c0_i32_270
  let c1_i32_271 : BitVec 32 := 1#32
  let v412 : BitVec 32 := Scalar.select v411 c1_i32_271 c32_i32_269
  let v413 : BitVec 32 := Scalar.remsi v410 v412
  let c0_i32_273 : BitVec 32 := 0#32
  let v415 : BitVec 1 := Scalar.cmpi .slt v413 c0_i32_273
  let c0_i32_274 : BitVec 32 := 0#32
  let v416 : BitVec 1 := Scalar.cmpi .slt v412 c0_i32_274
  let v417 : BitVec 1 := Scalar.xori v415 v416
  let c0_i32_272 : BitVec 32 := 0#32
  let v414 : BitVec 1 := Scalar.cmpi .ne v413 c0_i32_272
  let v418 : BitVec 1 := Scalar.andi v417 v414
  let v419 : BitVec 32 := Scalar.addi v413 v412
  let v420 : BitVec 32 := Scalar.select v418 v419 v413
  let c1_i32_277 : BitVec 32 := 1#32
  let v423 : BitVec 32 := Scalar.muli v420 c1_i32_277
  let v424 : BitVec 32 := Scalar.addi c0_i32_278 v423
  v424.toNat
def k0_dev29 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_279 : BitVec 32 := 29#32
  let v425 : BitVec 32 := Scalar.addi v2 c29_i32_279
  let c32_i32_280 : BitVec 32 := 32#32
  let c0_i32_281 : BitVec 32 := 0#32
  let v426 : BitVec 1 := Scalar.cmpi .eq c32_i32_280 c0_i32_281
  let c1_i32_282 : BitVec 32 := 1#32
  let v427 : BitVec 32 := Scalar.select v426 c1_i32_282 c32_i32_280
  let v428 : BitVec 32 := Scalar.remsi v425 v427
  let c0_i32_284 : BitVec 32 := 0#32
  let v430 : BitVec 1 := Scalar.cmpi .slt v428 c0_i32_284
  let c0_i32_285 : BitVec 32 := 0#32
  let v431 : BitVec 1 := Scalar.cmpi .slt v427 c0_i32_285
  let v432 : BitVec 1 := Scalar.xori v430 v431
  let c0_i32_283 : BitVec 32 := 0#32
  let v429 : BitVec 1 := Scalar.cmpi .ne v428 c0_i32_283
  let v433 : BitVec 1 := Scalar.andi v432 v429
  let v434 : BitVec 32 := Scalar.addi v428 v427
  let v435 : BitVec 32 := Scalar.select v433 v434 v428
  let c1_i32_288 : BitVec 32 := 1#32
  let v438 : BitVec 32 := Scalar.muli v435 c1_i32_288
  let v439 : BitVec 32 := Scalar.addi c0_i32_289 v438
  v439.toNat
def k0_dev30 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_290 : BitVec 32 := 30#32
  let v440 : BitVec 32 := Scalar.addi v2 c30_i32_290
  let c32_i32_291 : BitVec 32 := 32#32
  let c0_i32_292 : BitVec 32 := 0#32
  let v441 : BitVec 1 := Scalar.cmpi .eq c32_i32_291 c0_i32_292
  let c1_i32_293 : BitVec 32 := 1#32
  let v442 : BitVec 32 := Scalar.select v441 c1_i32_293 c32_i32_291
  let v443 : BitVec 32 := Scalar.remsi v440 v442
  let c0_i32_295 : BitVec 32 := 0#32
  let v445 : BitVec 1 := Scalar.cmpi .slt v443 c0_i32_295
  let c0_i32_296 : BitVec 32 := 0#32
  let v446 : BitVec 1 := Scalar.cmpi .slt v442 c0_i32_296
  let v447 : BitVec 1 := Scalar.xori v445 v446
  let c0_i32_294 : BitVec 32 := 0#32
  let v444 : BitVec 1 := Scalar.cmpi .ne v443 c0_i32_294
  let v448 : BitVec 1 := Scalar.andi v447 v444
  let v449 : BitVec 32 := Scalar.addi v443 v442
  let v450 : BitVec 32 := Scalar.select v448 v449 v443
  let c1_i32_299 : BitVec 32 := 1#32
  let v453 : BitVec 32 := Scalar.muli v450 c1_i32_299
  let v454 : BitVec 32 := Scalar.addi c0_i32_300 v453
  v454.toNat
def k0_dev31 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_301 : BitVec 32 := 31#32
  let v455 : BitVec 32 := Scalar.addi v2 c31_i32_301
  let c32_i32_302 : BitVec 32 := 32#32
  let c0_i32_303 : BitVec 32 := 0#32
  let v456 : BitVec 1 := Scalar.cmpi .eq c32_i32_302 c0_i32_303
  let c1_i32_304 : BitVec 32 := 1#32
  let v457 : BitVec 32 := Scalar.select v456 c1_i32_304 c32_i32_302
  let v458 : BitVec 32 := Scalar.remsi v455 v457
  let c0_i32_306 : BitVec 32 := 0#32
  let v460 : BitVec 1 := Scalar.cmpi .slt v458 c0_i32_306
  let c0_i32_307 : BitVec 32 := 0#32
  let v461 : BitVec 1 := Scalar.cmpi .slt v457 c0_i32_307
  let v462 : BitVec 1 := Scalar.xori v460 v461
  let c0_i32_305 : BitVec 32 := 0#32
  let v459 : BitVec 1 := Scalar.cmpi .ne v458 c0_i32_305
  let v463 : BitVec 1 := Scalar.andi v462 v459
  let v464 : BitVec 32 := Scalar.addi v458 v457
  let v465 : BitVec 32 := Scalar.select v463 v464 v458
  let c1_i32_310 : BitVec 32 := 1#32
  let v468 : BitVec 32 := Scalar.muli v465 c1_i32_310
  let v469 : BitVec 32 := Scalar.addi c0_i32_311 v468
  v469.toNat
def k0_off1 (d0 : Dev nD) (c0_i32_312 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let v470 : BitVec 32 := Scalar.addi v3 c0_i32_312
  let c8_i32_313 : BitVec 32 := 8#32
  let c0_i32_314 : BitVec 32 := 0#32
  let v471 : BitVec 1 := Scalar.cmpi .eq c8_i32_313 c0_i32_314
  let c1_i32_315 : BitVec 32 := 1#32
  let v472 : BitVec 32 := Scalar.select v471 c1_i32_315 c8_i32_313
  let v473 : BitVec 32 := Scalar.remsi v470 v472
  let c0_i32_317 : BitVec 32 := 0#32
  let v475 : BitVec 1 := Scalar.cmpi .slt v473 c0_i32_317
  let c0_i32_318 : BitVec 32 := 0#32
  let v476 : BitVec 1 := Scalar.cmpi .slt v472 c0_i32_318
  let v477 : BitVec 1 := Scalar.xori v475 v476
  let c0_i32_316 : BitVec 32 := 0#32
  let v474 : BitVec 1 := Scalar.cmpi .ne v473 c0_i32_316
  let v478 : BitVec 1 := Scalar.andi v477 v474
  let v479 : BitVec 32 := Scalar.addi v473 v472
  let v480 : BitVec 32 := Scalar.select v478 v479 v473
  let c512_i32 : BitVec 32 := 512#32
  let v481 : BitVec 32 := Scalar.muli v480 c512_i32
  let c0_i32_323 : BitVec 32 := 0#32
  ![v481.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v544 : BitVec 32 := Scalar.muli v2 c128_i32
  let v545 : Index := Scalar.indexCast v544
  let c0_366 : Index := 0#32
  ![v545.toNat, 0]
def k0_off3 (d0 : Dev nD) : Fin 2 → Nat :=
  let c0_368 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_367 : BitVec 32 := 128#32
  let v547 : BitVec 32 := Scalar.muli v2 c128_i32_367
  let v548 : Index := Scalar.indexCast v547
  ![0, v548.toNat]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_370 : BitVec 32 := 0#32
  let v552 : BitVec 32 := Scalar.subi v3 c0_i32_370
  let c8_i32_371 : BitVec 32 := 8#32
  let c0_i32_372 : BitVec 32 := 0#32
  let v553 : BitVec 1 := Scalar.cmpi .eq c8_i32_371 c0_i32_372
  let c1_i32_373 : BitVec 32 := 1#32
  let v554 : BitVec 32 := Scalar.select v553 c1_i32_373 c8_i32_371
  let v555 : BitVec 32 := Scalar.remsi v552 v554
  let c0_i32_375 : BitVec 32 := 0#32
  let v557 : BitVec 1 := Scalar.cmpi .slt v555 c0_i32_375
  let c0_i32_376 : BitVec 32 := 0#32
  let v558 : BitVec 1 := Scalar.cmpi .slt v554 c0_i32_376
  let v559 : BitVec 1 := Scalar.xori v557 v558
  let c0_i32_374 : BitVec 32 := 0#32
  let v556 : BitVec 1 := Scalar.cmpi .ne v555 c0_i32_374
  let v560 : BitVec 1 := Scalar.andi v559 v556
  let v561 : BitVec 32 := Scalar.addi v555 v554
  let v562 : BitVec 32 := Scalar.select v560 v561 v555
  let c4_i32_377 : BitVec 32 := 4#32
  let v563 : BitVec 32 := Scalar.muli v562 c4_i32_377
  let c0_i32_378 : BitVec 32 := 0#32
  let v564 : BitVec 32 := Scalar.addi v563 c0_i32_378
  let v576 : BitVec 1 := Scalar.cmpi .ne v564 v2
  let v577 : BitVec 32 := Scalar.extui v576
  let c0_i32_385 : BitVec 32 := 0#32
  let v578 : BitVec 1 := Scalar.cmpi .ne v577 c0_i32_385
  v578

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_370 : BitVec 32 := 0#32
  let v552 : BitVec 32 := Scalar.subi v3 c0_i32_370
  let c8_i32_371 : BitVec 32 := 8#32
  let c0_i32_372 : BitVec 32 := 0#32
  let v553 : BitVec 1 := Scalar.cmpi .eq c8_i32_371 c0_i32_372
  let c1_i32_373 : BitVec 32 := 1#32
  let v554 : BitVec 32 := Scalar.select v553 c1_i32_373 c8_i32_371
  let v555 : BitVec 32 := Scalar.remsi v552 v554
  let c0_i32_375 : BitVec 32 := 0#32
  let v557 : BitVec 1 := Scalar.cmpi .slt v555 c0_i32_375
  let c0_i32_376 : BitVec 32 := 0#32
  let v558 : BitVec 1 := Scalar.cmpi .slt v554 c0_i32_376
  let v559 : BitVec 1 := Scalar.xori v557 v558
  let c0_i32_374 : BitVec 32 := 0#32
  let v556 : BitVec 1 := Scalar.cmpi .ne v555 c0_i32_374
  let v560 : BitVec 1 := Scalar.andi v559 v556
  let v561 : BitVec 32 := Scalar.addi v555 v554
  let v562 : BitVec 32 := Scalar.select v560 v561 v555
  let c4_i32_377 : BitVec 32 := 4#32
  let v563 : BitVec 32 := Scalar.muli v562 c4_i32_377
  let c0_i32_378 : BitVec 32 := 0#32
  let v564 : BitVec 32 := Scalar.addi v563 c0_i32_378
  let v565 : BitVec 32 := Scalar.subi v564 v2
  let c32_i32_379 : BitVec 32 := 32#32
  let c0_i32_380 : BitVec 32 := 0#32
  let v566 : BitVec 1 := Scalar.cmpi .eq c32_i32_379 c0_i32_380
  let c1_i32_381 : BitVec 32 := 1#32
  let v567 : BitVec 32 := Scalar.select v566 c1_i32_381 c32_i32_379
  let v568 : BitVec 32 := Scalar.remsi v565 v567
  let c0_i32_383 : BitVec 32 := 0#32
  let v570 : BitVec 1 := Scalar.cmpi .slt v568 c0_i32_383
  let c0_i32_384 : BitVec 32 := 0#32
  let v571 : BitVec 1 := Scalar.cmpi .slt v567 c0_i32_384
  let v572 : BitVec 1 := Scalar.xori v570 v571
  let c0_i32_382 : BitVec 32 := 0#32
  let v569 : BitVec 1 := Scalar.cmpi .ne v568 c0_i32_382
  let v573 : BitVec 1 := Scalar.andi v572 v569
  let v574 : BitVec 32 := Scalar.addi v568 v567
  let v575 : BitVec 32 := Scalar.select v573 v574 v568
  ![v575.toNat]
def k0_off5 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_370 : BitVec 32 := 0#32
  let v552 : BitVec 32 := Scalar.subi v3 c0_i32_370
  let c8_i32_371 : BitVec 32 := 8#32
  let c0_i32_372 : BitVec 32 := 0#32
  let v553 : BitVec 1 := Scalar.cmpi .eq c8_i32_371 c0_i32_372
  let c1_i32_373 : BitVec 32 := 1#32
  let v554 : BitVec 32 := Scalar.select v553 c1_i32_373 c8_i32_371
  let v555 : BitVec 32 := Scalar.remsi v552 v554
  let c0_i32_375 : BitVec 32 := 0#32
  let v557 : BitVec 1 := Scalar.cmpi .slt v555 c0_i32_375
  let c0_i32_376 : BitVec 32 := 0#32
  let v558 : BitVec 1 := Scalar.cmpi .slt v554 c0_i32_376
  let v559 : BitVec 1 := Scalar.xori v557 v558
  let c0_i32_374 : BitVec 32 := 0#32
  let v556 : BitVec 1 := Scalar.cmpi .ne v555 c0_i32_374
  let v560 : BitVec 1 := Scalar.andi v559 v556
  let v561 : BitVec 32 := Scalar.addi v555 v554
  let v562 : BitVec 32 := Scalar.select v560 v561 v555
  let c4_i32_377 : BitVec 32 := 4#32
  let v563 : BitVec 32 := Scalar.muli v562 c4_i32_377
  let c0_i32_378 : BitVec 32 := 0#32
  let v564 : BitVec 32 := Scalar.addi v563 c0_i32_378
  let c128_i32_1593 : BitVec 32 := 128#32
  let v2329 : BitVec 32 := Scalar.muli v564 c128_i32_1593
  let c0_i32_1598 : BitVec 32 := 0#32
  ![v2329.toNat, 0]
def k0_dev32 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_370 : BitVec 32 := 0#32
  let v552 : BitVec 32 := Scalar.subi v3 c0_i32_370
  let c8_i32_371 : BitVec 32 := 8#32
  let c0_i32_372 : BitVec 32 := 0#32
  let v553 : BitVec 1 := Scalar.cmpi .eq c8_i32_371 c0_i32_372
  let c1_i32_373 : BitVec 32 := 1#32
  let v554 : BitVec 32 := Scalar.select v553 c1_i32_373 c8_i32_371
  let v555 : BitVec 32 := Scalar.remsi v552 v554
  let c0_i32_375 : BitVec 32 := 0#32
  let v557 : BitVec 1 := Scalar.cmpi .slt v555 c0_i32_375
  let c0_i32_376 : BitVec 32 := 0#32
  let v558 : BitVec 1 := Scalar.cmpi .slt v554 c0_i32_376
  let v559 : BitVec 1 := Scalar.xori v557 v558
  let c0_i32_374 : BitVec 32 := 0#32
  let v556 : BitVec 1 := Scalar.cmpi .ne v555 c0_i32_374
  let v560 : BitVec 1 := Scalar.andi v559 v556
  let v561 : BitVec 32 := Scalar.addi v555 v554
  let v562 : BitVec 32 := Scalar.select v560 v561 v555
  let c4_i32_377 : BitVec 32 := 4#32
  let v563 : BitVec 32 := Scalar.muli v562 c4_i32_377
  let c0_i32_378 : BitVec 32 := 0#32
  let v564 : BitVec 32 := Scalar.addi v563 c0_i32_378
  let c1_i32_1595 : BitVec 32 := 1#32
  let v2331 : BitVec 32 := Scalar.muli v564 c1_i32_1595
  let v2332 : BitVec 32 := Scalar.addi c0_i32_1596 v2331
  v2332.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_386 : BitVec 32 := 0#32
  let v579 : BitVec 32 := Scalar.subi v3 c0_i32_386
  let c8_i32_387 : BitVec 32 := 8#32
  let c0_i32_388 : BitVec 32 := 0#32
  let v580 : BitVec 1 := Scalar.cmpi .eq c8_i32_387 c0_i32_388
  let c1_i32_389 : BitVec 32 := 1#32
  let v581 : BitVec 32 := Scalar.select v580 c1_i32_389 c8_i32_387
  let v582 : BitVec 32 := Scalar.remsi v579 v581
  let c0_i32_391 : BitVec 32 := 0#32
  let v584 : BitVec 1 := Scalar.cmpi .slt v582 c0_i32_391
  let c0_i32_392 : BitVec 32 := 0#32
  let v585 : BitVec 1 := Scalar.cmpi .slt v581 c0_i32_392
  let v586 : BitVec 1 := Scalar.xori v584 v585
  let c0_i32_390 : BitVec 32 := 0#32
  let v583 : BitVec 1 := Scalar.cmpi .ne v582 c0_i32_390
  let v587 : BitVec 1 := Scalar.andi v586 v583
  let v588 : BitVec 32 := Scalar.addi v582 v581
  let v589 : BitVec 32 := Scalar.select v587 v588 v582
  let c4_i32_393 : BitVec 32 := 4#32
  let v590 : BitVec 32 := Scalar.muli v589 c4_i32_393
  let c1_i32_394 : BitVec 32 := 1#32
  let v591 : BitVec 32 := Scalar.addi v590 c1_i32_394
  let v603 : BitVec 1 := Scalar.cmpi .ne v591 v2
  let v604 : BitVec 32 := Scalar.extui v603
  let c0_i32_401 : BitVec 32 := 0#32
  let v605 : BitVec 1 := Scalar.cmpi .ne v604 c0_i32_401
  v605

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_386 : BitVec 32 := 0#32
  let v579 : BitVec 32 := Scalar.subi v3 c0_i32_386
  let c8_i32_387 : BitVec 32 := 8#32
  let c0_i32_388 : BitVec 32 := 0#32
  let v580 : BitVec 1 := Scalar.cmpi .eq c8_i32_387 c0_i32_388
  let c1_i32_389 : BitVec 32 := 1#32
  let v581 : BitVec 32 := Scalar.select v580 c1_i32_389 c8_i32_387
  let v582 : BitVec 32 := Scalar.remsi v579 v581
  let c0_i32_391 : BitVec 32 := 0#32
  let v584 : BitVec 1 := Scalar.cmpi .slt v582 c0_i32_391
  let c0_i32_392 : BitVec 32 := 0#32
  let v585 : BitVec 1 := Scalar.cmpi .slt v581 c0_i32_392
  let v586 : BitVec 1 := Scalar.xori v584 v585
  let c0_i32_390 : BitVec 32 := 0#32
  let v583 : BitVec 1 := Scalar.cmpi .ne v582 c0_i32_390
  let v587 : BitVec 1 := Scalar.andi v586 v583
  let v588 : BitVec 32 := Scalar.addi v582 v581
  let v589 : BitVec 32 := Scalar.select v587 v588 v582
  let c4_i32_393 : BitVec 32 := 4#32
  let v590 : BitVec 32 := Scalar.muli v589 c4_i32_393
  let c1_i32_394 : BitVec 32 := 1#32
  let v591 : BitVec 32 := Scalar.addi v590 c1_i32_394
  let v592 : BitVec 32 := Scalar.subi v591 v2
  let c32_i32_395 : BitVec 32 := 32#32
  let c0_i32_396 : BitVec 32 := 0#32
  let v593 : BitVec 1 := Scalar.cmpi .eq c32_i32_395 c0_i32_396
  let c1_i32_397 : BitVec 32 := 1#32
  let v594 : BitVec 32 := Scalar.select v593 c1_i32_397 c32_i32_395
  let v595 : BitVec 32 := Scalar.remsi v592 v594
  let c0_i32_399 : BitVec 32 := 0#32
  let v597 : BitVec 1 := Scalar.cmpi .slt v595 c0_i32_399
  let c0_i32_400 : BitVec 32 := 0#32
  let v598 : BitVec 1 := Scalar.cmpi .slt v594 c0_i32_400
  let v599 : BitVec 1 := Scalar.xori v597 v598
  let c0_i32_398 : BitVec 32 := 0#32
  let v596 : BitVec 1 := Scalar.cmpi .ne v595 c0_i32_398
  let v600 : BitVec 1 := Scalar.andi v599 v596
  let v601 : BitVec 32 := Scalar.addi v595 v594
  let v602 : BitVec 32 := Scalar.select v600 v601 v595
  ![v602.toNat]
def k0_off8 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_386 : BitVec 32 := 0#32
  let v579 : BitVec 32 := Scalar.subi v3 c0_i32_386
  let c8_i32_387 : BitVec 32 := 8#32
  let c0_i32_388 : BitVec 32 := 0#32
  let v580 : BitVec 1 := Scalar.cmpi .eq c8_i32_387 c0_i32_388
  let c1_i32_389 : BitVec 32 := 1#32
  let v581 : BitVec 32 := Scalar.select v580 c1_i32_389 c8_i32_387
  let v582 : BitVec 32 := Scalar.remsi v579 v581
  let c0_i32_391 : BitVec 32 := 0#32
  let v584 : BitVec 1 := Scalar.cmpi .slt v582 c0_i32_391
  let c0_i32_392 : BitVec 32 := 0#32
  let v585 : BitVec 1 := Scalar.cmpi .slt v581 c0_i32_392
  let v586 : BitVec 1 := Scalar.xori v584 v585
  let c0_i32_390 : BitVec 32 := 0#32
  let v583 : BitVec 1 := Scalar.cmpi .ne v582 c0_i32_390
  let v587 : BitVec 1 := Scalar.andi v586 v583
  let v588 : BitVec 32 := Scalar.addi v582 v581
  let v589 : BitVec 32 := Scalar.select v587 v588 v582
  let c4_i32_393 : BitVec 32 := 4#32
  let v590 : BitVec 32 := Scalar.muli v589 c4_i32_393
  let c1_i32_394 : BitVec 32 := 1#32
  let v591 : BitVec 32 := Scalar.addi v590 c1_i32_394
  let c128_i32_1593 : BitVec 32 := 128#32
  let v2329 : BitVec 32 := Scalar.muli v591 c128_i32_1593
  let c0_i32_1598 : BitVec 32 := 0#32
  ![v2329.toNat, 0]
def k0_dev33 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_386 : BitVec 32 := 0#32
  let v579 : BitVec 32 := Scalar.subi v3 c0_i32_386
  let c8_i32_387 : BitVec 32 := 8#32
  let c0_i32_388 : BitVec 32 := 0#32
  let v580 : BitVec 1 := Scalar.cmpi .eq c8_i32_387 c0_i32_388
  let c1_i32_389 : BitVec 32 := 1#32
  let v581 : BitVec 32 := Scalar.select v580 c1_i32_389 c8_i32_387
  let v582 : BitVec 32 := Scalar.remsi v579 v581
  let c0_i32_391 : BitVec 32 := 0#32
  let v584 : BitVec 1 := Scalar.cmpi .slt v582 c0_i32_391
  let c0_i32_392 : BitVec 32 := 0#32
  let v585 : BitVec 1 := Scalar.cmpi .slt v581 c0_i32_392
  let v586 : BitVec 1 := Scalar.xori v584 v585
  let c0_i32_390 : BitVec 32 := 0#32
  let v583 : BitVec 1 := Scalar.cmpi .ne v582 c0_i32_390
  let v587 : BitVec 1 := Scalar.andi v586 v583
  let v588 : BitVec 32 := Scalar.addi v582 v581
  let v589 : BitVec 32 := Scalar.select v587 v588 v582
  let c4_i32_393 : BitVec 32 := 4#32
  let v590 : BitVec 32 := Scalar.muli v589 c4_i32_393
  let c1_i32_394 : BitVec 32 := 1#32
  let v591 : BitVec 32 := Scalar.addi v590 c1_i32_394
  let c1_i32_1595 : BitVec 32 := 1#32
  let v2331 : BitVec 32 := Scalar.muli v591 c1_i32_1595
  let v2332 : BitVec 32 := Scalar.addi c0_i32_1596 v2331
  v2332.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_402 : BitVec 32 := 0#32
  let v606 : BitVec 32 := Scalar.subi v3 c0_i32_402
  let c8_i32_403 : BitVec 32 := 8#32
  let c0_i32_404 : BitVec 32 := 0#32
  let v607 : BitVec 1 := Scalar.cmpi .eq c8_i32_403 c0_i32_404
  let c1_i32_405 : BitVec 32 := 1#32
  let v608 : BitVec 32 := Scalar.select v607 c1_i32_405 c8_i32_403
  let v609 : BitVec 32 := Scalar.remsi v606 v608
  let c0_i32_407 : BitVec 32 := 0#32
  let v611 : BitVec 1 := Scalar.cmpi .slt v609 c0_i32_407
  let c0_i32_408 : BitVec 32 := 0#32
  let v612 : BitVec 1 := Scalar.cmpi .slt v608 c0_i32_408
  let v613 : BitVec 1 := Scalar.xori v611 v612
  let c0_i32_406 : BitVec 32 := 0#32
  let v610 : BitVec 1 := Scalar.cmpi .ne v609 c0_i32_406
  let v614 : BitVec 1 := Scalar.andi v613 v610
  let v615 : BitVec 32 := Scalar.addi v609 v608
  let v616 : BitVec 32 := Scalar.select v614 v615 v609
  let c4_i32_409 : BitVec 32 := 4#32
  let v617 : BitVec 32 := Scalar.muli v616 c4_i32_409
  let c2_i32_410 : BitVec 32 := 2#32
  let v618 : BitVec 32 := Scalar.addi v617 c2_i32_410
  let v630 : BitVec 1 := Scalar.cmpi .ne v618 v2
  let v631 : BitVec 32 := Scalar.extui v630
  let c0_i32_417 : BitVec 32 := 0#32
  let v632 : BitVec 1 := Scalar.cmpi .ne v631 c0_i32_417
  v632

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_402 : BitVec 32 := 0#32
  let v606 : BitVec 32 := Scalar.subi v3 c0_i32_402
  let c8_i32_403 : BitVec 32 := 8#32
  let c0_i32_404 : BitVec 32 := 0#32
  let v607 : BitVec 1 := Scalar.cmpi .eq c8_i32_403 c0_i32_404
  let c1_i32_405 : BitVec 32 := 1#32
  let v608 : BitVec 32 := Scalar.select v607 c1_i32_405 c8_i32_403
  let v609 : BitVec 32 := Scalar.remsi v606 v608
  let c0_i32_407 : BitVec 32 := 0#32
  let v611 : BitVec 1 := Scalar.cmpi .slt v609 c0_i32_407
  let c0_i32_408 : BitVec 32 := 0#32
  let v612 : BitVec 1 := Scalar.cmpi .slt v608 c0_i32_408
  let v613 : BitVec 1 := Scalar.xori v611 v612
  let c0_i32_406 : BitVec 32 := 0#32
  let v610 : BitVec 1 := Scalar.cmpi .ne v609 c0_i32_406
  let v614 : BitVec 1 := Scalar.andi v613 v610
  let v615 : BitVec 32 := Scalar.addi v609 v608
  let v616 : BitVec 32 := Scalar.select v614 v615 v609
  let c4_i32_409 : BitVec 32 := 4#32
  let v617 : BitVec 32 := Scalar.muli v616 c4_i32_409
  let c2_i32_410 : BitVec 32 := 2#32
  let v618 : BitVec 32 := Scalar.addi v617 c2_i32_410
  let v619 : BitVec 32 := Scalar.subi v618 v2
  let c32_i32_411 : BitVec 32 := 32#32
  let c0_i32_412 : BitVec 32 := 0#32
  let v620 : BitVec 1 := Scalar.cmpi .eq c32_i32_411 c0_i32_412
  let c1_i32_413 : BitVec 32 := 1#32
  let v621 : BitVec 32 := Scalar.select v620 c1_i32_413 c32_i32_411
  let v622 : BitVec 32 := Scalar.remsi v619 v621
  let c0_i32_415 : BitVec 32 := 0#32
  let v624 : BitVec 1 := Scalar.cmpi .slt v622 c0_i32_415
  let c0_i32_416 : BitVec 32 := 0#32
  let v625 : BitVec 1 := Scalar.cmpi .slt v621 c0_i32_416
  let v626 : BitVec 1 := Scalar.xori v624 v625
  let c0_i32_414 : BitVec 32 := 0#32
  let v623 : BitVec 1 := Scalar.cmpi .ne v622 c0_i32_414
  let v627 : BitVec 1 := Scalar.andi v626 v623
  let v628 : BitVec 32 := Scalar.addi v622 v621
  let v629 : BitVec 32 := Scalar.select v627 v628 v622
  ![v629.toNat]
def k0_off11 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_402 : BitVec 32 := 0#32
  let v606 : BitVec 32 := Scalar.subi v3 c0_i32_402
  let c8_i32_403 : BitVec 32 := 8#32
  let c0_i32_404 : BitVec 32 := 0#32
  let v607 : BitVec 1 := Scalar.cmpi .eq c8_i32_403 c0_i32_404
  let c1_i32_405 : BitVec 32 := 1#32
  let v608 : BitVec 32 := Scalar.select v607 c1_i32_405 c8_i32_403
  let v609 : BitVec 32 := Scalar.remsi v606 v608
  let c0_i32_407 : BitVec 32 := 0#32
  let v611 : BitVec 1 := Scalar.cmpi .slt v609 c0_i32_407
  let c0_i32_408 : BitVec 32 := 0#32
  let v612 : BitVec 1 := Scalar.cmpi .slt v608 c0_i32_408
  let v613 : BitVec 1 := Scalar.xori v611 v612
  let c0_i32_406 : BitVec 32 := 0#32
  let v610 : BitVec 1 := Scalar.cmpi .ne v609 c0_i32_406
  let v614 : BitVec 1 := Scalar.andi v613 v610
  let v615 : BitVec 32 := Scalar.addi v609 v608
  let v616 : BitVec 32 := Scalar.select v614 v615 v609
  let c4_i32_409 : BitVec 32 := 4#32
  let v617 : BitVec 32 := Scalar.muli v616 c4_i32_409
  let c2_i32_410 : BitVec 32 := 2#32
  let v618 : BitVec 32 := Scalar.addi v617 c2_i32_410
  let c128_i32_1593 : BitVec 32 := 128#32
  let v2329 : BitVec 32 := Scalar.muli v618 c128_i32_1593
  let c0_i32_1598 : BitVec 32 := 0#32
  ![v2329.toNat, 0]
def k0_dev34 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_402 : BitVec 32 := 0#32
  let v606 : BitVec 32 := Scalar.subi v3 c0_i32_402
  let c8_i32_403 : BitVec 32 := 8#32
  let c0_i32_404 : BitVec 32 := 0#32
  let v607 : BitVec 1 := Scalar.cmpi .eq c8_i32_403 c0_i32_404
  let c1_i32_405 : BitVec 32 := 1#32
  let v608 : BitVec 32 := Scalar.select v607 c1_i32_405 c8_i32_403
  let v609 : BitVec 32 := Scalar.remsi v606 v608
  let c0_i32_407 : BitVec 32 := 0#32
  let v611 : BitVec 1 := Scalar.cmpi .slt v609 c0_i32_407
  let c0_i32_408 : BitVec 32 := 0#32
  let v612 : BitVec 1 := Scalar.cmpi .slt v608 c0_i32_408
  let v613 : BitVec 1 := Scalar.xori v611 v612
  let c0_i32_406 : BitVec 32 := 0#32
  let v610 : BitVec 1 := Scalar.cmpi .ne v609 c0_i32_406
  let v614 : BitVec 1 := Scalar.andi v613 v610
  let v615 : BitVec 32 := Scalar.addi v609 v608
  let v616 : BitVec 32 := Scalar.select v614 v615 v609
  let c4_i32_409 : BitVec 32 := 4#32
  let v617 : BitVec 32 := Scalar.muli v616 c4_i32_409
  let c2_i32_410 : BitVec 32 := 2#32
  let v618 : BitVec 32 := Scalar.addi v617 c2_i32_410
  let c1_i32_1595 : BitVec 32 := 1#32
  let v2331 : BitVec 32 := Scalar.muli v618 c1_i32_1595
  let v2332 : BitVec 32 := Scalar.addi c0_i32_1596 v2331
  v2332.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_418 : BitVec 32 := 0#32
  let v633 : BitVec 32 := Scalar.subi v3 c0_i32_418
  let c8_i32_419 : BitVec 32 := 8#32
  let c0_i32_420 : BitVec 32 := 0#32
  let v634 : BitVec 1 := Scalar.cmpi .eq c8_i32_419 c0_i32_420
  let c1_i32_421 : BitVec 32 := 1#32
  let v635 : BitVec 32 := Scalar.select v634 c1_i32_421 c8_i32_419
  let v636 : BitVec 32 := Scalar.remsi v633 v635
  let c0_i32_423 : BitVec 32 := 0#32
  let v638 : BitVec 1 := Scalar.cmpi .slt v636 c0_i32_423
  let c0_i32_424 : BitVec 32 := 0#32
  let v639 : BitVec 1 := Scalar.cmpi .slt v635 c0_i32_424
  let v640 : BitVec 1 := Scalar.xori v638 v639
  let c0_i32_422 : BitVec 32 := 0#32
  let v637 : BitVec 1 := Scalar.cmpi .ne v636 c0_i32_422
  let v641 : BitVec 1 := Scalar.andi v640 v637
  let v642 : BitVec 32 := Scalar.addi v636 v635
  let v643 : BitVec 32 := Scalar.select v641 v642 v636
  let c4_i32_425 : BitVec 32 := 4#32
  let v644 : BitVec 32 := Scalar.muli v643 c4_i32_425
  let c3_i32_426 : BitVec 32 := 3#32
  let v645 : BitVec 32 := Scalar.addi v644 c3_i32_426
  let v657 : BitVec 1 := Scalar.cmpi .ne v645 v2
  let v658 : BitVec 32 := Scalar.extui v657
  let c0_i32_433 : BitVec 32 := 0#32
  let v659 : BitVec 1 := Scalar.cmpi .ne v658 c0_i32_433
  v659

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_418 : BitVec 32 := 0#32
  let v633 : BitVec 32 := Scalar.subi v3 c0_i32_418
  let c8_i32_419 : BitVec 32 := 8#32
  let c0_i32_420 : BitVec 32 := 0#32
  let v634 : BitVec 1 := Scalar.cmpi .eq c8_i32_419 c0_i32_420
  let c1_i32_421 : BitVec 32 := 1#32
  let v635 : BitVec 32 := Scalar.select v634 c1_i32_421 c8_i32_419
  let v636 : BitVec 32 := Scalar.remsi v633 v635
  let c0_i32_423 : BitVec 32 := 0#32
  let v638 : BitVec 1 := Scalar.cmpi .slt v636 c0_i32_423
  let c0_i32_424 : BitVec 32 := 0#32
  let v639 : BitVec 1 := Scalar.cmpi .slt v635 c0_i32_424
  let v640 : BitVec 1 := Scalar.xori v638 v639
  let c0_i32_422 : BitVec 32 := 0#32
  let v637 : BitVec 1 := Scalar.cmpi .ne v636 c0_i32_422
  let v641 : BitVec 1 := Scalar.andi v640 v637
  let v642 : BitVec 32 := Scalar.addi v636 v635
  let v643 : BitVec 32 := Scalar.select v641 v642 v636
  let c4_i32_425 : BitVec 32 := 4#32
  let v644 : BitVec 32 := Scalar.muli v643 c4_i32_425
  let c3_i32_426 : BitVec 32 := 3#32
  let v645 : BitVec 32 := Scalar.addi v644 c3_i32_426
  let v646 : BitVec 32 := Scalar.subi v645 v2
  let c32_i32_427 : BitVec 32 := 32#32
  let c0_i32_428 : BitVec 32 := 0#32
  let v647 : BitVec 1 := Scalar.cmpi .eq c32_i32_427 c0_i32_428
  let c1_i32_429 : BitVec 32 := 1#32
  let v648 : BitVec 32 := Scalar.select v647 c1_i32_429 c32_i32_427
  let v649 : BitVec 32 := Scalar.remsi v646 v648
  let c0_i32_431 : BitVec 32 := 0#32
  let v651 : BitVec 1 := Scalar.cmpi .slt v649 c0_i32_431
  let c0_i32_432 : BitVec 32 := 0#32
  let v652 : BitVec 1 := Scalar.cmpi .slt v648 c0_i32_432
  let v653 : BitVec 1 := Scalar.xori v651 v652
  let c0_i32_430 : BitVec 32 := 0#32
  let v650 : BitVec 1 := Scalar.cmpi .ne v649 c0_i32_430
  let v654 : BitVec 1 := Scalar.andi v653 v650
  let v655 : BitVec 32 := Scalar.addi v649 v648
  let v656 : BitVec 32 := Scalar.select v654 v655 v649
  ![v656.toNat]
def k0_off14 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_418 : BitVec 32 := 0#32
  let v633 : BitVec 32 := Scalar.subi v3 c0_i32_418
  let c8_i32_419 : BitVec 32 := 8#32
  let c0_i32_420 : BitVec 32 := 0#32
  let v634 : BitVec 1 := Scalar.cmpi .eq c8_i32_419 c0_i32_420
  let c1_i32_421 : BitVec 32 := 1#32
  let v635 : BitVec 32 := Scalar.select v634 c1_i32_421 c8_i32_419
  let v636 : BitVec 32 := Scalar.remsi v633 v635
  let c0_i32_423 : BitVec 32 := 0#32
  let v638 : BitVec 1 := Scalar.cmpi .slt v636 c0_i32_423
  let c0_i32_424 : BitVec 32 := 0#32
  let v639 : BitVec 1 := Scalar.cmpi .slt v635 c0_i32_424
  let v640 : BitVec 1 := Scalar.xori v638 v639
  let c0_i32_422 : BitVec 32 := 0#32
  let v637 : BitVec 1 := Scalar.cmpi .ne v636 c0_i32_422
  let v641 : BitVec 1 := Scalar.andi v640 v637
  let v642 : BitVec 32 := Scalar.addi v636 v635
  let v643 : BitVec 32 := Scalar.select v641 v642 v636
  let c4_i32_425 : BitVec 32 := 4#32
  let v644 : BitVec 32 := Scalar.muli v643 c4_i32_425
  let c3_i32_426 : BitVec 32 := 3#32
  let v645 : BitVec 32 := Scalar.addi v644 c3_i32_426
  let c128_i32_1593 : BitVec 32 := 128#32
  let v2329 : BitVec 32 := Scalar.muli v645 c128_i32_1593
  let c0_i32_1598 : BitVec 32 := 0#32
  ![v2329.toNat, 0]
def k0_dev35 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_418 : BitVec 32 := 0#32
  let v633 : BitVec 32 := Scalar.subi v3 c0_i32_418
  let c8_i32_419 : BitVec 32 := 8#32
  let c0_i32_420 : BitVec 32 := 0#32
  let v634 : BitVec 1 := Scalar.cmpi .eq c8_i32_419 c0_i32_420
  let c1_i32_421 : BitVec 32 := 1#32
  let v635 : BitVec 32 := Scalar.select v634 c1_i32_421 c8_i32_419
  let v636 : BitVec 32 := Scalar.remsi v633 v635
  let c0_i32_423 : BitVec 32 := 0#32
  let v638 : BitVec 1 := Scalar.cmpi .slt v636 c0_i32_423
  let c0_i32_424 : BitVec 32 := 0#32
  let v639 : BitVec 1 := Scalar.cmpi .slt v635 c0_i32_424
  let v640 : BitVec 1 := Scalar.xori v638 v639
  let c0_i32_422 : BitVec 32 := 0#32
  let v637 : BitVec 1 := Scalar.cmpi .ne v636 c0_i32_422
  let v641 : BitVec 1 := Scalar.andi v640 v637
  let v642 : BitVec 32 := Scalar.addi v636 v635
  let v643 : BitVec 32 := Scalar.select v641 v642 v636
  let c4_i32_425 : BitVec 32 := 4#32
  let v644 : BitVec 32 := Scalar.muli v643 c4_i32_425
  let c3_i32_426 : BitVec 32 := 3#32
  let v645 : BitVec 32 := Scalar.addi v644 c3_i32_426
  let c1_i32_1595 : BitVec 32 := 1#32
  let v2331 : BitVec 32 := Scalar.muli v645 c1_i32_1595
  let v2332 : BitVec 32 := Scalar.addi c0_i32_1596 v2331
  v2332.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_434 : BitVec 32 := 1#32
  let v660 : BitVec 32 := Scalar.subi v3 c1_i32_434
  let c8_i32_435 : BitVec 32 := 8#32
  let c0_i32_436 : BitVec 32 := 0#32
  let v661 : BitVec 1 := Scalar.cmpi .eq c8_i32_435 c0_i32_436
  let c1_i32_437 : BitVec 32 := 1#32
  let v662 : BitVec 32 := Scalar.select v661 c1_i32_437 c8_i32_435
  let v663 : BitVec 32 := Scalar.remsi v660 v662
  let c0_i32_439 : BitVec 32 := 0#32
  let v665 : BitVec 1 := Scalar.cmpi .slt v663 c0_i32_439
  let c0_i32_440 : BitVec 32 := 0#32
  let v666 : BitVec 1 := Scalar.cmpi .slt v662 c0_i32_440
  let v667 : BitVec 1 := Scalar.xori v665 v666
  let c0_i32_438 : BitVec 32 := 0#32
  let v664 : BitVec 1 := Scalar.cmpi .ne v663 c0_i32_438
  let v668 : BitVec 1 := Scalar.andi v667 v664
  let v669 : BitVec 32 := Scalar.addi v663 v662
  let v670 : BitVec 32 := Scalar.select v668 v669 v663
  let c4_i32_441 : BitVec 32 := 4#32
  let v671 : BitVec 32 := Scalar.muli v670 c4_i32_441
  let c0_i32_442 : BitVec 32 := 0#32
  let v672 : BitVec 32 := Scalar.addi v671 c0_i32_442
  let v684 : BitVec 1 := Scalar.cmpi .ne v672 v2
  let v685 : BitVec 32 := Scalar.extui v684
  let c0_i32_449 : BitVec 32 := 0#32
  let v686 : BitVec 1 := Scalar.cmpi .ne v685 c0_i32_449
  v686

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_434 : BitVec 32 := 1#32
  let v660 : BitVec 32 := Scalar.subi v3 c1_i32_434
  let c8_i32_435 : BitVec 32 := 8#32
  let c0_i32_436 : BitVec 32 := 0#32
  let v661 : BitVec 1 := Scalar.cmpi .eq c8_i32_435 c0_i32_436
  let c1_i32_437 : BitVec 32 := 1#32
  let v662 : BitVec 32 := Scalar.select v661 c1_i32_437 c8_i32_435
  let v663 : BitVec 32 := Scalar.remsi v660 v662
  let c0_i32_439 : BitVec 32 := 0#32
  let v665 : BitVec 1 := Scalar.cmpi .slt v663 c0_i32_439
  let c0_i32_440 : BitVec 32 := 0#32
  let v666 : BitVec 1 := Scalar.cmpi .slt v662 c0_i32_440
  let v667 : BitVec 1 := Scalar.xori v665 v666
  let c0_i32_438 : BitVec 32 := 0#32
  let v664 : BitVec 1 := Scalar.cmpi .ne v663 c0_i32_438
  let v668 : BitVec 1 := Scalar.andi v667 v664
  let v669 : BitVec 32 := Scalar.addi v663 v662
  let v670 : BitVec 32 := Scalar.select v668 v669 v663
  let c4_i32_441 : BitVec 32 := 4#32
  let v671 : BitVec 32 := Scalar.muli v670 c4_i32_441
  let c0_i32_442 : BitVec 32 := 0#32
  let v672 : BitVec 32 := Scalar.addi v671 c0_i32_442
  let v673 : BitVec 32 := Scalar.subi v672 v2
  let c32_i32_443 : BitVec 32 := 32#32
  let c0_i32_444 : BitVec 32 := 0#32
  let v674 : BitVec 1 := Scalar.cmpi .eq c32_i32_443 c0_i32_444
  let c1_i32_445 : BitVec 32 := 1#32
  let v675 : BitVec 32 := Scalar.select v674 c1_i32_445 c32_i32_443
  let v676 : BitVec 32 := Scalar.remsi v673 v675
  let c0_i32_447 : BitVec 32 := 0#32
  let v678 : BitVec 1 := Scalar.cmpi .slt v676 c0_i32_447
  let c0_i32_448 : BitVec 32 := 0#32
  let v679 : BitVec 1 := Scalar.cmpi .slt v675 c0_i32_448
  let v680 : BitVec 1 := Scalar.xori v678 v679
  let c0_i32_446 : BitVec 32 := 0#32
  let v677 : BitVec 1 := Scalar.cmpi .ne v676 c0_i32_446
  let v681 : BitVec 1 := Scalar.andi v680 v677
  let v682 : BitVec 32 := Scalar.addi v676 v675
  let v683 : BitVec 32 := Scalar.select v681 v682 v676
  ![v683.toNat]
def k0_off17 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_434 : BitVec 32 := 1#32
  let v660 : BitVec 32 := Scalar.subi v3 c1_i32_434
  let c8_i32_435 : BitVec 32 := 8#32
  let c0_i32_436 : BitVec 32 := 0#32
  let v661 : BitVec 1 := Scalar.cmpi .eq c8_i32_435 c0_i32_436
  let c1_i32_437 : BitVec 32 := 1#32
  let v662 : BitVec 32 := Scalar.select v661 c1_i32_437 c8_i32_435
  let v663 : BitVec 32 := Scalar.remsi v660 v662
  let c0_i32_439 : BitVec 32 := 0#32
  let v665 : BitVec 1 := Scalar.cmpi .slt v663 c0_i32_439
  let c0_i32_440 : BitVec 32 := 0#32
  let v666 : BitVec 1 := Scalar.cmpi .slt v662 c0_i32_440
  let v667 : BitVec 1 := Scalar.xori v665 v666
  let c0_i32_438 : BitVec 32 := 0#32
  let v664 : BitVec 1 := Scalar.cmpi .ne v663 c0_i32_438
  let v668 : BitVec 1 := Scalar.andi v667 v664
  let v669 : BitVec 32 := Scalar.addi v663 v662
  let v670 : BitVec 32 := Scalar.select v668 v669 v663
  let c4_i32_441 : BitVec 32 := 4#32
  let v671 : BitVec 32 := Scalar.muli v670 c4_i32_441
  let c0_i32_442 : BitVec 32 := 0#32
  let v672 : BitVec 32 := Scalar.addi v671 c0_i32_442
  let c128_i32_1593 : BitVec 32 := 128#32
  let v2329 : BitVec 32 := Scalar.muli v672 c128_i32_1593
  let c0_i32_1598 : BitVec 32 := 0#32
  ![v2329.toNat, 0]
def k0_dev36 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_434 : BitVec 32 := 1#32
  let v660 : BitVec 32 := Scalar.subi v3 c1_i32_434
  let c8_i32_435 : BitVec 32 := 8#32
  let c0_i32_436 : BitVec 32 := 0#32
  let v661 : BitVec 1 := Scalar.cmpi .eq c8_i32_435 c0_i32_436
  let c1_i32_437 : BitVec 32 := 1#32
  let v662 : BitVec 32 := Scalar.select v661 c1_i32_437 c8_i32_435
  let v663 : BitVec 32 := Scalar.remsi v660 v662
  let c0_i32_439 : BitVec 32 := 0#32
  let v665 : BitVec 1 := Scalar.cmpi .slt v663 c0_i32_439
  let c0_i32_440 : BitVec 32 := 0#32
  let v666 : BitVec 1 := Scalar.cmpi .slt v662 c0_i32_440
  let v667 : BitVec 1 := Scalar.xori v665 v666
  let c0_i32_438 : BitVec 32 := 0#32
  let v664 : BitVec 1 := Scalar.cmpi .ne v663 c0_i32_438
  let v668 : BitVec 1 := Scalar.andi v667 v664
  let v669 : BitVec 32 := Scalar.addi v663 v662
  let v670 : BitVec 32 := Scalar.select v668 v669 v663
  let c4_i32_441 : BitVec 32 := 4#32
  let v671 : BitVec 32 := Scalar.muli v670 c4_i32_441
  let c0_i32_442 : BitVec 32 := 0#32
  let v672 : BitVec 32 := Scalar.addi v671 c0_i32_442
  let c1_i32_1595 : BitVec 32 := 1#32
  let v2331 : BitVec 32 := Scalar.muli v672 c1_i32_1595
  let v2332 : BitVec 32 := Scalar.addi c0_i32_1596 v2331
  v2332.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_450 : BitVec 32 := 1#32
  let v687 : BitVec 32 := Scalar.subi v3 c1_i32_450
  let c8_i32_451 : BitVec 32 := 8#32
  let c0_i32_452 : BitVec 32 := 0#32
  let v688 : BitVec 1 := Scalar.cmpi .eq c8_i32_451 c0_i32_452
  let c1_i32_453 : BitVec 32 := 1#32
  let v689 : BitVec 32 := Scalar.select v688 c1_i32_453 c8_i32_451
  let v690 : BitVec 32 := Scalar.remsi v687 v689
  let c0_i32_455 : BitVec 32 := 0#32
  let v692 : BitVec 1 := Scalar.cmpi .slt v690 c0_i32_455
  let c0_i32_456 : BitVec 32 := 0#32
  let v693 : BitVec 1 := Scalar.cmpi .slt v689 c0_i32_456
  let v694 : BitVec 1 := Scalar.xori v692 v693
  let c0_i32_454 : BitVec 32 := 0#32
  let v691 : BitVec 1 := Scalar.cmpi .ne v690 c0_i32_454
  let v695 : BitVec 1 := Scalar.andi v694 v691
  let v696 : BitVec 32 := Scalar.addi v690 v689
  let v697 : BitVec 32 := Scalar.select v695 v696 v690
  let c4_i32_457 : BitVec 32 := 4#32
  let v698 : BitVec 32 := Scalar.muli v697 c4_i32_457
  let c1_i32_458 : BitVec 32 := 1#32
  let v699 : BitVec 32 := Scalar.addi v698 c1_i32_458
  let v711 : BitVec 1 := Scalar.cmpi .ne v699 v2
  let v712 : BitVec 32 := Scalar.extui v711
  let c0_i32_465 : BitVec 32 := 0#32
  let v713 : BitVec 1 := Scalar.cmpi .ne v712 c0_i32_465
  v713

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_450 : BitVec 32 := 1#32
  let v687 : BitVec 32 := Scalar.subi v3 c1_i32_450
  let c8_i32_451 : BitVec 32 := 8#32
  let c0_i32_452 : BitVec 32 := 0#32
  let v688 : BitVec 1 := Scalar.cmpi .eq c8_i32_451 c0_i32_452
  let c1_i32_453 : BitVec 32 := 1#32
  let v689 : BitVec 32 := Scalar.select v688 c1_i32_453 c8_i32_451
  let v690 : BitVec 32 := Scalar.remsi v687 v689
  let c0_i32_455 : BitVec 32 := 0#32
  let v692 : BitVec 1 := Scalar.cmpi .slt v690 c0_i32_455
  let c0_i32_456 : BitVec 32 := 0#32
  let v693 : BitVec 1 := Scalar.cmpi .slt v689 c0_i32_456
  let v694 : BitVec 1 := Scalar.xori v692 v693
  let c0_i32_454 : BitVec 32 := 0#32
  let v691 : BitVec 1 := Scalar.cmpi .ne v690 c0_i32_454
  let v695 : BitVec 1 := Scalar.andi v694 v691
  let v696 : BitVec 32 := Scalar.addi v690 v689
  let v697 : BitVec 32 := Scalar.select v695 v696 v690
  let c4_i32_457 : BitVec 32 := 4#32
  let v698 : BitVec 32 := Scalar.muli v697 c4_i32_457
  let c1_i32_458 : BitVec 32 := 1#32
  let v699 : BitVec 32 := Scalar.addi v698 c1_i32_458
  let v700 : BitVec 32 := Scalar.subi v699 v2
  let c32_i32_459 : BitVec 32 := 32#32
  let c0_i32_460 : BitVec 32 := 0#32
  let v701 : BitVec 1 := Scalar.cmpi .eq c32_i32_459 c0_i32_460
  let c1_i32_461 : BitVec 32 := 1#32
  let v702 : BitVec 32 := Scalar.select v701 c1_i32_461 c32_i32_459
  let v703 : BitVec 32 := Scalar.remsi v700 v702
  let c0_i32_463 : BitVec 32 := 0#32
  let v705 : BitVec 1 := Scalar.cmpi .slt v703 c0_i32_463
  let c0_i32_464 : BitVec 32 := 0#32
  let v706 : BitVec 1 := Scalar.cmpi .slt v702 c0_i32_464
  let v707 : BitVec 1 := Scalar.xori v705 v706
  let c0_i32_462 : BitVec 32 := 0#32
  let v704 : BitVec 1 := Scalar.cmpi .ne v703 c0_i32_462
  let v708 : BitVec 1 := Scalar.andi v707 v704
  let v709 : BitVec 32 := Scalar.addi v703 v702
  let v710 : BitVec 32 := Scalar.select v708 v709 v703
  ![v710.toNat]
def k0_off20 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_450 : BitVec 32 := 1#32
  let v687 : BitVec 32 := Scalar.subi v3 c1_i32_450
  let c8_i32_451 : BitVec 32 := 8#32
  let c0_i32_452 : BitVec 32 := 0#32
  let v688 : BitVec 1 := Scalar.cmpi .eq c8_i32_451 c0_i32_452
  let c1_i32_453 : BitVec 32 := 1#32
  let v689 : BitVec 32 := Scalar.select v688 c1_i32_453 c8_i32_451
  let v690 : BitVec 32 := Scalar.remsi v687 v689
  let c0_i32_455 : BitVec 32 := 0#32
  let v692 : BitVec 1 := Scalar.cmpi .slt v690 c0_i32_455
  let c0_i32_456 : BitVec 32 := 0#32
  let v693 : BitVec 1 := Scalar.cmpi .slt v689 c0_i32_456
  let v694 : BitVec 1 := Scalar.xori v692 v693
  let c0_i32_454 : BitVec 32 := 0#32
  let v691 : BitVec 1 := Scalar.cmpi .ne v690 c0_i32_454
  let v695 : BitVec 1 := Scalar.andi v694 v691
  let v696 : BitVec 32 := Scalar.addi v690 v689
  let v697 : BitVec 32 := Scalar.select v695 v696 v690
  let c4_i32_457 : BitVec 32 := 4#32
  let v698 : BitVec 32 := Scalar.muli v697 c4_i32_457
  let c1_i32_458 : BitVec 32 := 1#32
  let v699 : BitVec 32 := Scalar.addi v698 c1_i32_458
  let c128_i32_1593 : BitVec 32 := 128#32
  let v2329 : BitVec 32 := Scalar.muli v699 c128_i32_1593
  let c0_i32_1598 : BitVec 32 := 0#32
  ![v2329.toNat, 0]
def k0_dev37 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_450 : BitVec 32 := 1#32
  let v687 : BitVec 32 := Scalar.subi v3 c1_i32_450
  let c8_i32_451 : BitVec 32 := 8#32
  let c0_i32_452 : BitVec 32 := 0#32
  let v688 : BitVec 1 := Scalar.cmpi .eq c8_i32_451 c0_i32_452
  let c1_i32_453 : BitVec 32 := 1#32
  let v689 : BitVec 32 := Scalar.select v688 c1_i32_453 c8_i32_451
  let v690 : BitVec 32 := Scalar.remsi v687 v689
  let c0_i32_455 : BitVec 32 := 0#32
  let v692 : BitVec 1 := Scalar.cmpi .slt v690 c0_i32_455
  let c0_i32_456 : BitVec 32 := 0#32
  let v693 : BitVec 1 := Scalar.cmpi .slt v689 c0_i32_456
  let v694 : BitVec 1 := Scalar.xori v692 v693
  let c0_i32_454 : BitVec 32 := 0#32
  let v691 : BitVec 1 := Scalar.cmpi .ne v690 c0_i32_454
  let v695 : BitVec 1 := Scalar.andi v694 v691
  let v696 : BitVec 32 := Scalar.addi v690 v689
  let v697 : BitVec 32 := Scalar.select v695 v696 v690
  let c4_i32_457 : BitVec 32 := 4#32
  let v698 : BitVec 32 := Scalar.muli v697 c4_i32_457
  let c1_i32_458 : BitVec 32 := 1#32
  let v699 : BitVec 32 := Scalar.addi v698 c1_i32_458
  let c1_i32_1595 : BitVec 32 := 1#32
  let v2331 : BitVec 32 := Scalar.muli v699 c1_i32_1595
  let v2332 : BitVec 32 := Scalar.addi c0_i32_1596 v2331
  v2332.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_466 : BitVec 32 := 1#32
  let v714 : BitVec 32 := Scalar.subi v3 c1_i32_466
  let c8_i32_467 : BitVec 32 := 8#32
  let c0_i32_468 : BitVec 32 := 0#32
  let v715 : BitVec 1 := Scalar.cmpi .eq c8_i32_467 c0_i32_468
  let c1_i32_469 : BitVec 32 := 1#32
  let v716 : BitVec 32 := Scalar.select v715 c1_i32_469 c8_i32_467
  let v717 : BitVec 32 := Scalar.remsi v714 v716
  let c0_i32_471 : BitVec 32 := 0#32
  let v719 : BitVec 1 := Scalar.cmpi .slt v717 c0_i32_471
  let c0_i32_472 : BitVec 32 := 0#32
  let v720 : BitVec 1 := Scalar.cmpi .slt v716 c0_i32_472
  let v721 : BitVec 1 := Scalar.xori v719 v720
  let c0_i32_470 : BitVec 32 := 0#32
  let v718 : BitVec 1 := Scalar.cmpi .ne v717 c0_i32_470
  let v722 : BitVec 1 := Scalar.andi v721 v718
  let v723 : BitVec 32 := Scalar.addi v717 v716
  let v724 : BitVec 32 := Scalar.select v722 v723 v717
  let c4_i32_473 : BitVec 32 := 4#32
  let v725 : BitVec 32 := Scalar.muli v724 c4_i32_473
  let c2_i32_474 : BitVec 32 := 2#32
  let v726 : BitVec 32 := Scalar.addi v725 c2_i32_474
  let v738 : BitVec 1 := Scalar.cmpi .ne v726 v2
  let v739 : BitVec 32 := Scalar.extui v738
  let c0_i32_481 : BitVec 32 := 0#32
  let v740 : BitVec 1 := Scalar.cmpi .ne v739 c0_i32_481
  v740

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_466 : BitVec 32 := 1#32
  let v714 : BitVec 32 := Scalar.subi v3 c1_i32_466
  let c8_i32_467 : BitVec 32 := 8#32
  let c0_i32_468 : BitVec 32 := 0#32
  let v715 : BitVec 1 := Scalar.cmpi .eq c8_i32_467 c0_i32_468
  let c1_i32_469 : BitVec 32 := 1#32
  let v716 : BitVec 32 := Scalar.select v715 c1_i32_469 c8_i32_467
  let v717 : BitVec 32 := Scalar.remsi v714 v716
  let c0_i32_471 : BitVec 32 := 0#32
  let v719 : BitVec 1 := Scalar.cmpi .slt v717 c0_i32_471
  let c0_i32_472 : BitVec 32 := 0#32
  let v720 : BitVec 1 := Scalar.cmpi .slt v716 c0_i32_472
  let v721 : BitVec 1 := Scalar.xori v719 v720
  let c0_i32_470 : BitVec 32 := 0#32
  let v718 : BitVec 1 := Scalar.cmpi .ne v717 c0_i32_470
  let v722 : BitVec 1 := Scalar.andi v721 v718
  let v723 : BitVec 32 := Scalar.addi v717 v716
  let v724 : BitVec 32 := Scalar.select v722 v723 v717
  let c4_i32_473 : BitVec 32 := 4#32
  let v725 : BitVec 32 := Scalar.muli v724 c4_i32_473
  let c2_i32_474 : BitVec 32 := 2#32
  let v726 : BitVec 32 := Scalar.addi v725 c2_i32_474
  let v727 : BitVec 32 := Scalar.subi v726 v2
  let c32_i32_475 : BitVec 32 := 32#32
  let c0_i32_476 : BitVec 32 := 0#32
  let v728 : BitVec 1 := Scalar.cmpi .eq c32_i32_475 c0_i32_476
  let c1_i32_477 : BitVec 32 := 1#32
  let v729 : BitVec 32 := Scalar.select v728 c1_i32_477 c32_i32_475
  let v730 : BitVec 32 := Scalar.remsi v727 v729
  let c0_i32_479 : BitVec 32 := 0#32
  let v732 : BitVec 1 := Scalar.cmpi .slt v730 c0_i32_479
  let c0_i32_480 : BitVec 32 := 0#32
  let v733 : BitVec 1 := Scalar.cmpi .slt v729 c0_i32_480
  let v734 : BitVec 1 := Scalar.xori v732 v733
  let c0_i32_478 : BitVec 32 := 0#32
  let v731 : BitVec 1 := Scalar.cmpi .ne v730 c0_i32_478
  let v735 : BitVec 1 := Scalar.andi v734 v731
  let v736 : BitVec 32 := Scalar.addi v730 v729
  let v737 : BitVec 32 := Scalar.select v735 v736 v730
  ![v737.toNat]
def k0_off23 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_466 : BitVec 32 := 1#32
  let v714 : BitVec 32 := Scalar.subi v3 c1_i32_466
  let c8_i32_467 : BitVec 32 := 8#32
  let c0_i32_468 : BitVec 32 := 0#32
  let v715 : BitVec 1 := Scalar.cmpi .eq c8_i32_467 c0_i32_468
  let c1_i32_469 : BitVec 32 := 1#32
  let v716 : BitVec 32 := Scalar.select v715 c1_i32_469 c8_i32_467
  let v717 : BitVec 32 := Scalar.remsi v714 v716
  let c0_i32_471 : BitVec 32 := 0#32
  let v719 : BitVec 1 := Scalar.cmpi .slt v717 c0_i32_471
  let c0_i32_472 : BitVec 32 := 0#32
  let v720 : BitVec 1 := Scalar.cmpi .slt v716 c0_i32_472
  let v721 : BitVec 1 := Scalar.xori v719 v720
  let c0_i32_470 : BitVec 32 := 0#32
  let v718 : BitVec 1 := Scalar.cmpi .ne v717 c0_i32_470
  let v722 : BitVec 1 := Scalar.andi v721 v718
  let v723 : BitVec 32 := Scalar.addi v717 v716
  let v724 : BitVec 32 := Scalar.select v722 v723 v717
  let c4_i32_473 : BitVec 32 := 4#32
  let v725 : BitVec 32 := Scalar.muli v724 c4_i32_473
  let c2_i32_474 : BitVec 32 := 2#32
  let v726 : BitVec 32 := Scalar.addi v725 c2_i32_474
  let c128_i32_1593 : BitVec 32 := 128#32
  let v2329 : BitVec 32 := Scalar.muli v726 c128_i32_1593
  let c0_i32_1598 : BitVec 32 := 0#32
  ![v2329.toNat, 0]
def k0_dev38 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_466 : BitVec 32 := 1#32
  let v714 : BitVec 32 := Scalar.subi v3 c1_i32_466
  let c8_i32_467 : BitVec 32 := 8#32
  let c0_i32_468 : BitVec 32 := 0#32
  let v715 : BitVec 1 := Scalar.cmpi .eq c8_i32_467 c0_i32_468
  let c1_i32_469 : BitVec 32 := 1#32
  let v716 : BitVec 32 := Scalar.select v715 c1_i32_469 c8_i32_467
  let v717 : BitVec 32 := Scalar.remsi v714 v716
  let c0_i32_471 : BitVec 32 := 0#32
  let v719 : BitVec 1 := Scalar.cmpi .slt v717 c0_i32_471
  let c0_i32_472 : BitVec 32 := 0#32
  let v720 : BitVec 1 := Scalar.cmpi .slt v716 c0_i32_472
  let v721 : BitVec 1 := Scalar.xori v719 v720
  let c0_i32_470 : BitVec 32 := 0#32
  let v718 : BitVec 1 := Scalar.cmpi .ne v717 c0_i32_470
  let v722 : BitVec 1 := Scalar.andi v721 v718
  let v723 : BitVec 32 := Scalar.addi v717 v716
  let v724 : BitVec 32 := Scalar.select v722 v723 v717
  let c4_i32_473 : BitVec 32 := 4#32
  let v725 : BitVec 32 := Scalar.muli v724 c4_i32_473
  let c2_i32_474 : BitVec 32 := 2#32
  let v726 : BitVec 32 := Scalar.addi v725 c2_i32_474
  let c1_i32_1595 : BitVec 32 := 1#32
  let v2331 : BitVec 32 := Scalar.muli v726 c1_i32_1595
  let v2332 : BitVec 32 := Scalar.addi c0_i32_1596 v2331
  v2332.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_482 : BitVec 32 := 1#32
  let v741 : BitVec 32 := Scalar.subi v3 c1_i32_482
  let c8_i32_483 : BitVec 32 := 8#32
  let c0_i32_484 : BitVec 32 := 0#32
  let v742 : BitVec 1 := Scalar.cmpi .eq c8_i32_483 c0_i32_484
  let c1_i32_485 : BitVec 32 := 1#32
  let v743 : BitVec 32 := Scalar.select v742 c1_i32_485 c8_i32_483
  let v744 : BitVec 32 := Scalar.remsi v741 v743
  let c0_i32_487 : BitVec 32 := 0#32
  let v746 : BitVec 1 := Scalar.cmpi .slt v744 c0_i32_487
  let c0_i32_488 : BitVec 32 := 0#32
  let v747 : BitVec 1 := Scalar.cmpi .slt v743 c0_i32_488
  let v748 : BitVec 1 := Scalar.xori v746 v747
  let c0_i32_486 : BitVec 32 := 0#32
  let v745 : BitVec 1 := Scalar.cmpi .ne v744 c0_i32_486
  let v749 : BitVec 1 := Scalar.andi v748 v745
  let v750 : BitVec 32 := Scalar.addi v744 v743
  let v751 : BitVec 32 := Scalar.select v749 v750 v744
  let c4_i32_489 : BitVec 32 := 4#32
  let v752 : BitVec 32 := Scalar.muli v751 c4_i32_489
  let c3_i32_490 : BitVec 32 := 3#32
  let v753 : BitVec 32 := Scalar.addi v752 c3_i32_490
  let v765 : BitVec 1 := Scalar.cmpi .ne v753 v2
  let v766 : BitVec 32 := Scalar.extui v765
  let c0_i32_497 : BitVec 32 := 0#32
  let v767 : BitVec 1 := Scalar.cmpi .ne v766 c0_i32_497
  v767

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_482 : BitVec 32 := 1#32
  let v741 : BitVec 32 := Scalar.subi v3 c1_i32_482
  let c8_i32_483 : BitVec 32 := 8#32
  let c0_i32_484 : BitVec 32 := 0#32
  let v742 : BitVec 1 := Scalar.cmpi .eq c8_i32_483 c0_i32_484
  let c1_i32_485 : BitVec 32 := 1#32
  let v743 : BitVec 32 := Scalar.select v742 c1_i32_485 c8_i32_483
  let v744 : BitVec 32 := Scalar.remsi v741 v743
  let c0_i32_487 : BitVec 32 := 0#32
  let v746 : BitVec 1 := Scalar.cmpi .slt v744 c0_i32_487
  let c0_i32_488 : BitVec 32 := 0#32
  let v747 : BitVec 1 := Scalar.cmpi .slt v743 c0_i32_488
  let v748 : BitVec 1 := Scalar.xori v746 v747
  let c0_i32_486 : BitVec 32 := 0#32
  let v745 : BitVec 1 := Scalar.cmpi .ne v744 c0_i32_486
  let v749 : BitVec 1 := Scalar.andi v748 v745
  let v750 : BitVec 32 := Scalar.addi v744 v743
  let v751 : BitVec 32 := Scalar.select v749 v750 v744
  let c4_i32_489 : BitVec 32 := 4#32
  let v752 : BitVec 32 := Scalar.muli v751 c4_i32_489
  let c3_i32_490 : BitVec 32 := 3#32
  let v753 : BitVec 32 := Scalar.addi v752 c3_i32_490
  let v754 : BitVec 32 := Scalar.subi v753 v2
  let c32_i32_491 : BitVec 32 := 32#32
  let c0_i32_492 : BitVec 32 := 0#32
  let v755 : BitVec 1 := Scalar.cmpi .eq c32_i32_491 c0_i32_492
  let c1_i32_493 : BitVec 32 := 1#32
  let v756 : BitVec 32 := Scalar.select v755 c1_i32_493 c32_i32_491
  let v757 : BitVec 32 := Scalar.remsi v754 v756
  let c0_i32_495 : BitVec 32 := 0#32
  let v759 : BitVec 1 := Scalar.cmpi .slt v757 c0_i32_495
  let c0_i32_496 : BitVec 32 := 0#32
  let v760 : BitVec 1 := Scalar.cmpi .slt v756 c0_i32_496
  let v761 : BitVec 1 := Scalar.xori v759 v760
  let c0_i32_494 : BitVec 32 := 0#32
  let v758 : BitVec 1 := Scalar.cmpi .ne v757 c0_i32_494
  let v762 : BitVec 1 := Scalar.andi v761 v758
  let v763 : BitVec 32 := Scalar.addi v757 v756
  let v764 : BitVec 32 := Scalar.select v762 v763 v757
  ![v764.toNat]
def k0_off26 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_482 : BitVec 32 := 1#32
  let v741 : BitVec 32 := Scalar.subi v3 c1_i32_482
  let c8_i32_483 : BitVec 32 := 8#32
  let c0_i32_484 : BitVec 32 := 0#32
  let v742 : BitVec 1 := Scalar.cmpi .eq c8_i32_483 c0_i32_484
  let c1_i32_485 : BitVec 32 := 1#32
  let v743 : BitVec 32 := Scalar.select v742 c1_i32_485 c8_i32_483
  let v744 : BitVec 32 := Scalar.remsi v741 v743
  let c0_i32_487 : BitVec 32 := 0#32
  let v746 : BitVec 1 := Scalar.cmpi .slt v744 c0_i32_487
  let c0_i32_488 : BitVec 32 := 0#32
  let v747 : BitVec 1 := Scalar.cmpi .slt v743 c0_i32_488
  let v748 : BitVec 1 := Scalar.xori v746 v747
  let c0_i32_486 : BitVec 32 := 0#32
  let v745 : BitVec 1 := Scalar.cmpi .ne v744 c0_i32_486
  let v749 : BitVec 1 := Scalar.andi v748 v745
  let v750 : BitVec 32 := Scalar.addi v744 v743
  let v751 : BitVec 32 := Scalar.select v749 v750 v744
  let c4_i32_489 : BitVec 32 := 4#32
  let v752 : BitVec 32 := Scalar.muli v751 c4_i32_489
  let c3_i32_490 : BitVec 32 := 3#32
  let v753 : BitVec 32 := Scalar.addi v752 c3_i32_490
  let c128_i32_1593 : BitVec 32 := 128#32
  let v2329 : BitVec 32 := Scalar.muli v753 c128_i32_1593
  let c0_i32_1598 : BitVec 32 := 0#32
  ![v2329.toNat, 0]
def k0_dev39 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_482 : BitVec 32 := 1#32
  let v741 : BitVec 32 := Scalar.subi v3 c1_i32_482
  let c8_i32_483 : BitVec 32 := 8#32
  let c0_i32_484 : BitVec 32 := 0#32
  let v742 : BitVec 1 := Scalar.cmpi .eq c8_i32_483 c0_i32_484
  let c1_i32_485 : BitVec 32 := 1#32
  let v743 : BitVec 32 := Scalar.select v742 c1_i32_485 c8_i32_483
  let v744 : BitVec 32 := Scalar.remsi v741 v743
  let c0_i32_487 : BitVec 32 := 0#32
  let v746 : BitVec 1 := Scalar.cmpi .slt v744 c0_i32_487
  let c0_i32_488 : BitVec 32 := 0#32
  let v747 : BitVec 1 := Scalar.cmpi .slt v743 c0_i32_488
  let v748 : BitVec 1 := Scalar.xori v746 v747
  let c0_i32_486 : BitVec 32 := 0#32
  let v745 : BitVec 1 := Scalar.cmpi .ne v744 c0_i32_486
  let v749 : BitVec 1 := Scalar.andi v748 v745
  let v750 : BitVec 32 := Scalar.addi v744 v743
  let v751 : BitVec 32 := Scalar.select v749 v750 v744
  let c4_i32_489 : BitVec 32 := 4#32
  let v752 : BitVec 32 := Scalar.muli v751 c4_i32_489
  let c3_i32_490 : BitVec 32 := 3#32
  let v753 : BitVec 32 := Scalar.addi v752 c3_i32_490
  let c1_i32_1595 : BitVec 32 := 1#32
  let v2331 : BitVec 32 := Scalar.muli v753 c1_i32_1595
  let v2332 : BitVec 32 := Scalar.addi c0_i32_1596 v2331
  v2332.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_498 : BitVec 32 := 2#32
  let v768 : BitVec 32 := Scalar.subi v3 c2_i32_498
  let c8_i32_499 : BitVec 32 := 8#32
  let c0_i32_500 : BitVec 32 := 0#32
  let v769 : BitVec 1 := Scalar.cmpi .eq c8_i32_499 c0_i32_500
  let c1_i32_501 : BitVec 32 := 1#32
  let v770 : BitVec 32 := Scalar.select v769 c1_i32_501 c8_i32_499
  let v771 : BitVec 32 := Scalar.remsi v768 v770
  let c0_i32_503 : BitVec 32 := 0#32
  let v773 : BitVec 1 := Scalar.cmpi .slt v771 c0_i32_503
  let c0_i32_504 : BitVec 32 := 0#32
  let v774 : BitVec 1 := Scalar.cmpi .slt v770 c0_i32_504
  let v775 : BitVec 1 := Scalar.xori v773 v774
  let c0_i32_502 : BitVec 32 := 0#32
  let v772 : BitVec 1 := Scalar.cmpi .ne v771 c0_i32_502
  let v776 : BitVec 1 := Scalar.andi v775 v772
  let v777 : BitVec 32 := Scalar.addi v771 v770
  let v778 : BitVec 32 := Scalar.select v776 v777 v771
  let c4_i32_505 : BitVec 32 := 4#32
  let v779 : BitVec 32 := Scalar.muli v778 c4_i32_505
  let c0_i32_506 : BitVec 32 := 0#32
  let v780 : BitVec 32 := Scalar.addi v779 c0_i32_506
  let v792 : BitVec 1 := Scalar.cmpi .ne v780 v2
  let v793 : BitVec 32 := Scalar.extui v792
  let c0_i32_513 : BitVec 32 := 0#32
  let v794 : BitVec 1 := Scalar.cmpi .ne v793 c0_i32_513
  v794

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_498 : BitVec 32 := 2#32
  let v768 : BitVec 32 := Scalar.subi v3 c2_i32_498
  let c8_i32_499 : BitVec 32 := 8#32
  let c0_i32_500 : BitVec 32 := 0#32
  let v769 : BitVec 1 := Scalar.cmpi .eq c8_i32_499 c0_i32_500
  let c1_i32_501 : BitVec 32 := 1#32
  let v770 : BitVec 32 := Scalar.select v769 c1_i32_501 c8_i32_499
  let v771 : BitVec 32 := Scalar.remsi v768 v770
  let c0_i32_503 : BitVec 32 := 0#32
  let v773 : BitVec 1 := Scalar.cmpi .slt v771 c0_i32_503
  let c0_i32_504 : BitVec 32 := 0#32
  let v774 : BitVec 1 := Scalar.cmpi .slt v770 c0_i32_504
  let v775 : BitVec 1 := Scalar.xori v773 v774
  let c0_i32_502 : BitVec 32 := 0#32
  let v772 : BitVec 1 := Scalar.cmpi .ne v771 c0_i32_502
  let v776 : BitVec 1 := Scalar.andi v775 v772
  let v777 : BitVec 32 := Scalar.addi v771 v770
  let v778 : BitVec 32 := Scalar.select v776 v777 v771
  let c4_i32_505 : BitVec 32 := 4#32
  let v779 : BitVec 32 := Scalar.muli v778 c4_i32_505
  let c0_i32_506 : BitVec 32 := 0#32
  let v780 : BitVec 32 := Scalar.addi v779 c0_i32_506
  let v781 : BitVec 32 := Scalar.subi v780 v2
  let c32_i32_507 : BitVec 32 := 32#32
  let c0_i32_508 : BitVec 32 := 0#32
  let v782 : BitVec 1 := Scalar.cmpi .eq c32_i32_507 c0_i32_508
  let c1_i32_509 : BitVec 32 := 1#32
  let v783 : BitVec 32 := Scalar.select v782 c1_i32_509 c32_i32_507
  let v784 : BitVec 32 := Scalar.remsi v781 v783
  let c0_i32_511 : BitVec 32 := 0#32
  let v786 : BitVec 1 := Scalar.cmpi .slt v784 c0_i32_511
  let c0_i32_512 : BitVec 32 := 0#32
  let v787 : BitVec 1 := Scalar.cmpi .slt v783 c0_i32_512
  let v788 : BitVec 1 := Scalar.xori v786 v787
  let c0_i32_510 : BitVec 32 := 0#32
  let v785 : BitVec 1 := Scalar.cmpi .ne v784 c0_i32_510
  let v789 : BitVec 1 := Scalar.andi v788 v785
  let v790 : BitVec 32 := Scalar.addi v784 v783
  let v791 : BitVec 32 := Scalar.select v789 v790 v784
  ![v791.toNat]
def k0_off29 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_498 : BitVec 32 := 2#32
  let v768 : BitVec 32 := Scalar.subi v3 c2_i32_498
  let c8_i32_499 : BitVec 32 := 8#32
  let c0_i32_500 : BitVec 32 := 0#32
  let v769 : BitVec 1 := Scalar.cmpi .eq c8_i32_499 c0_i32_500
  let c1_i32_501 : BitVec 32 := 1#32
  let v770 : BitVec 32 := Scalar.select v769 c1_i32_501 c8_i32_499
  let v771 : BitVec 32 := Scalar.remsi v768 v770
  let c0_i32_503 : BitVec 32 := 0#32
  let v773 : BitVec 1 := Scalar.cmpi .slt v771 c0_i32_503
  let c0_i32_504 : BitVec 32 := 0#32
  let v774 : BitVec 1 := Scalar.cmpi .slt v770 c0_i32_504
  let v775 : BitVec 1 := Scalar.xori v773 v774
  let c0_i32_502 : BitVec 32 := 0#32
  let v772 : BitVec 1 := Scalar.cmpi .ne v771 c0_i32_502
  let v776 : BitVec 1 := Scalar.andi v775 v772
  let v777 : BitVec 32 := Scalar.addi v771 v770
  let v778 : BitVec 32 := Scalar.select v776 v777 v771
  let c4_i32_505 : BitVec 32 := 4#32
  let v779 : BitVec 32 := Scalar.muli v778 c4_i32_505
  let c0_i32_506 : BitVec 32 := 0#32
  let v780 : BitVec 32 := Scalar.addi v779 c0_i32_506
  let c128_i32_1593 : BitVec 32 := 128#32
  let v2329 : BitVec 32 := Scalar.muli v780 c128_i32_1593
  let c0_i32_1598 : BitVec 32 := 0#32
  ![v2329.toNat, 0]
def k0_dev40 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_498 : BitVec 32 := 2#32
  let v768 : BitVec 32 := Scalar.subi v3 c2_i32_498
  let c8_i32_499 : BitVec 32 := 8#32
  let c0_i32_500 : BitVec 32 := 0#32
  let v769 : BitVec 1 := Scalar.cmpi .eq c8_i32_499 c0_i32_500
  let c1_i32_501 : BitVec 32 := 1#32
  let v770 : BitVec 32 := Scalar.select v769 c1_i32_501 c8_i32_499
  let v771 : BitVec 32 := Scalar.remsi v768 v770
  let c0_i32_503 : BitVec 32 := 0#32
  let v773 : BitVec 1 := Scalar.cmpi .slt v771 c0_i32_503
  let c0_i32_504 : BitVec 32 := 0#32
  let v774 : BitVec 1 := Scalar.cmpi .slt v770 c0_i32_504
  let v775 : BitVec 1 := Scalar.xori v773 v774
  let c0_i32_502 : BitVec 32 := 0#32
  let v772 : BitVec 1 := Scalar.cmpi .ne v771 c0_i32_502
  let v776 : BitVec 1 := Scalar.andi v775 v772
  let v777 : BitVec 32 := Scalar.addi v771 v770
  let v778 : BitVec 32 := Scalar.select v776 v777 v771
  let c4_i32_505 : BitVec 32 := 4#32
  let v779 : BitVec 32 := Scalar.muli v778 c4_i32_505
  let c0_i32_506 : BitVec 32 := 0#32
  let v780 : BitVec 32 := Scalar.addi v779 c0_i32_506
  let c1_i32_1595 : BitVec 32 := 1#32
  let v2331 : BitVec 32 := Scalar.muli v780 c1_i32_1595
  let v2332 : BitVec 32 := Scalar.addi c0_i32_1596 v2331
  v2332.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_514 : BitVec 32 := 2#32
  let v795 : BitVec 32 := Scalar.subi v3 c2_i32_514
  let c8_i32_515 : BitVec 32 := 8#32
  let c0_i32_516 : BitVec 32 := 0#32
  let v796 : BitVec 1 := Scalar.cmpi .eq c8_i32_515 c0_i32_516
  let c1_i32_517 : BitVec 32 := 1#32
  let v797 : BitVec 32 := Scalar.select v796 c1_i32_517 c8_i32_515
  let v798 : BitVec 32 := Scalar.remsi v795 v797
  let c0_i32_519 : BitVec 32 := 0#32
  let v800 : BitVec 1 := Scalar.cmpi .slt v798 c0_i32_519
  let c0_i32_520 : BitVec 32 := 0#32
  let v801 : BitVec 1 := Scalar.cmpi .slt v797 c0_i32_520
  let v802 : BitVec 1 := Scalar.xori v800 v801
  let c0_i32_518 : BitVec 32 := 0#32
  let v799 : BitVec 1 := Scalar.cmpi .ne v798 c0_i32_518
  let v803 : BitVec 1 := Scalar.andi v802 v799
  let v804 : BitVec 32 := Scalar.addi v798 v797
  let v805 : BitVec 32 := Scalar.select v803 v804 v798
  let c4_i32_521 : BitVec 32 := 4#32
  let v806 : BitVec 32 := Scalar.muli v805 c4_i32_521
  let c1_i32_522 : BitVec 32 := 1#32
  let v807 : BitVec 32 := Scalar.addi v806 c1_i32_522
  let v819 : BitVec 1 := Scalar.cmpi .ne v807 v2
  let v820 : BitVec 32 := Scalar.extui v819
  let c0_i32_529 : BitVec 32 := 0#32
  let v821 : BitVec 1 := Scalar.cmpi .ne v820 c0_i32_529
  v821

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_514 : BitVec 32 := 2#32
  let v795 : BitVec 32 := Scalar.subi v3 c2_i32_514
  let c8_i32_515 : BitVec 32 := 8#32
  let c0_i32_516 : BitVec 32 := 0#32
  let v796 : BitVec 1 := Scalar.cmpi .eq c8_i32_515 c0_i32_516
  let c1_i32_517 : BitVec 32 := 1#32
  let v797 : BitVec 32 := Scalar.select v796 c1_i32_517 c8_i32_515
  let v798 : BitVec 32 := Scalar.remsi v795 v797
  let c0_i32_519 : BitVec 32 := 0#32
  let v800 : BitVec 1 := Scalar.cmpi .slt v798 c0_i32_519
  let c0_i32_520 : BitVec 32 := 0#32
  let v801 : BitVec 1 := Scalar.cmpi .slt v797 c0_i32_520
  let v802 : BitVec 1 := Scalar.xori v800 v801
  let c0_i32_518 : BitVec 32 := 0#32
  let v799 : BitVec 1 := Scalar.cmpi .ne v798 c0_i32_518
  let v803 : BitVec 1 := Scalar.andi v802 v799
  let v804 : BitVec 32 := Scalar.addi v798 v797
  let v805 : BitVec 32 := Scalar.select v803 v804 v798
  let c4_i32_521 : BitVec 32 := 4#32
  let v806 : BitVec 32 := Scalar.muli v805 c4_i32_521
  let c1_i32_522 : BitVec 32 := 1#32
  let v807 : BitVec 32 := Scalar.addi v806 c1_i32_522
  let v808 : BitVec 32 := Scalar.subi v807 v2
  let c32_i32_523 : BitVec 32 := 32#32
  let c0_i32_524 : BitVec 32 := 0#32
  let v809 : BitVec 1 := Scalar.cmpi .eq c32_i32_523 c0_i32_524
  let c1_i32_525 : BitVec 32 := 1#32
  let v810 : BitVec 32 := Scalar.select v809 c1_i32_525 c32_i32_523
  let v811 : BitVec 32 := Scalar.remsi v808 v810
  let c0_i32_527 : BitVec 32 := 0#32
  let v813 : BitVec 1 := Scalar.cmpi .slt v811 c0_i32_527
  let c0_i32_528 : BitVec 32 := 0#32
  let v814 : BitVec 1 := Scalar.cmpi .slt v810 c0_i32_528
  let v815 : BitVec 1 := Scalar.xori v813 v814
  let c0_i32_526 : BitVec 32 := 0#32
  let v812 : BitVec 1 := Scalar.cmpi .ne v811 c0_i32_526
  let v816 : BitVec 1 := Scalar.andi v815 v812
  let v817 : BitVec 32 := Scalar.addi v811 v810
  let v818 : BitVec 32 := Scalar.select v816 v817 v811
  ![v818.toNat]
def k0_off32 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_514 : BitVec 32 := 2#32
  let v795 : BitVec 32 := Scalar.subi v3 c2_i32_514
  let c8_i32_515 : BitVec 32 := 8#32
  let c0_i32_516 : BitVec 32 := 0#32
  let v796 : BitVec 1 := Scalar.cmpi .eq c8_i32_515 c0_i32_516
  let c1_i32_517 : BitVec 32 := 1#32
  let v797 : BitVec 32 := Scalar.select v796 c1_i32_517 c8_i32_515
  let v798 : BitVec 32 := Scalar.remsi v795 v797
  let c0_i32_519 : BitVec 32 := 0#32
  let v800 : BitVec 1 := Scalar.cmpi .slt v798 c0_i32_519
  let c0_i32_520 : BitVec 32 := 0#32
  let v801 : BitVec 1 := Scalar.cmpi .slt v797 c0_i32_520
  let v802 : BitVec 1 := Scalar.xori v800 v801
  let c0_i32_518 : BitVec 32 := 0#32
  let v799 : BitVec 1 := Scalar.cmpi .ne v798 c0_i32_518
  let v803 : BitVec 1 := Scalar.andi v802 v799
  let v804 : BitVec 32 := Scalar.addi v798 v797
  let v805 : BitVec 32 := Scalar.select v803 v804 v798
  let c4_i32_521 : BitVec 32 := 4#32
  let v806 : BitVec 32 := Scalar.muli v805 c4_i32_521
  let c1_i32_522 : BitVec 32 := 1#32
  let v807 : BitVec 32 := Scalar.addi v806 c1_i32_522
  let c128_i32_1593 : BitVec 32 := 128#32
  let v2329 : BitVec 32 := Scalar.muli v807 c128_i32_1593
  let c0_i32_1598 : BitVec 32 := 0#32
  ![v2329.toNat, 0]
def k0_dev41 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_514 : BitVec 32 := 2#32
  let v795 : BitVec 32 := Scalar.subi v3 c2_i32_514
  let c8_i32_515 : BitVec 32 := 8#32
  let c0_i32_516 : BitVec 32 := 0#32
  let v796 : BitVec 1 := Scalar.cmpi .eq c8_i32_515 c0_i32_516
  let c1_i32_517 : BitVec 32 := 1#32
  let v797 : BitVec 32 := Scalar.select v796 c1_i32_517 c8_i32_515
  let v798 : BitVec 32 := Scalar.remsi v795 v797
  let c0_i32_519 : BitVec 32 := 0#32
  let v800 : BitVec 1 := Scalar.cmpi .slt v798 c0_i32_519
  let c0_i32_520 : BitVec 32 := 0#32
  let v801 : BitVec 1 := Scalar.cmpi .slt v797 c0_i32_520
  let v802 : BitVec 1 := Scalar.xori v800 v801
  let c0_i32_518 : BitVec 32 := 0#32
  let v799 : BitVec 1 := Scalar.cmpi .ne v798 c0_i32_518
  let v803 : BitVec 1 := Scalar.andi v802 v799
  let v804 : BitVec 32 := Scalar.addi v798 v797
  let v805 : BitVec 32 := Scalar.select v803 v804 v798
  let c4_i32_521 : BitVec 32 := 4#32
  let v806 : BitVec 32 := Scalar.muli v805 c4_i32_521
  let c1_i32_522 : BitVec 32 := 1#32
  let v807 : BitVec 32 := Scalar.addi v806 c1_i32_522
  let c1_i32_1595 : BitVec 32 := 1#32
  let v2331 : BitVec 32 := Scalar.muli v807 c1_i32_1595
  let v2332 : BitVec 32 := Scalar.addi c0_i32_1596 v2331
  v2332.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_530 : BitVec 32 := 2#32
  let v822 : BitVec 32 := Scalar.subi v3 c2_i32_530
  let c8_i32_531 : BitVec 32 := 8#32
  let c0_i32_532 : BitVec 32 := 0#32
  let v823 : BitVec 1 := Scalar.cmpi .eq c8_i32_531 c0_i32_532
  let c1_i32_533 : BitVec 32 := 1#32
  let v824 : BitVec 32 := Scalar.select v823 c1_i32_533 c8_i32_531
  let v825 : BitVec 32 := Scalar.remsi v822 v824
  let c0_i32_535 : BitVec 32 := 0#32
  let v827 : BitVec 1 := Scalar.cmpi .slt v825 c0_i32_535
  let c0_i32_536 : BitVec 32 := 0#32
  let v828 : BitVec 1 := Scalar.cmpi .slt v824 c0_i32_536
  let v829 : BitVec 1 := Scalar.xori v827 v828
  let c0_i32_534 : BitVec 32 := 0#32
  let v826 : BitVec 1 := Scalar.cmpi .ne v825 c0_i32_534
  let v830 : BitVec 1 := Scalar.andi v829 v826
  let v831 : BitVec 32 := Scalar.addi v825 v824
  let v832 : BitVec 32 := Scalar.select v830 v831 v825
  let c4_i32_537 : BitVec 32 := 4#32
  let v833 : BitVec 32 := Scalar.muli v832 c4_i32_537
  let c2_i32_538 : BitVec 32 := 2#32
  let v834 : BitVec 32 := Scalar.addi v833 c2_i32_538
  let v846 : BitVec 1 := Scalar.cmpi .ne v834 v2
  let v847 : BitVec 32 := Scalar.extui v846
  let c0_i32_545 : BitVec 32 := 0#32
  let v848 : BitVec 1 := Scalar.cmpi .ne v847 c0_i32_545
  v848

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_530 : BitVec 32 := 2#32
  let v822 : BitVec 32 := Scalar.subi v3 c2_i32_530
  let c8_i32_531 : BitVec 32 := 8#32
  let c0_i32_532 : BitVec 32 := 0#32
  let v823 : BitVec 1 := Scalar.cmpi .eq c8_i32_531 c0_i32_532
  let c1_i32_533 : BitVec 32 := 1#32
  let v824 : BitVec 32 := Scalar.select v823 c1_i32_533 c8_i32_531
  let v825 : BitVec 32 := Scalar.remsi v822 v824
  let c0_i32_535 : BitVec 32 := 0#32
  let v827 : BitVec 1 := Scalar.cmpi .slt v825 c0_i32_535
  let c0_i32_536 : BitVec 32 := 0#32
  let v828 : BitVec 1 := Scalar.cmpi .slt v824 c0_i32_536
  let v829 : BitVec 1 := Scalar.xori v827 v828
  let c0_i32_534 : BitVec 32 := 0#32
  let v826 : BitVec 1 := Scalar.cmpi .ne v825 c0_i32_534
  let v830 : BitVec 1 := Scalar.andi v829 v826
  let v831 : BitVec 32 := Scalar.addi v825 v824
  let v832 : BitVec 32 := Scalar.select v830 v831 v825
  let c4_i32_537 : BitVec 32 := 4#32
  let v833 : BitVec 32 := Scalar.muli v832 c4_i32_537
  let c2_i32_538 : BitVec 32 := 2#32
  let v834 : BitVec 32 := Scalar.addi v833 c2_i32_538
  let v835 : BitVec 32 := Scalar.subi v834 v2
  let c32_i32_539 : BitVec 32 := 32#32
  let c0_i32_540 : BitVec 32 := 0#32
  let v836 : BitVec 1 := Scalar.cmpi .eq c32_i32_539 c0_i32_540
  let c1_i32_541 : BitVec 32 := 1#32
  let v837 : BitVec 32 := Scalar.select v836 c1_i32_541 c32_i32_539
  let v838 : BitVec 32 := Scalar.remsi v835 v837
  let c0_i32_543 : BitVec 32 := 0#32
  let v840 : BitVec 1 := Scalar.cmpi .slt v838 c0_i32_543
  let c0_i32_544 : BitVec 32 := 0#32
  let v841 : BitVec 1 := Scalar.cmpi .slt v837 c0_i32_544
  let v842 : BitVec 1 := Scalar.xori v840 v841
  let c0_i32_542 : BitVec 32 := 0#32
  let v839 : BitVec 1 := Scalar.cmpi .ne v838 c0_i32_542
  let v843 : BitVec 1 := Scalar.andi v842 v839
  let v844 : BitVec 32 := Scalar.addi v838 v837
  let v845 : BitVec 32 := Scalar.select v843 v844 v838
  ![v845.toNat]
def k0_off35 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_530 : BitVec 32 := 2#32
  let v822 : BitVec 32 := Scalar.subi v3 c2_i32_530
  let c8_i32_531 : BitVec 32 := 8#32
  let c0_i32_532 : BitVec 32 := 0#32
  let v823 : BitVec 1 := Scalar.cmpi .eq c8_i32_531 c0_i32_532
  let c1_i32_533 : BitVec 32 := 1#32
  let v824 : BitVec 32 := Scalar.select v823 c1_i32_533 c8_i32_531
  let v825 : BitVec 32 := Scalar.remsi v822 v824
  let c0_i32_535 : BitVec 32 := 0#32
  let v827 : BitVec 1 := Scalar.cmpi .slt v825 c0_i32_535
  let c0_i32_536 : BitVec 32 := 0#32
  let v828 : BitVec 1 := Scalar.cmpi .slt v824 c0_i32_536
  let v829 : BitVec 1 := Scalar.xori v827 v828
  let c0_i32_534 : BitVec 32 := 0#32
  let v826 : BitVec 1 := Scalar.cmpi .ne v825 c0_i32_534
  let v830 : BitVec 1 := Scalar.andi v829 v826
  let v831 : BitVec 32 := Scalar.addi v825 v824
  let v832 : BitVec 32 := Scalar.select v830 v831 v825
  let c4_i32_537 : BitVec 32 := 4#32
  let v833 : BitVec 32 := Scalar.muli v832 c4_i32_537
  let c2_i32_538 : BitVec 32 := 2#32
  let v834 : BitVec 32 := Scalar.addi v833 c2_i32_538
  let c128_i32_1593 : BitVec 32 := 128#32
  let v2329 : BitVec 32 := Scalar.muli v834 c128_i32_1593
  let c0_i32_1598 : BitVec 32 := 0#32
  ![v2329.toNat, 0]
def k0_dev42 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_530 : BitVec 32 := 2#32
  let v822 : BitVec 32 := Scalar.subi v3 c2_i32_530
  let c8_i32_531 : BitVec 32 := 8#32
  let c0_i32_532 : BitVec 32 := 0#32
  let v823 : BitVec 1 := Scalar.cmpi .eq c8_i32_531 c0_i32_532
  let c1_i32_533 : BitVec 32 := 1#32
  let v824 : BitVec 32 := Scalar.select v823 c1_i32_533 c8_i32_531
  let v825 : BitVec 32 := Scalar.remsi v822 v824
  let c0_i32_535 : BitVec 32 := 0#32
  let v827 : BitVec 1 := Scalar.cmpi .slt v825 c0_i32_535
  let c0_i32_536 : BitVec 32 := 0#32
  let v828 : BitVec 1 := Scalar.cmpi .slt v824 c0_i32_536
  let v829 : BitVec 1 := Scalar.xori v827 v828
  let c0_i32_534 : BitVec 32 := 0#32
  let v826 : BitVec 1 := Scalar.cmpi .ne v825 c0_i32_534
  let v830 : BitVec 1 := Scalar.andi v829 v826
  let v831 : BitVec 32 := Scalar.addi v825 v824
  let v832 : BitVec 32 := Scalar.select v830 v831 v825
  let c4_i32_537 : BitVec 32 := 4#32
  let v833 : BitVec 32 := Scalar.muli v832 c4_i32_537
  let c2_i32_538 : BitVec 32 := 2#32
  let v834 : BitVec 32 := Scalar.addi v833 c2_i32_538
  let c1_i32_1595 : BitVec 32 := 1#32
  let v2331 : BitVec 32 := Scalar.muli v834 c1_i32_1595
  let v2332 : BitVec 32 := Scalar.addi c0_i32_1596 v2331
  v2332.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_546 : BitVec 32 := 2#32
  let v849 : BitVec 32 := Scalar.subi v3 c2_i32_546
  let c8_i32_547 : BitVec 32 := 8#32
  let c0_i32_548 : BitVec 32 := 0#32
  let v850 : BitVec 1 := Scalar.cmpi .eq c8_i32_547 c0_i32_548
  let c1_i32_549 : BitVec 32 := 1#32
  let v851 : BitVec 32 := Scalar.select v850 c1_i32_549 c8_i32_547
  let v852 : BitVec 32 := Scalar.remsi v849 v851
  let c0_i32_551 : BitVec 32 := 0#32
  let v854 : BitVec 1 := Scalar.cmpi .slt v852 c0_i32_551
  let c0_i32_552 : BitVec 32 := 0#32
  let v855 : BitVec 1 := Scalar.cmpi .slt v851 c0_i32_552
  let v856 : BitVec 1 := Scalar.xori v854 v855
  let c0_i32_550 : BitVec 32 := 0#32
  let v853 : BitVec 1 := Scalar.cmpi .ne v852 c0_i32_550
  let v857 : BitVec 1 := Scalar.andi v856 v853
  let v858 : BitVec 32 := Scalar.addi v852 v851
  let v859 : BitVec 32 := Scalar.select v857 v858 v852
  let c4_i32_553 : BitVec 32 := 4#32
  let v860 : BitVec 32 := Scalar.muli v859 c4_i32_553
  let c3_i32_554 : BitVec 32 := 3#32
  let v861 : BitVec 32 := Scalar.addi v860 c3_i32_554
  let v873 : BitVec 1 := Scalar.cmpi .ne v861 v2
  let v874 : BitVec 32 := Scalar.extui v873
  let c0_i32_561 : BitVec 32 := 0#32
  let v875 : BitVec 1 := Scalar.cmpi .ne v874 c0_i32_561
  v875

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_546 : BitVec 32 := 2#32
  let v849 : BitVec 32 := Scalar.subi v3 c2_i32_546
  let c8_i32_547 : BitVec 32 := 8#32
  let c0_i32_548 : BitVec 32 := 0#32
  let v850 : BitVec 1 := Scalar.cmpi .eq c8_i32_547 c0_i32_548
  let c1_i32_549 : BitVec 32 := 1#32
  let v851 : BitVec 32 := Scalar.select v850 c1_i32_549 c8_i32_547
  let v852 : BitVec 32 := Scalar.remsi v849 v851
  let c0_i32_551 : BitVec 32 := 0#32
  let v854 : BitVec 1 := Scalar.cmpi .slt v852 c0_i32_551
  let c0_i32_552 : BitVec 32 := 0#32
  let v855 : BitVec 1 := Scalar.cmpi .slt v851 c0_i32_552
  let v856 : BitVec 1 := Scalar.xori v854 v855
  let c0_i32_550 : BitVec 32 := 0#32
  let v853 : BitVec 1 := Scalar.cmpi .ne v852 c0_i32_550
  let v857 : BitVec 1 := Scalar.andi v856 v853
  let v858 : BitVec 32 := Scalar.addi v852 v851
  let v859 : BitVec 32 := Scalar.select v857 v858 v852
  let c4_i32_553 : BitVec 32 := 4#32
  let v860 : BitVec 32 := Scalar.muli v859 c4_i32_553
  let c3_i32_554 : BitVec 32 := 3#32
  let v861 : BitVec 32 := Scalar.addi v860 c3_i32_554
  let v862 : BitVec 32 := Scalar.subi v861 v2
  let c32_i32_555 : BitVec 32 := 32#32
  let c0_i32_556 : BitVec 32 := 0#32
  let v863 : BitVec 1 := Scalar.cmpi .eq c32_i32_555 c0_i32_556
  let c1_i32_557 : BitVec 32 := 1#32
  let v864 : BitVec 32 := Scalar.select v863 c1_i32_557 c32_i32_555
  let v865 : BitVec 32 := Scalar.remsi v862 v864
  let c0_i32_559 : BitVec 32 := 0#32
  let v867 : BitVec 1 := Scalar.cmpi .slt v865 c0_i32_559
  let c0_i32_560 : BitVec 32 := 0#32
  let v868 : BitVec 1 := Scalar.cmpi .slt v864 c0_i32_560
  let v869 : BitVec 1 := Scalar.xori v867 v868
  let c0_i32_558 : BitVec 32 := 0#32
  let v866 : BitVec 1 := Scalar.cmpi .ne v865 c0_i32_558
  let v870 : BitVec 1 := Scalar.andi v869 v866
  let v871 : BitVec 32 := Scalar.addi v865 v864
  let v872 : BitVec 32 := Scalar.select v870 v871 v865
  ![v872.toNat]
def k0_off38 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_546 : BitVec 32 := 2#32
  let v849 : BitVec 32 := Scalar.subi v3 c2_i32_546
  let c8_i32_547 : BitVec 32 := 8#32
  let c0_i32_548 : BitVec 32 := 0#32
  let v850 : BitVec 1 := Scalar.cmpi .eq c8_i32_547 c0_i32_548
  let c1_i32_549 : BitVec 32 := 1#32
  let v851 : BitVec 32 := Scalar.select v850 c1_i32_549 c8_i32_547
  let v852 : BitVec 32 := Scalar.remsi v849 v851
  let c0_i32_551 : BitVec 32 := 0#32
  let v854 : BitVec 1 := Scalar.cmpi .slt v852 c0_i32_551
  let c0_i32_552 : BitVec 32 := 0#32
  let v855 : BitVec 1 := Scalar.cmpi .slt v851 c0_i32_552
  let v856 : BitVec 1 := Scalar.xori v854 v855
  let c0_i32_550 : BitVec 32 := 0#32
  let v853 : BitVec 1 := Scalar.cmpi .ne v852 c0_i32_550
  let v857 : BitVec 1 := Scalar.andi v856 v853
  let v858 : BitVec 32 := Scalar.addi v852 v851
  let v859 : BitVec 32 := Scalar.select v857 v858 v852
  let c4_i32_553 : BitVec 32 := 4#32
  let v860 : BitVec 32 := Scalar.muli v859 c4_i32_553
  let c3_i32_554 : BitVec 32 := 3#32
  let v861 : BitVec 32 := Scalar.addi v860 c3_i32_554
  let c128_i32_1593 : BitVec 32 := 128#32
  let v2329 : BitVec 32 := Scalar.muli v861 c128_i32_1593
  let c0_i32_1598 : BitVec 32 := 0#32
  ![v2329.toNat, 0]
def k0_dev43 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_546 : BitVec 32 := 2#32
  let v849 : BitVec 32 := Scalar.subi v3 c2_i32_546
  let c8_i32_547 : BitVec 32 := 8#32
  let c0_i32_548 : BitVec 32 := 0#32
  let v850 : BitVec 1 := Scalar.cmpi .eq c8_i32_547 c0_i32_548
  let c1_i32_549 : BitVec 32 := 1#32
  let v851 : BitVec 32 := Scalar.select v850 c1_i32_549 c8_i32_547
  let v852 : BitVec 32 := Scalar.remsi v849 v851
  let c0_i32_551 : BitVec 32 := 0#32
  let v854 : BitVec 1 := Scalar.cmpi .slt v852 c0_i32_551
  let c0_i32_552 : BitVec 32 := 0#32
  let v855 : BitVec 1 := Scalar.cmpi .slt v851 c0_i32_552
  let v856 : BitVec 1 := Scalar.xori v854 v855
  let c0_i32_550 : BitVec 32 := 0#32
  let v853 : BitVec 1 := Scalar.cmpi .ne v852 c0_i32_550
  let v857 : BitVec 1 := Scalar.andi v856 v853
  let v858 : BitVec 32 := Scalar.addi v852 v851
  let v859 : BitVec 32 := Scalar.select v857 v858 v852
  let c4_i32_553 : BitVec 32 := 4#32
  let v860 : BitVec 32 := Scalar.muli v859 c4_i32_553
  let c3_i32_554 : BitVec 32 := 3#32
  let v861 : BitVec 32 := Scalar.addi v860 c3_i32_554
  let c1_i32_1595 : BitVec 32 := 1#32
  let v2331 : BitVec 32 := Scalar.muli v861 c1_i32_1595
  let v2332 : BitVec 32 := Scalar.addi c0_i32_1596 v2331
  v2332.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_562 : BitVec 32 := 3#32
  let v876 : BitVec 32 := Scalar.subi v3 c3_i32_562
  let c8_i32_563 : BitVec 32 := 8#32
  let c0_i32_564 : BitVec 32 := 0#32
  let v877 : BitVec 1 := Scalar.cmpi .eq c8_i32_563 c0_i32_564
  let c1_i32_565 : BitVec 32 := 1#32
  let v878 : BitVec 32 := Scalar.select v877 c1_i32_565 c8_i32_563
  let v879 : BitVec 32 := Scalar.remsi v876 v878
  let c0_i32_567 : BitVec 32 := 0#32
  let v881 : BitVec 1 := Scalar.cmpi .slt v879 c0_i32_567
  let c0_i32_568 : BitVec 32 := 0#32
  let v882 : BitVec 1 := Scalar.cmpi .slt v878 c0_i32_568
  let v883 : BitVec 1 := Scalar.xori v881 v882
  let c0_i32_566 : BitVec 32 := 0#32
  let v880 : BitVec 1 := Scalar.cmpi .ne v879 c0_i32_566
  let v884 : BitVec 1 := Scalar.andi v883 v880
  let v885 : BitVec 32 := Scalar.addi v879 v878
  let v886 : BitVec 32 := Scalar.select v884 v885 v879
  let c4_i32_569 : BitVec 32 := 4#32
  let v887 : BitVec 32 := Scalar.muli v886 c4_i32_569
  let c0_i32_570 : BitVec 32 := 0#32
  let v888 : BitVec 32 := Scalar.addi v887 c0_i32_570
  let v900 : BitVec 1 := Scalar.cmpi .ne v888 v2
  let v901 : BitVec 32 := Scalar.extui v900
  let c0_i32_577 : BitVec 32 := 0#32
  let v902 : BitVec 1 := Scalar.cmpi .ne v901 c0_i32_577
  v902

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_562 : BitVec 32 := 3#32
  let v876 : BitVec 32 := Scalar.subi v3 c3_i32_562
  let c8_i32_563 : BitVec 32 := 8#32
  let c0_i32_564 : BitVec 32 := 0#32
  let v877 : BitVec 1 := Scalar.cmpi .eq c8_i32_563 c0_i32_564
  let c1_i32_565 : BitVec 32 := 1#32
  let v878 : BitVec 32 := Scalar.select v877 c1_i32_565 c8_i32_563
  let v879 : BitVec 32 := Scalar.remsi v876 v878
  let c0_i32_567 : BitVec 32 := 0#32
  let v881 : BitVec 1 := Scalar.cmpi .slt v879 c0_i32_567
  let c0_i32_568 : BitVec 32 := 0#32
  let v882 : BitVec 1 := Scalar.cmpi .slt v878 c0_i32_568
  let v883 : BitVec 1 := Scalar.xori v881 v882
  let c0_i32_566 : BitVec 32 := 0#32
  let v880 : BitVec 1 := Scalar.cmpi .ne v879 c0_i32_566
  let v884 : BitVec 1 := Scalar.andi v883 v880
  let v885 : BitVec 32 := Scalar.addi v879 v878
  let v886 : BitVec 32 := Scalar.select v884 v885 v879
  let c4_i32_569 : BitVec 32 := 4#32
  let v887 : BitVec 32 := Scalar.muli v886 c4_i32_569
  let c0_i32_570 : BitVec 32 := 0#32
  let v888 : BitVec 32 := Scalar.addi v887 c0_i32_570
  let v889 : BitVec 32 := Scalar.subi v888 v2
  let c32_i32_571 : BitVec 32 := 32#32
  let c0_i32_572 : BitVec 32 := 0#32
  let v890 : BitVec 1 := Scalar.cmpi .eq c32_i32_571 c0_i32_572
  let c1_i32_573 : BitVec 32 := 1#32
  let v891 : BitVec 32 := Scalar.select v890 c1_i32_573 c32_i32_571
  let v892 : BitVec 32 := Scalar.remsi v889 v891
  let c0_i32_575 : BitVec 32 := 0#32
  let v894 : BitVec 1 := Scalar.cmpi .slt v892 c0_i32_575
  let c0_i32_576 : BitVec 32 := 0#32
  let v895 : BitVec 1 := Scalar.cmpi .slt v891 c0_i32_576
  let v896 : BitVec 1 := Scalar.xori v894 v895
  let c0_i32_574 : BitVec 32 := 0#32
  let v893 : BitVec 1 := Scalar.cmpi .ne v892 c0_i32_574
  let v897 : BitVec 1 := Scalar.andi v896 v893
  let v898 : BitVec 32 := Scalar.addi v892 v891
  let v899 : BitVec 32 := Scalar.select v897 v898 v892
  ![v899.toNat]
def k0_off41 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_562 : BitVec 32 := 3#32
  let v876 : BitVec 32 := Scalar.subi v3 c3_i32_562
  let c8_i32_563 : BitVec 32 := 8#32
  let c0_i32_564 : BitVec 32 := 0#32
  let v877 : BitVec 1 := Scalar.cmpi .eq c8_i32_563 c0_i32_564
  let c1_i32_565 : BitVec 32 := 1#32
  let v878 : BitVec 32 := Scalar.select v877 c1_i32_565 c8_i32_563
  let v879 : BitVec 32 := Scalar.remsi v876 v878
  let c0_i32_567 : BitVec 32 := 0#32
  let v881 : BitVec 1 := Scalar.cmpi .slt v879 c0_i32_567
  let c0_i32_568 : BitVec 32 := 0#32
  let v882 : BitVec 1 := Scalar.cmpi .slt v878 c0_i32_568
  let v883 : BitVec 1 := Scalar.xori v881 v882
  let c0_i32_566 : BitVec 32 := 0#32
  let v880 : BitVec 1 := Scalar.cmpi .ne v879 c0_i32_566
  let v884 : BitVec 1 := Scalar.andi v883 v880
  let v885 : BitVec 32 := Scalar.addi v879 v878
  let v886 : BitVec 32 := Scalar.select v884 v885 v879
  let c4_i32_569 : BitVec 32 := 4#32
  let v887 : BitVec 32 := Scalar.muli v886 c4_i32_569
  let c0_i32_570 : BitVec 32 := 0#32
  let v888 : BitVec 32 := Scalar.addi v887 c0_i32_570
  let c128_i32_1593 : BitVec 32 := 128#32
  let v2329 : BitVec 32 := Scalar.muli v888 c128_i32_1593
  let c0_i32_1598 : BitVec 32 := 0#32
  ![v2329.toNat, 0]
def k0_dev44 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_562 : BitVec 32 := 3#32
  let v876 : BitVec 32 := Scalar.subi v3 c3_i32_562
  let c8_i32_563 : BitVec 32 := 8#32
  let c0_i32_564 : BitVec 32 := 0#32
  let v877 : BitVec 1 := Scalar.cmpi .eq c8_i32_563 c0_i32_564
  let c1_i32_565 : BitVec 32 := 1#32
  let v878 : BitVec 32 := Scalar.select v877 c1_i32_565 c8_i32_563
  let v879 : BitVec 32 := Scalar.remsi v876 v878
  let c0_i32_567 : BitVec 32 := 0#32
  let v881 : BitVec 1 := Scalar.cmpi .slt v879 c0_i32_567
  let c0_i32_568 : BitVec 32 := 0#32
  let v882 : BitVec 1 := Scalar.cmpi .slt v878 c0_i32_568
  let v883 : BitVec 1 := Scalar.xori v881 v882
  let c0_i32_566 : BitVec 32 := 0#32
  let v880 : BitVec 1 := Scalar.cmpi .ne v879 c0_i32_566
  let v884 : BitVec 1 := Scalar.andi v883 v880
  let v885 : BitVec 32 := Scalar.addi v879 v878
  let v886 : BitVec 32 := Scalar.select v884 v885 v879
  let c4_i32_569 : BitVec 32 := 4#32
  let v887 : BitVec 32 := Scalar.muli v886 c4_i32_569
  let c0_i32_570 : BitVec 32 := 0#32
  let v888 : BitVec 32 := Scalar.addi v887 c0_i32_570
  let c1_i32_1595 : BitVec 32 := 1#32
  let v2331 : BitVec 32 := Scalar.muli v888 c1_i32_1595
  let v2332 : BitVec 32 := Scalar.addi c0_i32_1596 v2331
  v2332.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_578 : BitVec 32 := 3#32
  let v903 : BitVec 32 := Scalar.subi v3 c3_i32_578
  let c8_i32_579 : BitVec 32 := 8#32
  let c0_i32_580 : BitVec 32 := 0#32
  let v904 : BitVec 1 := Scalar.cmpi .eq c8_i32_579 c0_i32_580
  let c1_i32_581 : BitVec 32 := 1#32
  let v905 : BitVec 32 := Scalar.select v904 c1_i32_581 c8_i32_579
  let v906 : BitVec 32 := Scalar.remsi v903 v905
  let c0_i32_583 : BitVec 32 := 0#32
  let v908 : BitVec 1 := Scalar.cmpi .slt v906 c0_i32_583
  let c0_i32_584 : BitVec 32 := 0#32
  let v909 : BitVec 1 := Scalar.cmpi .slt v905 c0_i32_584
  let v910 : BitVec 1 := Scalar.xori v908 v909
  let c0_i32_582 : BitVec 32 := 0#32
  let v907 : BitVec 1 := Scalar.cmpi .ne v906 c0_i32_582
  let v911 : BitVec 1 := Scalar.andi v910 v907
  let v912 : BitVec 32 := Scalar.addi v906 v905
  let v913 : BitVec 32 := Scalar.select v911 v912 v906
  let c4_i32_585 : BitVec 32 := 4#32
  let v914 : BitVec 32 := Scalar.muli v913 c4_i32_585
  let c1_i32_586 : BitVec 32 := 1#32
  let v915 : BitVec 32 := Scalar.addi v914 c1_i32_586
  let v927 : BitVec 1 := Scalar.cmpi .ne v915 v2
  let v928 : BitVec 32 := Scalar.extui v927
  let c0_i32_593 : BitVec 32 := 0#32
  let v929 : BitVec 1 := Scalar.cmpi .ne v928 c0_i32_593
  v929

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_578 : BitVec 32 := 3#32
  let v903 : BitVec 32 := Scalar.subi v3 c3_i32_578
  let c8_i32_579 : BitVec 32 := 8#32
  let c0_i32_580 : BitVec 32 := 0#32
  let v904 : BitVec 1 := Scalar.cmpi .eq c8_i32_579 c0_i32_580
  let c1_i32_581 : BitVec 32 := 1#32
  let v905 : BitVec 32 := Scalar.select v904 c1_i32_581 c8_i32_579
  let v906 : BitVec 32 := Scalar.remsi v903 v905
  let c0_i32_583 : BitVec 32 := 0#32
  let v908 : BitVec 1 := Scalar.cmpi .slt v906 c0_i32_583
  let c0_i32_584 : BitVec 32 := 0#32
  let v909 : BitVec 1 := Scalar.cmpi .slt v905 c0_i32_584
  let v910 : BitVec 1 := Scalar.xori v908 v909
  let c0_i32_582 : BitVec 32 := 0#32
  let v907 : BitVec 1 := Scalar.cmpi .ne v906 c0_i32_582
  let v911 : BitVec 1 := Scalar.andi v910 v907
  let v912 : BitVec 32 := Scalar.addi v906 v905
  let v913 : BitVec 32 := Scalar.select v911 v912 v906
  let c4_i32_585 : BitVec 32 := 4#32
  let v914 : BitVec 32 := Scalar.muli v913 c4_i32_585
  let c1_i32_586 : BitVec 32 := 1#32
  let v915 : BitVec 32 := Scalar.addi v914 c1_i32_586
  let v916 : BitVec 32 := Scalar.subi v915 v2
  let c32_i32_587 : BitVec 32 := 32#32
  let c0_i32_588 : BitVec 32 := 0#32
  let v917 : BitVec 1 := Scalar.cmpi .eq c32_i32_587 c0_i32_588
  let c1_i32_589 : BitVec 32 := 1#32
  let v918 : BitVec 32 := Scalar.select v917 c1_i32_589 c32_i32_587
  let v919 : BitVec 32 := Scalar.remsi v916 v918
  let c0_i32_591 : BitVec 32 := 0#32
  let v921 : BitVec 1 := Scalar.cmpi .slt v919 c0_i32_591
  let c0_i32_592 : BitVec 32 := 0#32
  let v922 : BitVec 1 := Scalar.cmpi .slt v918 c0_i32_592
  let v923 : BitVec 1 := Scalar.xori v921 v922
  let c0_i32_590 : BitVec 32 := 0#32
  let v920 : BitVec 1 := Scalar.cmpi .ne v919 c0_i32_590
  let v924 : BitVec 1 := Scalar.andi v923 v920
  let v925 : BitVec 32 := Scalar.addi v919 v918
  let v926 : BitVec 32 := Scalar.select v924 v925 v919
  ![v926.toNat]
def k0_off44 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_578 : BitVec 32 := 3#32
  let v903 : BitVec 32 := Scalar.subi v3 c3_i32_578
  let c8_i32_579 : BitVec 32 := 8#32
  let c0_i32_580 : BitVec 32 := 0#32
  let v904 : BitVec 1 := Scalar.cmpi .eq c8_i32_579 c0_i32_580
  let c1_i32_581 : BitVec 32 := 1#32
  let v905 : BitVec 32 := Scalar.select v904 c1_i32_581 c8_i32_579
  let v906 : BitVec 32 := Scalar.remsi v903 v905
  let c0_i32_583 : BitVec 32 := 0#32
  let v908 : BitVec 1 := Scalar.cmpi .slt v906 c0_i32_583
  let c0_i32_584 : BitVec 32 := 0#32
  let v909 : BitVec 1 := Scalar.cmpi .slt v905 c0_i32_584
  let v910 : BitVec 1 := Scalar.xori v908 v909
  let c0_i32_582 : BitVec 32 := 0#32
  let v907 : BitVec 1 := Scalar.cmpi .ne v906 c0_i32_582
  let v911 : BitVec 1 := Scalar.andi v910 v907
  let v912 : BitVec 32 := Scalar.addi v906 v905
  let v913 : BitVec 32 := Scalar.select v911 v912 v906
  let c4_i32_585 : BitVec 32 := 4#32
  let v914 : BitVec 32 := Scalar.muli v913 c4_i32_585
  let c1_i32_586 : BitVec 32 := 1#32
  let v915 : BitVec 32 := Scalar.addi v914 c1_i32_586
  let c128_i32_1593 : BitVec 32 := 128#32
  let v2329 : BitVec 32 := Scalar.muli v915 c128_i32_1593
  let c0_i32_1598 : BitVec 32 := 0#32
  ![v2329.toNat, 0]
def k0_dev45 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_578 : BitVec 32 := 3#32
  let v903 : BitVec 32 := Scalar.subi v3 c3_i32_578
  let c8_i32_579 : BitVec 32 := 8#32
  let c0_i32_580 : BitVec 32 := 0#32
  let v904 : BitVec 1 := Scalar.cmpi .eq c8_i32_579 c0_i32_580
  let c1_i32_581 : BitVec 32 := 1#32
  let v905 : BitVec 32 := Scalar.select v904 c1_i32_581 c8_i32_579
  let v906 : BitVec 32 := Scalar.remsi v903 v905
  let c0_i32_583 : BitVec 32 := 0#32
  let v908 : BitVec 1 := Scalar.cmpi .slt v906 c0_i32_583
  let c0_i32_584 : BitVec 32 := 0#32
  let v909 : BitVec 1 := Scalar.cmpi .slt v905 c0_i32_584
  let v910 : BitVec 1 := Scalar.xori v908 v909
  let c0_i32_582 : BitVec 32 := 0#32
  let v907 : BitVec 1 := Scalar.cmpi .ne v906 c0_i32_582
  let v911 : BitVec 1 := Scalar.andi v910 v907
  let v912 : BitVec 32 := Scalar.addi v906 v905
  let v913 : BitVec 32 := Scalar.select v911 v912 v906
  let c4_i32_585 : BitVec 32 := 4#32
  let v914 : BitVec 32 := Scalar.muli v913 c4_i32_585
  let c1_i32_586 : BitVec 32 := 1#32
  let v915 : BitVec 32 := Scalar.addi v914 c1_i32_586
  let c1_i32_1595 : BitVec 32 := 1#32
  let v2331 : BitVec 32 := Scalar.muli v915 c1_i32_1595
  let v2332 : BitVec 32 := Scalar.addi c0_i32_1596 v2331
  v2332.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_594 : BitVec 32 := 3#32
  let v930 : BitVec 32 := Scalar.subi v3 c3_i32_594
  let c8_i32_595 : BitVec 32 := 8#32
  let c0_i32_596 : BitVec 32 := 0#32
  let v931 : BitVec 1 := Scalar.cmpi .eq c8_i32_595 c0_i32_596
  let c1_i32_597 : BitVec 32 := 1#32
  let v932 : BitVec 32 := Scalar.select v931 c1_i32_597 c8_i32_595
  let v933 : BitVec 32 := Scalar.remsi v930 v932
  let c0_i32_599 : BitVec 32 := 0#32
  let v935 : BitVec 1 := Scalar.cmpi .slt v933 c0_i32_599
  let c0_i32_600 : BitVec 32 := 0#32
  let v936 : BitVec 1 := Scalar.cmpi .slt v932 c0_i32_600
  let v937 : BitVec 1 := Scalar.xori v935 v936
  let c0_i32_598 : BitVec 32 := 0#32
  let v934 : BitVec 1 := Scalar.cmpi .ne v933 c0_i32_598
  let v938 : BitVec 1 := Scalar.andi v937 v934
  let v939 : BitVec 32 := Scalar.addi v933 v932
  let v940 : BitVec 32 := Scalar.select v938 v939 v933
  let c4_i32_601 : BitVec 32 := 4#32
  let v941 : BitVec 32 := Scalar.muli v940 c4_i32_601
  let c2_i32_602 : BitVec 32 := 2#32
  let v942 : BitVec 32 := Scalar.addi v941 c2_i32_602
  let v954 : BitVec 1 := Scalar.cmpi .ne v942 v2
  let v955 : BitVec 32 := Scalar.extui v954
  let c0_i32_609 : BitVec 32 := 0#32
  let v956 : BitVec 1 := Scalar.cmpi .ne v955 c0_i32_609
  v956

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_594 : BitVec 32 := 3#32
  let v930 : BitVec 32 := Scalar.subi v3 c3_i32_594
  let c8_i32_595 : BitVec 32 := 8#32
  let c0_i32_596 : BitVec 32 := 0#32
  let v931 : BitVec 1 := Scalar.cmpi .eq c8_i32_595 c0_i32_596
  let c1_i32_597 : BitVec 32 := 1#32
  let v932 : BitVec 32 := Scalar.select v931 c1_i32_597 c8_i32_595
  let v933 : BitVec 32 := Scalar.remsi v930 v932
  let c0_i32_599 : BitVec 32 := 0#32
  let v935 : BitVec 1 := Scalar.cmpi .slt v933 c0_i32_599
  let c0_i32_600 : BitVec 32 := 0#32
  let v936 : BitVec 1 := Scalar.cmpi .slt v932 c0_i32_600
  let v937 : BitVec 1 := Scalar.xori v935 v936
  let c0_i32_598 : BitVec 32 := 0#32
  let v934 : BitVec 1 := Scalar.cmpi .ne v933 c0_i32_598
  let v938 : BitVec 1 := Scalar.andi v937 v934
  let v939 : BitVec 32 := Scalar.addi v933 v932
  let v940 : BitVec 32 := Scalar.select v938 v939 v933
  let c4_i32_601 : BitVec 32 := 4#32
  let v941 : BitVec 32 := Scalar.muli v940 c4_i32_601
  let c2_i32_602 : BitVec 32 := 2#32
  let v942 : BitVec 32 := Scalar.addi v941 c2_i32_602
  let v943 : BitVec 32 := Scalar.subi v942 v2
  let c32_i32_603 : BitVec 32 := 32#32
  let c0_i32_604 : BitVec 32 := 0#32
  let v944 : BitVec 1 := Scalar.cmpi .eq c32_i32_603 c0_i32_604
  let c1_i32_605 : BitVec 32 := 1#32
  let v945 : BitVec 32 := Scalar.select v944 c1_i32_605 c32_i32_603
  let v946 : BitVec 32 := Scalar.remsi v943 v945
  let c0_i32_607 : BitVec 32 := 0#32
  let v948 : BitVec 1 := Scalar.cmpi .slt v946 c0_i32_607
  let c0_i32_608 : BitVec 32 := 0#32
  let v949 : BitVec 1 := Scalar.cmpi .slt v945 c0_i32_608
  let v950 : BitVec 1 := Scalar.xori v948 v949
  let c0_i32_606 : BitVec 32 := 0#32
  let v947 : BitVec 1 := Scalar.cmpi .ne v946 c0_i32_606
  let v951 : BitVec 1 := Scalar.andi v950 v947
  let v952 : BitVec 32 := Scalar.addi v946 v945
  let v953 : BitVec 32 := Scalar.select v951 v952 v946
  ![v953.toNat]
def k0_off47 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_594 : BitVec 32 := 3#32
  let v930 : BitVec 32 := Scalar.subi v3 c3_i32_594
  let c8_i32_595 : BitVec 32 := 8#32
  let c0_i32_596 : BitVec 32 := 0#32
  let v931 : BitVec 1 := Scalar.cmpi .eq c8_i32_595 c0_i32_596
  let c1_i32_597 : BitVec 32 := 1#32
  let v932 : BitVec 32 := Scalar.select v931 c1_i32_597 c8_i32_595
  let v933 : BitVec 32 := Scalar.remsi v930 v932
  let c0_i32_599 : BitVec 32 := 0#32
  let v935 : BitVec 1 := Scalar.cmpi .slt v933 c0_i32_599
  let c0_i32_600 : BitVec 32 := 0#32
  let v936 : BitVec 1 := Scalar.cmpi .slt v932 c0_i32_600
  let v937 : BitVec 1 := Scalar.xori v935 v936
  let c0_i32_598 : BitVec 32 := 0#32
  let v934 : BitVec 1 := Scalar.cmpi .ne v933 c0_i32_598
  let v938 : BitVec 1 := Scalar.andi v937 v934
  let v939 : BitVec 32 := Scalar.addi v933 v932
  let v940 : BitVec 32 := Scalar.select v938 v939 v933
  let c4_i32_601 : BitVec 32 := 4#32
  let v941 : BitVec 32 := Scalar.muli v940 c4_i32_601
  let c2_i32_602 : BitVec 32 := 2#32
  let v942 : BitVec 32 := Scalar.addi v941 c2_i32_602
  let c128_i32_1593 : BitVec 32 := 128#32
  let v2329 : BitVec 32 := Scalar.muli v942 c128_i32_1593
  let c0_i32_1598 : BitVec 32 := 0#32
  ![v2329.toNat, 0]
def k0_dev46 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_594 : BitVec 32 := 3#32
  let v930 : BitVec 32 := Scalar.subi v3 c3_i32_594
  let c8_i32_595 : BitVec 32 := 8#32
  let c0_i32_596 : BitVec 32 := 0#32
  let v931 : BitVec 1 := Scalar.cmpi .eq c8_i32_595 c0_i32_596
  let c1_i32_597 : BitVec 32 := 1#32
  let v932 : BitVec 32 := Scalar.select v931 c1_i32_597 c8_i32_595
  let v933 : BitVec 32 := Scalar.remsi v930 v932
  let c0_i32_599 : BitVec 32 := 0#32
  let v935 : BitVec 1 := Scalar.cmpi .slt v933 c0_i32_599
  let c0_i32_600 : BitVec 32 := 0#32
  let v936 : BitVec 1 := Scalar.cmpi .slt v932 c0_i32_600
  let v937 : BitVec 1 := Scalar.xori v935 v936
  let c0_i32_598 : BitVec 32 := 0#32
  let v934 : BitVec 1 := Scalar.cmpi .ne v933 c0_i32_598
  let v938 : BitVec 1 := Scalar.andi v937 v934
  let v939 : BitVec 32 := Scalar.addi v933 v932
  let v940 : BitVec 32 := Scalar.select v938 v939 v933
  let c4_i32_601 : BitVec 32 := 4#32
  let v941 : BitVec 32 := Scalar.muli v940 c4_i32_601
  let c2_i32_602 : BitVec 32 := 2#32
  let v942 : BitVec 32 := Scalar.addi v941 c2_i32_602
  let c1_i32_1595 : BitVec 32 := 1#32
  let v2331 : BitVec 32 := Scalar.muli v942 c1_i32_1595
  let v2332 : BitVec 32 := Scalar.addi c0_i32_1596 v2331
  v2332.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_610 : BitVec 32 := 3#32
  let v957 : BitVec 32 := Scalar.subi v3 c3_i32_610
  let c8_i32_611 : BitVec 32 := 8#32
  let c0_i32_612 : BitVec 32 := 0#32
  let v958 : BitVec 1 := Scalar.cmpi .eq c8_i32_611 c0_i32_612
  let c1_i32_613 : BitVec 32 := 1#32
  let v959 : BitVec 32 := Scalar.select v958 c1_i32_613 c8_i32_611
  let v960 : BitVec 32 := Scalar.remsi v957 v959
  let c0_i32_615 : BitVec 32 := 0#32
  let v962 : BitVec 1 := Scalar.cmpi .slt v960 c0_i32_615
  let c0_i32_616 : BitVec 32 := 0#32
  let v963 : BitVec 1 := Scalar.cmpi .slt v959 c0_i32_616
  let v964 : BitVec 1 := Scalar.xori v962 v963
  let c0_i32_614 : BitVec 32 := 0#32
  let v961 : BitVec 1 := Scalar.cmpi .ne v960 c0_i32_614
  let v965 : BitVec 1 := Scalar.andi v964 v961
  let v966 : BitVec 32 := Scalar.addi v960 v959
  let v967 : BitVec 32 := Scalar.select v965 v966 v960
  let c4_i32_617 : BitVec 32 := 4#32
  let v968 : BitVec 32 := Scalar.muli v967 c4_i32_617
  let c3_i32_618 : BitVec 32 := 3#32
  let v969 : BitVec 32 := Scalar.addi v968 c3_i32_618
  let v981 : BitVec 1 := Scalar.cmpi .ne v969 v2
  let v982 : BitVec 32 := Scalar.extui v981
  let c0_i32_625 : BitVec 32 := 0#32
  let v983 : BitVec 1 := Scalar.cmpi .ne v982 c0_i32_625
  v983

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_610 : BitVec 32 := 3#32
  let v957 : BitVec 32 := Scalar.subi v3 c3_i32_610
  let c8_i32_611 : BitVec 32 := 8#32
  let c0_i32_612 : BitVec 32 := 0#32
  let v958 : BitVec 1 := Scalar.cmpi .eq c8_i32_611 c0_i32_612
  let c1_i32_613 : BitVec 32 := 1#32
  let v959 : BitVec 32 := Scalar.select v958 c1_i32_613 c8_i32_611
  let v960 : BitVec 32 := Scalar.remsi v957 v959
  let c0_i32_615 : BitVec 32 := 0#32
  let v962 : BitVec 1 := Scalar.cmpi .slt v960 c0_i32_615
  let c0_i32_616 : BitVec 32 := 0#32
  let v963 : BitVec 1 := Scalar.cmpi .slt v959 c0_i32_616
  let v964 : BitVec 1 := Scalar.xori v962 v963
  let c0_i32_614 : BitVec 32 := 0#32
  let v961 : BitVec 1 := Scalar.cmpi .ne v960 c0_i32_614
  let v965 : BitVec 1 := Scalar.andi v964 v961
  let v966 : BitVec 32 := Scalar.addi v960 v959
  let v967 : BitVec 32 := Scalar.select v965 v966 v960
  let c4_i32_617 : BitVec 32 := 4#32
  let v968 : BitVec 32 := Scalar.muli v967 c4_i32_617
  let c3_i32_618 : BitVec 32 := 3#32
  let v969 : BitVec 32 := Scalar.addi v968 c3_i32_618
  let v970 : BitVec 32 := Scalar.subi v969 v2
  let c32_i32_619 : BitVec 32 := 32#32
  let c0_i32_620 : BitVec 32 := 0#32
  let v971 : BitVec 1 := Scalar.cmpi .eq c32_i32_619 c0_i32_620
  let c1_i32_621 : BitVec 32 := 1#32
  let v972 : BitVec 32 := Scalar.select v971 c1_i32_621 c32_i32_619
  let v973 : BitVec 32 := Scalar.remsi v970 v972
  let c0_i32_623 : BitVec 32 := 0#32
  let v975 : BitVec 1 := Scalar.cmpi .slt v973 c0_i32_623
  let c0_i32_624 : BitVec 32 := 0#32
  let v976 : BitVec 1 := Scalar.cmpi .slt v972 c0_i32_624
  let v977 : BitVec 1 := Scalar.xori v975 v976
  let c0_i32_622 : BitVec 32 := 0#32
  let v974 : BitVec 1 := Scalar.cmpi .ne v973 c0_i32_622
  let v978 : BitVec 1 := Scalar.andi v977 v974
  let v979 : BitVec 32 := Scalar.addi v973 v972
  let v980 : BitVec 32 := Scalar.select v978 v979 v973
  ![v980.toNat]
def k0_off50 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_610 : BitVec 32 := 3#32
  let v957 : BitVec 32 := Scalar.subi v3 c3_i32_610
  let c8_i32_611 : BitVec 32 := 8#32
  let c0_i32_612 : BitVec 32 := 0#32
  let v958 : BitVec 1 := Scalar.cmpi .eq c8_i32_611 c0_i32_612
  let c1_i32_613 : BitVec 32 := 1#32
  let v959 : BitVec 32 := Scalar.select v958 c1_i32_613 c8_i32_611
  let v960 : BitVec 32 := Scalar.remsi v957 v959
  let c0_i32_615 : BitVec 32 := 0#32
  let v962 : BitVec 1 := Scalar.cmpi .slt v960 c0_i32_615
  let c0_i32_616 : BitVec 32 := 0#32
  let v963 : BitVec 1 := Scalar.cmpi .slt v959 c0_i32_616
  let v964 : BitVec 1 := Scalar.xori v962 v963
  let c0_i32_614 : BitVec 32 := 0#32
  let v961 : BitVec 1 := Scalar.cmpi .ne v960 c0_i32_614
  let v965 : BitVec 1 := Scalar.andi v964 v961
  let v966 : BitVec 32 := Scalar.addi v960 v959
  let v967 : BitVec 32 := Scalar.select v965 v966 v960
  let c4_i32_617 : BitVec 32 := 4#32
  let v968 : BitVec 32 := Scalar.muli v967 c4_i32_617
  let c3_i32_618 : BitVec 32 := 3#32
  let v969 : BitVec 32 := Scalar.addi v968 c3_i32_618
  let c128_i32_1593 : BitVec 32 := 128#32
  let v2329 : BitVec 32 := Scalar.muli v969 c128_i32_1593
  let c0_i32_1598 : BitVec 32 := 0#32
  ![v2329.toNat, 0]
def k0_dev47 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_610 : BitVec 32 := 3#32
  let v957 : BitVec 32 := Scalar.subi v3 c3_i32_610
  let c8_i32_611 : BitVec 32 := 8#32
  let c0_i32_612 : BitVec 32 := 0#32
  let v958 : BitVec 1 := Scalar.cmpi .eq c8_i32_611 c0_i32_612
  let c1_i32_613 : BitVec 32 := 1#32
  let v959 : BitVec 32 := Scalar.select v958 c1_i32_613 c8_i32_611
  let v960 : BitVec 32 := Scalar.remsi v957 v959
  let c0_i32_615 : BitVec 32 := 0#32
  let v962 : BitVec 1 := Scalar.cmpi .slt v960 c0_i32_615
  let c0_i32_616 : BitVec 32 := 0#32
  let v963 : BitVec 1 := Scalar.cmpi .slt v959 c0_i32_616
  let v964 : BitVec 1 := Scalar.xori v962 v963
  let c0_i32_614 : BitVec 32 := 0#32
  let v961 : BitVec 1 := Scalar.cmpi .ne v960 c0_i32_614
  let v965 : BitVec 1 := Scalar.andi v964 v961
  let v966 : BitVec 32 := Scalar.addi v960 v959
  let v967 : BitVec 32 := Scalar.select v965 v966 v960
  let c4_i32_617 : BitVec 32 := 4#32
  let v968 : BitVec 32 := Scalar.muli v967 c4_i32_617
  let c3_i32_618 : BitVec 32 := 3#32
  let v969 : BitVec 32 := Scalar.addi v968 c3_i32_618
  let c1_i32_1595 : BitVec 32 := 1#32
  let v2331 : BitVec 32 := Scalar.muli v969 c1_i32_1595
  let v2332 : BitVec 32 := Scalar.addi c0_i32_1596 v2331
  v2332.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_626 : BitVec 32 := 4#32
  let v984 : BitVec 32 := Scalar.subi v3 c4_i32_626
  let c8_i32_627 : BitVec 32 := 8#32
  let c0_i32_628 : BitVec 32 := 0#32
  let v985 : BitVec 1 := Scalar.cmpi .eq c8_i32_627 c0_i32_628
  let c1_i32_629 : BitVec 32 := 1#32
  let v986 : BitVec 32 := Scalar.select v985 c1_i32_629 c8_i32_627
  let v987 : BitVec 32 := Scalar.remsi v984 v986
  let c0_i32_631 : BitVec 32 := 0#32
  let v989 : BitVec 1 := Scalar.cmpi .slt v987 c0_i32_631
  let c0_i32_632 : BitVec 32 := 0#32
  let v990 : BitVec 1 := Scalar.cmpi .slt v986 c0_i32_632
  let v991 : BitVec 1 := Scalar.xori v989 v990
  let c0_i32_630 : BitVec 32 := 0#32
  let v988 : BitVec 1 := Scalar.cmpi .ne v987 c0_i32_630
  let v992 : BitVec 1 := Scalar.andi v991 v988
  let v993 : BitVec 32 := Scalar.addi v987 v986
  let v994 : BitVec 32 := Scalar.select v992 v993 v987
  let c4_i32_633 : BitVec 32 := 4#32
  let v995 : BitVec 32 := Scalar.muli v994 c4_i32_633
  let c0_i32_634 : BitVec 32 := 0#32
  let v996 : BitVec 32 := Scalar.addi v995 c0_i32_634
  let v1008 : BitVec 1 := Scalar.cmpi .ne v996 v2
  let v1009 : BitVec 32 := Scalar.extui v1008
  let c0_i32_641 : BitVec 32 := 0#32
  let v1010 : BitVec 1 := Scalar.cmpi .ne v1009 c0_i32_641
  v1010

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_626 : BitVec 32 := 4#32
  let v984 : BitVec 32 := Scalar.subi v3 c4_i32_626
  let c8_i32_627 : BitVec 32 := 8#32
  let c0_i32_628 : BitVec 32 := 0#32
  let v985 : BitVec 1 := Scalar.cmpi .eq c8_i32_627 c0_i32_628
  let c1_i32_629 : BitVec 32 := 1#32
  let v986 : BitVec 32 := Scalar.select v985 c1_i32_629 c8_i32_627
  let v987 : BitVec 32 := Scalar.remsi v984 v986
  let c0_i32_631 : BitVec 32 := 0#32
  let v989 : BitVec 1 := Scalar.cmpi .slt v987 c0_i32_631
  let c0_i32_632 : BitVec 32 := 0#32
  let v990 : BitVec 1 := Scalar.cmpi .slt v986 c0_i32_632
  let v991 : BitVec 1 := Scalar.xori v989 v990
  let c0_i32_630 : BitVec 32 := 0#32
  let v988 : BitVec 1 := Scalar.cmpi .ne v987 c0_i32_630
  let v992 : BitVec 1 := Scalar.andi v991 v988
  let v993 : BitVec 32 := Scalar.addi v987 v986
  let v994 : BitVec 32 := Scalar.select v992 v993 v987
  let c4_i32_633 : BitVec 32 := 4#32
  let v995 : BitVec 32 := Scalar.muli v994 c4_i32_633
  let c0_i32_634 : BitVec 32 := 0#32
  let v996 : BitVec 32 := Scalar.addi v995 c0_i32_634
  let v997 : BitVec 32 := Scalar.subi v996 v2
  let c32_i32_635 : BitVec 32 := 32#32
  let c0_i32_636 : BitVec 32 := 0#32
  let v998 : BitVec 1 := Scalar.cmpi .eq c32_i32_635 c0_i32_636
  let c1_i32_637 : BitVec 32 := 1#32
  let v999 : BitVec 32 := Scalar.select v998 c1_i32_637 c32_i32_635
  let v1000 : BitVec 32 := Scalar.remsi v997 v999
  let c0_i32_639 : BitVec 32 := 0#32
  let v1002 : BitVec 1 := Scalar.cmpi .slt v1000 c0_i32_639
  let c0_i32_640 : BitVec 32 := 0#32
  let v1003 : BitVec 1 := Scalar.cmpi .slt v999 c0_i32_640
  let v1004 : BitVec 1 := Scalar.xori v1002 v1003
  let c0_i32_638 : BitVec 32 := 0#32
  let v1001 : BitVec 1 := Scalar.cmpi .ne v1000 c0_i32_638
  let v1005 : BitVec 1 := Scalar.andi v1004 v1001
  let v1006 : BitVec 32 := Scalar.addi v1000 v999
  let v1007 : BitVec 32 := Scalar.select v1005 v1006 v1000
  ![v1007.toNat]
def k0_off53 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_626 : BitVec 32 := 4#32
  let v984 : BitVec 32 := Scalar.subi v3 c4_i32_626
  let c8_i32_627 : BitVec 32 := 8#32
  let c0_i32_628 : BitVec 32 := 0#32
  let v985 : BitVec 1 := Scalar.cmpi .eq c8_i32_627 c0_i32_628
  let c1_i32_629 : BitVec 32 := 1#32
  let v986 : BitVec 32 := Scalar.select v985 c1_i32_629 c8_i32_627
  let v987 : BitVec 32 := Scalar.remsi v984 v986
  let c0_i32_631 : BitVec 32 := 0#32
  let v989 : BitVec 1 := Scalar.cmpi .slt v987 c0_i32_631
  let c0_i32_632 : BitVec 32 := 0#32
  let v990 : BitVec 1 := Scalar.cmpi .slt v986 c0_i32_632
  let v991 : BitVec 1 := Scalar.xori v989 v990
  let c0_i32_630 : BitVec 32 := 0#32
  let v988 : BitVec 1 := Scalar.cmpi .ne v987 c0_i32_630
  let v992 : BitVec 1 := Scalar.andi v991 v988
  let v993 : BitVec 32 := Scalar.addi v987 v986
  let v994 : BitVec 32 := Scalar.select v992 v993 v987
  let c4_i32_633 : BitVec 32 := 4#32
  let v995 : BitVec 32 := Scalar.muli v994 c4_i32_633
  let c0_i32_634 : BitVec 32 := 0#32
  let v996 : BitVec 32 := Scalar.addi v995 c0_i32_634
  let c128_i32_1593 : BitVec 32 := 128#32
  let v2329 : BitVec 32 := Scalar.muli v996 c128_i32_1593
  let c0_i32_1598 : BitVec 32 := 0#32
  ![v2329.toNat, 0]
def k0_dev48 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_626 : BitVec 32 := 4#32
  let v984 : BitVec 32 := Scalar.subi v3 c4_i32_626
  let c8_i32_627 : BitVec 32 := 8#32
  let c0_i32_628 : BitVec 32 := 0#32
  let v985 : BitVec 1 := Scalar.cmpi .eq c8_i32_627 c0_i32_628
  let c1_i32_629 : BitVec 32 := 1#32
  let v986 : BitVec 32 := Scalar.select v985 c1_i32_629 c8_i32_627
  let v987 : BitVec 32 := Scalar.remsi v984 v986
  let c0_i32_631 : BitVec 32 := 0#32
  let v989 : BitVec 1 := Scalar.cmpi .slt v987 c0_i32_631
  let c0_i32_632 : BitVec 32 := 0#32
  let v990 : BitVec 1 := Scalar.cmpi .slt v986 c0_i32_632
  let v991 : BitVec 1 := Scalar.xori v989 v990
  let c0_i32_630 : BitVec 32 := 0#32
  let v988 : BitVec 1 := Scalar.cmpi .ne v987 c0_i32_630
  let v992 : BitVec 1 := Scalar.andi v991 v988
  let v993 : BitVec 32 := Scalar.addi v987 v986
  let v994 : BitVec 32 := Scalar.select v992 v993 v987
  let c4_i32_633 : BitVec 32 := 4#32
  let v995 : BitVec 32 := Scalar.muli v994 c4_i32_633
  let c0_i32_634 : BitVec 32 := 0#32
  let v996 : BitVec 32 := Scalar.addi v995 c0_i32_634
  let c1_i32_1595 : BitVec 32 := 1#32
  let v2331 : BitVec 32 := Scalar.muli v996 c1_i32_1595
  let v2332 : BitVec 32 := Scalar.addi c0_i32_1596 v2331
  v2332.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_642 : BitVec 32 := 4#32
  let v1011 : BitVec 32 := Scalar.subi v3 c4_i32_642
  let c8_i32_643 : BitVec 32 := 8#32
  let c0_i32_644 : BitVec 32 := 0#32
  let v1012 : BitVec 1 := Scalar.cmpi .eq c8_i32_643 c0_i32_644
  let c1_i32_645 : BitVec 32 := 1#32
  let v1013 : BitVec 32 := Scalar.select v1012 c1_i32_645 c8_i32_643
  let v1014 : BitVec 32 := Scalar.remsi v1011 v1013
  let c0_i32_647 : BitVec 32 := 0#32
  let v1016 : BitVec 1 := Scalar.cmpi .slt v1014 c0_i32_647
  let c0_i32_648 : BitVec 32 := 0#32
  let v1017 : BitVec 1 := Scalar.cmpi .slt v1013 c0_i32_648
  let v1018 : BitVec 1 := Scalar.xori v1016 v1017
  let c0_i32_646 : BitVec 32 := 0#32
  let v1015 : BitVec 1 := Scalar.cmpi .ne v1014 c0_i32_646
  let v1019 : BitVec 1 := Scalar.andi v1018 v1015
  let v1020 : BitVec 32 := Scalar.addi v1014 v1013
  let v1021 : BitVec 32 := Scalar.select v1019 v1020 v1014
  let c4_i32_649 : BitVec 32 := 4#32
  let v1022 : BitVec 32 := Scalar.muli v1021 c4_i32_649
  let c1_i32_650 : BitVec 32 := 1#32
  let v1023 : BitVec 32 := Scalar.addi v1022 c1_i32_650
  let v1035 : BitVec 1 := Scalar.cmpi .ne v1023 v2
  let v1036 : BitVec 32 := Scalar.extui v1035
  let c0_i32_657 : BitVec 32 := 0#32
  let v1037 : BitVec 1 := Scalar.cmpi .ne v1036 c0_i32_657
  v1037

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_642 : BitVec 32 := 4#32
  let v1011 : BitVec 32 := Scalar.subi v3 c4_i32_642
  let c8_i32_643 : BitVec 32 := 8#32
  let c0_i32_644 : BitVec 32 := 0#32
  let v1012 : BitVec 1 := Scalar.cmpi .eq c8_i32_643 c0_i32_644
  let c1_i32_645 : BitVec 32 := 1#32
  let v1013 : BitVec 32 := Scalar.select v1012 c1_i32_645 c8_i32_643
  let v1014 : BitVec 32 := Scalar.remsi v1011 v1013
  let c0_i32_647 : BitVec 32 := 0#32
  let v1016 : BitVec 1 := Scalar.cmpi .slt v1014 c0_i32_647
  let c0_i32_648 : BitVec 32 := 0#32
  let v1017 : BitVec 1 := Scalar.cmpi .slt v1013 c0_i32_648
  let v1018 : BitVec 1 := Scalar.xori v1016 v1017
  let c0_i32_646 : BitVec 32 := 0#32
  let v1015 : BitVec 1 := Scalar.cmpi .ne v1014 c0_i32_646
  let v1019 : BitVec 1 := Scalar.andi v1018 v1015
  let v1020 : BitVec 32 := Scalar.addi v1014 v1013
  let v1021 : BitVec 32 := Scalar.select v1019 v1020 v1014
  let c4_i32_649 : BitVec 32 := 4#32
  let v1022 : BitVec 32 := Scalar.muli v1021 c4_i32_649
  let c1_i32_650 : BitVec 32 := 1#32
  let v1023 : BitVec 32 := Scalar.addi v1022 c1_i32_650
  let v1024 : BitVec 32 := Scalar.subi v1023 v2
  let c32_i32_651 : BitVec 32 := 32#32
  let c0_i32_652 : BitVec 32 := 0#32
  let v1025 : BitVec 1 := Scalar.cmpi .eq c32_i32_651 c0_i32_652
  let c1_i32_653 : BitVec 32 := 1#32
  let v1026 : BitVec 32 := Scalar.select v1025 c1_i32_653 c32_i32_651
  let v1027 : BitVec 32 := Scalar.remsi v1024 v1026
  let c0_i32_655 : BitVec 32 := 0#32
  let v1029 : BitVec 1 := Scalar.cmpi .slt v1027 c0_i32_655
  let c0_i32_656 : BitVec 32 := 0#32
  let v1030 : BitVec 1 := Scalar.cmpi .slt v1026 c0_i32_656
  let v1031 : BitVec 1 := Scalar.xori v1029 v1030
  let c0_i32_654 : BitVec 32 := 0#32
  let v1028 : BitVec 1 := Scalar.cmpi .ne v1027 c0_i32_654
  let v1032 : BitVec 1 := Scalar.andi v1031 v1028
  let v1033 : BitVec 32 := Scalar.addi v1027 v1026
  let v1034 : BitVec 32 := Scalar.select v1032 v1033 v1027
  ![v1034.toNat]
def k0_off56 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_642 : BitVec 32 := 4#32
  let v1011 : BitVec 32 := Scalar.subi v3 c4_i32_642
  let c8_i32_643 : BitVec 32 := 8#32
  let c0_i32_644 : BitVec 32 := 0#32
  let v1012 : BitVec 1 := Scalar.cmpi .eq c8_i32_643 c0_i32_644
  let c1_i32_645 : BitVec 32 := 1#32
  let v1013 : BitVec 32 := Scalar.select v1012 c1_i32_645 c8_i32_643
  let v1014 : BitVec 32 := Scalar.remsi v1011 v1013
  let c0_i32_647 : BitVec 32 := 0#32
  let v1016 : BitVec 1 := Scalar.cmpi .slt v1014 c0_i32_647
  let c0_i32_648 : BitVec 32 := 0#32
  let v1017 : BitVec 1 := Scalar.cmpi .slt v1013 c0_i32_648
  let v1018 : BitVec 1 := Scalar.xori v1016 v1017
  let c0_i32_646 : BitVec 32 := 0#32
  let v1015 : BitVec 1 := Scalar.cmpi .ne v1014 c0_i32_646
  let v1019 : BitVec 1 := Scalar.andi v1018 v1015
  let v1020 : BitVec 32 := Scalar.addi v1014 v1013
  let v1021 : BitVec 32 := Scalar.select v1019 v1020 v1014
  let c4_i32_649 : BitVec 32 := 4#32
  let v1022 : BitVec 32 := Scalar.muli v1021 c4_i32_649
  let c1_i32_650 : BitVec 32 := 1#32
  let v1023 : BitVec 32 := Scalar.addi v1022 c1_i32_650
  let c128_i32_1593 : BitVec 32 := 128#32
  let v2329 : BitVec 32 := Scalar.muli v1023 c128_i32_1593
  let c0_i32_1598 : BitVec 32 := 0#32
  ![v2329.toNat, 0]
def k0_dev49 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_642 : BitVec 32 := 4#32
  let v1011 : BitVec 32 := Scalar.subi v3 c4_i32_642
  let c8_i32_643 : BitVec 32 := 8#32
  let c0_i32_644 : BitVec 32 := 0#32
  let v1012 : BitVec 1 := Scalar.cmpi .eq c8_i32_643 c0_i32_644
  let c1_i32_645 : BitVec 32 := 1#32
  let v1013 : BitVec 32 := Scalar.select v1012 c1_i32_645 c8_i32_643
  let v1014 : BitVec 32 := Scalar.remsi v1011 v1013
  let c0_i32_647 : BitVec 32 := 0#32
  let v1016 : BitVec 1 := Scalar.cmpi .slt v1014 c0_i32_647
  let c0_i32_648 : BitVec 32 := 0#32
  let v1017 : BitVec 1 := Scalar.cmpi .slt v1013 c0_i32_648
  let v1018 : BitVec 1 := Scalar.xori v1016 v1017
  let c0_i32_646 : BitVec 32 := 0#32
  let v1015 : BitVec 1 := Scalar.cmpi .ne v1014 c0_i32_646
  let v1019 : BitVec 1 := Scalar.andi v1018 v1015
  let v1020 : BitVec 32 := Scalar.addi v1014 v1013
  let v1021 : BitVec 32 := Scalar.select v1019 v1020 v1014
  let c4_i32_649 : BitVec 32 := 4#32
  let v1022 : BitVec 32 := Scalar.muli v1021 c4_i32_649
  let c1_i32_650 : BitVec 32 := 1#32
  let v1023 : BitVec 32 := Scalar.addi v1022 c1_i32_650
  let c1_i32_1595 : BitVec 32 := 1#32
  let v2331 : BitVec 32 := Scalar.muli v1023 c1_i32_1595
  let v2332 : BitVec 32 := Scalar.addi c0_i32_1596 v2331
  v2332.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_658 : BitVec 32 := 4#32
  let v1038 : BitVec 32 := Scalar.subi v3 c4_i32_658
  let c8_i32_659 : BitVec 32 := 8#32
  let c0_i32_660 : BitVec 32 := 0#32
  let v1039 : BitVec 1 := Scalar.cmpi .eq c8_i32_659 c0_i32_660
  let c1_i32_661 : BitVec 32 := 1#32
  let v1040 : BitVec 32 := Scalar.select v1039 c1_i32_661 c8_i32_659
  let v1041 : BitVec 32 := Scalar.remsi v1038 v1040
  let c0_i32_663 : BitVec 32 := 0#32
  let v1043 : BitVec 1 := Scalar.cmpi .slt v1041 c0_i32_663
  let c0_i32_664 : BitVec 32 := 0#32
  let v1044 : BitVec 1 := Scalar.cmpi .slt v1040 c0_i32_664
  let v1045 : BitVec 1 := Scalar.xori v1043 v1044
  let c0_i32_662 : BitVec 32 := 0#32
  let v1042 : BitVec 1 := Scalar.cmpi .ne v1041 c0_i32_662
  let v1046 : BitVec 1 := Scalar.andi v1045 v1042
  let v1047 : BitVec 32 := Scalar.addi v1041 v1040
  let v1048 : BitVec 32 := Scalar.select v1046 v1047 v1041
  let c4_i32_665 : BitVec 32 := 4#32
  let v1049 : BitVec 32 := Scalar.muli v1048 c4_i32_665
  let c2_i32_666 : BitVec 32 := 2#32
  let v1050 : BitVec 32 := Scalar.addi v1049 c2_i32_666
  let v1062 : BitVec 1 := Scalar.cmpi .ne v1050 v2
  let v1063 : BitVec 32 := Scalar.extui v1062
  let c0_i32_673 : BitVec 32 := 0#32
  let v1064 : BitVec 1 := Scalar.cmpi .ne v1063 c0_i32_673
  v1064

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_658 : BitVec 32 := 4#32
  let v1038 : BitVec 32 := Scalar.subi v3 c4_i32_658
  let c8_i32_659 : BitVec 32 := 8#32
  let c0_i32_660 : BitVec 32 := 0#32
  let v1039 : BitVec 1 := Scalar.cmpi .eq c8_i32_659 c0_i32_660
  let c1_i32_661 : BitVec 32 := 1#32
  let v1040 : BitVec 32 := Scalar.select v1039 c1_i32_661 c8_i32_659
  let v1041 : BitVec 32 := Scalar.remsi v1038 v1040
  let c0_i32_663 : BitVec 32 := 0#32
  let v1043 : BitVec 1 := Scalar.cmpi .slt v1041 c0_i32_663
  let c0_i32_664 : BitVec 32 := 0#32
  let v1044 : BitVec 1 := Scalar.cmpi .slt v1040 c0_i32_664
  let v1045 : BitVec 1 := Scalar.xori v1043 v1044
  let c0_i32_662 : BitVec 32 := 0#32
  let v1042 : BitVec 1 := Scalar.cmpi .ne v1041 c0_i32_662
  let v1046 : BitVec 1 := Scalar.andi v1045 v1042
  let v1047 : BitVec 32 := Scalar.addi v1041 v1040
  let v1048 : BitVec 32 := Scalar.select v1046 v1047 v1041
  let c4_i32_665 : BitVec 32 := 4#32
  let v1049 : BitVec 32 := Scalar.muli v1048 c4_i32_665
  let c2_i32_666 : BitVec 32 := 2#32
  let v1050 : BitVec 32 := Scalar.addi v1049 c2_i32_666
  let v1051 : BitVec 32 := Scalar.subi v1050 v2
  let c32_i32_667 : BitVec 32 := 32#32
  let c0_i32_668 : BitVec 32 := 0#32
  let v1052 : BitVec 1 := Scalar.cmpi .eq c32_i32_667 c0_i32_668
  let c1_i32_669 : BitVec 32 := 1#32
  let v1053 : BitVec 32 := Scalar.select v1052 c1_i32_669 c32_i32_667
  let v1054 : BitVec 32 := Scalar.remsi v1051 v1053
  let c0_i32_671 : BitVec 32 := 0#32
  let v1056 : BitVec 1 := Scalar.cmpi .slt v1054 c0_i32_671
  let c0_i32_672 : BitVec 32 := 0#32
  let v1057 : BitVec 1 := Scalar.cmpi .slt v1053 c0_i32_672
  let v1058 : BitVec 1 := Scalar.xori v1056 v1057
  let c0_i32_670 : BitVec 32 := 0#32
  let v1055 : BitVec 1 := Scalar.cmpi .ne v1054 c0_i32_670
  let v1059 : BitVec 1 := Scalar.andi v1058 v1055
  let v1060 : BitVec 32 := Scalar.addi v1054 v1053
  let v1061 : BitVec 32 := Scalar.select v1059 v1060 v1054
  ![v1061.toNat]
def k0_off59 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_658 : BitVec 32 := 4#32
  let v1038 : BitVec 32 := Scalar.subi v3 c4_i32_658
  let c8_i32_659 : BitVec 32 := 8#32
  let c0_i32_660 : BitVec 32 := 0#32
  let v1039 : BitVec 1 := Scalar.cmpi .eq c8_i32_659 c0_i32_660
  let c1_i32_661 : BitVec 32 := 1#32
  let v1040 : BitVec 32 := Scalar.select v1039 c1_i32_661 c8_i32_659
  let v1041 : BitVec 32 := Scalar.remsi v1038 v1040
  let c0_i32_663 : BitVec 32 := 0#32
  let v1043 : BitVec 1 := Scalar.cmpi .slt v1041 c0_i32_663
  let c0_i32_664 : BitVec 32 := 0#32
  let v1044 : BitVec 1 := Scalar.cmpi .slt v1040 c0_i32_664
  let v1045 : BitVec 1 := Scalar.xori v1043 v1044
  let c0_i32_662 : BitVec 32 := 0#32
  let v1042 : BitVec 1 := Scalar.cmpi .ne v1041 c0_i32_662
  let v1046 : BitVec 1 := Scalar.andi v1045 v1042
  let v1047 : BitVec 32 := Scalar.addi v1041 v1040
  let v1048 : BitVec 32 := Scalar.select v1046 v1047 v1041
  let c4_i32_665 : BitVec 32 := 4#32
  let v1049 : BitVec 32 := Scalar.muli v1048 c4_i32_665
  let c2_i32_666 : BitVec 32 := 2#32
  let v1050 : BitVec 32 := Scalar.addi v1049 c2_i32_666
  let c128_i32_1593 : BitVec 32 := 128#32
  let v2329 : BitVec 32 := Scalar.muli v1050 c128_i32_1593
  let c0_i32_1598 : BitVec 32 := 0#32
  ![v2329.toNat, 0]
def k0_dev50 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_658 : BitVec 32 := 4#32
  let v1038 : BitVec 32 := Scalar.subi v3 c4_i32_658
  let c8_i32_659 : BitVec 32 := 8#32
  let c0_i32_660 : BitVec 32 := 0#32
  let v1039 : BitVec 1 := Scalar.cmpi .eq c8_i32_659 c0_i32_660
  let c1_i32_661 : BitVec 32 := 1#32
  let v1040 : BitVec 32 := Scalar.select v1039 c1_i32_661 c8_i32_659
  let v1041 : BitVec 32 := Scalar.remsi v1038 v1040
  let c0_i32_663 : BitVec 32 := 0#32
  let v1043 : BitVec 1 := Scalar.cmpi .slt v1041 c0_i32_663
  let c0_i32_664 : BitVec 32 := 0#32
  let v1044 : BitVec 1 := Scalar.cmpi .slt v1040 c0_i32_664
  let v1045 : BitVec 1 := Scalar.xori v1043 v1044
  let c0_i32_662 : BitVec 32 := 0#32
  let v1042 : BitVec 1 := Scalar.cmpi .ne v1041 c0_i32_662
  let v1046 : BitVec 1 := Scalar.andi v1045 v1042
  let v1047 : BitVec 32 := Scalar.addi v1041 v1040
  let v1048 : BitVec 32 := Scalar.select v1046 v1047 v1041
  let c4_i32_665 : BitVec 32 := 4#32
  let v1049 : BitVec 32 := Scalar.muli v1048 c4_i32_665
  let c2_i32_666 : BitVec 32 := 2#32
  let v1050 : BitVec 32 := Scalar.addi v1049 c2_i32_666
  let c1_i32_1595 : BitVec 32 := 1#32
  let v2331 : BitVec 32 := Scalar.muli v1050 c1_i32_1595
  let v2332 : BitVec 32 := Scalar.addi c0_i32_1596 v2331
  v2332.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_674 : BitVec 32 := 4#32
  let v1065 : BitVec 32 := Scalar.subi v3 c4_i32_674
  let c8_i32_675 : BitVec 32 := 8#32
  let c0_i32_676 : BitVec 32 := 0#32
  let v1066 : BitVec 1 := Scalar.cmpi .eq c8_i32_675 c0_i32_676
  let c1_i32_677 : BitVec 32 := 1#32
  let v1067 : BitVec 32 := Scalar.select v1066 c1_i32_677 c8_i32_675
  let v1068 : BitVec 32 := Scalar.remsi v1065 v1067
  let c0_i32_679 : BitVec 32 := 0#32
  let v1070 : BitVec 1 := Scalar.cmpi .slt v1068 c0_i32_679
  let c0_i32_680 : BitVec 32 := 0#32
  let v1071 : BitVec 1 := Scalar.cmpi .slt v1067 c0_i32_680
  let v1072 : BitVec 1 := Scalar.xori v1070 v1071
  let c0_i32_678 : BitVec 32 := 0#32
  let v1069 : BitVec 1 := Scalar.cmpi .ne v1068 c0_i32_678
  let v1073 : BitVec 1 := Scalar.andi v1072 v1069
  let v1074 : BitVec 32 := Scalar.addi v1068 v1067
  let v1075 : BitVec 32 := Scalar.select v1073 v1074 v1068
  let c4_i32_681 : BitVec 32 := 4#32
  let v1076 : BitVec 32 := Scalar.muli v1075 c4_i32_681
  let c3_i32_682 : BitVec 32 := 3#32
  let v1077 : BitVec 32 := Scalar.addi v1076 c3_i32_682
  let v1089 : BitVec 1 := Scalar.cmpi .ne v1077 v2
  let v1090 : BitVec 32 := Scalar.extui v1089
  let c0_i32_689 : BitVec 32 := 0#32
  let v1091 : BitVec 1 := Scalar.cmpi .ne v1090 c0_i32_689
  v1091

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_674 : BitVec 32 := 4#32
  let v1065 : BitVec 32 := Scalar.subi v3 c4_i32_674
  let c8_i32_675 : BitVec 32 := 8#32
  let c0_i32_676 : BitVec 32 := 0#32
  let v1066 : BitVec 1 := Scalar.cmpi .eq c8_i32_675 c0_i32_676
  let c1_i32_677 : BitVec 32 := 1#32
  let v1067 : BitVec 32 := Scalar.select v1066 c1_i32_677 c8_i32_675
  let v1068 : BitVec 32 := Scalar.remsi v1065 v1067
  let c0_i32_679 : BitVec 32 := 0#32
  let v1070 : BitVec 1 := Scalar.cmpi .slt v1068 c0_i32_679
  let c0_i32_680 : BitVec 32 := 0#32
  let v1071 : BitVec 1 := Scalar.cmpi .slt v1067 c0_i32_680
  let v1072 : BitVec 1 := Scalar.xori v1070 v1071
  let c0_i32_678 : BitVec 32 := 0#32
  let v1069 : BitVec 1 := Scalar.cmpi .ne v1068 c0_i32_678
  let v1073 : BitVec 1 := Scalar.andi v1072 v1069
  let v1074 : BitVec 32 := Scalar.addi v1068 v1067
  let v1075 : BitVec 32 := Scalar.select v1073 v1074 v1068
  let c4_i32_681 : BitVec 32 := 4#32
  let v1076 : BitVec 32 := Scalar.muli v1075 c4_i32_681
  let c3_i32_682 : BitVec 32 := 3#32
  let v1077 : BitVec 32 := Scalar.addi v1076 c3_i32_682
  let v1078 : BitVec 32 := Scalar.subi v1077 v2
  let c32_i32_683 : BitVec 32 := 32#32
  let c0_i32_684 : BitVec 32 := 0#32
  let v1079 : BitVec 1 := Scalar.cmpi .eq c32_i32_683 c0_i32_684
  let c1_i32_685 : BitVec 32 := 1#32
  let v1080 : BitVec 32 := Scalar.select v1079 c1_i32_685 c32_i32_683
  let v1081 : BitVec 32 := Scalar.remsi v1078 v1080
  let c0_i32_687 : BitVec 32 := 0#32
  let v1083 : BitVec 1 := Scalar.cmpi .slt v1081 c0_i32_687
  let c0_i32_688 : BitVec 32 := 0#32
  let v1084 : BitVec 1 := Scalar.cmpi .slt v1080 c0_i32_688
  let v1085 : BitVec 1 := Scalar.xori v1083 v1084
  let c0_i32_686 : BitVec 32 := 0#32
  let v1082 : BitVec 1 := Scalar.cmpi .ne v1081 c0_i32_686
  let v1086 : BitVec 1 := Scalar.andi v1085 v1082
  let v1087 : BitVec 32 := Scalar.addi v1081 v1080
  let v1088 : BitVec 32 := Scalar.select v1086 v1087 v1081
  ![v1088.toNat]
def k0_off62 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_674 : BitVec 32 := 4#32
  let v1065 : BitVec 32 := Scalar.subi v3 c4_i32_674
  let c8_i32_675 : BitVec 32 := 8#32
  let c0_i32_676 : BitVec 32 := 0#32
  let v1066 : BitVec 1 := Scalar.cmpi .eq c8_i32_675 c0_i32_676
  let c1_i32_677 : BitVec 32 := 1#32
  let v1067 : BitVec 32 := Scalar.select v1066 c1_i32_677 c8_i32_675
  let v1068 : BitVec 32 := Scalar.remsi v1065 v1067
  let c0_i32_679 : BitVec 32 := 0#32
  let v1070 : BitVec 1 := Scalar.cmpi .slt v1068 c0_i32_679
  let c0_i32_680 : BitVec 32 := 0#32
  let v1071 : BitVec 1 := Scalar.cmpi .slt v1067 c0_i32_680
  let v1072 : BitVec 1 := Scalar.xori v1070 v1071
  let c0_i32_678 : BitVec 32 := 0#32
  let v1069 : BitVec 1 := Scalar.cmpi .ne v1068 c0_i32_678
  let v1073 : BitVec 1 := Scalar.andi v1072 v1069
  let v1074 : BitVec 32 := Scalar.addi v1068 v1067
  let v1075 : BitVec 32 := Scalar.select v1073 v1074 v1068
  let c4_i32_681 : BitVec 32 := 4#32
  let v1076 : BitVec 32 := Scalar.muli v1075 c4_i32_681
  let c3_i32_682 : BitVec 32 := 3#32
  let v1077 : BitVec 32 := Scalar.addi v1076 c3_i32_682
  let c128_i32_1593 : BitVec 32 := 128#32
  let v2329 : BitVec 32 := Scalar.muli v1077 c128_i32_1593
  let c0_i32_1598 : BitVec 32 := 0#32
  ![v2329.toNat, 0]
def k0_dev51 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_674 : BitVec 32 := 4#32
  let v1065 : BitVec 32 := Scalar.subi v3 c4_i32_674
  let c8_i32_675 : BitVec 32 := 8#32
  let c0_i32_676 : BitVec 32 := 0#32
  let v1066 : BitVec 1 := Scalar.cmpi .eq c8_i32_675 c0_i32_676
  let c1_i32_677 : BitVec 32 := 1#32
  let v1067 : BitVec 32 := Scalar.select v1066 c1_i32_677 c8_i32_675
  let v1068 : BitVec 32 := Scalar.remsi v1065 v1067
  let c0_i32_679 : BitVec 32 := 0#32
  let v1070 : BitVec 1 := Scalar.cmpi .slt v1068 c0_i32_679
  let c0_i32_680 : BitVec 32 := 0#32
  let v1071 : BitVec 1 := Scalar.cmpi .slt v1067 c0_i32_680
  let v1072 : BitVec 1 := Scalar.xori v1070 v1071
  let c0_i32_678 : BitVec 32 := 0#32
  let v1069 : BitVec 1 := Scalar.cmpi .ne v1068 c0_i32_678
  let v1073 : BitVec 1 := Scalar.andi v1072 v1069
  let v1074 : BitVec 32 := Scalar.addi v1068 v1067
  let v1075 : BitVec 32 := Scalar.select v1073 v1074 v1068
  let c4_i32_681 : BitVec 32 := 4#32
  let v1076 : BitVec 32 := Scalar.muli v1075 c4_i32_681
  let c3_i32_682 : BitVec 32 := 3#32
  let v1077 : BitVec 32 := Scalar.addi v1076 c3_i32_682
  let c1_i32_1595 : BitVec 32 := 1#32
  let v2331 : BitVec 32 := Scalar.muli v1077 c1_i32_1595
  let v2332 : BitVec 32 := Scalar.addi c0_i32_1596 v2331
  v2332.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_690 : BitVec 32 := 5#32
  let v1092 : BitVec 32 := Scalar.subi v3 c5_i32_690
  let c8_i32_691 : BitVec 32 := 8#32
  let c0_i32_692 : BitVec 32 := 0#32
  let v1093 : BitVec 1 := Scalar.cmpi .eq c8_i32_691 c0_i32_692
  let c1_i32_693 : BitVec 32 := 1#32
  let v1094 : BitVec 32 := Scalar.select v1093 c1_i32_693 c8_i32_691
  let v1095 : BitVec 32 := Scalar.remsi v1092 v1094
  let c0_i32_695 : BitVec 32 := 0#32
  let v1097 : BitVec 1 := Scalar.cmpi .slt v1095 c0_i32_695
  let c0_i32_696 : BitVec 32 := 0#32
  let v1098 : BitVec 1 := Scalar.cmpi .slt v1094 c0_i32_696
  let v1099 : BitVec 1 := Scalar.xori v1097 v1098
  let c0_i32_694 : BitVec 32 := 0#32
  let v1096 : BitVec 1 := Scalar.cmpi .ne v1095 c0_i32_694
  let v1100 : BitVec 1 := Scalar.andi v1099 v1096
  let v1101 : BitVec 32 := Scalar.addi v1095 v1094
  let v1102 : BitVec 32 := Scalar.select v1100 v1101 v1095
  let c4_i32_697 : BitVec 32 := 4#32
  let v1103 : BitVec 32 := Scalar.muli v1102 c4_i32_697
  let c0_i32_698 : BitVec 32 := 0#32
  let v1104 : BitVec 32 := Scalar.addi v1103 c0_i32_698
  let v1116 : BitVec 1 := Scalar.cmpi .ne v1104 v2
  let v1117 : BitVec 32 := Scalar.extui v1116
  let c0_i32_705 : BitVec 32 := 0#32
  let v1118 : BitVec 1 := Scalar.cmpi .ne v1117 c0_i32_705
  v1118

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_690 : BitVec 32 := 5#32
  let v1092 : BitVec 32 := Scalar.subi v3 c5_i32_690
  let c8_i32_691 : BitVec 32 := 8#32
  let c0_i32_692 : BitVec 32 := 0#32
  let v1093 : BitVec 1 := Scalar.cmpi .eq c8_i32_691 c0_i32_692
  let c1_i32_693 : BitVec 32 := 1#32
  let v1094 : BitVec 32 := Scalar.select v1093 c1_i32_693 c8_i32_691
  let v1095 : BitVec 32 := Scalar.remsi v1092 v1094
  let c0_i32_695 : BitVec 32 := 0#32
  let v1097 : BitVec 1 := Scalar.cmpi .slt v1095 c0_i32_695
  let c0_i32_696 : BitVec 32 := 0#32
  let v1098 : BitVec 1 := Scalar.cmpi .slt v1094 c0_i32_696
  let v1099 : BitVec 1 := Scalar.xori v1097 v1098
  let c0_i32_694 : BitVec 32 := 0#32
  let v1096 : BitVec 1 := Scalar.cmpi .ne v1095 c0_i32_694
  let v1100 : BitVec 1 := Scalar.andi v1099 v1096
  let v1101 : BitVec 32 := Scalar.addi v1095 v1094
  let v1102 : BitVec 32 := Scalar.select v1100 v1101 v1095
  let c4_i32_697 : BitVec 32 := 4#32
  let v1103 : BitVec 32 := Scalar.muli v1102 c4_i32_697
  let c0_i32_698 : BitVec 32 := 0#32
  let v1104 : BitVec 32 := Scalar.addi v1103 c0_i32_698
  let v1105 : BitVec 32 := Scalar.subi v1104 v2
  let c32_i32_699 : BitVec 32 := 32#32
  let c0_i32_700 : BitVec 32 := 0#32
  let v1106 : BitVec 1 := Scalar.cmpi .eq c32_i32_699 c0_i32_700
  let c1_i32_701 : BitVec 32 := 1#32
  let v1107 : BitVec 32 := Scalar.select v1106 c1_i32_701 c32_i32_699
  let v1108 : BitVec 32 := Scalar.remsi v1105 v1107
  let c0_i32_703 : BitVec 32 := 0#32
  let v1110 : BitVec 1 := Scalar.cmpi .slt v1108 c0_i32_703
  let c0_i32_704 : BitVec 32 := 0#32
  let v1111 : BitVec 1 := Scalar.cmpi .slt v1107 c0_i32_704
  let v1112 : BitVec 1 := Scalar.xori v1110 v1111
  let c0_i32_702 : BitVec 32 := 0#32
  let v1109 : BitVec 1 := Scalar.cmpi .ne v1108 c0_i32_702
  let v1113 : BitVec 1 := Scalar.andi v1112 v1109
  let v1114 : BitVec 32 := Scalar.addi v1108 v1107
  let v1115 : BitVec 32 := Scalar.select v1113 v1114 v1108
  ![v1115.toNat]
def k0_off65 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_690 : BitVec 32 := 5#32
  let v1092 : BitVec 32 := Scalar.subi v3 c5_i32_690
  let c8_i32_691 : BitVec 32 := 8#32
  let c0_i32_692 : BitVec 32 := 0#32
  let v1093 : BitVec 1 := Scalar.cmpi .eq c8_i32_691 c0_i32_692
  let c1_i32_693 : BitVec 32 := 1#32
  let v1094 : BitVec 32 := Scalar.select v1093 c1_i32_693 c8_i32_691
  let v1095 : BitVec 32 := Scalar.remsi v1092 v1094
  let c0_i32_695 : BitVec 32 := 0#32
  let v1097 : BitVec 1 := Scalar.cmpi .slt v1095 c0_i32_695
  let c0_i32_696 : BitVec 32 := 0#32
  let v1098 : BitVec 1 := Scalar.cmpi .slt v1094 c0_i32_696
  let v1099 : BitVec 1 := Scalar.xori v1097 v1098
  let c0_i32_694 : BitVec 32 := 0#32
  let v1096 : BitVec 1 := Scalar.cmpi .ne v1095 c0_i32_694
  let v1100 : BitVec 1 := Scalar.andi v1099 v1096
  let v1101 : BitVec 32 := Scalar.addi v1095 v1094
  let v1102 : BitVec 32 := Scalar.select v1100 v1101 v1095
  let c4_i32_697 : BitVec 32 := 4#32
  let v1103 : BitVec 32 := Scalar.muli v1102 c4_i32_697
  let c0_i32_698 : BitVec 32 := 0#32
  let v1104 : BitVec 32 := Scalar.addi v1103 c0_i32_698
  let c128_i32_1593 : BitVec 32 := 128#32
  let v2329 : BitVec 32 := Scalar.muli v1104 c128_i32_1593
  let c0_i32_1598 : BitVec 32 := 0#32
  ![v2329.toNat, 0]
def k0_dev52 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_690 : BitVec 32 := 5#32
  let v1092 : BitVec 32 := Scalar.subi v3 c5_i32_690
  let c8_i32_691 : BitVec 32 := 8#32
  let c0_i32_692 : BitVec 32 := 0#32
  let v1093 : BitVec 1 := Scalar.cmpi .eq c8_i32_691 c0_i32_692
  let c1_i32_693 : BitVec 32 := 1#32
  let v1094 : BitVec 32 := Scalar.select v1093 c1_i32_693 c8_i32_691
  let v1095 : BitVec 32 := Scalar.remsi v1092 v1094
  let c0_i32_695 : BitVec 32 := 0#32
  let v1097 : BitVec 1 := Scalar.cmpi .slt v1095 c0_i32_695
  let c0_i32_696 : BitVec 32 := 0#32
  let v1098 : BitVec 1 := Scalar.cmpi .slt v1094 c0_i32_696
  let v1099 : BitVec 1 := Scalar.xori v1097 v1098
  let c0_i32_694 : BitVec 32 := 0#32
  let v1096 : BitVec 1 := Scalar.cmpi .ne v1095 c0_i32_694
  let v1100 : BitVec 1 := Scalar.andi v1099 v1096
  let v1101 : BitVec 32 := Scalar.addi v1095 v1094
  let v1102 : BitVec 32 := Scalar.select v1100 v1101 v1095
  let c4_i32_697 : BitVec 32 := 4#32
  let v1103 : BitVec 32 := Scalar.muli v1102 c4_i32_697
  let c0_i32_698 : BitVec 32 := 0#32
  let v1104 : BitVec 32 := Scalar.addi v1103 c0_i32_698
  let c1_i32_1595 : BitVec 32 := 1#32
  let v2331 : BitVec 32 := Scalar.muli v1104 c1_i32_1595
  let v2332 : BitVec 32 := Scalar.addi c0_i32_1596 v2331
  v2332.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_706 : BitVec 32 := 5#32
  let v1119 : BitVec 32 := Scalar.subi v3 c5_i32_706
  let c8_i32_707 : BitVec 32 := 8#32
  let c0_i32_708 : BitVec 32 := 0#32
  let v1120 : BitVec 1 := Scalar.cmpi .eq c8_i32_707 c0_i32_708
  let c1_i32_709 : BitVec 32 := 1#32
  let v1121 : BitVec 32 := Scalar.select v1120 c1_i32_709 c8_i32_707
  let v1122 : BitVec 32 := Scalar.remsi v1119 v1121
  let c0_i32_711 : BitVec 32 := 0#32
  let v1124 : BitVec 1 := Scalar.cmpi .slt v1122 c0_i32_711
  let c0_i32_712 : BitVec 32 := 0#32
  let v1125 : BitVec 1 := Scalar.cmpi .slt v1121 c0_i32_712
  let v1126 : BitVec 1 := Scalar.xori v1124 v1125
  let c0_i32_710 : BitVec 32 := 0#32
  let v1123 : BitVec 1 := Scalar.cmpi .ne v1122 c0_i32_710
  let v1127 : BitVec 1 := Scalar.andi v1126 v1123
  let v1128 : BitVec 32 := Scalar.addi v1122 v1121
  let v1129 : BitVec 32 := Scalar.select v1127 v1128 v1122
  let c4_i32_713 : BitVec 32 := 4#32
  let v1130 : BitVec 32 := Scalar.muli v1129 c4_i32_713
  let c1_i32_714 : BitVec 32 := 1#32
  let v1131 : BitVec 32 := Scalar.addi v1130 c1_i32_714
  let v1143 : BitVec 1 := Scalar.cmpi .ne v1131 v2
  let v1144 : BitVec 32 := Scalar.extui v1143
  let c0_i32_721 : BitVec 32 := 0#32
  let v1145 : BitVec 1 := Scalar.cmpi .ne v1144 c0_i32_721
  v1145

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_706 : BitVec 32 := 5#32
  let v1119 : BitVec 32 := Scalar.subi v3 c5_i32_706
  let c8_i32_707 : BitVec 32 := 8#32
  let c0_i32_708 : BitVec 32 := 0#32
  let v1120 : BitVec 1 := Scalar.cmpi .eq c8_i32_707 c0_i32_708
  let c1_i32_709 : BitVec 32 := 1#32
  let v1121 : BitVec 32 := Scalar.select v1120 c1_i32_709 c8_i32_707
  let v1122 : BitVec 32 := Scalar.remsi v1119 v1121
  let c0_i32_711 : BitVec 32 := 0#32
  let v1124 : BitVec 1 := Scalar.cmpi .slt v1122 c0_i32_711
  let c0_i32_712 : BitVec 32 := 0#32
  let v1125 : BitVec 1 := Scalar.cmpi .slt v1121 c0_i32_712
  let v1126 : BitVec 1 := Scalar.xori v1124 v1125
  let c0_i32_710 : BitVec 32 := 0#32
  let v1123 : BitVec 1 := Scalar.cmpi .ne v1122 c0_i32_710
  let v1127 : BitVec 1 := Scalar.andi v1126 v1123
  let v1128 : BitVec 32 := Scalar.addi v1122 v1121
  let v1129 : BitVec 32 := Scalar.select v1127 v1128 v1122
  let c4_i32_713 : BitVec 32 := 4#32
  let v1130 : BitVec 32 := Scalar.muli v1129 c4_i32_713
  let c1_i32_714 : BitVec 32 := 1#32
  let v1131 : BitVec 32 := Scalar.addi v1130 c1_i32_714
  let v1132 : BitVec 32 := Scalar.subi v1131 v2
  let c32_i32_715 : BitVec 32 := 32#32
  let c0_i32_716 : BitVec 32 := 0#32
  let v1133 : BitVec 1 := Scalar.cmpi .eq c32_i32_715 c0_i32_716
  let c1_i32_717 : BitVec 32 := 1#32
  let v1134 : BitVec 32 := Scalar.select v1133 c1_i32_717 c32_i32_715
  let v1135 : BitVec 32 := Scalar.remsi v1132 v1134
  let c0_i32_719 : BitVec 32 := 0#32
  let v1137 : BitVec 1 := Scalar.cmpi .slt v1135 c0_i32_719
  let c0_i32_720 : BitVec 32 := 0#32
  let v1138 : BitVec 1 := Scalar.cmpi .slt v1134 c0_i32_720
  let v1139 : BitVec 1 := Scalar.xori v1137 v1138
  let c0_i32_718 : BitVec 32 := 0#32
  let v1136 : BitVec 1 := Scalar.cmpi .ne v1135 c0_i32_718
  let v1140 : BitVec 1 := Scalar.andi v1139 v1136
  let v1141 : BitVec 32 := Scalar.addi v1135 v1134
  let v1142 : BitVec 32 := Scalar.select v1140 v1141 v1135
  ![v1142.toNat]
def k0_off68 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_706 : BitVec 32 := 5#32
  let v1119 : BitVec 32 := Scalar.subi v3 c5_i32_706
  let c8_i32_707 : BitVec 32 := 8#32
  let c0_i32_708 : BitVec 32 := 0#32
  let v1120 : BitVec 1 := Scalar.cmpi .eq c8_i32_707 c0_i32_708
  let c1_i32_709 : BitVec 32 := 1#32
  let v1121 : BitVec 32 := Scalar.select v1120 c1_i32_709 c8_i32_707
  let v1122 : BitVec 32 := Scalar.remsi v1119 v1121
  let c0_i32_711 : BitVec 32 := 0#32
  let v1124 : BitVec 1 := Scalar.cmpi .slt v1122 c0_i32_711
  let c0_i32_712 : BitVec 32 := 0#32
  let v1125 : BitVec 1 := Scalar.cmpi .slt v1121 c0_i32_712
  let v1126 : BitVec 1 := Scalar.xori v1124 v1125
  let c0_i32_710 : BitVec 32 := 0#32
  let v1123 : BitVec 1 := Scalar.cmpi .ne v1122 c0_i32_710
  let v1127 : BitVec 1 := Scalar.andi v1126 v1123
  let v1128 : BitVec 32 := Scalar.addi v1122 v1121
  let v1129 : BitVec 32 := Scalar.select v1127 v1128 v1122
  let c4_i32_713 : BitVec 32 := 4#32
  let v1130 : BitVec 32 := Scalar.muli v1129 c4_i32_713
  let c1_i32_714 : BitVec 32 := 1#32
  let v1131 : BitVec 32 := Scalar.addi v1130 c1_i32_714
  let c128_i32_1593 : BitVec 32 := 128#32
  let v2329 : BitVec 32 := Scalar.muli v1131 c128_i32_1593
  let c0_i32_1598 : BitVec 32 := 0#32
  ![v2329.toNat, 0]
def k0_dev53 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_706 : BitVec 32 := 5#32
  let v1119 : BitVec 32 := Scalar.subi v3 c5_i32_706
  let c8_i32_707 : BitVec 32 := 8#32
  let c0_i32_708 : BitVec 32 := 0#32
  let v1120 : BitVec 1 := Scalar.cmpi .eq c8_i32_707 c0_i32_708
  let c1_i32_709 : BitVec 32 := 1#32
  let v1121 : BitVec 32 := Scalar.select v1120 c1_i32_709 c8_i32_707
  let v1122 : BitVec 32 := Scalar.remsi v1119 v1121
  let c0_i32_711 : BitVec 32 := 0#32
  let v1124 : BitVec 1 := Scalar.cmpi .slt v1122 c0_i32_711
  let c0_i32_712 : BitVec 32 := 0#32
  let v1125 : BitVec 1 := Scalar.cmpi .slt v1121 c0_i32_712
  let v1126 : BitVec 1 := Scalar.xori v1124 v1125
  let c0_i32_710 : BitVec 32 := 0#32
  let v1123 : BitVec 1 := Scalar.cmpi .ne v1122 c0_i32_710
  let v1127 : BitVec 1 := Scalar.andi v1126 v1123
  let v1128 : BitVec 32 := Scalar.addi v1122 v1121
  let v1129 : BitVec 32 := Scalar.select v1127 v1128 v1122
  let c4_i32_713 : BitVec 32 := 4#32
  let v1130 : BitVec 32 := Scalar.muli v1129 c4_i32_713
  let c1_i32_714 : BitVec 32 := 1#32
  let v1131 : BitVec 32 := Scalar.addi v1130 c1_i32_714
  let c1_i32_1595 : BitVec 32 := 1#32
  let v2331 : BitVec 32 := Scalar.muli v1131 c1_i32_1595
  let v2332 : BitVec 32 := Scalar.addi c0_i32_1596 v2331
  v2332.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_722 : BitVec 32 := 5#32
  let v1146 : BitVec 32 := Scalar.subi v3 c5_i32_722
  let c8_i32_723 : BitVec 32 := 8#32
  let c0_i32_724 : BitVec 32 := 0#32
  let v1147 : BitVec 1 := Scalar.cmpi .eq c8_i32_723 c0_i32_724
  let c1_i32_725 : BitVec 32 := 1#32
  let v1148 : BitVec 32 := Scalar.select v1147 c1_i32_725 c8_i32_723
  let v1149 : BitVec 32 := Scalar.remsi v1146 v1148
  let c0_i32_727 : BitVec 32 := 0#32
  let v1151 : BitVec 1 := Scalar.cmpi .slt v1149 c0_i32_727
  let c0_i32_728 : BitVec 32 := 0#32
  let v1152 : BitVec 1 := Scalar.cmpi .slt v1148 c0_i32_728
  let v1153 : BitVec 1 := Scalar.xori v1151 v1152
  let c0_i32_726 : BitVec 32 := 0#32
  let v1150 : BitVec 1 := Scalar.cmpi .ne v1149 c0_i32_726
  let v1154 : BitVec 1 := Scalar.andi v1153 v1150
  let v1155 : BitVec 32 := Scalar.addi v1149 v1148
  let v1156 : BitVec 32 := Scalar.select v1154 v1155 v1149
  let c4_i32_729 : BitVec 32 := 4#32
  let v1157 : BitVec 32 := Scalar.muli v1156 c4_i32_729
  let c2_i32_730 : BitVec 32 := 2#32
  let v1158 : BitVec 32 := Scalar.addi v1157 c2_i32_730
  let v1170 : BitVec 1 := Scalar.cmpi .ne v1158 v2
  let v1171 : BitVec 32 := Scalar.extui v1170
  let c0_i32_737 : BitVec 32 := 0#32
  let v1172 : BitVec 1 := Scalar.cmpi .ne v1171 c0_i32_737
  v1172

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_722 : BitVec 32 := 5#32
  let v1146 : BitVec 32 := Scalar.subi v3 c5_i32_722
  let c8_i32_723 : BitVec 32 := 8#32
  let c0_i32_724 : BitVec 32 := 0#32
  let v1147 : BitVec 1 := Scalar.cmpi .eq c8_i32_723 c0_i32_724
  let c1_i32_725 : BitVec 32 := 1#32
  let v1148 : BitVec 32 := Scalar.select v1147 c1_i32_725 c8_i32_723
  let v1149 : BitVec 32 := Scalar.remsi v1146 v1148
  let c0_i32_727 : BitVec 32 := 0#32
  let v1151 : BitVec 1 := Scalar.cmpi .slt v1149 c0_i32_727
  let c0_i32_728 : BitVec 32 := 0#32
  let v1152 : BitVec 1 := Scalar.cmpi .slt v1148 c0_i32_728
  let v1153 : BitVec 1 := Scalar.xori v1151 v1152
  let c0_i32_726 : BitVec 32 := 0#32
  let v1150 : BitVec 1 := Scalar.cmpi .ne v1149 c0_i32_726
  let v1154 : BitVec 1 := Scalar.andi v1153 v1150
  let v1155 : BitVec 32 := Scalar.addi v1149 v1148
  let v1156 : BitVec 32 := Scalar.select v1154 v1155 v1149
  let c4_i32_729 : BitVec 32 := 4#32
  let v1157 : BitVec 32 := Scalar.muli v1156 c4_i32_729
  let c2_i32_730 : BitVec 32 := 2#32
  let v1158 : BitVec 32 := Scalar.addi v1157 c2_i32_730
  let v1159 : BitVec 32 := Scalar.subi v1158 v2
  let c32_i32_731 : BitVec 32 := 32#32
  let c0_i32_732 : BitVec 32 := 0#32
  let v1160 : BitVec 1 := Scalar.cmpi .eq c32_i32_731 c0_i32_732
  let c1_i32_733 : BitVec 32 := 1#32
  let v1161 : BitVec 32 := Scalar.select v1160 c1_i32_733 c32_i32_731
  let v1162 : BitVec 32 := Scalar.remsi v1159 v1161
  let c0_i32_735 : BitVec 32 := 0#32
  let v1164 : BitVec 1 := Scalar.cmpi .slt v1162 c0_i32_735
  let c0_i32_736 : BitVec 32 := 0#32
  let v1165 : BitVec 1 := Scalar.cmpi .slt v1161 c0_i32_736
  let v1166 : BitVec 1 := Scalar.xori v1164 v1165
  let c0_i32_734 : BitVec 32 := 0#32
  let v1163 : BitVec 1 := Scalar.cmpi .ne v1162 c0_i32_734
  let v1167 : BitVec 1 := Scalar.andi v1166 v1163
  let v1168 : BitVec 32 := Scalar.addi v1162 v1161
  let v1169 : BitVec 32 := Scalar.select v1167 v1168 v1162
  ![v1169.toNat]
def k0_off71 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_722 : BitVec 32 := 5#32
  let v1146 : BitVec 32 := Scalar.subi v3 c5_i32_722
  let c8_i32_723 : BitVec 32 := 8#32
  let c0_i32_724 : BitVec 32 := 0#32
  let v1147 : BitVec 1 := Scalar.cmpi .eq c8_i32_723 c0_i32_724
  let c1_i32_725 : BitVec 32 := 1#32
  let v1148 : BitVec 32 := Scalar.select v1147 c1_i32_725 c8_i32_723
  let v1149 : BitVec 32 := Scalar.remsi v1146 v1148
  let c0_i32_727 : BitVec 32 := 0#32
  let v1151 : BitVec 1 := Scalar.cmpi .slt v1149 c0_i32_727
  let c0_i32_728 : BitVec 32 := 0#32
  let v1152 : BitVec 1 := Scalar.cmpi .slt v1148 c0_i32_728
  let v1153 : BitVec 1 := Scalar.xori v1151 v1152
  let c0_i32_726 : BitVec 32 := 0#32
  let v1150 : BitVec 1 := Scalar.cmpi .ne v1149 c0_i32_726
  let v1154 : BitVec 1 := Scalar.andi v1153 v1150
  let v1155 : BitVec 32 := Scalar.addi v1149 v1148
  let v1156 : BitVec 32 := Scalar.select v1154 v1155 v1149
  let c4_i32_729 : BitVec 32 := 4#32
  let v1157 : BitVec 32 := Scalar.muli v1156 c4_i32_729
  let c2_i32_730 : BitVec 32 := 2#32
  let v1158 : BitVec 32 := Scalar.addi v1157 c2_i32_730
  let c128_i32_1593 : BitVec 32 := 128#32
  let v2329 : BitVec 32 := Scalar.muli v1158 c128_i32_1593
  let c0_i32_1598 : BitVec 32 := 0#32
  ![v2329.toNat, 0]
def k0_dev54 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_722 : BitVec 32 := 5#32
  let v1146 : BitVec 32 := Scalar.subi v3 c5_i32_722
  let c8_i32_723 : BitVec 32 := 8#32
  let c0_i32_724 : BitVec 32 := 0#32
  let v1147 : BitVec 1 := Scalar.cmpi .eq c8_i32_723 c0_i32_724
  let c1_i32_725 : BitVec 32 := 1#32
  let v1148 : BitVec 32 := Scalar.select v1147 c1_i32_725 c8_i32_723
  let v1149 : BitVec 32 := Scalar.remsi v1146 v1148
  let c0_i32_727 : BitVec 32 := 0#32
  let v1151 : BitVec 1 := Scalar.cmpi .slt v1149 c0_i32_727
  let c0_i32_728 : BitVec 32 := 0#32
  let v1152 : BitVec 1 := Scalar.cmpi .slt v1148 c0_i32_728
  let v1153 : BitVec 1 := Scalar.xori v1151 v1152
  let c0_i32_726 : BitVec 32 := 0#32
  let v1150 : BitVec 1 := Scalar.cmpi .ne v1149 c0_i32_726
  let v1154 : BitVec 1 := Scalar.andi v1153 v1150
  let v1155 : BitVec 32 := Scalar.addi v1149 v1148
  let v1156 : BitVec 32 := Scalar.select v1154 v1155 v1149
  let c4_i32_729 : BitVec 32 := 4#32
  let v1157 : BitVec 32 := Scalar.muli v1156 c4_i32_729
  let c2_i32_730 : BitVec 32 := 2#32
  let v1158 : BitVec 32 := Scalar.addi v1157 c2_i32_730
  let c1_i32_1595 : BitVec 32 := 1#32
  let v2331 : BitVec 32 := Scalar.muli v1158 c1_i32_1595
  let v2332 : BitVec 32 := Scalar.addi c0_i32_1596 v2331
  v2332.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_738 : BitVec 32 := 5#32
  let v1173 : BitVec 32 := Scalar.subi v3 c5_i32_738
  let c8_i32_739 : BitVec 32 := 8#32
  let c0_i32_740 : BitVec 32 := 0#32
  let v1174 : BitVec 1 := Scalar.cmpi .eq c8_i32_739 c0_i32_740
  let c1_i32_741 : BitVec 32 := 1#32
  let v1175 : BitVec 32 := Scalar.select v1174 c1_i32_741 c8_i32_739
  let v1176 : BitVec 32 := Scalar.remsi v1173 v1175
  let c0_i32_743 : BitVec 32 := 0#32
  let v1178 : BitVec 1 := Scalar.cmpi .slt v1176 c0_i32_743
  let c0_i32_744 : BitVec 32 := 0#32
  let v1179 : BitVec 1 := Scalar.cmpi .slt v1175 c0_i32_744
  let v1180 : BitVec 1 := Scalar.xori v1178 v1179
  let c0_i32_742 : BitVec 32 := 0#32
  let v1177 : BitVec 1 := Scalar.cmpi .ne v1176 c0_i32_742
  let v1181 : BitVec 1 := Scalar.andi v1180 v1177
  let v1182 : BitVec 32 := Scalar.addi v1176 v1175
  let v1183 : BitVec 32 := Scalar.select v1181 v1182 v1176
  let c4_i32_745 : BitVec 32 := 4#32
  let v1184 : BitVec 32 := Scalar.muli v1183 c4_i32_745
  let c3_i32_746 : BitVec 32 := 3#32
  let v1185 : BitVec 32 := Scalar.addi v1184 c3_i32_746
  let v1197 : BitVec 1 := Scalar.cmpi .ne v1185 v2
  let v1198 : BitVec 32 := Scalar.extui v1197
  let c0_i32_753 : BitVec 32 := 0#32
  let v1199 : BitVec 1 := Scalar.cmpi .ne v1198 c0_i32_753
  v1199

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_738 : BitVec 32 := 5#32
  let v1173 : BitVec 32 := Scalar.subi v3 c5_i32_738
  let c8_i32_739 : BitVec 32 := 8#32
  let c0_i32_740 : BitVec 32 := 0#32
  let v1174 : BitVec 1 := Scalar.cmpi .eq c8_i32_739 c0_i32_740
  let c1_i32_741 : BitVec 32 := 1#32
  let v1175 : BitVec 32 := Scalar.select v1174 c1_i32_741 c8_i32_739
  let v1176 : BitVec 32 := Scalar.remsi v1173 v1175
  let c0_i32_743 : BitVec 32 := 0#32
  let v1178 : BitVec 1 := Scalar.cmpi .slt v1176 c0_i32_743
  let c0_i32_744 : BitVec 32 := 0#32
  let v1179 : BitVec 1 := Scalar.cmpi .slt v1175 c0_i32_744
  let v1180 : BitVec 1 := Scalar.xori v1178 v1179
  let c0_i32_742 : BitVec 32 := 0#32
  let v1177 : BitVec 1 := Scalar.cmpi .ne v1176 c0_i32_742
  let v1181 : BitVec 1 := Scalar.andi v1180 v1177
  let v1182 : BitVec 32 := Scalar.addi v1176 v1175
  let v1183 : BitVec 32 := Scalar.select v1181 v1182 v1176
  let c4_i32_745 : BitVec 32 := 4#32
  let v1184 : BitVec 32 := Scalar.muli v1183 c4_i32_745
  let c3_i32_746 : BitVec 32 := 3#32
  let v1185 : BitVec 32 := Scalar.addi v1184 c3_i32_746
  let v1186 : BitVec 32 := Scalar.subi v1185 v2
  let c32_i32_747 : BitVec 32 := 32#32
  let c0_i32_748 : BitVec 32 := 0#32
  let v1187 : BitVec 1 := Scalar.cmpi .eq c32_i32_747 c0_i32_748
  let c1_i32_749 : BitVec 32 := 1#32
  let v1188 : BitVec 32 := Scalar.select v1187 c1_i32_749 c32_i32_747
  let v1189 : BitVec 32 := Scalar.remsi v1186 v1188
  let c0_i32_751 : BitVec 32 := 0#32
  let v1191 : BitVec 1 := Scalar.cmpi .slt v1189 c0_i32_751
  let c0_i32_752 : BitVec 32 := 0#32
  let v1192 : BitVec 1 := Scalar.cmpi .slt v1188 c0_i32_752
  let v1193 : BitVec 1 := Scalar.xori v1191 v1192
  let c0_i32_750 : BitVec 32 := 0#32
  let v1190 : BitVec 1 := Scalar.cmpi .ne v1189 c0_i32_750
  let v1194 : BitVec 1 := Scalar.andi v1193 v1190
  let v1195 : BitVec 32 := Scalar.addi v1189 v1188
  let v1196 : BitVec 32 := Scalar.select v1194 v1195 v1189
  ![v1196.toNat]
def k0_off74 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_738 : BitVec 32 := 5#32
  let v1173 : BitVec 32 := Scalar.subi v3 c5_i32_738
  let c8_i32_739 : BitVec 32 := 8#32
  let c0_i32_740 : BitVec 32 := 0#32
  let v1174 : BitVec 1 := Scalar.cmpi .eq c8_i32_739 c0_i32_740
  let c1_i32_741 : BitVec 32 := 1#32
  let v1175 : BitVec 32 := Scalar.select v1174 c1_i32_741 c8_i32_739
  let v1176 : BitVec 32 := Scalar.remsi v1173 v1175
  let c0_i32_743 : BitVec 32 := 0#32
  let v1178 : BitVec 1 := Scalar.cmpi .slt v1176 c0_i32_743
  let c0_i32_744 : BitVec 32 := 0#32
  let v1179 : BitVec 1 := Scalar.cmpi .slt v1175 c0_i32_744
  let v1180 : BitVec 1 := Scalar.xori v1178 v1179
  let c0_i32_742 : BitVec 32 := 0#32
  let v1177 : BitVec 1 := Scalar.cmpi .ne v1176 c0_i32_742
  let v1181 : BitVec 1 := Scalar.andi v1180 v1177
  let v1182 : BitVec 32 := Scalar.addi v1176 v1175
  let v1183 : BitVec 32 := Scalar.select v1181 v1182 v1176
  let c4_i32_745 : BitVec 32 := 4#32
  let v1184 : BitVec 32 := Scalar.muli v1183 c4_i32_745
  let c3_i32_746 : BitVec 32 := 3#32
  let v1185 : BitVec 32 := Scalar.addi v1184 c3_i32_746
  let c128_i32_1593 : BitVec 32 := 128#32
  let v2329 : BitVec 32 := Scalar.muli v1185 c128_i32_1593
  let c0_i32_1598 : BitVec 32 := 0#32
  ![v2329.toNat, 0]
def k0_dev55 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_738 : BitVec 32 := 5#32
  let v1173 : BitVec 32 := Scalar.subi v3 c5_i32_738
  let c8_i32_739 : BitVec 32 := 8#32
  let c0_i32_740 : BitVec 32 := 0#32
  let v1174 : BitVec 1 := Scalar.cmpi .eq c8_i32_739 c0_i32_740
  let c1_i32_741 : BitVec 32 := 1#32
  let v1175 : BitVec 32 := Scalar.select v1174 c1_i32_741 c8_i32_739
  let v1176 : BitVec 32 := Scalar.remsi v1173 v1175
  let c0_i32_743 : BitVec 32 := 0#32
  let v1178 : BitVec 1 := Scalar.cmpi .slt v1176 c0_i32_743
  let c0_i32_744 : BitVec 32 := 0#32
  let v1179 : BitVec 1 := Scalar.cmpi .slt v1175 c0_i32_744
  let v1180 : BitVec 1 := Scalar.xori v1178 v1179
  let c0_i32_742 : BitVec 32 := 0#32
  let v1177 : BitVec 1 := Scalar.cmpi .ne v1176 c0_i32_742
  let v1181 : BitVec 1 := Scalar.andi v1180 v1177
  let v1182 : BitVec 32 := Scalar.addi v1176 v1175
  let v1183 : BitVec 32 := Scalar.select v1181 v1182 v1176
  let c4_i32_745 : BitVec 32 := 4#32
  let v1184 : BitVec 32 := Scalar.muli v1183 c4_i32_745
  let c3_i32_746 : BitVec 32 := 3#32
  let v1185 : BitVec 32 := Scalar.addi v1184 c3_i32_746
  let c1_i32_1595 : BitVec 32 := 1#32
  let v2331 : BitVec 32 := Scalar.muli v1185 c1_i32_1595
  let v2332 : BitVec 32 := Scalar.addi c0_i32_1596 v2331
  v2332.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_754 : BitVec 32 := 6#32
  let v1200 : BitVec 32 := Scalar.subi v3 c6_i32_754
  let c8_i32_755 : BitVec 32 := 8#32
  let c0_i32_756 : BitVec 32 := 0#32
  let v1201 : BitVec 1 := Scalar.cmpi .eq c8_i32_755 c0_i32_756
  let c1_i32_757 : BitVec 32 := 1#32
  let v1202 : BitVec 32 := Scalar.select v1201 c1_i32_757 c8_i32_755
  let v1203 : BitVec 32 := Scalar.remsi v1200 v1202
  let c0_i32_759 : BitVec 32 := 0#32
  let v1205 : BitVec 1 := Scalar.cmpi .slt v1203 c0_i32_759
  let c0_i32_760 : BitVec 32 := 0#32
  let v1206 : BitVec 1 := Scalar.cmpi .slt v1202 c0_i32_760
  let v1207 : BitVec 1 := Scalar.xori v1205 v1206
  let c0_i32_758 : BitVec 32 := 0#32
  let v1204 : BitVec 1 := Scalar.cmpi .ne v1203 c0_i32_758
  let v1208 : BitVec 1 := Scalar.andi v1207 v1204
  let v1209 : BitVec 32 := Scalar.addi v1203 v1202
  let v1210 : BitVec 32 := Scalar.select v1208 v1209 v1203
  let c4_i32_761 : BitVec 32 := 4#32
  let v1211 : BitVec 32 := Scalar.muli v1210 c4_i32_761
  let c0_i32_762 : BitVec 32 := 0#32
  let v1212 : BitVec 32 := Scalar.addi v1211 c0_i32_762
  let v1224 : BitVec 1 := Scalar.cmpi .ne v1212 v2
  let v1225 : BitVec 32 := Scalar.extui v1224
  let c0_i32_769 : BitVec 32 := 0#32
  let v1226 : BitVec 1 := Scalar.cmpi .ne v1225 c0_i32_769
  v1226

def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_754 : BitVec 32 := 6#32
  let v1200 : BitVec 32 := Scalar.subi v3 c6_i32_754
  let c8_i32_755 : BitVec 32 := 8#32
  let c0_i32_756 : BitVec 32 := 0#32
  let v1201 : BitVec 1 := Scalar.cmpi .eq c8_i32_755 c0_i32_756
  let c1_i32_757 : BitVec 32 := 1#32
  let v1202 : BitVec 32 := Scalar.select v1201 c1_i32_757 c8_i32_755
  let v1203 : BitVec 32 := Scalar.remsi v1200 v1202
  let c0_i32_759 : BitVec 32 := 0#32
  let v1205 : BitVec 1 := Scalar.cmpi .slt v1203 c0_i32_759
  let c0_i32_760 : BitVec 32 := 0#32
  let v1206 : BitVec 1 := Scalar.cmpi .slt v1202 c0_i32_760
  let v1207 : BitVec 1 := Scalar.xori v1205 v1206
  let c0_i32_758 : BitVec 32 := 0#32
  let v1204 : BitVec 1 := Scalar.cmpi .ne v1203 c0_i32_758
  let v1208 : BitVec 1 := Scalar.andi v1207 v1204
  let v1209 : BitVec 32 := Scalar.addi v1203 v1202
  let v1210 : BitVec 32 := Scalar.select v1208 v1209 v1203
  let c4_i32_761 : BitVec 32 := 4#32
  let v1211 : BitVec 32 := Scalar.muli v1210 c4_i32_761
  let c0_i32_762 : BitVec 32 := 0#32
  let v1212 : BitVec 32 := Scalar.addi v1211 c0_i32_762
  let v1213 : BitVec 32 := Scalar.subi v1212 v2
  let c32_i32_763 : BitVec 32 := 32#32
  let c0_i32_764 : BitVec 32 := 0#32
  let v1214 : BitVec 1 := Scalar.cmpi .eq c32_i32_763 c0_i32_764
  let c1_i32_765 : BitVec 32 := 1#32
  let v1215 : BitVec 32 := Scalar.select v1214 c1_i32_765 c32_i32_763
  let v1216 : BitVec 32 := Scalar.remsi v1213 v1215
  let c0_i32_767 : BitVec 32 := 0#32
  let v1218 : BitVec 1 := Scalar.cmpi .slt v1216 c0_i32_767
  let c0_i32_768 : BitVec 32 := 0#32
  let v1219 : BitVec 1 := Scalar.cmpi .slt v1215 c0_i32_768
  let v1220 : BitVec 1 := Scalar.xori v1218 v1219
  let c0_i32_766 : BitVec 32 := 0#32
  let v1217 : BitVec 1 := Scalar.cmpi .ne v1216 c0_i32_766
  let v1221 : BitVec 1 := Scalar.andi v1220 v1217
  let v1222 : BitVec 32 := Scalar.addi v1216 v1215
  let v1223 : BitVec 32 := Scalar.select v1221 v1222 v1216
  ![v1223.toNat]
def k0_off77 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_754 : BitVec 32 := 6#32
  let v1200 : BitVec 32 := Scalar.subi v3 c6_i32_754
  let c8_i32_755 : BitVec 32 := 8#32
  let c0_i32_756 : BitVec 32 := 0#32
  let v1201 : BitVec 1 := Scalar.cmpi .eq c8_i32_755 c0_i32_756
  let c1_i32_757 : BitVec 32 := 1#32
  let v1202 : BitVec 32 := Scalar.select v1201 c1_i32_757 c8_i32_755
  let v1203 : BitVec 32 := Scalar.remsi v1200 v1202
  let c0_i32_759 : BitVec 32 := 0#32
  let v1205 : BitVec 1 := Scalar.cmpi .slt v1203 c0_i32_759
  let c0_i32_760 : BitVec 32 := 0#32
  let v1206 : BitVec 1 := Scalar.cmpi .slt v1202 c0_i32_760
  let v1207 : BitVec 1 := Scalar.xori v1205 v1206
  let c0_i32_758 : BitVec 32 := 0#32
  let v1204 : BitVec 1 := Scalar.cmpi .ne v1203 c0_i32_758
  let v1208 : BitVec 1 := Scalar.andi v1207 v1204
  let v1209 : BitVec 32 := Scalar.addi v1203 v1202
  let v1210 : BitVec 32 := Scalar.select v1208 v1209 v1203
  let c4_i32_761 : BitVec 32 := 4#32
  let v1211 : BitVec 32 := Scalar.muli v1210 c4_i32_761
  let c0_i32_762 : BitVec 32 := 0#32
  let v1212 : BitVec 32 := Scalar.addi v1211 c0_i32_762
  let c128_i32_1593 : BitVec 32 := 128#32
  let v2329 : BitVec 32 := Scalar.muli v1212 c128_i32_1593
  let c0_i32_1598 : BitVec 32 := 0#32
  ![v2329.toNat, 0]
def k0_dev56 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_754 : BitVec 32 := 6#32
  let v1200 : BitVec 32 := Scalar.subi v3 c6_i32_754
  let c8_i32_755 : BitVec 32 := 8#32
  let c0_i32_756 : BitVec 32 := 0#32
  let v1201 : BitVec 1 := Scalar.cmpi .eq c8_i32_755 c0_i32_756
  let c1_i32_757 : BitVec 32 := 1#32
  let v1202 : BitVec 32 := Scalar.select v1201 c1_i32_757 c8_i32_755
  let v1203 : BitVec 32 := Scalar.remsi v1200 v1202
  let c0_i32_759 : BitVec 32 := 0#32
  let v1205 : BitVec 1 := Scalar.cmpi .slt v1203 c0_i32_759
  let c0_i32_760 : BitVec 32 := 0#32
  let v1206 : BitVec 1 := Scalar.cmpi .slt v1202 c0_i32_760
  let v1207 : BitVec 1 := Scalar.xori v1205 v1206
  let c0_i32_758 : BitVec 32 := 0#32
  let v1204 : BitVec 1 := Scalar.cmpi .ne v1203 c0_i32_758
  let v1208 : BitVec 1 := Scalar.andi v1207 v1204
  let v1209 : BitVec 32 := Scalar.addi v1203 v1202
  let v1210 : BitVec 32 := Scalar.select v1208 v1209 v1203
  let c4_i32_761 : BitVec 32 := 4#32
  let v1211 : BitVec 32 := Scalar.muli v1210 c4_i32_761
  let c0_i32_762 : BitVec 32 := 0#32
  let v1212 : BitVec 32 := Scalar.addi v1211 c0_i32_762
  let c1_i32_1595 : BitVec 32 := 1#32
  let v2331 : BitVec 32 := Scalar.muli v1212 c1_i32_1595
  let v2332 : BitVec 32 := Scalar.addi c0_i32_1596 v2331
  v2332.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_770 : BitVec 32 := 6#32
  let v1227 : BitVec 32 := Scalar.subi v3 c6_i32_770
  let c8_i32_771 : BitVec 32 := 8#32
  let c0_i32_772 : BitVec 32 := 0#32
  let v1228 : BitVec 1 := Scalar.cmpi .eq c8_i32_771 c0_i32_772
  let c1_i32_773 : BitVec 32 := 1#32
  let v1229 : BitVec 32 := Scalar.select v1228 c1_i32_773 c8_i32_771
  let v1230 : BitVec 32 := Scalar.remsi v1227 v1229
  let c0_i32_775 : BitVec 32 := 0#32
  let v1232 : BitVec 1 := Scalar.cmpi .slt v1230 c0_i32_775
  let c0_i32_776 : BitVec 32 := 0#32
  let v1233 : BitVec 1 := Scalar.cmpi .slt v1229 c0_i32_776
  let v1234 : BitVec 1 := Scalar.xori v1232 v1233
  let c0_i32_774 : BitVec 32 := 0#32
  let v1231 : BitVec 1 := Scalar.cmpi .ne v1230 c0_i32_774
  let v1235 : BitVec 1 := Scalar.andi v1234 v1231
  let v1236 : BitVec 32 := Scalar.addi v1230 v1229
  let v1237 : BitVec 32 := Scalar.select v1235 v1236 v1230
  let c4_i32_777 : BitVec 32 := 4#32
  let v1238 : BitVec 32 := Scalar.muli v1237 c4_i32_777
  let c1_i32_778 : BitVec 32 := 1#32
  let v1239 : BitVec 32 := Scalar.addi v1238 c1_i32_778
  let v1251 : BitVec 1 := Scalar.cmpi .ne v1239 v2
  let v1252 : BitVec 32 := Scalar.extui v1251
  let c0_i32_785 : BitVec 32 := 0#32
  let v1253 : BitVec 1 := Scalar.cmpi .ne v1252 c0_i32_785
  v1253

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_770 : BitVec 32 := 6#32
  let v1227 : BitVec 32 := Scalar.subi v3 c6_i32_770
  let c8_i32_771 : BitVec 32 := 8#32
  let c0_i32_772 : BitVec 32 := 0#32
  let v1228 : BitVec 1 := Scalar.cmpi .eq c8_i32_771 c0_i32_772
  let c1_i32_773 : BitVec 32 := 1#32
  let v1229 : BitVec 32 := Scalar.select v1228 c1_i32_773 c8_i32_771
  let v1230 : BitVec 32 := Scalar.remsi v1227 v1229
  let c0_i32_775 : BitVec 32 := 0#32
  let v1232 : BitVec 1 := Scalar.cmpi .slt v1230 c0_i32_775
  let c0_i32_776 : BitVec 32 := 0#32
  let v1233 : BitVec 1 := Scalar.cmpi .slt v1229 c0_i32_776
  let v1234 : BitVec 1 := Scalar.xori v1232 v1233
  let c0_i32_774 : BitVec 32 := 0#32
  let v1231 : BitVec 1 := Scalar.cmpi .ne v1230 c0_i32_774
  let v1235 : BitVec 1 := Scalar.andi v1234 v1231
  let v1236 : BitVec 32 := Scalar.addi v1230 v1229
  let v1237 : BitVec 32 := Scalar.select v1235 v1236 v1230
  let c4_i32_777 : BitVec 32 := 4#32
  let v1238 : BitVec 32 := Scalar.muli v1237 c4_i32_777
  let c1_i32_778 : BitVec 32 := 1#32
  let v1239 : BitVec 32 := Scalar.addi v1238 c1_i32_778
  let v1240 : BitVec 32 := Scalar.subi v1239 v2
  let c32_i32_779 : BitVec 32 := 32#32
  let c0_i32_780 : BitVec 32 := 0#32
  let v1241 : BitVec 1 := Scalar.cmpi .eq c32_i32_779 c0_i32_780
  let c1_i32_781 : BitVec 32 := 1#32
  let v1242 : BitVec 32 := Scalar.select v1241 c1_i32_781 c32_i32_779
  let v1243 : BitVec 32 := Scalar.remsi v1240 v1242
  let c0_i32_783 : BitVec 32 := 0#32
  let v1245 : BitVec 1 := Scalar.cmpi .slt v1243 c0_i32_783
  let c0_i32_784 : BitVec 32 := 0#32
  let v1246 : BitVec 1 := Scalar.cmpi .slt v1242 c0_i32_784
  let v1247 : BitVec 1 := Scalar.xori v1245 v1246
  let c0_i32_782 : BitVec 32 := 0#32
  let v1244 : BitVec 1 := Scalar.cmpi .ne v1243 c0_i32_782
  let v1248 : BitVec 1 := Scalar.andi v1247 v1244
  let v1249 : BitVec 32 := Scalar.addi v1243 v1242
  let v1250 : BitVec 32 := Scalar.select v1248 v1249 v1243
  ![v1250.toNat]
def k0_off80 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_770 : BitVec 32 := 6#32
  let v1227 : BitVec 32 := Scalar.subi v3 c6_i32_770
  let c8_i32_771 : BitVec 32 := 8#32
  let c0_i32_772 : BitVec 32 := 0#32
  let v1228 : BitVec 1 := Scalar.cmpi .eq c8_i32_771 c0_i32_772
  let c1_i32_773 : BitVec 32 := 1#32
  let v1229 : BitVec 32 := Scalar.select v1228 c1_i32_773 c8_i32_771
  let v1230 : BitVec 32 := Scalar.remsi v1227 v1229
  let c0_i32_775 : BitVec 32 := 0#32
  let v1232 : BitVec 1 := Scalar.cmpi .slt v1230 c0_i32_775
  let c0_i32_776 : BitVec 32 := 0#32
  let v1233 : BitVec 1 := Scalar.cmpi .slt v1229 c0_i32_776
  let v1234 : BitVec 1 := Scalar.xori v1232 v1233
  let c0_i32_774 : BitVec 32 := 0#32
  let v1231 : BitVec 1 := Scalar.cmpi .ne v1230 c0_i32_774
  let v1235 : BitVec 1 := Scalar.andi v1234 v1231
  let v1236 : BitVec 32 := Scalar.addi v1230 v1229
  let v1237 : BitVec 32 := Scalar.select v1235 v1236 v1230
  let c4_i32_777 : BitVec 32 := 4#32
  let v1238 : BitVec 32 := Scalar.muli v1237 c4_i32_777
  let c1_i32_778 : BitVec 32 := 1#32
  let v1239 : BitVec 32 := Scalar.addi v1238 c1_i32_778
  let c128_i32_1593 : BitVec 32 := 128#32
  let v2329 : BitVec 32 := Scalar.muli v1239 c128_i32_1593
  let c0_i32_1598 : BitVec 32 := 0#32
  ![v2329.toNat, 0]
def k0_dev57 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_770 : BitVec 32 := 6#32
  let v1227 : BitVec 32 := Scalar.subi v3 c6_i32_770
  let c8_i32_771 : BitVec 32 := 8#32
  let c0_i32_772 : BitVec 32 := 0#32
  let v1228 : BitVec 1 := Scalar.cmpi .eq c8_i32_771 c0_i32_772
  let c1_i32_773 : BitVec 32 := 1#32
  let v1229 : BitVec 32 := Scalar.select v1228 c1_i32_773 c8_i32_771
  let v1230 : BitVec 32 := Scalar.remsi v1227 v1229
  let c0_i32_775 : BitVec 32 := 0#32
  let v1232 : BitVec 1 := Scalar.cmpi .slt v1230 c0_i32_775
  let c0_i32_776 : BitVec 32 := 0#32
  let v1233 : BitVec 1 := Scalar.cmpi .slt v1229 c0_i32_776
  let v1234 : BitVec 1 := Scalar.xori v1232 v1233
  let c0_i32_774 : BitVec 32 := 0#32
  let v1231 : BitVec 1 := Scalar.cmpi .ne v1230 c0_i32_774
  let v1235 : BitVec 1 := Scalar.andi v1234 v1231
  let v1236 : BitVec 32 := Scalar.addi v1230 v1229
  let v1237 : BitVec 32 := Scalar.select v1235 v1236 v1230
  let c4_i32_777 : BitVec 32 := 4#32
  let v1238 : BitVec 32 := Scalar.muli v1237 c4_i32_777
  let c1_i32_778 : BitVec 32 := 1#32
  let v1239 : BitVec 32 := Scalar.addi v1238 c1_i32_778
  let c1_i32_1595 : BitVec 32 := 1#32
  let v2331 : BitVec 32 := Scalar.muli v1239 c1_i32_1595
  let v2332 : BitVec 32 := Scalar.addi c0_i32_1596 v2331
  v2332.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_786 : BitVec 32 := 6#32
  let v1254 : BitVec 32 := Scalar.subi v3 c6_i32_786
  let c8_i32_787 : BitVec 32 := 8#32
  let c0_i32_788 : BitVec 32 := 0#32
  let v1255 : BitVec 1 := Scalar.cmpi .eq c8_i32_787 c0_i32_788
  let c1_i32_789 : BitVec 32 := 1#32
  let v1256 : BitVec 32 := Scalar.select v1255 c1_i32_789 c8_i32_787
  let v1257 : BitVec 32 := Scalar.remsi v1254 v1256
  let c0_i32_791 : BitVec 32 := 0#32
  let v1259 : BitVec 1 := Scalar.cmpi .slt v1257 c0_i32_791
  let c0_i32_792 : BitVec 32 := 0#32
  let v1260 : BitVec 1 := Scalar.cmpi .slt v1256 c0_i32_792
  let v1261 : BitVec 1 := Scalar.xori v1259 v1260
  let c0_i32_790 : BitVec 32 := 0#32
  let v1258 : BitVec 1 := Scalar.cmpi .ne v1257 c0_i32_790
  let v1262 : BitVec 1 := Scalar.andi v1261 v1258
  let v1263 : BitVec 32 := Scalar.addi v1257 v1256
  let v1264 : BitVec 32 := Scalar.select v1262 v1263 v1257
  let c4_i32_793 : BitVec 32 := 4#32
  let v1265 : BitVec 32 := Scalar.muli v1264 c4_i32_793
  let c2_i32_794 : BitVec 32 := 2#32
  let v1266 : BitVec 32 := Scalar.addi v1265 c2_i32_794
  let v1278 : BitVec 1 := Scalar.cmpi .ne v1266 v2
  let v1279 : BitVec 32 := Scalar.extui v1278
  let c0_i32_801 : BitVec 32 := 0#32
  let v1280 : BitVec 1 := Scalar.cmpi .ne v1279 c0_i32_801
  v1280

def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_786 : BitVec 32 := 6#32
  let v1254 : BitVec 32 := Scalar.subi v3 c6_i32_786
  let c8_i32_787 : BitVec 32 := 8#32
  let c0_i32_788 : BitVec 32 := 0#32
  let v1255 : BitVec 1 := Scalar.cmpi .eq c8_i32_787 c0_i32_788
  let c1_i32_789 : BitVec 32 := 1#32
  let v1256 : BitVec 32 := Scalar.select v1255 c1_i32_789 c8_i32_787
  let v1257 : BitVec 32 := Scalar.remsi v1254 v1256
  let c0_i32_791 : BitVec 32 := 0#32
  let v1259 : BitVec 1 := Scalar.cmpi .slt v1257 c0_i32_791
  let c0_i32_792 : BitVec 32 := 0#32
  let v1260 : BitVec 1 := Scalar.cmpi .slt v1256 c0_i32_792
  let v1261 : BitVec 1 := Scalar.xori v1259 v1260
  let c0_i32_790 : BitVec 32 := 0#32
  let v1258 : BitVec 1 := Scalar.cmpi .ne v1257 c0_i32_790
  let v1262 : BitVec 1 := Scalar.andi v1261 v1258
  let v1263 : BitVec 32 := Scalar.addi v1257 v1256
  let v1264 : BitVec 32 := Scalar.select v1262 v1263 v1257
  let c4_i32_793 : BitVec 32 := 4#32
  let v1265 : BitVec 32 := Scalar.muli v1264 c4_i32_793
  let c2_i32_794 : BitVec 32 := 2#32
  let v1266 : BitVec 32 := Scalar.addi v1265 c2_i32_794
  let v1267 : BitVec 32 := Scalar.subi v1266 v2
  let c32_i32_795 : BitVec 32 := 32#32
  let c0_i32_796 : BitVec 32 := 0#32
  let v1268 : BitVec 1 := Scalar.cmpi .eq c32_i32_795 c0_i32_796
  let c1_i32_797 : BitVec 32 := 1#32
  let v1269 : BitVec 32 := Scalar.select v1268 c1_i32_797 c32_i32_795
  let v1270 : BitVec 32 := Scalar.remsi v1267 v1269
  let c0_i32_799 : BitVec 32 := 0#32
  let v1272 : BitVec 1 := Scalar.cmpi .slt v1270 c0_i32_799
  let c0_i32_800 : BitVec 32 := 0#32
  let v1273 : BitVec 1 := Scalar.cmpi .slt v1269 c0_i32_800
  let v1274 : BitVec 1 := Scalar.xori v1272 v1273
  let c0_i32_798 : BitVec 32 := 0#32
  let v1271 : BitVec 1 := Scalar.cmpi .ne v1270 c0_i32_798
  let v1275 : BitVec 1 := Scalar.andi v1274 v1271
  let v1276 : BitVec 32 := Scalar.addi v1270 v1269
  let v1277 : BitVec 32 := Scalar.select v1275 v1276 v1270
  ![v1277.toNat]
def k0_off83 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_786 : BitVec 32 := 6#32
  let v1254 : BitVec 32 := Scalar.subi v3 c6_i32_786
  let c8_i32_787 : BitVec 32 := 8#32
  let c0_i32_788 : BitVec 32 := 0#32
  let v1255 : BitVec 1 := Scalar.cmpi .eq c8_i32_787 c0_i32_788
  let c1_i32_789 : BitVec 32 := 1#32
  let v1256 : BitVec 32 := Scalar.select v1255 c1_i32_789 c8_i32_787
  let v1257 : BitVec 32 := Scalar.remsi v1254 v1256
  let c0_i32_791 : BitVec 32 := 0#32
  let v1259 : BitVec 1 := Scalar.cmpi .slt v1257 c0_i32_791
  let c0_i32_792 : BitVec 32 := 0#32
  let v1260 : BitVec 1 := Scalar.cmpi .slt v1256 c0_i32_792
  let v1261 : BitVec 1 := Scalar.xori v1259 v1260
  let c0_i32_790 : BitVec 32 := 0#32
  let v1258 : BitVec 1 := Scalar.cmpi .ne v1257 c0_i32_790
  let v1262 : BitVec 1 := Scalar.andi v1261 v1258
  let v1263 : BitVec 32 := Scalar.addi v1257 v1256
  let v1264 : BitVec 32 := Scalar.select v1262 v1263 v1257
  let c4_i32_793 : BitVec 32 := 4#32
  let v1265 : BitVec 32 := Scalar.muli v1264 c4_i32_793
  let c2_i32_794 : BitVec 32 := 2#32
  let v1266 : BitVec 32 := Scalar.addi v1265 c2_i32_794
  let c128_i32_1593 : BitVec 32 := 128#32
  let v2329 : BitVec 32 := Scalar.muli v1266 c128_i32_1593
  let c0_i32_1598 : BitVec 32 := 0#32
  ![v2329.toNat, 0]
def k0_dev58 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_786 : BitVec 32 := 6#32
  let v1254 : BitVec 32 := Scalar.subi v3 c6_i32_786
  let c8_i32_787 : BitVec 32 := 8#32
  let c0_i32_788 : BitVec 32 := 0#32
  let v1255 : BitVec 1 := Scalar.cmpi .eq c8_i32_787 c0_i32_788
  let c1_i32_789 : BitVec 32 := 1#32
  let v1256 : BitVec 32 := Scalar.select v1255 c1_i32_789 c8_i32_787
  let v1257 : BitVec 32 := Scalar.remsi v1254 v1256
  let c0_i32_791 : BitVec 32 := 0#32
  let v1259 : BitVec 1 := Scalar.cmpi .slt v1257 c0_i32_791
  let c0_i32_792 : BitVec 32 := 0#32
  let v1260 : BitVec 1 := Scalar.cmpi .slt v1256 c0_i32_792
  let v1261 : BitVec 1 := Scalar.xori v1259 v1260
  let c0_i32_790 : BitVec 32 := 0#32
  let v1258 : BitVec 1 := Scalar.cmpi .ne v1257 c0_i32_790
  let v1262 : BitVec 1 := Scalar.andi v1261 v1258
  let v1263 : BitVec 32 := Scalar.addi v1257 v1256
  let v1264 : BitVec 32 := Scalar.select v1262 v1263 v1257
  let c4_i32_793 : BitVec 32 := 4#32
  let v1265 : BitVec 32 := Scalar.muli v1264 c4_i32_793
  let c2_i32_794 : BitVec 32 := 2#32
  let v1266 : BitVec 32 := Scalar.addi v1265 c2_i32_794
  let c1_i32_1595 : BitVec 32 := 1#32
  let v2331 : BitVec 32 := Scalar.muli v1266 c1_i32_1595
  let v2332 : BitVec 32 := Scalar.addi c0_i32_1596 v2331
  v2332.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_802 : BitVec 32 := 6#32
  let v1281 : BitVec 32 := Scalar.subi v3 c6_i32_802
  let c8_i32_803 : BitVec 32 := 8#32
  let c0_i32_804 : BitVec 32 := 0#32
  let v1282 : BitVec 1 := Scalar.cmpi .eq c8_i32_803 c0_i32_804
  let c1_i32_805 : BitVec 32 := 1#32
  let v1283 : BitVec 32 := Scalar.select v1282 c1_i32_805 c8_i32_803
  let v1284 : BitVec 32 := Scalar.remsi v1281 v1283
  let c0_i32_807 : BitVec 32 := 0#32
  let v1286 : BitVec 1 := Scalar.cmpi .slt v1284 c0_i32_807
  let c0_i32_808 : BitVec 32 := 0#32
  let v1287 : BitVec 1 := Scalar.cmpi .slt v1283 c0_i32_808
  let v1288 : BitVec 1 := Scalar.xori v1286 v1287
  let c0_i32_806 : BitVec 32 := 0#32
  let v1285 : BitVec 1 := Scalar.cmpi .ne v1284 c0_i32_806
  let v1289 : BitVec 1 := Scalar.andi v1288 v1285
  let v1290 : BitVec 32 := Scalar.addi v1284 v1283
  let v1291 : BitVec 32 := Scalar.select v1289 v1290 v1284
  let c4_i32_809 : BitVec 32 := 4#32
  let v1292 : BitVec 32 := Scalar.muli v1291 c4_i32_809
  let c3_i32_810 : BitVec 32 := 3#32
  let v1293 : BitVec 32 := Scalar.addi v1292 c3_i32_810
  let v1305 : BitVec 1 := Scalar.cmpi .ne v1293 v2
  let v1306 : BitVec 32 := Scalar.extui v1305
  let c0_i32_817 : BitVec 32 := 0#32
  let v1307 : BitVec 1 := Scalar.cmpi .ne v1306 c0_i32_817
  v1307

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_802 : BitVec 32 := 6#32
  let v1281 : BitVec 32 := Scalar.subi v3 c6_i32_802
  let c8_i32_803 : BitVec 32 := 8#32
  let c0_i32_804 : BitVec 32 := 0#32
  let v1282 : BitVec 1 := Scalar.cmpi .eq c8_i32_803 c0_i32_804
  let c1_i32_805 : BitVec 32 := 1#32
  let v1283 : BitVec 32 := Scalar.select v1282 c1_i32_805 c8_i32_803
  let v1284 : BitVec 32 := Scalar.remsi v1281 v1283
  let c0_i32_807 : BitVec 32 := 0#32
  let v1286 : BitVec 1 := Scalar.cmpi .slt v1284 c0_i32_807
  let c0_i32_808 : BitVec 32 := 0#32
  let v1287 : BitVec 1 := Scalar.cmpi .slt v1283 c0_i32_808
  let v1288 : BitVec 1 := Scalar.xori v1286 v1287
  let c0_i32_806 : BitVec 32 := 0#32
  let v1285 : BitVec 1 := Scalar.cmpi .ne v1284 c0_i32_806
  let v1289 : BitVec 1 := Scalar.andi v1288 v1285
  let v1290 : BitVec 32 := Scalar.addi v1284 v1283
  let v1291 : BitVec 32 := Scalar.select v1289 v1290 v1284
  let c4_i32_809 : BitVec 32 := 4#32
  let v1292 : BitVec 32 := Scalar.muli v1291 c4_i32_809
  let c3_i32_810 : BitVec 32 := 3#32
  let v1293 : BitVec 32 := Scalar.addi v1292 c3_i32_810
  let v1294 : BitVec 32 := Scalar.subi v1293 v2
  let c32_i32_811 : BitVec 32 := 32#32
  let c0_i32_812 : BitVec 32 := 0#32
  let v1295 : BitVec 1 := Scalar.cmpi .eq c32_i32_811 c0_i32_812
  let c1_i32_813 : BitVec 32 := 1#32
  let v1296 : BitVec 32 := Scalar.select v1295 c1_i32_813 c32_i32_811
  let v1297 : BitVec 32 := Scalar.remsi v1294 v1296
  let c0_i32_815 : BitVec 32 := 0#32
  let v1299 : BitVec 1 := Scalar.cmpi .slt v1297 c0_i32_815
  let c0_i32_816 : BitVec 32 := 0#32
  let v1300 : BitVec 1 := Scalar.cmpi .slt v1296 c0_i32_816
  let v1301 : BitVec 1 := Scalar.xori v1299 v1300
  let c0_i32_814 : BitVec 32 := 0#32
  let v1298 : BitVec 1 := Scalar.cmpi .ne v1297 c0_i32_814
  let v1302 : BitVec 1 := Scalar.andi v1301 v1298
  let v1303 : BitVec 32 := Scalar.addi v1297 v1296
  let v1304 : BitVec 32 := Scalar.select v1302 v1303 v1297
  ![v1304.toNat]
def k0_off86 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_802 : BitVec 32 := 6#32
  let v1281 : BitVec 32 := Scalar.subi v3 c6_i32_802
  let c8_i32_803 : BitVec 32 := 8#32
  let c0_i32_804 : BitVec 32 := 0#32
  let v1282 : BitVec 1 := Scalar.cmpi .eq c8_i32_803 c0_i32_804
  let c1_i32_805 : BitVec 32 := 1#32
  let v1283 : BitVec 32 := Scalar.select v1282 c1_i32_805 c8_i32_803
  let v1284 : BitVec 32 := Scalar.remsi v1281 v1283
  let c0_i32_807 : BitVec 32 := 0#32
  let v1286 : BitVec 1 := Scalar.cmpi .slt v1284 c0_i32_807
  let c0_i32_808 : BitVec 32 := 0#32
  let v1287 : BitVec 1 := Scalar.cmpi .slt v1283 c0_i32_808
  let v1288 : BitVec 1 := Scalar.xori v1286 v1287
  let c0_i32_806 : BitVec 32 := 0#32
  let v1285 : BitVec 1 := Scalar.cmpi .ne v1284 c0_i32_806
  let v1289 : BitVec 1 := Scalar.andi v1288 v1285
  let v1290 : BitVec 32 := Scalar.addi v1284 v1283
  let v1291 : BitVec 32 := Scalar.select v1289 v1290 v1284
  let c4_i32_809 : BitVec 32 := 4#32
  let v1292 : BitVec 32 := Scalar.muli v1291 c4_i32_809
  let c3_i32_810 : BitVec 32 := 3#32
  let v1293 : BitVec 32 := Scalar.addi v1292 c3_i32_810
  let c128_i32_1593 : BitVec 32 := 128#32
  let v2329 : BitVec 32 := Scalar.muli v1293 c128_i32_1593
  let c0_i32_1598 : BitVec 32 := 0#32
  ![v2329.toNat, 0]
def k0_dev59 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_802 : BitVec 32 := 6#32
  let v1281 : BitVec 32 := Scalar.subi v3 c6_i32_802
  let c8_i32_803 : BitVec 32 := 8#32
  let c0_i32_804 : BitVec 32 := 0#32
  let v1282 : BitVec 1 := Scalar.cmpi .eq c8_i32_803 c0_i32_804
  let c1_i32_805 : BitVec 32 := 1#32
  let v1283 : BitVec 32 := Scalar.select v1282 c1_i32_805 c8_i32_803
  let v1284 : BitVec 32 := Scalar.remsi v1281 v1283
  let c0_i32_807 : BitVec 32 := 0#32
  let v1286 : BitVec 1 := Scalar.cmpi .slt v1284 c0_i32_807
  let c0_i32_808 : BitVec 32 := 0#32
  let v1287 : BitVec 1 := Scalar.cmpi .slt v1283 c0_i32_808
  let v1288 : BitVec 1 := Scalar.xori v1286 v1287
  let c0_i32_806 : BitVec 32 := 0#32
  let v1285 : BitVec 1 := Scalar.cmpi .ne v1284 c0_i32_806
  let v1289 : BitVec 1 := Scalar.andi v1288 v1285
  let v1290 : BitVec 32 := Scalar.addi v1284 v1283
  let v1291 : BitVec 32 := Scalar.select v1289 v1290 v1284
  let c4_i32_809 : BitVec 32 := 4#32
  let v1292 : BitVec 32 := Scalar.muli v1291 c4_i32_809
  let c3_i32_810 : BitVec 32 := 3#32
  let v1293 : BitVec 32 := Scalar.addi v1292 c3_i32_810
  let c1_i32_1595 : BitVec 32 := 1#32
  let v2331 : BitVec 32 := Scalar.muli v1293 c1_i32_1595
  let v2332 : BitVec 32 := Scalar.addi c0_i32_1596 v2331
  v2332.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_818 : BitVec 32 := 7#32
  let v1308 : BitVec 32 := Scalar.subi v3 c7_i32_818
  let c8_i32_819 : BitVec 32 := 8#32
  let c0_i32_820 : BitVec 32 := 0#32
  let v1309 : BitVec 1 := Scalar.cmpi .eq c8_i32_819 c0_i32_820
  let c1_i32_821 : BitVec 32 := 1#32
  let v1310 : BitVec 32 := Scalar.select v1309 c1_i32_821 c8_i32_819
  let v1311 : BitVec 32 := Scalar.remsi v1308 v1310
  let c0_i32_823 : BitVec 32 := 0#32
  let v1313 : BitVec 1 := Scalar.cmpi .slt v1311 c0_i32_823
  let c0_i32_824 : BitVec 32 := 0#32
  let v1314 : BitVec 1 := Scalar.cmpi .slt v1310 c0_i32_824
  let v1315 : BitVec 1 := Scalar.xori v1313 v1314
  let c0_i32_822 : BitVec 32 := 0#32
  let v1312 : BitVec 1 := Scalar.cmpi .ne v1311 c0_i32_822
  let v1316 : BitVec 1 := Scalar.andi v1315 v1312
  let v1317 : BitVec 32 := Scalar.addi v1311 v1310
  let v1318 : BitVec 32 := Scalar.select v1316 v1317 v1311
  let c4_i32_825 : BitVec 32 := 4#32
  let v1319 : BitVec 32 := Scalar.muli v1318 c4_i32_825
  let c0_i32_826 : BitVec 32 := 0#32
  let v1320 : BitVec 32 := Scalar.addi v1319 c0_i32_826
  let v1332 : BitVec 1 := Scalar.cmpi .ne v1320 v2
  let v1333 : BitVec 32 := Scalar.extui v1332
  let c0_i32_833 : BitVec 32 := 0#32
  let v1334 : BitVec 1 := Scalar.cmpi .ne v1333 c0_i32_833
  v1334

def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_818 : BitVec 32 := 7#32
  let v1308 : BitVec 32 := Scalar.subi v3 c7_i32_818
  let c8_i32_819 : BitVec 32 := 8#32
  let c0_i32_820 : BitVec 32 := 0#32
  let v1309 : BitVec 1 := Scalar.cmpi .eq c8_i32_819 c0_i32_820
  let c1_i32_821 : BitVec 32 := 1#32
  let v1310 : BitVec 32 := Scalar.select v1309 c1_i32_821 c8_i32_819
  let v1311 : BitVec 32 := Scalar.remsi v1308 v1310
  let c0_i32_823 : BitVec 32 := 0#32
  let v1313 : BitVec 1 := Scalar.cmpi .slt v1311 c0_i32_823
  let c0_i32_824 : BitVec 32 := 0#32
  let v1314 : BitVec 1 := Scalar.cmpi .slt v1310 c0_i32_824
  let v1315 : BitVec 1 := Scalar.xori v1313 v1314
  let c0_i32_822 : BitVec 32 := 0#32
  let v1312 : BitVec 1 := Scalar.cmpi .ne v1311 c0_i32_822
  let v1316 : BitVec 1 := Scalar.andi v1315 v1312
  let v1317 : BitVec 32 := Scalar.addi v1311 v1310
  let v1318 : BitVec 32 := Scalar.select v1316 v1317 v1311
  let c4_i32_825 : BitVec 32 := 4#32
  let v1319 : BitVec 32 := Scalar.muli v1318 c4_i32_825
  let c0_i32_826 : BitVec 32 := 0#32
  let v1320 : BitVec 32 := Scalar.addi v1319 c0_i32_826
  let v1321 : BitVec 32 := Scalar.subi v1320 v2
  let c32_i32_827 : BitVec 32 := 32#32
  let c0_i32_828 : BitVec 32 := 0#32
  let v1322 : BitVec 1 := Scalar.cmpi .eq c32_i32_827 c0_i32_828
  let c1_i32_829 : BitVec 32 := 1#32
  let v1323 : BitVec 32 := Scalar.select v1322 c1_i32_829 c32_i32_827
  let v1324 : BitVec 32 := Scalar.remsi v1321 v1323
  let c0_i32_831 : BitVec 32 := 0#32
  let v1326 : BitVec 1 := Scalar.cmpi .slt v1324 c0_i32_831
  let c0_i32_832 : BitVec 32 := 0#32
  let v1327 : BitVec 1 := Scalar.cmpi .slt v1323 c0_i32_832
  let v1328 : BitVec 1 := Scalar.xori v1326 v1327
  let c0_i32_830 : BitVec 32 := 0#32
  let v1325 : BitVec 1 := Scalar.cmpi .ne v1324 c0_i32_830
  let v1329 : BitVec 1 := Scalar.andi v1328 v1325
  let v1330 : BitVec 32 := Scalar.addi v1324 v1323
  let v1331 : BitVec 32 := Scalar.select v1329 v1330 v1324
  ![v1331.toNat]
def k0_off89 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_818 : BitVec 32 := 7#32
  let v1308 : BitVec 32 := Scalar.subi v3 c7_i32_818
  let c8_i32_819 : BitVec 32 := 8#32
  let c0_i32_820 : BitVec 32 := 0#32
  let v1309 : BitVec 1 := Scalar.cmpi .eq c8_i32_819 c0_i32_820
  let c1_i32_821 : BitVec 32 := 1#32
  let v1310 : BitVec 32 := Scalar.select v1309 c1_i32_821 c8_i32_819
  let v1311 : BitVec 32 := Scalar.remsi v1308 v1310
  let c0_i32_823 : BitVec 32 := 0#32
  let v1313 : BitVec 1 := Scalar.cmpi .slt v1311 c0_i32_823
  let c0_i32_824 : BitVec 32 := 0#32
  let v1314 : BitVec 1 := Scalar.cmpi .slt v1310 c0_i32_824
  let v1315 : BitVec 1 := Scalar.xori v1313 v1314
  let c0_i32_822 : BitVec 32 := 0#32
  let v1312 : BitVec 1 := Scalar.cmpi .ne v1311 c0_i32_822
  let v1316 : BitVec 1 := Scalar.andi v1315 v1312
  let v1317 : BitVec 32 := Scalar.addi v1311 v1310
  let v1318 : BitVec 32 := Scalar.select v1316 v1317 v1311
  let c4_i32_825 : BitVec 32 := 4#32
  let v1319 : BitVec 32 := Scalar.muli v1318 c4_i32_825
  let c0_i32_826 : BitVec 32 := 0#32
  let v1320 : BitVec 32 := Scalar.addi v1319 c0_i32_826
  let c128_i32_1593 : BitVec 32 := 128#32
  let v2329 : BitVec 32 := Scalar.muli v1320 c128_i32_1593
  let c0_i32_1598 : BitVec 32 := 0#32
  ![v2329.toNat, 0]
def k0_dev60 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_818 : BitVec 32 := 7#32
  let v1308 : BitVec 32 := Scalar.subi v3 c7_i32_818
  let c8_i32_819 : BitVec 32 := 8#32
  let c0_i32_820 : BitVec 32 := 0#32
  let v1309 : BitVec 1 := Scalar.cmpi .eq c8_i32_819 c0_i32_820
  let c1_i32_821 : BitVec 32 := 1#32
  let v1310 : BitVec 32 := Scalar.select v1309 c1_i32_821 c8_i32_819
  let v1311 : BitVec 32 := Scalar.remsi v1308 v1310
  let c0_i32_823 : BitVec 32 := 0#32
  let v1313 : BitVec 1 := Scalar.cmpi .slt v1311 c0_i32_823
  let c0_i32_824 : BitVec 32 := 0#32
  let v1314 : BitVec 1 := Scalar.cmpi .slt v1310 c0_i32_824
  let v1315 : BitVec 1 := Scalar.xori v1313 v1314
  let c0_i32_822 : BitVec 32 := 0#32
  let v1312 : BitVec 1 := Scalar.cmpi .ne v1311 c0_i32_822
  let v1316 : BitVec 1 := Scalar.andi v1315 v1312
  let v1317 : BitVec 32 := Scalar.addi v1311 v1310
  let v1318 : BitVec 32 := Scalar.select v1316 v1317 v1311
  let c4_i32_825 : BitVec 32 := 4#32
  let v1319 : BitVec 32 := Scalar.muli v1318 c4_i32_825
  let c0_i32_826 : BitVec 32 := 0#32
  let v1320 : BitVec 32 := Scalar.addi v1319 c0_i32_826
  let c1_i32_1595 : BitVec 32 := 1#32
  let v2331 : BitVec 32 := Scalar.muli v1320 c1_i32_1595
  let v2332 : BitVec 32 := Scalar.addi c0_i32_1596 v2331
  v2332.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_834 : BitVec 32 := 7#32
  let v1335 : BitVec 32 := Scalar.subi v3 c7_i32_834
  let c8_i32_835 : BitVec 32 := 8#32
  let c0_i32_836 : BitVec 32 := 0#32
  let v1336 : BitVec 1 := Scalar.cmpi .eq c8_i32_835 c0_i32_836
  let c1_i32_837 : BitVec 32 := 1#32
  let v1337 : BitVec 32 := Scalar.select v1336 c1_i32_837 c8_i32_835
  let v1338 : BitVec 32 := Scalar.remsi v1335 v1337
  let c0_i32_839 : BitVec 32 := 0#32
  let v1340 : BitVec 1 := Scalar.cmpi .slt v1338 c0_i32_839
  let c0_i32_840 : BitVec 32 := 0#32
  let v1341 : BitVec 1 := Scalar.cmpi .slt v1337 c0_i32_840
  let v1342 : BitVec 1 := Scalar.xori v1340 v1341
  let c0_i32_838 : BitVec 32 := 0#32
  let v1339 : BitVec 1 := Scalar.cmpi .ne v1338 c0_i32_838
  let v1343 : BitVec 1 := Scalar.andi v1342 v1339
  let v1344 : BitVec 32 := Scalar.addi v1338 v1337
  let v1345 : BitVec 32 := Scalar.select v1343 v1344 v1338
  let c4_i32_841 : BitVec 32 := 4#32
  let v1346 : BitVec 32 := Scalar.muli v1345 c4_i32_841
  let c1_i32_842 : BitVec 32 := 1#32
  let v1347 : BitVec 32 := Scalar.addi v1346 c1_i32_842
  let v1359 : BitVec 1 := Scalar.cmpi .ne v1347 v2
  let v1360 : BitVec 32 := Scalar.extui v1359
  let c0_i32_849 : BitVec 32 := 0#32
  let v1361 : BitVec 1 := Scalar.cmpi .ne v1360 c0_i32_849
  v1361

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_834 : BitVec 32 := 7#32
  let v1335 : BitVec 32 := Scalar.subi v3 c7_i32_834
  let c8_i32_835 : BitVec 32 := 8#32
  let c0_i32_836 : BitVec 32 := 0#32
  let v1336 : BitVec 1 := Scalar.cmpi .eq c8_i32_835 c0_i32_836
  let c1_i32_837 : BitVec 32 := 1#32
  let v1337 : BitVec 32 := Scalar.select v1336 c1_i32_837 c8_i32_835
  let v1338 : BitVec 32 := Scalar.remsi v1335 v1337
  let c0_i32_839 : BitVec 32 := 0#32
  let v1340 : BitVec 1 := Scalar.cmpi .slt v1338 c0_i32_839
  let c0_i32_840 : BitVec 32 := 0#32
  let v1341 : BitVec 1 := Scalar.cmpi .slt v1337 c0_i32_840
  let v1342 : BitVec 1 := Scalar.xori v1340 v1341
  let c0_i32_838 : BitVec 32 := 0#32
  let v1339 : BitVec 1 := Scalar.cmpi .ne v1338 c0_i32_838
  let v1343 : BitVec 1 := Scalar.andi v1342 v1339
  let v1344 : BitVec 32 := Scalar.addi v1338 v1337
  let v1345 : BitVec 32 := Scalar.select v1343 v1344 v1338
  let c4_i32_841 : BitVec 32 := 4#32
  let v1346 : BitVec 32 := Scalar.muli v1345 c4_i32_841
  let c1_i32_842 : BitVec 32 := 1#32
  let v1347 : BitVec 32 := Scalar.addi v1346 c1_i32_842
  let v1348 : BitVec 32 := Scalar.subi v1347 v2
  let c32_i32_843 : BitVec 32 := 32#32
  let c0_i32_844 : BitVec 32 := 0#32
  let v1349 : BitVec 1 := Scalar.cmpi .eq c32_i32_843 c0_i32_844
  let c1_i32_845 : BitVec 32 := 1#32
  let v1350 : BitVec 32 := Scalar.select v1349 c1_i32_845 c32_i32_843
  let v1351 : BitVec 32 := Scalar.remsi v1348 v1350
  let c0_i32_847 : BitVec 32 := 0#32
  let v1353 : BitVec 1 := Scalar.cmpi .slt v1351 c0_i32_847
  let c0_i32_848 : BitVec 32 := 0#32
  let v1354 : BitVec 1 := Scalar.cmpi .slt v1350 c0_i32_848
  let v1355 : BitVec 1 := Scalar.xori v1353 v1354
  let c0_i32_846 : BitVec 32 := 0#32
  let v1352 : BitVec 1 := Scalar.cmpi .ne v1351 c0_i32_846
  let v1356 : BitVec 1 := Scalar.andi v1355 v1352
  let v1357 : BitVec 32 := Scalar.addi v1351 v1350
  let v1358 : BitVec 32 := Scalar.select v1356 v1357 v1351
  ![v1358.toNat]
def k0_off92 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_834 : BitVec 32 := 7#32
  let v1335 : BitVec 32 := Scalar.subi v3 c7_i32_834
  let c8_i32_835 : BitVec 32 := 8#32
  let c0_i32_836 : BitVec 32 := 0#32
  let v1336 : BitVec 1 := Scalar.cmpi .eq c8_i32_835 c0_i32_836
  let c1_i32_837 : BitVec 32 := 1#32
  let v1337 : BitVec 32 := Scalar.select v1336 c1_i32_837 c8_i32_835
  let v1338 : BitVec 32 := Scalar.remsi v1335 v1337
  let c0_i32_839 : BitVec 32 := 0#32
  let v1340 : BitVec 1 := Scalar.cmpi .slt v1338 c0_i32_839
  let c0_i32_840 : BitVec 32 := 0#32
  let v1341 : BitVec 1 := Scalar.cmpi .slt v1337 c0_i32_840
  let v1342 : BitVec 1 := Scalar.xori v1340 v1341
  let c0_i32_838 : BitVec 32 := 0#32
  let v1339 : BitVec 1 := Scalar.cmpi .ne v1338 c0_i32_838
  let v1343 : BitVec 1 := Scalar.andi v1342 v1339
  let v1344 : BitVec 32 := Scalar.addi v1338 v1337
  let v1345 : BitVec 32 := Scalar.select v1343 v1344 v1338
  let c4_i32_841 : BitVec 32 := 4#32
  let v1346 : BitVec 32 := Scalar.muli v1345 c4_i32_841
  let c1_i32_842 : BitVec 32 := 1#32
  let v1347 : BitVec 32 := Scalar.addi v1346 c1_i32_842
  let c128_i32_1593 : BitVec 32 := 128#32
  let v2329 : BitVec 32 := Scalar.muli v1347 c128_i32_1593
  let c0_i32_1598 : BitVec 32 := 0#32
  ![v2329.toNat, 0]
def k0_dev61 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_834 : BitVec 32 := 7#32
  let v1335 : BitVec 32 := Scalar.subi v3 c7_i32_834
  let c8_i32_835 : BitVec 32 := 8#32
  let c0_i32_836 : BitVec 32 := 0#32
  let v1336 : BitVec 1 := Scalar.cmpi .eq c8_i32_835 c0_i32_836
  let c1_i32_837 : BitVec 32 := 1#32
  let v1337 : BitVec 32 := Scalar.select v1336 c1_i32_837 c8_i32_835
  let v1338 : BitVec 32 := Scalar.remsi v1335 v1337
  let c0_i32_839 : BitVec 32 := 0#32
  let v1340 : BitVec 1 := Scalar.cmpi .slt v1338 c0_i32_839
  let c0_i32_840 : BitVec 32 := 0#32
  let v1341 : BitVec 1 := Scalar.cmpi .slt v1337 c0_i32_840
  let v1342 : BitVec 1 := Scalar.xori v1340 v1341
  let c0_i32_838 : BitVec 32 := 0#32
  let v1339 : BitVec 1 := Scalar.cmpi .ne v1338 c0_i32_838
  let v1343 : BitVec 1 := Scalar.andi v1342 v1339
  let v1344 : BitVec 32 := Scalar.addi v1338 v1337
  let v1345 : BitVec 32 := Scalar.select v1343 v1344 v1338
  let c4_i32_841 : BitVec 32 := 4#32
  let v1346 : BitVec 32 := Scalar.muli v1345 c4_i32_841
  let c1_i32_842 : BitVec 32 := 1#32
  let v1347 : BitVec 32 := Scalar.addi v1346 c1_i32_842
  let c1_i32_1595 : BitVec 32 := 1#32
  let v2331 : BitVec 32 := Scalar.muli v1347 c1_i32_1595
  let v2332 : BitVec 32 := Scalar.addi c0_i32_1596 v2331
  v2332.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_850 : BitVec 32 := 7#32
  let v1362 : BitVec 32 := Scalar.subi v3 c7_i32_850
  let c8_i32_851 : BitVec 32 := 8#32
  let c0_i32_852 : BitVec 32 := 0#32
  let v1363 : BitVec 1 := Scalar.cmpi .eq c8_i32_851 c0_i32_852
  let c1_i32_853 : BitVec 32 := 1#32
  let v1364 : BitVec 32 := Scalar.select v1363 c1_i32_853 c8_i32_851
  let v1365 : BitVec 32 := Scalar.remsi v1362 v1364
  let c0_i32_855 : BitVec 32 := 0#32
  let v1367 : BitVec 1 := Scalar.cmpi .slt v1365 c0_i32_855
  let c0_i32_856 : BitVec 32 := 0#32
  let v1368 : BitVec 1 := Scalar.cmpi .slt v1364 c0_i32_856
  let v1369 : BitVec 1 := Scalar.xori v1367 v1368
  let c0_i32_854 : BitVec 32 := 0#32
  let v1366 : BitVec 1 := Scalar.cmpi .ne v1365 c0_i32_854
  let v1370 : BitVec 1 := Scalar.andi v1369 v1366
  let v1371 : BitVec 32 := Scalar.addi v1365 v1364
  let v1372 : BitVec 32 := Scalar.select v1370 v1371 v1365
  let c4_i32_857 : BitVec 32 := 4#32
  let v1373 : BitVec 32 := Scalar.muli v1372 c4_i32_857
  let c2_i32_858 : BitVec 32 := 2#32
  let v1374 : BitVec 32 := Scalar.addi v1373 c2_i32_858
  let v1386 : BitVec 1 := Scalar.cmpi .ne v1374 v2
  let v1387 : BitVec 32 := Scalar.extui v1386
  let c0_i32_865 : BitVec 32 := 0#32
  let v1388 : BitVec 1 := Scalar.cmpi .ne v1387 c0_i32_865
  v1388

def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_850 : BitVec 32 := 7#32
  let v1362 : BitVec 32 := Scalar.subi v3 c7_i32_850
  let c8_i32_851 : BitVec 32 := 8#32
  let c0_i32_852 : BitVec 32 := 0#32
  let v1363 : BitVec 1 := Scalar.cmpi .eq c8_i32_851 c0_i32_852
  let c1_i32_853 : BitVec 32 := 1#32
  let v1364 : BitVec 32 := Scalar.select v1363 c1_i32_853 c8_i32_851
  let v1365 : BitVec 32 := Scalar.remsi v1362 v1364
  let c0_i32_855 : BitVec 32 := 0#32
  let v1367 : BitVec 1 := Scalar.cmpi .slt v1365 c0_i32_855
  let c0_i32_856 : BitVec 32 := 0#32
  let v1368 : BitVec 1 := Scalar.cmpi .slt v1364 c0_i32_856
  let v1369 : BitVec 1 := Scalar.xori v1367 v1368
  let c0_i32_854 : BitVec 32 := 0#32
  let v1366 : BitVec 1 := Scalar.cmpi .ne v1365 c0_i32_854
  let v1370 : BitVec 1 := Scalar.andi v1369 v1366
  let v1371 : BitVec 32 := Scalar.addi v1365 v1364
  let v1372 : BitVec 32 := Scalar.select v1370 v1371 v1365
  let c4_i32_857 : BitVec 32 := 4#32
  let v1373 : BitVec 32 := Scalar.muli v1372 c4_i32_857
  let c2_i32_858 : BitVec 32 := 2#32
  let v1374 : BitVec 32 := Scalar.addi v1373 c2_i32_858
  let v1375 : BitVec 32 := Scalar.subi v1374 v2
  let c32_i32_859 : BitVec 32 := 32#32
  let c0_i32_860 : BitVec 32 := 0#32
  let v1376 : BitVec 1 := Scalar.cmpi .eq c32_i32_859 c0_i32_860
  let c1_i32_861 : BitVec 32 := 1#32
  let v1377 : BitVec 32 := Scalar.select v1376 c1_i32_861 c32_i32_859
  let v1378 : BitVec 32 := Scalar.remsi v1375 v1377
  let c0_i32_863 : BitVec 32 := 0#32
  let v1380 : BitVec 1 := Scalar.cmpi .slt v1378 c0_i32_863
  let c0_i32_864 : BitVec 32 := 0#32
  let v1381 : BitVec 1 := Scalar.cmpi .slt v1377 c0_i32_864
  let v1382 : BitVec 1 := Scalar.xori v1380 v1381
  let c0_i32_862 : BitVec 32 := 0#32
  let v1379 : BitVec 1 := Scalar.cmpi .ne v1378 c0_i32_862
  let v1383 : BitVec 1 := Scalar.andi v1382 v1379
  let v1384 : BitVec 32 := Scalar.addi v1378 v1377
  let v1385 : BitVec 32 := Scalar.select v1383 v1384 v1378
  ![v1385.toNat]
def k0_off95 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_850 : BitVec 32 := 7#32
  let v1362 : BitVec 32 := Scalar.subi v3 c7_i32_850
  let c8_i32_851 : BitVec 32 := 8#32
  let c0_i32_852 : BitVec 32 := 0#32
  let v1363 : BitVec 1 := Scalar.cmpi .eq c8_i32_851 c0_i32_852
  let c1_i32_853 : BitVec 32 := 1#32
  let v1364 : BitVec 32 := Scalar.select v1363 c1_i32_853 c8_i32_851
  let v1365 : BitVec 32 := Scalar.remsi v1362 v1364
  let c0_i32_855 : BitVec 32 := 0#32
  let v1367 : BitVec 1 := Scalar.cmpi .slt v1365 c0_i32_855
  let c0_i32_856 : BitVec 32 := 0#32
  let v1368 : BitVec 1 := Scalar.cmpi .slt v1364 c0_i32_856
  let v1369 : BitVec 1 := Scalar.xori v1367 v1368
  let c0_i32_854 : BitVec 32 := 0#32
  let v1366 : BitVec 1 := Scalar.cmpi .ne v1365 c0_i32_854
  let v1370 : BitVec 1 := Scalar.andi v1369 v1366
  let v1371 : BitVec 32 := Scalar.addi v1365 v1364
  let v1372 : BitVec 32 := Scalar.select v1370 v1371 v1365
  let c4_i32_857 : BitVec 32 := 4#32
  let v1373 : BitVec 32 := Scalar.muli v1372 c4_i32_857
  let c2_i32_858 : BitVec 32 := 2#32
  let v1374 : BitVec 32 := Scalar.addi v1373 c2_i32_858
  let c128_i32_1593 : BitVec 32 := 128#32
  let v2329 : BitVec 32 := Scalar.muli v1374 c128_i32_1593
  let c0_i32_1598 : BitVec 32 := 0#32
  ![v2329.toNat, 0]
def k0_dev62 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_850 : BitVec 32 := 7#32
  let v1362 : BitVec 32 := Scalar.subi v3 c7_i32_850
  let c8_i32_851 : BitVec 32 := 8#32
  let c0_i32_852 : BitVec 32 := 0#32
  let v1363 : BitVec 1 := Scalar.cmpi .eq c8_i32_851 c0_i32_852
  let c1_i32_853 : BitVec 32 := 1#32
  let v1364 : BitVec 32 := Scalar.select v1363 c1_i32_853 c8_i32_851
  let v1365 : BitVec 32 := Scalar.remsi v1362 v1364
  let c0_i32_855 : BitVec 32 := 0#32
  let v1367 : BitVec 1 := Scalar.cmpi .slt v1365 c0_i32_855
  let c0_i32_856 : BitVec 32 := 0#32
  let v1368 : BitVec 1 := Scalar.cmpi .slt v1364 c0_i32_856
  let v1369 : BitVec 1 := Scalar.xori v1367 v1368
  let c0_i32_854 : BitVec 32 := 0#32
  let v1366 : BitVec 1 := Scalar.cmpi .ne v1365 c0_i32_854
  let v1370 : BitVec 1 := Scalar.andi v1369 v1366
  let v1371 : BitVec 32 := Scalar.addi v1365 v1364
  let v1372 : BitVec 32 := Scalar.select v1370 v1371 v1365
  let c4_i32_857 : BitVec 32 := 4#32
  let v1373 : BitVec 32 := Scalar.muli v1372 c4_i32_857
  let c2_i32_858 : BitVec 32 := 2#32
  let v1374 : BitVec 32 := Scalar.addi v1373 c2_i32_858
  let c1_i32_1595 : BitVec 32 := 1#32
  let v2331 : BitVec 32 := Scalar.muli v1374 c1_i32_1595
  let v2332 : BitVec 32 := Scalar.addi c0_i32_1596 v2331
  v2332.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_866 : BitVec 32 := 7#32
  let v1389 : BitVec 32 := Scalar.subi v3 c7_i32_866
  let c8_i32_867 : BitVec 32 := 8#32
  let c0_i32_868 : BitVec 32 := 0#32
  let v1390 : BitVec 1 := Scalar.cmpi .eq c8_i32_867 c0_i32_868
  let c1_i32_869 : BitVec 32 := 1#32
  let v1391 : BitVec 32 := Scalar.select v1390 c1_i32_869 c8_i32_867
  let v1392 : BitVec 32 := Scalar.remsi v1389 v1391
  let c0_i32_871 : BitVec 32 := 0#32
  let v1394 : BitVec 1 := Scalar.cmpi .slt v1392 c0_i32_871
  let c0_i32_872 : BitVec 32 := 0#32
  let v1395 : BitVec 1 := Scalar.cmpi .slt v1391 c0_i32_872
  let v1396 : BitVec 1 := Scalar.xori v1394 v1395
  let c0_i32_870 : BitVec 32 := 0#32
  let v1393 : BitVec 1 := Scalar.cmpi .ne v1392 c0_i32_870
  let v1397 : BitVec 1 := Scalar.andi v1396 v1393
  let v1398 : BitVec 32 := Scalar.addi v1392 v1391
  let v1399 : BitVec 32 := Scalar.select v1397 v1398 v1392
  let c4_i32_873 : BitVec 32 := 4#32
  let v1400 : BitVec 32 := Scalar.muli v1399 c4_i32_873
  let c3_i32_874 : BitVec 32 := 3#32
  let v1401 : BitVec 32 := Scalar.addi v1400 c3_i32_874
  let v1413 : BitVec 1 := Scalar.cmpi .ne v1401 v2
  let v1414 : BitVec 32 := Scalar.extui v1413
  let c0_i32_881 : BitVec 32 := 0#32
  let v1415 : BitVec 1 := Scalar.cmpi .ne v1414 c0_i32_881
  v1415

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_866 : BitVec 32 := 7#32
  let v1389 : BitVec 32 := Scalar.subi v3 c7_i32_866
  let c8_i32_867 : BitVec 32 := 8#32
  let c0_i32_868 : BitVec 32 := 0#32
  let v1390 : BitVec 1 := Scalar.cmpi .eq c8_i32_867 c0_i32_868
  let c1_i32_869 : BitVec 32 := 1#32
  let v1391 : BitVec 32 := Scalar.select v1390 c1_i32_869 c8_i32_867
  let v1392 : BitVec 32 := Scalar.remsi v1389 v1391
  let c0_i32_871 : BitVec 32 := 0#32
  let v1394 : BitVec 1 := Scalar.cmpi .slt v1392 c0_i32_871
  let c0_i32_872 : BitVec 32 := 0#32
  let v1395 : BitVec 1 := Scalar.cmpi .slt v1391 c0_i32_872
  let v1396 : BitVec 1 := Scalar.xori v1394 v1395
  let c0_i32_870 : BitVec 32 := 0#32
  let v1393 : BitVec 1 := Scalar.cmpi .ne v1392 c0_i32_870
  let v1397 : BitVec 1 := Scalar.andi v1396 v1393
  let v1398 : BitVec 32 := Scalar.addi v1392 v1391
  let v1399 : BitVec 32 := Scalar.select v1397 v1398 v1392
  let c4_i32_873 : BitVec 32 := 4#32
  let v1400 : BitVec 32 := Scalar.muli v1399 c4_i32_873
  let c3_i32_874 : BitVec 32 := 3#32
  let v1401 : BitVec 32 := Scalar.addi v1400 c3_i32_874
  let v1402 : BitVec 32 := Scalar.subi v1401 v2
  let c32_i32_875 : BitVec 32 := 32#32
  let c0_i32_876 : BitVec 32 := 0#32
  let v1403 : BitVec 1 := Scalar.cmpi .eq c32_i32_875 c0_i32_876
  let c1_i32_877 : BitVec 32 := 1#32
  let v1404 : BitVec 32 := Scalar.select v1403 c1_i32_877 c32_i32_875
  let v1405 : BitVec 32 := Scalar.remsi v1402 v1404
  let c0_i32_879 : BitVec 32 := 0#32
  let v1407 : BitVec 1 := Scalar.cmpi .slt v1405 c0_i32_879
  let c0_i32_880 : BitVec 32 := 0#32
  let v1408 : BitVec 1 := Scalar.cmpi .slt v1404 c0_i32_880
  let v1409 : BitVec 1 := Scalar.xori v1407 v1408
  let c0_i32_878 : BitVec 32 := 0#32
  let v1406 : BitVec 1 := Scalar.cmpi .ne v1405 c0_i32_878
  let v1410 : BitVec 1 := Scalar.andi v1409 v1406
  let v1411 : BitVec 32 := Scalar.addi v1405 v1404
  let v1412 : BitVec 32 := Scalar.select v1410 v1411 v1405
  ![v1412.toNat]
def k0_off98 (d0 : Dev nD) : Fin 2 → Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1594 : BitVec 32 := 128#32
  let v2330 : BitVec 32 := Scalar.muli v2 c128_i32_1594
  ![0, v2330.toNat]
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_866 : BitVec 32 := 7#32
  let v1389 : BitVec 32 := Scalar.subi v3 c7_i32_866
  let c8_i32_867 : BitVec 32 := 8#32
  let c0_i32_868 : BitVec 32 := 0#32
  let v1390 : BitVec 1 := Scalar.cmpi .eq c8_i32_867 c0_i32_868
  let c1_i32_869 : BitVec 32 := 1#32
  let v1391 : BitVec 32 := Scalar.select v1390 c1_i32_869 c8_i32_867
  let v1392 : BitVec 32 := Scalar.remsi v1389 v1391
  let c0_i32_871 : BitVec 32 := 0#32
  let v1394 : BitVec 1 := Scalar.cmpi .slt v1392 c0_i32_871
  let c0_i32_872 : BitVec 32 := 0#32
  let v1395 : BitVec 1 := Scalar.cmpi .slt v1391 c0_i32_872
  let v1396 : BitVec 1 := Scalar.xori v1394 v1395
  let c0_i32_870 : BitVec 32 := 0#32
  let v1393 : BitVec 1 := Scalar.cmpi .ne v1392 c0_i32_870
  let v1397 : BitVec 1 := Scalar.andi v1396 v1393
  let v1398 : BitVec 32 := Scalar.addi v1392 v1391
  let v1399 : BitVec 32 := Scalar.select v1397 v1398 v1392
  let c4_i32_873 : BitVec 32 := 4#32
  let v1400 : BitVec 32 := Scalar.muli v1399 c4_i32_873
  let c3_i32_874 : BitVec 32 := 3#32
  let v1401 : BitVec 32 := Scalar.addi v1400 c3_i32_874
  let c128_i32_1593 : BitVec 32 := 128#32
  let v2329 : BitVec 32 := Scalar.muli v1401 c128_i32_1593
  let c0_i32_1598 : BitVec 32 := 0#32
  ![v2329.toNat, 0]
def k0_dev63 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_866 : BitVec 32 := 7#32
  let v1389 : BitVec 32 := Scalar.subi v3 c7_i32_866
  let c8_i32_867 : BitVec 32 := 8#32
  let c0_i32_868 : BitVec 32 := 0#32
  let v1390 : BitVec 1 := Scalar.cmpi .eq c8_i32_867 c0_i32_868
  let c1_i32_869 : BitVec 32 := 1#32
  let v1391 : BitVec 32 := Scalar.select v1390 c1_i32_869 c8_i32_867
  let v1392 : BitVec 32 := Scalar.remsi v1389 v1391
  let c0_i32_871 : BitVec 32 := 0#32
  let v1394 : BitVec 1 := Scalar.cmpi .slt v1392 c0_i32_871
  let c0_i32_872 : BitVec 32 := 0#32
  let v1395 : BitVec 1 := Scalar.cmpi .slt v1391 c0_i32_872
  let v1396 : BitVec 1 := Scalar.xori v1394 v1395
  let c0_i32_870 : BitVec 32 := 0#32
  let v1393 : BitVec 1 := Scalar.cmpi .ne v1392 c0_i32_870
  let v1397 : BitVec 1 := Scalar.andi v1396 v1393
  let v1398 : BitVec 32 := Scalar.addi v1392 v1391
  let v1399 : BitVec 32 := Scalar.select v1397 v1398 v1392
  let c4_i32_873 : BitVec 32 := 4#32
  let v1400 : BitVec 32 := Scalar.muli v1399 c4_i32_873
  let c3_i32_874 : BitVec 32 := 3#32
  let v1401 : BitVec 32 := Scalar.addi v1400 c3_i32_874
  let c1_i32_1595 : BitVec 32 := 1#32
  let v2331 : BitVec 32 := Scalar.muli v1401 c1_i32_1595
  let v2332 : BitVec 32 := Scalar.addi c0_i32_1596 v2331
  v2332.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_889 : BitVec 32 := 4#32
  let v1427 : BitVec 32 := Scalar.muli v1426 c4_i32_889
  let c0_i32_890 : BitVec 32 := 0#32
  let v1428 : BitVec 32 := Scalar.addi v1427 c0_i32_890
  let v1440 : BitVec 1 := Scalar.cmpi .ne v1428 v2
  let v1441 : BitVec 32 := Scalar.extui v1440
  let c0_i32_897 : BitVec 32 := 0#32
  let v1442 : BitVec 1 := Scalar.cmpi .ne v1441 c0_i32_897
  v1442

def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_889 : BitVec 32 := 4#32
  let v1427 : BitVec 32 := Scalar.muli v1426 c4_i32_889
  let c0_i32_890 : BitVec 32 := 0#32
  let v1428 : BitVec 32 := Scalar.addi v1427 c0_i32_890
  let v1429 : BitVec 32 := Scalar.subi v2 v1428
  let c32_i32_891 : BitVec 32 := 32#32
  let c0_i32_892 : BitVec 32 := 0#32
  let v1430 : BitVec 1 := Scalar.cmpi .eq c32_i32_891 c0_i32_892
  let c1_i32_893 : BitVec 32 := 1#32
  let v1431 : BitVec 32 := Scalar.select v1430 c1_i32_893 c32_i32_891
  let v1432 : BitVec 32 := Scalar.remsi v1429 v1431
  let c0_i32_895 : BitVec 32 := 0#32
  let v1434 : BitVec 1 := Scalar.cmpi .slt v1432 c0_i32_895
  let c0_i32_896 : BitVec 32 := 0#32
  let v1435 : BitVec 1 := Scalar.cmpi .slt v1431 c0_i32_896
  let v1436 : BitVec 1 := Scalar.xori v1434 v1435
  let c0_i32_894 : BitVec 32 := 0#32
  let v1433 : BitVec 1 := Scalar.cmpi .ne v1432 c0_i32_894
  let v1437 : BitVec 1 := Scalar.andi v1436 v1433
  let v1438 : BitVec 32 := Scalar.addi v1432 v1431
  let v1439 : BitVec 32 := Scalar.select v1437 v1438 v1432
  ![v1439.toNat]
def k0_off101 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_889 : BitVec 32 := 4#32
  let v1427 : BitVec 32 := Scalar.muli v1426 c4_i32_889
  let c0_i32_890 : BitVec 32 := 0#32
  let v1428 : BitVec 32 := Scalar.addi v1427 c0_i32_890
  let c128_i32_1591 : BitVec 32 := 128#32
  let v2327 : BitVec 32 := Scalar.muli v1428 c128_i32_1591
  ![0, v2327.toNat]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_898 : BitVec 32 := 4#32
  let v1443 : BitVec 32 := Scalar.muli v1426 c4_i32_898
  let c1_i32_899 : BitVec 32 := 1#32
  let v1444 : BitVec 32 := Scalar.addi v1443 c1_i32_899
  let v1456 : BitVec 1 := Scalar.cmpi .ne v1444 v2
  let v1457 : BitVec 32 := Scalar.extui v1456
  let c0_i32_906 : BitVec 32 := 0#32
  let v1458 : BitVec 1 := Scalar.cmpi .ne v1457 c0_i32_906
  v1458

def k0_off102 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_898 : BitVec 32 := 4#32
  let v1443 : BitVec 32 := Scalar.muli v1426 c4_i32_898
  let c1_i32_899 : BitVec 32 := 1#32
  let v1444 : BitVec 32 := Scalar.addi v1443 c1_i32_899
  let v1445 : BitVec 32 := Scalar.subi v2 v1444
  let c32_i32_900 : BitVec 32 := 32#32
  let c0_i32_901 : BitVec 32 := 0#32
  let v1446 : BitVec 1 := Scalar.cmpi .eq c32_i32_900 c0_i32_901
  let c1_i32_902 : BitVec 32 := 1#32
  let v1447 : BitVec 32 := Scalar.select v1446 c1_i32_902 c32_i32_900
  let v1448 : BitVec 32 := Scalar.remsi v1445 v1447
  let c0_i32_904 : BitVec 32 := 0#32
  let v1450 : BitVec 1 := Scalar.cmpi .slt v1448 c0_i32_904
  let c0_i32_905 : BitVec 32 := 0#32
  let v1451 : BitVec 1 := Scalar.cmpi .slt v1447 c0_i32_905
  let v1452 : BitVec 1 := Scalar.xori v1450 v1451
  let c0_i32_903 : BitVec 32 := 0#32
  let v1449 : BitVec 1 := Scalar.cmpi .ne v1448 c0_i32_903
  let v1453 : BitVec 1 := Scalar.andi v1452 v1449
  let v1454 : BitVec 32 := Scalar.addi v1448 v1447
  let v1455 : BitVec 32 := Scalar.select v1453 v1454 v1448
  ![v1455.toNat]
def k0_off103 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_898 : BitVec 32 := 4#32
  let v1443 : BitVec 32 := Scalar.muli v1426 c4_i32_898
  let c1_i32_899 : BitVec 32 := 1#32
  let v1444 : BitVec 32 := Scalar.addi v1443 c1_i32_899
  let c128_i32_1591 : BitVec 32 := 128#32
  let v2327 : BitVec 32 := Scalar.muli v1444 c128_i32_1591
  ![0, v2327.toNat]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_907 : BitVec 32 := 4#32
  let v1459 : BitVec 32 := Scalar.muli v1426 c4_i32_907
  let c2_i32_908 : BitVec 32 := 2#32
  let v1460 : BitVec 32 := Scalar.addi v1459 c2_i32_908
  let v1472 : BitVec 1 := Scalar.cmpi .ne v1460 v2
  let v1473 : BitVec 32 := Scalar.extui v1472
  let c0_i32_915 : BitVec 32 := 0#32
  let v1474 : BitVec 1 := Scalar.cmpi .ne v1473 c0_i32_915
  v1474

def k0_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_907 : BitVec 32 := 4#32
  let v1459 : BitVec 32 := Scalar.muli v1426 c4_i32_907
  let c2_i32_908 : BitVec 32 := 2#32
  let v1460 : BitVec 32 := Scalar.addi v1459 c2_i32_908
  let v1461 : BitVec 32 := Scalar.subi v2 v1460
  let c32_i32_909 : BitVec 32 := 32#32
  let c0_i32_910 : BitVec 32 := 0#32
  let v1462 : BitVec 1 := Scalar.cmpi .eq c32_i32_909 c0_i32_910
  let c1_i32_911 : BitVec 32 := 1#32
  let v1463 : BitVec 32 := Scalar.select v1462 c1_i32_911 c32_i32_909
  let v1464 : BitVec 32 := Scalar.remsi v1461 v1463
  let c0_i32_913 : BitVec 32 := 0#32
  let v1466 : BitVec 1 := Scalar.cmpi .slt v1464 c0_i32_913
  let c0_i32_914 : BitVec 32 := 0#32
  let v1467 : BitVec 1 := Scalar.cmpi .slt v1463 c0_i32_914
  let v1468 : BitVec 1 := Scalar.xori v1466 v1467
  let c0_i32_912 : BitVec 32 := 0#32
  let v1465 : BitVec 1 := Scalar.cmpi .ne v1464 c0_i32_912
  let v1469 : BitVec 1 := Scalar.andi v1468 v1465
  let v1470 : BitVec 32 := Scalar.addi v1464 v1463
  let v1471 : BitVec 32 := Scalar.select v1469 v1470 v1464
  ![v1471.toNat]
def k0_off105 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_907 : BitVec 32 := 4#32
  let v1459 : BitVec 32 := Scalar.muli v1426 c4_i32_907
  let c2_i32_908 : BitVec 32 := 2#32
  let v1460 : BitVec 32 := Scalar.addi v1459 c2_i32_908
  let c128_i32_1591 : BitVec 32 := 128#32
  let v2327 : BitVec 32 := Scalar.muli v1460 c128_i32_1591
  ![0, v2327.toNat]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_916 : BitVec 32 := 4#32
  let v1475 : BitVec 32 := Scalar.muli v1426 c4_i32_916
  let c3_i32_917 : BitVec 32 := 3#32
  let v1476 : BitVec 32 := Scalar.addi v1475 c3_i32_917
  let v1488 : BitVec 1 := Scalar.cmpi .ne v1476 v2
  let v1489 : BitVec 32 := Scalar.extui v1488
  let c0_i32_924 : BitVec 32 := 0#32
  let v1490 : BitVec 1 := Scalar.cmpi .ne v1489 c0_i32_924
  v1490

def k0_off106 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_916 : BitVec 32 := 4#32
  let v1475 : BitVec 32 := Scalar.muli v1426 c4_i32_916
  let c3_i32_917 : BitVec 32 := 3#32
  let v1476 : BitVec 32 := Scalar.addi v1475 c3_i32_917
  let v1477 : BitVec 32 := Scalar.subi v2 v1476
  let c32_i32_918 : BitVec 32 := 32#32
  let c0_i32_919 : BitVec 32 := 0#32
  let v1478 : BitVec 1 := Scalar.cmpi .eq c32_i32_918 c0_i32_919
  let c1_i32_920 : BitVec 32 := 1#32
  let v1479 : BitVec 32 := Scalar.select v1478 c1_i32_920 c32_i32_918
  let v1480 : BitVec 32 := Scalar.remsi v1477 v1479
  let c0_i32_922 : BitVec 32 := 0#32
  let v1482 : BitVec 1 := Scalar.cmpi .slt v1480 c0_i32_922
  let c0_i32_923 : BitVec 32 := 0#32
  let v1483 : BitVec 1 := Scalar.cmpi .slt v1479 c0_i32_923
  let v1484 : BitVec 1 := Scalar.xori v1482 v1483
  let c0_i32_921 : BitVec 32 := 0#32
  let v1481 : BitVec 1 := Scalar.cmpi .ne v1480 c0_i32_921
  let v1485 : BitVec 1 := Scalar.andi v1484 v1481
  let v1486 : BitVec 32 := Scalar.addi v1480 v1479
  let v1487 : BitVec 32 := Scalar.select v1485 v1486 v1480
  ![v1487.toNat]
def k0_off107 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c0_i32_882 : BitVec 32 := 0#32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c4_i32_916 : BitVec 32 := 4#32
  let v1475 : BitVec 32 := Scalar.muli v1426 c4_i32_916
  let c3_i32_917 : BitVec 32 := 3#32
  let v1476 : BitVec 32 := Scalar.addi v1475 c3_i32_917
  let c128_i32_1591 : BitVec 32 := 128#32
  let v2327 : BitVec 32 := Scalar.muli v1476 c128_i32_1591
  ![0, v2327.toNat]
def k0_off108 (d0 : Dev nD) (c0_i32_882 : BitVec 32) : Fin 2 → Nat :=
  let c0_935 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let v1416 : BitVec 32 := Scalar.addi v3 c0_i32_882
  let c8_i32_883 : BitVec 32 := 8#32
  let c0_i32_884 : BitVec 32 := 0#32
  let v1417 : BitVec 1 := Scalar.cmpi .eq c8_i32_883 c0_i32_884
  let c1_i32_885 : BitVec 32 := 1#32
  let v1418 : BitVec 32 := Scalar.select v1417 c1_i32_885 c8_i32_883
  let v1419 : BitVec 32 := Scalar.remsi v1416 v1418
  let c0_i32_887 : BitVec 32 := 0#32
  let v1421 : BitVec 1 := Scalar.cmpi .slt v1419 c0_i32_887
  let c0_i32_888 : BitVec 32 := 0#32
  let v1422 : BitVec 1 := Scalar.cmpi .slt v1418 c0_i32_888
  let v1423 : BitVec 1 := Scalar.xori v1421 v1422
  let c0_i32_886 : BitVec 32 := 0#32
  let v1420 : BitVec 1 := Scalar.cmpi .ne v1419 c0_i32_886
  let v1424 : BitVec 1 := Scalar.andi v1423 v1420
  let v1425 : BitVec 32 := Scalar.addi v1419 v1418
  let v1426 : BitVec 32 := Scalar.select v1424 v1425 v1419
  let c512_i32_934 : BitVec 32 := 512#32
  let v1500 : BitVec 32 := Scalar.muli v1426 c512_i32_934
  let v1501 : Index := Scalar.indexCast v1500
  ![0, v1501.toNat]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_956 : BitVec 32 := 4#32
  let v1532 : BitVec 32 := Scalar.muli v1531 c4_i32_956
  let c0_i32_957 : BitVec 32 := 0#32
  let v1533 : BitVec 32 := Scalar.addi v1532 c0_i32_957
  let v1545 : BitVec 1 := Scalar.cmpi .ne v1533 v2
  let v1546 : BitVec 32 := Scalar.extui v1545
  let c0_i32_964 : BitVec 32 := 0#32
  let v1547 : BitVec 1 := Scalar.cmpi .ne v1546 c0_i32_964
  v1547

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_956 : BitVec 32 := 4#32
  let v1532 : BitVec 32 := Scalar.muli v1531 c4_i32_956
  let c0_i32_957 : BitVec 32 := 0#32
  let v1533 : BitVec 32 := Scalar.addi v1532 c0_i32_957
  let v1534 : BitVec 32 := Scalar.subi v2 v1533
  let c32_i32_958 : BitVec 32 := 32#32
  let c0_i32_959 : BitVec 32 := 0#32
  let v1535 : BitVec 1 := Scalar.cmpi .eq c32_i32_958 c0_i32_959
  let c1_i32_960 : BitVec 32 := 1#32
  let v1536 : BitVec 32 := Scalar.select v1535 c1_i32_960 c32_i32_958
  let v1537 : BitVec 32 := Scalar.remsi v1534 v1536
  let c0_i32_962 : BitVec 32 := 0#32
  let v1539 : BitVec 1 := Scalar.cmpi .slt v1537 c0_i32_962
  let c0_i32_963 : BitVec 32 := 0#32
  let v1540 : BitVec 1 := Scalar.cmpi .slt v1536 c0_i32_963
  let v1541 : BitVec 1 := Scalar.xori v1539 v1540
  let c0_i32_961 : BitVec 32 := 0#32
  let v1538 : BitVec 1 := Scalar.cmpi .ne v1537 c0_i32_961
  let v1542 : BitVec 1 := Scalar.andi v1541 v1538
  let v1543 : BitVec 32 := Scalar.addi v1537 v1536
  let v1544 : BitVec 32 := Scalar.select v1542 v1543 v1537
  ![v1544.toNat]
def k0_off110 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_956 : BitVec 32 := 4#32
  let v1532 : BitVec 32 := Scalar.muli v1531 c4_i32_956
  let c0_i32_957 : BitVec 32 := 0#32
  let v1533 : BitVec 32 := Scalar.addi v1532 c0_i32_957
  let c128_i32_1591 : BitVec 32 := 128#32
  let v2327 : BitVec 32 := Scalar.muli v1533 c128_i32_1591
  ![0, v2327.toNat]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_965 : BitVec 32 := 4#32
  let v1548 : BitVec 32 := Scalar.muli v1531 c4_i32_965
  let c1_i32_966 : BitVec 32 := 1#32
  let v1549 : BitVec 32 := Scalar.addi v1548 c1_i32_966
  let v1561 : BitVec 1 := Scalar.cmpi .ne v1549 v2
  let v1562 : BitVec 32 := Scalar.extui v1561
  let c0_i32_973 : BitVec 32 := 0#32
  let v1563 : BitVec 1 := Scalar.cmpi .ne v1562 c0_i32_973
  v1563

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_965 : BitVec 32 := 4#32
  let v1548 : BitVec 32 := Scalar.muli v1531 c4_i32_965
  let c1_i32_966 : BitVec 32 := 1#32
  let v1549 : BitVec 32 := Scalar.addi v1548 c1_i32_966
  let v1550 : BitVec 32 := Scalar.subi v2 v1549
  let c32_i32_967 : BitVec 32 := 32#32
  let c0_i32_968 : BitVec 32 := 0#32
  let v1551 : BitVec 1 := Scalar.cmpi .eq c32_i32_967 c0_i32_968
  let c1_i32_969 : BitVec 32 := 1#32
  let v1552 : BitVec 32 := Scalar.select v1551 c1_i32_969 c32_i32_967
  let v1553 : BitVec 32 := Scalar.remsi v1550 v1552
  let c0_i32_971 : BitVec 32 := 0#32
  let v1555 : BitVec 1 := Scalar.cmpi .slt v1553 c0_i32_971
  let c0_i32_972 : BitVec 32 := 0#32
  let v1556 : BitVec 1 := Scalar.cmpi .slt v1552 c0_i32_972
  let v1557 : BitVec 1 := Scalar.xori v1555 v1556
  let c0_i32_970 : BitVec 32 := 0#32
  let v1554 : BitVec 1 := Scalar.cmpi .ne v1553 c0_i32_970
  let v1558 : BitVec 1 := Scalar.andi v1557 v1554
  let v1559 : BitVec 32 := Scalar.addi v1553 v1552
  let v1560 : BitVec 32 := Scalar.select v1558 v1559 v1553
  ![v1560.toNat]
def k0_off112 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_965 : BitVec 32 := 4#32
  let v1548 : BitVec 32 := Scalar.muli v1531 c4_i32_965
  let c1_i32_966 : BitVec 32 := 1#32
  let v1549 : BitVec 32 := Scalar.addi v1548 c1_i32_966
  let c128_i32_1591 : BitVec 32 := 128#32
  let v2327 : BitVec 32 := Scalar.muli v1549 c128_i32_1591
  ![0, v2327.toNat]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_974 : BitVec 32 := 4#32
  let v1564 : BitVec 32 := Scalar.muli v1531 c4_i32_974
  let c2_i32_975 : BitVec 32 := 2#32
  let v1565 : BitVec 32 := Scalar.addi v1564 c2_i32_975
  let v1577 : BitVec 1 := Scalar.cmpi .ne v1565 v2
  let v1578 : BitVec 32 := Scalar.extui v1577
  let c0_i32_982 : BitVec 32 := 0#32
  let v1579 : BitVec 1 := Scalar.cmpi .ne v1578 c0_i32_982
  v1579

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_974 : BitVec 32 := 4#32
  let v1564 : BitVec 32 := Scalar.muli v1531 c4_i32_974
  let c2_i32_975 : BitVec 32 := 2#32
  let v1565 : BitVec 32 := Scalar.addi v1564 c2_i32_975
  let v1566 : BitVec 32 := Scalar.subi v2 v1565
  let c32_i32_976 : BitVec 32 := 32#32
  let c0_i32_977 : BitVec 32 := 0#32
  let v1567 : BitVec 1 := Scalar.cmpi .eq c32_i32_976 c0_i32_977
  let c1_i32_978 : BitVec 32 := 1#32
  let v1568 : BitVec 32 := Scalar.select v1567 c1_i32_978 c32_i32_976
  let v1569 : BitVec 32 := Scalar.remsi v1566 v1568
  let c0_i32_980 : BitVec 32 := 0#32
  let v1571 : BitVec 1 := Scalar.cmpi .slt v1569 c0_i32_980
  let c0_i32_981 : BitVec 32 := 0#32
  let v1572 : BitVec 1 := Scalar.cmpi .slt v1568 c0_i32_981
  let v1573 : BitVec 1 := Scalar.xori v1571 v1572
  let c0_i32_979 : BitVec 32 := 0#32
  let v1570 : BitVec 1 := Scalar.cmpi .ne v1569 c0_i32_979
  let v1574 : BitVec 1 := Scalar.andi v1573 v1570
  let v1575 : BitVec 32 := Scalar.addi v1569 v1568
  let v1576 : BitVec 32 := Scalar.select v1574 v1575 v1569
  ![v1576.toNat]
def k0_off114 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_974 : BitVec 32 := 4#32
  let v1564 : BitVec 32 := Scalar.muli v1531 c4_i32_974
  let c2_i32_975 : BitVec 32 := 2#32
  let v1565 : BitVec 32 := Scalar.addi v1564 c2_i32_975
  let c128_i32_1591 : BitVec 32 := 128#32
  let v2327 : BitVec 32 := Scalar.muli v1565 c128_i32_1591
  ![0, v2327.toNat]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_983 : BitVec 32 := 4#32
  let v1580 : BitVec 32 := Scalar.muli v1531 c4_i32_983
  let c3_i32_984 : BitVec 32 := 3#32
  let v1581 : BitVec 32 := Scalar.addi v1580 c3_i32_984
  let v1593 : BitVec 1 := Scalar.cmpi .ne v1581 v2
  let v1594 : BitVec 32 := Scalar.extui v1593
  let c0_i32_991 : BitVec 32 := 0#32
  let v1595 : BitVec 1 := Scalar.cmpi .ne v1594 c0_i32_991
  v1595

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_983 : BitVec 32 := 4#32
  let v1580 : BitVec 32 := Scalar.muli v1531 c4_i32_983
  let c3_i32_984 : BitVec 32 := 3#32
  let v1581 : BitVec 32 := Scalar.addi v1580 c3_i32_984
  let v1582 : BitVec 32 := Scalar.subi v2 v1581
  let c32_i32_985 : BitVec 32 := 32#32
  let c0_i32_986 : BitVec 32 := 0#32
  let v1583 : BitVec 1 := Scalar.cmpi .eq c32_i32_985 c0_i32_986
  let c1_i32_987 : BitVec 32 := 1#32
  let v1584 : BitVec 32 := Scalar.select v1583 c1_i32_987 c32_i32_985
  let v1585 : BitVec 32 := Scalar.remsi v1582 v1584
  let c0_i32_989 : BitVec 32 := 0#32
  let v1587 : BitVec 1 := Scalar.cmpi .slt v1585 c0_i32_989
  let c0_i32_990 : BitVec 32 := 0#32
  let v1588 : BitVec 1 := Scalar.cmpi .slt v1584 c0_i32_990
  let v1589 : BitVec 1 := Scalar.xori v1587 v1588
  let c0_i32_988 : BitVec 32 := 0#32
  let v1586 : BitVec 1 := Scalar.cmpi .ne v1585 c0_i32_988
  let v1590 : BitVec 1 := Scalar.andi v1589 v1586
  let v1591 : BitVec 32 := Scalar.addi v1585 v1584
  let v1592 : BitVec 32 := Scalar.select v1590 v1591 v1585
  ![v1592.toNat]
def k0_off116 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c1_i32_949 : BitVec 32 := 1#32
  let v1521 : BitVec 32 := Scalar.addi v3 c1_i32_949
  let c8_i32_950 : BitVec 32 := 8#32
  let c0_i32_951 : BitVec 32 := 0#32
  let v1522 : BitVec 1 := Scalar.cmpi .eq c8_i32_950 c0_i32_951
  let c1_i32_952 : BitVec 32 := 1#32
  let v1523 : BitVec 32 := Scalar.select v1522 c1_i32_952 c8_i32_950
  let v1524 : BitVec 32 := Scalar.remsi v1521 v1523
  let c0_i32_954 : BitVec 32 := 0#32
  let v1526 : BitVec 1 := Scalar.cmpi .slt v1524 c0_i32_954
  let c0_i32_955 : BitVec 32 := 0#32
  let v1527 : BitVec 1 := Scalar.cmpi .slt v1523 c0_i32_955
  let v1528 : BitVec 1 := Scalar.xori v1526 v1527
  let c0_i32_953 : BitVec 32 := 0#32
  let v1525 : BitVec 1 := Scalar.cmpi .ne v1524 c0_i32_953
  let v1529 : BitVec 1 := Scalar.andi v1528 v1525
  let v1530 : BitVec 32 := Scalar.addi v1524 v1523
  let v1531 : BitVec 32 := Scalar.select v1529 v1530 v1524
  let c4_i32_983 : BitVec 32 := 4#32
  let v1580 : BitVec 32 := Scalar.muli v1531 c4_i32_983
  let c3_i32_984 : BitVec 32 := 3#32
  let v1581 : BitVec 32 := Scalar.addi v1580 c3_i32_984
  let c128_i32_1591 : BitVec 32 := 128#32
  let v2327 : BitVec 32 := Scalar.muli v1581 c128_i32_1591
  ![0, v2327.toNat]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1023 : BitVec 32 := 4#32
  let v1638 : BitVec 32 := Scalar.muli v1637 c4_i32_1023
  let c0_i32_1024 : BitVec 32 := 0#32
  let v1639 : BitVec 32 := Scalar.addi v1638 c0_i32_1024
  let v1651 : BitVec 1 := Scalar.cmpi .ne v1639 v2
  let v1652 : BitVec 32 := Scalar.extui v1651
  let c0_i32_1031 : BitVec 32 := 0#32
  let v1653 : BitVec 1 := Scalar.cmpi .ne v1652 c0_i32_1031
  v1653

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1023 : BitVec 32 := 4#32
  let v1638 : BitVec 32 := Scalar.muli v1637 c4_i32_1023
  let c0_i32_1024 : BitVec 32 := 0#32
  let v1639 : BitVec 32 := Scalar.addi v1638 c0_i32_1024
  let v1640 : BitVec 32 := Scalar.subi v2 v1639
  let c32_i32_1025 : BitVec 32 := 32#32
  let c0_i32_1026 : BitVec 32 := 0#32
  let v1641 : BitVec 1 := Scalar.cmpi .eq c32_i32_1025 c0_i32_1026
  let c1_i32_1027 : BitVec 32 := 1#32
  let v1642 : BitVec 32 := Scalar.select v1641 c1_i32_1027 c32_i32_1025
  let v1643 : BitVec 32 := Scalar.remsi v1640 v1642
  let c0_i32_1029 : BitVec 32 := 0#32
  let v1645 : BitVec 1 := Scalar.cmpi .slt v1643 c0_i32_1029
  let c0_i32_1030 : BitVec 32 := 0#32
  let v1646 : BitVec 1 := Scalar.cmpi .slt v1642 c0_i32_1030
  let v1647 : BitVec 1 := Scalar.xori v1645 v1646
  let c0_i32_1028 : BitVec 32 := 0#32
  let v1644 : BitVec 1 := Scalar.cmpi .ne v1643 c0_i32_1028
  let v1648 : BitVec 1 := Scalar.andi v1647 v1644
  let v1649 : BitVec 32 := Scalar.addi v1643 v1642
  let v1650 : BitVec 32 := Scalar.select v1648 v1649 v1643
  ![v1650.toNat]
def k0_off118 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1023 : BitVec 32 := 4#32
  let v1638 : BitVec 32 := Scalar.muli v1637 c4_i32_1023
  let c0_i32_1024 : BitVec 32 := 0#32
  let v1639 : BitVec 32 := Scalar.addi v1638 c0_i32_1024
  let c128_i32_1591 : BitVec 32 := 128#32
  let v2327 : BitVec 32 := Scalar.muli v1639 c128_i32_1591
  ![0, v2327.toNat]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1032 : BitVec 32 := 4#32
  let v1654 : BitVec 32 := Scalar.muli v1637 c4_i32_1032
  let c1_i32_1033 : BitVec 32 := 1#32
  let v1655 : BitVec 32 := Scalar.addi v1654 c1_i32_1033
  let v1667 : BitVec 1 := Scalar.cmpi .ne v1655 v2
  let v1668 : BitVec 32 := Scalar.extui v1667
  let c0_i32_1040 : BitVec 32 := 0#32
  let v1669 : BitVec 1 := Scalar.cmpi .ne v1668 c0_i32_1040
  v1669

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1032 : BitVec 32 := 4#32
  let v1654 : BitVec 32 := Scalar.muli v1637 c4_i32_1032
  let c1_i32_1033 : BitVec 32 := 1#32
  let v1655 : BitVec 32 := Scalar.addi v1654 c1_i32_1033
  let v1656 : BitVec 32 := Scalar.subi v2 v1655
  let c32_i32_1034 : BitVec 32 := 32#32
  let c0_i32_1035 : BitVec 32 := 0#32
  let v1657 : BitVec 1 := Scalar.cmpi .eq c32_i32_1034 c0_i32_1035
  let c1_i32_1036 : BitVec 32 := 1#32
  let v1658 : BitVec 32 := Scalar.select v1657 c1_i32_1036 c32_i32_1034
  let v1659 : BitVec 32 := Scalar.remsi v1656 v1658
  let c0_i32_1038 : BitVec 32 := 0#32
  let v1661 : BitVec 1 := Scalar.cmpi .slt v1659 c0_i32_1038
  let c0_i32_1039 : BitVec 32 := 0#32
  let v1662 : BitVec 1 := Scalar.cmpi .slt v1658 c0_i32_1039
  let v1663 : BitVec 1 := Scalar.xori v1661 v1662
  let c0_i32_1037 : BitVec 32 := 0#32
  let v1660 : BitVec 1 := Scalar.cmpi .ne v1659 c0_i32_1037
  let v1664 : BitVec 1 := Scalar.andi v1663 v1660
  let v1665 : BitVec 32 := Scalar.addi v1659 v1658
  let v1666 : BitVec 32 := Scalar.select v1664 v1665 v1659
  ![v1666.toNat]
def k0_off120 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1032 : BitVec 32 := 4#32
  let v1654 : BitVec 32 := Scalar.muli v1637 c4_i32_1032
  let c1_i32_1033 : BitVec 32 := 1#32
  let v1655 : BitVec 32 := Scalar.addi v1654 c1_i32_1033
  let c128_i32_1591 : BitVec 32 := 128#32
  let v2327 : BitVec 32 := Scalar.muli v1655 c128_i32_1591
  ![0, v2327.toNat]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1041 : BitVec 32 := 4#32
  let v1670 : BitVec 32 := Scalar.muli v1637 c4_i32_1041
  let c2_i32_1042 : BitVec 32 := 2#32
  let v1671 : BitVec 32 := Scalar.addi v1670 c2_i32_1042
  let v1683 : BitVec 1 := Scalar.cmpi .ne v1671 v2
  let v1684 : BitVec 32 := Scalar.extui v1683
  let c0_i32_1049 : BitVec 32 := 0#32
  let v1685 : BitVec 1 := Scalar.cmpi .ne v1684 c0_i32_1049
  v1685

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1041 : BitVec 32 := 4#32
  let v1670 : BitVec 32 := Scalar.muli v1637 c4_i32_1041
  let c2_i32_1042 : BitVec 32 := 2#32
  let v1671 : BitVec 32 := Scalar.addi v1670 c2_i32_1042
  let v1672 : BitVec 32 := Scalar.subi v2 v1671
  let c32_i32_1043 : BitVec 32 := 32#32
  let c0_i32_1044 : BitVec 32 := 0#32
  let v1673 : BitVec 1 := Scalar.cmpi .eq c32_i32_1043 c0_i32_1044
  let c1_i32_1045 : BitVec 32 := 1#32
  let v1674 : BitVec 32 := Scalar.select v1673 c1_i32_1045 c32_i32_1043
  let v1675 : BitVec 32 := Scalar.remsi v1672 v1674
  let c0_i32_1047 : BitVec 32 := 0#32
  let v1677 : BitVec 1 := Scalar.cmpi .slt v1675 c0_i32_1047
  let c0_i32_1048 : BitVec 32 := 0#32
  let v1678 : BitVec 1 := Scalar.cmpi .slt v1674 c0_i32_1048
  let v1679 : BitVec 1 := Scalar.xori v1677 v1678
  let c0_i32_1046 : BitVec 32 := 0#32
  let v1676 : BitVec 1 := Scalar.cmpi .ne v1675 c0_i32_1046
  let v1680 : BitVec 1 := Scalar.andi v1679 v1676
  let v1681 : BitVec 32 := Scalar.addi v1675 v1674
  let v1682 : BitVec 32 := Scalar.select v1680 v1681 v1675
  ![v1682.toNat]
def k0_off122 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1041 : BitVec 32 := 4#32
  let v1670 : BitVec 32 := Scalar.muli v1637 c4_i32_1041
  let c2_i32_1042 : BitVec 32 := 2#32
  let v1671 : BitVec 32 := Scalar.addi v1670 c2_i32_1042
  let c128_i32_1591 : BitVec 32 := 128#32
  let v2327 : BitVec 32 := Scalar.muli v1671 c128_i32_1591
  ![0, v2327.toNat]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1050 : BitVec 32 := 4#32
  let v1686 : BitVec 32 := Scalar.muli v1637 c4_i32_1050
  let c3_i32_1051 : BitVec 32 := 3#32
  let v1687 : BitVec 32 := Scalar.addi v1686 c3_i32_1051
  let v1699 : BitVec 1 := Scalar.cmpi .ne v1687 v2
  let v1700 : BitVec 32 := Scalar.extui v1699
  let c0_i32_1058 : BitVec 32 := 0#32
  let v1701 : BitVec 1 := Scalar.cmpi .ne v1700 c0_i32_1058
  v1701

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1050 : BitVec 32 := 4#32
  let v1686 : BitVec 32 := Scalar.muli v1637 c4_i32_1050
  let c3_i32_1051 : BitVec 32 := 3#32
  let v1687 : BitVec 32 := Scalar.addi v1686 c3_i32_1051
  let v1688 : BitVec 32 := Scalar.subi v2 v1687
  let c32_i32_1052 : BitVec 32 := 32#32
  let c0_i32_1053 : BitVec 32 := 0#32
  let v1689 : BitVec 1 := Scalar.cmpi .eq c32_i32_1052 c0_i32_1053
  let c1_i32_1054 : BitVec 32 := 1#32
  let v1690 : BitVec 32 := Scalar.select v1689 c1_i32_1054 c32_i32_1052
  let v1691 : BitVec 32 := Scalar.remsi v1688 v1690
  let c0_i32_1056 : BitVec 32 := 0#32
  let v1693 : BitVec 1 := Scalar.cmpi .slt v1691 c0_i32_1056
  let c0_i32_1057 : BitVec 32 := 0#32
  let v1694 : BitVec 1 := Scalar.cmpi .slt v1690 c0_i32_1057
  let v1695 : BitVec 1 := Scalar.xori v1693 v1694
  let c0_i32_1055 : BitVec 32 := 0#32
  let v1692 : BitVec 1 := Scalar.cmpi .ne v1691 c0_i32_1055
  let v1696 : BitVec 1 := Scalar.andi v1695 v1692
  let v1697 : BitVec 32 := Scalar.addi v1691 v1690
  let v1698 : BitVec 32 := Scalar.select v1696 v1697 v1691
  ![v1698.toNat]
def k0_off124 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c2_i32_1016 : BitVec 32 := 2#32
  let v1627 : BitVec 32 := Scalar.addi v3 c2_i32_1016
  let c8_i32_1017 : BitVec 32 := 8#32
  let c0_i32_1018 : BitVec 32 := 0#32
  let v1628 : BitVec 1 := Scalar.cmpi .eq c8_i32_1017 c0_i32_1018
  let c1_i32_1019 : BitVec 32 := 1#32
  let v1629 : BitVec 32 := Scalar.select v1628 c1_i32_1019 c8_i32_1017
  let v1630 : BitVec 32 := Scalar.remsi v1627 v1629
  let c0_i32_1021 : BitVec 32 := 0#32
  let v1632 : BitVec 1 := Scalar.cmpi .slt v1630 c0_i32_1021
  let c0_i32_1022 : BitVec 32 := 0#32
  let v1633 : BitVec 1 := Scalar.cmpi .slt v1629 c0_i32_1022
  let v1634 : BitVec 1 := Scalar.xori v1632 v1633
  let c0_i32_1020 : BitVec 32 := 0#32
  let v1631 : BitVec 1 := Scalar.cmpi .ne v1630 c0_i32_1020
  let v1635 : BitVec 1 := Scalar.andi v1634 v1631
  let v1636 : BitVec 32 := Scalar.addi v1630 v1629
  let v1637 : BitVec 32 := Scalar.select v1635 v1636 v1630
  let c4_i32_1050 : BitVec 32 := 4#32
  let v1686 : BitVec 32 := Scalar.muli v1637 c4_i32_1050
  let c3_i32_1051 : BitVec 32 := 3#32
  let v1687 : BitVec 32 := Scalar.addi v1686 c3_i32_1051
  let c128_i32_1591 : BitVec 32 := 128#32
  let v2327 : BitVec 32 := Scalar.muli v1687 c128_i32_1591
  ![0, v2327.toNat]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1090 : BitVec 32 := 4#32
  let v1744 : BitVec 32 := Scalar.muli v1743 c4_i32_1090
  let c0_i32_1091 : BitVec 32 := 0#32
  let v1745 : BitVec 32 := Scalar.addi v1744 c0_i32_1091
  let v1757 : BitVec 1 := Scalar.cmpi .ne v1745 v2
  let v1758 : BitVec 32 := Scalar.extui v1757
  let c0_i32_1098 : BitVec 32 := 0#32
  let v1759 : BitVec 1 := Scalar.cmpi .ne v1758 c0_i32_1098
  v1759

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1090 : BitVec 32 := 4#32
  let v1744 : BitVec 32 := Scalar.muli v1743 c4_i32_1090
  let c0_i32_1091 : BitVec 32 := 0#32
  let v1745 : BitVec 32 := Scalar.addi v1744 c0_i32_1091
  let v1746 : BitVec 32 := Scalar.subi v2 v1745
  let c32_i32_1092 : BitVec 32 := 32#32
  let c0_i32_1093 : BitVec 32 := 0#32
  let v1747 : BitVec 1 := Scalar.cmpi .eq c32_i32_1092 c0_i32_1093
  let c1_i32_1094 : BitVec 32 := 1#32
  let v1748 : BitVec 32 := Scalar.select v1747 c1_i32_1094 c32_i32_1092
  let v1749 : BitVec 32 := Scalar.remsi v1746 v1748
  let c0_i32_1096 : BitVec 32 := 0#32
  let v1751 : BitVec 1 := Scalar.cmpi .slt v1749 c0_i32_1096
  let c0_i32_1097 : BitVec 32 := 0#32
  let v1752 : BitVec 1 := Scalar.cmpi .slt v1748 c0_i32_1097
  let v1753 : BitVec 1 := Scalar.xori v1751 v1752
  let c0_i32_1095 : BitVec 32 := 0#32
  let v1750 : BitVec 1 := Scalar.cmpi .ne v1749 c0_i32_1095
  let v1754 : BitVec 1 := Scalar.andi v1753 v1750
  let v1755 : BitVec 32 := Scalar.addi v1749 v1748
  let v1756 : BitVec 32 := Scalar.select v1754 v1755 v1749
  ![v1756.toNat]
def k0_off126 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1090 : BitVec 32 := 4#32
  let v1744 : BitVec 32 := Scalar.muli v1743 c4_i32_1090
  let c0_i32_1091 : BitVec 32 := 0#32
  let v1745 : BitVec 32 := Scalar.addi v1744 c0_i32_1091
  let c128_i32_1591 : BitVec 32 := 128#32
  let v2327 : BitVec 32 := Scalar.muli v1745 c128_i32_1591
  ![0, v2327.toNat]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1099 : BitVec 32 := 4#32
  let v1760 : BitVec 32 := Scalar.muli v1743 c4_i32_1099
  let c1_i32_1100 : BitVec 32 := 1#32
  let v1761 : BitVec 32 := Scalar.addi v1760 c1_i32_1100
  let v1773 : BitVec 1 := Scalar.cmpi .ne v1761 v2
  let v1774 : BitVec 32 := Scalar.extui v1773
  let c0_i32_1107 : BitVec 32 := 0#32
  let v1775 : BitVec 1 := Scalar.cmpi .ne v1774 c0_i32_1107
  v1775

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1099 : BitVec 32 := 4#32
  let v1760 : BitVec 32 := Scalar.muli v1743 c4_i32_1099
  let c1_i32_1100 : BitVec 32 := 1#32
  let v1761 : BitVec 32 := Scalar.addi v1760 c1_i32_1100
  let v1762 : BitVec 32 := Scalar.subi v2 v1761
  let c32_i32_1101 : BitVec 32 := 32#32
  let c0_i32_1102 : BitVec 32 := 0#32
  let v1763 : BitVec 1 := Scalar.cmpi .eq c32_i32_1101 c0_i32_1102
  let c1_i32_1103 : BitVec 32 := 1#32
  let v1764 : BitVec 32 := Scalar.select v1763 c1_i32_1103 c32_i32_1101
  let v1765 : BitVec 32 := Scalar.remsi v1762 v1764
  let c0_i32_1105 : BitVec 32 := 0#32
  let v1767 : BitVec 1 := Scalar.cmpi .slt v1765 c0_i32_1105
  let c0_i32_1106 : BitVec 32 := 0#32
  let v1768 : BitVec 1 := Scalar.cmpi .slt v1764 c0_i32_1106
  let v1769 : BitVec 1 := Scalar.xori v1767 v1768
  let c0_i32_1104 : BitVec 32 := 0#32
  let v1766 : BitVec 1 := Scalar.cmpi .ne v1765 c0_i32_1104
  let v1770 : BitVec 1 := Scalar.andi v1769 v1766
  let v1771 : BitVec 32 := Scalar.addi v1765 v1764
  let v1772 : BitVec 32 := Scalar.select v1770 v1771 v1765
  ![v1772.toNat]
def k0_off128 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1099 : BitVec 32 := 4#32
  let v1760 : BitVec 32 := Scalar.muli v1743 c4_i32_1099
  let c1_i32_1100 : BitVec 32 := 1#32
  let v1761 : BitVec 32 := Scalar.addi v1760 c1_i32_1100
  let c128_i32_1591 : BitVec 32 := 128#32
  let v2327 : BitVec 32 := Scalar.muli v1761 c128_i32_1591
  ![0, v2327.toNat]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1108 : BitVec 32 := 4#32
  let v1776 : BitVec 32 := Scalar.muli v1743 c4_i32_1108
  let c2_i32_1109 : BitVec 32 := 2#32
  let v1777 : BitVec 32 := Scalar.addi v1776 c2_i32_1109
  let v1789 : BitVec 1 := Scalar.cmpi .ne v1777 v2
  let v1790 : BitVec 32 := Scalar.extui v1789
  let c0_i32_1116 : BitVec 32 := 0#32
  let v1791 : BitVec 1 := Scalar.cmpi .ne v1790 c0_i32_1116
  v1791

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1108 : BitVec 32 := 4#32
  let v1776 : BitVec 32 := Scalar.muli v1743 c4_i32_1108
  let c2_i32_1109 : BitVec 32 := 2#32
  let v1777 : BitVec 32 := Scalar.addi v1776 c2_i32_1109
  let v1778 : BitVec 32 := Scalar.subi v2 v1777
  let c32_i32_1110 : BitVec 32 := 32#32
  let c0_i32_1111 : BitVec 32 := 0#32
  let v1779 : BitVec 1 := Scalar.cmpi .eq c32_i32_1110 c0_i32_1111
  let c1_i32_1112 : BitVec 32 := 1#32
  let v1780 : BitVec 32 := Scalar.select v1779 c1_i32_1112 c32_i32_1110
  let v1781 : BitVec 32 := Scalar.remsi v1778 v1780
  let c0_i32_1114 : BitVec 32 := 0#32
  let v1783 : BitVec 1 := Scalar.cmpi .slt v1781 c0_i32_1114
  let c0_i32_1115 : BitVec 32 := 0#32
  let v1784 : BitVec 1 := Scalar.cmpi .slt v1780 c0_i32_1115
  let v1785 : BitVec 1 := Scalar.xori v1783 v1784
  let c0_i32_1113 : BitVec 32 := 0#32
  let v1782 : BitVec 1 := Scalar.cmpi .ne v1781 c0_i32_1113
  let v1786 : BitVec 1 := Scalar.andi v1785 v1782
  let v1787 : BitVec 32 := Scalar.addi v1781 v1780
  let v1788 : BitVec 32 := Scalar.select v1786 v1787 v1781
  ![v1788.toNat]
def k0_off130 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1108 : BitVec 32 := 4#32
  let v1776 : BitVec 32 := Scalar.muli v1743 c4_i32_1108
  let c2_i32_1109 : BitVec 32 := 2#32
  let v1777 : BitVec 32 := Scalar.addi v1776 c2_i32_1109
  let c128_i32_1591 : BitVec 32 := 128#32
  let v2327 : BitVec 32 := Scalar.muli v1777 c128_i32_1591
  ![0, v2327.toNat]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1117 : BitVec 32 := 4#32
  let v1792 : BitVec 32 := Scalar.muli v1743 c4_i32_1117
  let c3_i32_1118 : BitVec 32 := 3#32
  let v1793 : BitVec 32 := Scalar.addi v1792 c3_i32_1118
  let v1805 : BitVec 1 := Scalar.cmpi .ne v1793 v2
  let v1806 : BitVec 32 := Scalar.extui v1805
  let c0_i32_1125 : BitVec 32 := 0#32
  let v1807 : BitVec 1 := Scalar.cmpi .ne v1806 c0_i32_1125
  v1807

def k0_off131 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1117 : BitVec 32 := 4#32
  let v1792 : BitVec 32 := Scalar.muli v1743 c4_i32_1117
  let c3_i32_1118 : BitVec 32 := 3#32
  let v1793 : BitVec 32 := Scalar.addi v1792 c3_i32_1118
  let v1794 : BitVec 32 := Scalar.subi v2 v1793
  let c32_i32_1119 : BitVec 32 := 32#32
  let c0_i32_1120 : BitVec 32 := 0#32
  let v1795 : BitVec 1 := Scalar.cmpi .eq c32_i32_1119 c0_i32_1120
  let c1_i32_1121 : BitVec 32 := 1#32
  let v1796 : BitVec 32 := Scalar.select v1795 c1_i32_1121 c32_i32_1119
  let v1797 : BitVec 32 := Scalar.remsi v1794 v1796
  let c0_i32_1123 : BitVec 32 := 0#32
  let v1799 : BitVec 1 := Scalar.cmpi .slt v1797 c0_i32_1123
  let c0_i32_1124 : BitVec 32 := 0#32
  let v1800 : BitVec 1 := Scalar.cmpi .slt v1796 c0_i32_1124
  let v1801 : BitVec 1 := Scalar.xori v1799 v1800
  let c0_i32_1122 : BitVec 32 := 0#32
  let v1798 : BitVec 1 := Scalar.cmpi .ne v1797 c0_i32_1122
  let v1802 : BitVec 1 := Scalar.andi v1801 v1798
  let v1803 : BitVec 32 := Scalar.addi v1797 v1796
  let v1804 : BitVec 32 := Scalar.select v1802 v1803 v1797
  ![v1804.toNat]
def k0_off132 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c3_i32_1083 : BitVec 32 := 3#32
  let v1733 : BitVec 32 := Scalar.addi v3 c3_i32_1083
  let c8_i32_1084 : BitVec 32 := 8#32
  let c0_i32_1085 : BitVec 32 := 0#32
  let v1734 : BitVec 1 := Scalar.cmpi .eq c8_i32_1084 c0_i32_1085
  let c1_i32_1086 : BitVec 32 := 1#32
  let v1735 : BitVec 32 := Scalar.select v1734 c1_i32_1086 c8_i32_1084
  let v1736 : BitVec 32 := Scalar.remsi v1733 v1735
  let c0_i32_1088 : BitVec 32 := 0#32
  let v1738 : BitVec 1 := Scalar.cmpi .slt v1736 c0_i32_1088
  let c0_i32_1089 : BitVec 32 := 0#32
  let v1739 : BitVec 1 := Scalar.cmpi .slt v1735 c0_i32_1089
  let v1740 : BitVec 1 := Scalar.xori v1738 v1739
  let c0_i32_1087 : BitVec 32 := 0#32
  let v1737 : BitVec 1 := Scalar.cmpi .ne v1736 c0_i32_1087
  let v1741 : BitVec 1 := Scalar.andi v1740 v1737
  let v1742 : BitVec 32 := Scalar.addi v1736 v1735
  let v1743 : BitVec 32 := Scalar.select v1741 v1742 v1736
  let c4_i32_1117 : BitVec 32 := 4#32
  let v1792 : BitVec 32 := Scalar.muli v1743 c4_i32_1117
  let c3_i32_1118 : BitVec 32 := 3#32
  let v1793 : BitVec 32 := Scalar.addi v1792 c3_i32_1118
  let c128_i32_1591 : BitVec 32 := 128#32
  let v2327 : BitVec 32 := Scalar.muli v1793 c128_i32_1591
  ![0, v2327.toNat]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1157 : BitVec 32 := 4#32
  let v1850 : BitVec 32 := Scalar.muli v1849 c4_i32_1157
  let c0_i32_1158 : BitVec 32 := 0#32
  let v1851 : BitVec 32 := Scalar.addi v1850 c0_i32_1158
  let v1863 : BitVec 1 := Scalar.cmpi .ne v1851 v2
  let v1864 : BitVec 32 := Scalar.extui v1863
  let c0_i32_1165 : BitVec 32 := 0#32
  let v1865 : BitVec 1 := Scalar.cmpi .ne v1864 c0_i32_1165
  v1865

def k0_off133 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1157 : BitVec 32 := 4#32
  let v1850 : BitVec 32 := Scalar.muli v1849 c4_i32_1157
  let c0_i32_1158 : BitVec 32 := 0#32
  let v1851 : BitVec 32 := Scalar.addi v1850 c0_i32_1158
  let v1852 : BitVec 32 := Scalar.subi v2 v1851
  let c32_i32_1159 : BitVec 32 := 32#32
  let c0_i32_1160 : BitVec 32 := 0#32
  let v1853 : BitVec 1 := Scalar.cmpi .eq c32_i32_1159 c0_i32_1160
  let c1_i32_1161 : BitVec 32 := 1#32
  let v1854 : BitVec 32 := Scalar.select v1853 c1_i32_1161 c32_i32_1159
  let v1855 : BitVec 32 := Scalar.remsi v1852 v1854
  let c0_i32_1163 : BitVec 32 := 0#32
  let v1857 : BitVec 1 := Scalar.cmpi .slt v1855 c0_i32_1163
  let c0_i32_1164 : BitVec 32 := 0#32
  let v1858 : BitVec 1 := Scalar.cmpi .slt v1854 c0_i32_1164
  let v1859 : BitVec 1 := Scalar.xori v1857 v1858
  let c0_i32_1162 : BitVec 32 := 0#32
  let v1856 : BitVec 1 := Scalar.cmpi .ne v1855 c0_i32_1162
  let v1860 : BitVec 1 := Scalar.andi v1859 v1856
  let v1861 : BitVec 32 := Scalar.addi v1855 v1854
  let v1862 : BitVec 32 := Scalar.select v1860 v1861 v1855
  ![v1862.toNat]
def k0_off134 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1157 : BitVec 32 := 4#32
  let v1850 : BitVec 32 := Scalar.muli v1849 c4_i32_1157
  let c0_i32_1158 : BitVec 32 := 0#32
  let v1851 : BitVec 32 := Scalar.addi v1850 c0_i32_1158
  let c128_i32_1591 : BitVec 32 := 128#32
  let v2327 : BitVec 32 := Scalar.muli v1851 c128_i32_1591
  ![0, v2327.toNat]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1166 : BitVec 32 := 4#32
  let v1866 : BitVec 32 := Scalar.muli v1849 c4_i32_1166
  let c1_i32_1167 : BitVec 32 := 1#32
  let v1867 : BitVec 32 := Scalar.addi v1866 c1_i32_1167
  let v1879 : BitVec 1 := Scalar.cmpi .ne v1867 v2
  let v1880 : BitVec 32 := Scalar.extui v1879
  let c0_i32_1174 : BitVec 32 := 0#32
  let v1881 : BitVec 1 := Scalar.cmpi .ne v1880 c0_i32_1174
  v1881

def k0_off135 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1166 : BitVec 32 := 4#32
  let v1866 : BitVec 32 := Scalar.muli v1849 c4_i32_1166
  let c1_i32_1167 : BitVec 32 := 1#32
  let v1867 : BitVec 32 := Scalar.addi v1866 c1_i32_1167
  let v1868 : BitVec 32 := Scalar.subi v2 v1867
  let c32_i32_1168 : BitVec 32 := 32#32
  let c0_i32_1169 : BitVec 32 := 0#32
  let v1869 : BitVec 1 := Scalar.cmpi .eq c32_i32_1168 c0_i32_1169
  let c1_i32_1170 : BitVec 32 := 1#32
  let v1870 : BitVec 32 := Scalar.select v1869 c1_i32_1170 c32_i32_1168
  let v1871 : BitVec 32 := Scalar.remsi v1868 v1870
  let c0_i32_1172 : BitVec 32 := 0#32
  let v1873 : BitVec 1 := Scalar.cmpi .slt v1871 c0_i32_1172
  let c0_i32_1173 : BitVec 32 := 0#32
  let v1874 : BitVec 1 := Scalar.cmpi .slt v1870 c0_i32_1173
  let v1875 : BitVec 1 := Scalar.xori v1873 v1874
  let c0_i32_1171 : BitVec 32 := 0#32
  let v1872 : BitVec 1 := Scalar.cmpi .ne v1871 c0_i32_1171
  let v1876 : BitVec 1 := Scalar.andi v1875 v1872
  let v1877 : BitVec 32 := Scalar.addi v1871 v1870
  let v1878 : BitVec 32 := Scalar.select v1876 v1877 v1871
  ![v1878.toNat]
def k0_off136 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1166 : BitVec 32 := 4#32
  let v1866 : BitVec 32 := Scalar.muli v1849 c4_i32_1166
  let c1_i32_1167 : BitVec 32 := 1#32
  let v1867 : BitVec 32 := Scalar.addi v1866 c1_i32_1167
  let c128_i32_1591 : BitVec 32 := 128#32
  let v2327 : BitVec 32 := Scalar.muli v1867 c128_i32_1591
  ![0, v2327.toNat]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1175 : BitVec 32 := 4#32
  let v1882 : BitVec 32 := Scalar.muli v1849 c4_i32_1175
  let c2_i32_1176 : BitVec 32 := 2#32
  let v1883 : BitVec 32 := Scalar.addi v1882 c2_i32_1176
  let v1895 : BitVec 1 := Scalar.cmpi .ne v1883 v2
  let v1896 : BitVec 32 := Scalar.extui v1895
  let c0_i32_1183 : BitVec 32 := 0#32
  let v1897 : BitVec 1 := Scalar.cmpi .ne v1896 c0_i32_1183
  v1897

def k0_off137 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1175 : BitVec 32 := 4#32
  let v1882 : BitVec 32 := Scalar.muli v1849 c4_i32_1175
  let c2_i32_1176 : BitVec 32 := 2#32
  let v1883 : BitVec 32 := Scalar.addi v1882 c2_i32_1176
  let v1884 : BitVec 32 := Scalar.subi v2 v1883
  let c32_i32_1177 : BitVec 32 := 32#32
  let c0_i32_1178 : BitVec 32 := 0#32
  let v1885 : BitVec 1 := Scalar.cmpi .eq c32_i32_1177 c0_i32_1178
  let c1_i32_1179 : BitVec 32 := 1#32
  let v1886 : BitVec 32 := Scalar.select v1885 c1_i32_1179 c32_i32_1177
  let v1887 : BitVec 32 := Scalar.remsi v1884 v1886
  let c0_i32_1181 : BitVec 32 := 0#32
  let v1889 : BitVec 1 := Scalar.cmpi .slt v1887 c0_i32_1181
  let c0_i32_1182 : BitVec 32 := 0#32
  let v1890 : BitVec 1 := Scalar.cmpi .slt v1886 c0_i32_1182
  let v1891 : BitVec 1 := Scalar.xori v1889 v1890
  let c0_i32_1180 : BitVec 32 := 0#32
  let v1888 : BitVec 1 := Scalar.cmpi .ne v1887 c0_i32_1180
  let v1892 : BitVec 1 := Scalar.andi v1891 v1888
  let v1893 : BitVec 32 := Scalar.addi v1887 v1886
  let v1894 : BitVec 32 := Scalar.select v1892 v1893 v1887
  ![v1894.toNat]
def k0_off138 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1175 : BitVec 32 := 4#32
  let v1882 : BitVec 32 := Scalar.muli v1849 c4_i32_1175
  let c2_i32_1176 : BitVec 32 := 2#32
  let v1883 : BitVec 32 := Scalar.addi v1882 c2_i32_1176
  let c128_i32_1591 : BitVec 32 := 128#32
  let v2327 : BitVec 32 := Scalar.muli v1883 c128_i32_1591
  ![0, v2327.toNat]
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1184 : BitVec 32 := 4#32
  let v1898 : BitVec 32 := Scalar.muli v1849 c4_i32_1184
  let c3_i32_1185 : BitVec 32 := 3#32
  let v1899 : BitVec 32 := Scalar.addi v1898 c3_i32_1185
  let v1911 : BitVec 1 := Scalar.cmpi .ne v1899 v2
  let v1912 : BitVec 32 := Scalar.extui v1911
  let c0_i32_1192 : BitVec 32 := 0#32
  let v1913 : BitVec 1 := Scalar.cmpi .ne v1912 c0_i32_1192
  v1913

def k0_off139 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1184 : BitVec 32 := 4#32
  let v1898 : BitVec 32 := Scalar.muli v1849 c4_i32_1184
  let c3_i32_1185 : BitVec 32 := 3#32
  let v1899 : BitVec 32 := Scalar.addi v1898 c3_i32_1185
  let v1900 : BitVec 32 := Scalar.subi v2 v1899
  let c32_i32_1186 : BitVec 32 := 32#32
  let c0_i32_1187 : BitVec 32 := 0#32
  let v1901 : BitVec 1 := Scalar.cmpi .eq c32_i32_1186 c0_i32_1187
  let c1_i32_1188 : BitVec 32 := 1#32
  let v1902 : BitVec 32 := Scalar.select v1901 c1_i32_1188 c32_i32_1186
  let v1903 : BitVec 32 := Scalar.remsi v1900 v1902
  let c0_i32_1190 : BitVec 32 := 0#32
  let v1905 : BitVec 1 := Scalar.cmpi .slt v1903 c0_i32_1190
  let c0_i32_1191 : BitVec 32 := 0#32
  let v1906 : BitVec 1 := Scalar.cmpi .slt v1902 c0_i32_1191
  let v1907 : BitVec 1 := Scalar.xori v1905 v1906
  let c0_i32_1189 : BitVec 32 := 0#32
  let v1904 : BitVec 1 := Scalar.cmpi .ne v1903 c0_i32_1189
  let v1908 : BitVec 1 := Scalar.andi v1907 v1904
  let v1909 : BitVec 32 := Scalar.addi v1903 v1902
  let v1910 : BitVec 32 := Scalar.select v1908 v1909 v1903
  ![v1910.toNat]
def k0_off140 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c4_i32_1150 : BitVec 32 := 4#32
  let v1839 : BitVec 32 := Scalar.addi v3 c4_i32_1150
  let c8_i32_1151 : BitVec 32 := 8#32
  let c0_i32_1152 : BitVec 32 := 0#32
  let v1840 : BitVec 1 := Scalar.cmpi .eq c8_i32_1151 c0_i32_1152
  let c1_i32_1153 : BitVec 32 := 1#32
  let v1841 : BitVec 32 := Scalar.select v1840 c1_i32_1153 c8_i32_1151
  let v1842 : BitVec 32 := Scalar.remsi v1839 v1841
  let c0_i32_1155 : BitVec 32 := 0#32
  let v1844 : BitVec 1 := Scalar.cmpi .slt v1842 c0_i32_1155
  let c0_i32_1156 : BitVec 32 := 0#32
  let v1845 : BitVec 1 := Scalar.cmpi .slt v1841 c0_i32_1156
  let v1846 : BitVec 1 := Scalar.xori v1844 v1845
  let c0_i32_1154 : BitVec 32 := 0#32
  let v1843 : BitVec 1 := Scalar.cmpi .ne v1842 c0_i32_1154
  let v1847 : BitVec 1 := Scalar.andi v1846 v1843
  let v1848 : BitVec 32 := Scalar.addi v1842 v1841
  let v1849 : BitVec 32 := Scalar.select v1847 v1848 v1842
  let c4_i32_1184 : BitVec 32 := 4#32
  let v1898 : BitVec 32 := Scalar.muli v1849 c4_i32_1184
  let c3_i32_1185 : BitVec 32 := 3#32
  let v1899 : BitVec 32 := Scalar.addi v1898 c3_i32_1185
  let c128_i32_1591 : BitVec 32 := 128#32
  let v2327 : BitVec 32 := Scalar.muli v1899 c128_i32_1591
  ![0, v2327.toNat]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1212 : BitVec 32 := 4#32
  let v1939 : BitVec 32 := Scalar.muli v1938 c4_i32_1212
  let c0_i32_1213 : BitVec 32 := 0#32
  let v1940 : BitVec 32 := Scalar.addi v1939 c0_i32_1213
  let v1952 : BitVec 1 := Scalar.cmpi .ne v1940 v2
  let v1953 : BitVec 32 := Scalar.extui v1952
  let c0_i32_1220 : BitVec 32 := 0#32
  let v1954 : BitVec 1 := Scalar.cmpi .ne v1953 c0_i32_1220
  v1954

def k0_off141 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1212 : BitVec 32 := 4#32
  let v1939 : BitVec 32 := Scalar.muli v1938 c4_i32_1212
  let c0_i32_1213 : BitVec 32 := 0#32
  let v1940 : BitVec 32 := Scalar.addi v1939 c0_i32_1213
  let v1941 : BitVec 32 := Scalar.subi v2 v1940
  let c32_i32_1214 : BitVec 32 := 32#32
  let c0_i32_1215 : BitVec 32 := 0#32
  let v1942 : BitVec 1 := Scalar.cmpi .eq c32_i32_1214 c0_i32_1215
  let c1_i32_1216 : BitVec 32 := 1#32
  let v1943 : BitVec 32 := Scalar.select v1942 c1_i32_1216 c32_i32_1214
  let v1944 : BitVec 32 := Scalar.remsi v1941 v1943
  let c0_i32_1218 : BitVec 32 := 0#32
  let v1946 : BitVec 1 := Scalar.cmpi .slt v1944 c0_i32_1218
  let c0_i32_1219 : BitVec 32 := 0#32
  let v1947 : BitVec 1 := Scalar.cmpi .slt v1943 c0_i32_1219
  let v1948 : BitVec 1 := Scalar.xori v1946 v1947
  let c0_i32_1217 : BitVec 32 := 0#32
  let v1945 : BitVec 1 := Scalar.cmpi .ne v1944 c0_i32_1217
  let v1949 : BitVec 1 := Scalar.andi v1948 v1945
  let v1950 : BitVec 32 := Scalar.addi v1944 v1943
  let v1951 : BitVec 32 := Scalar.select v1949 v1950 v1944
  ![v1951.toNat]
def k0_off142 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1212 : BitVec 32 := 4#32
  let v1939 : BitVec 32 := Scalar.muli v1938 c4_i32_1212
  let c0_i32_1213 : BitVec 32 := 0#32
  let v1940 : BitVec 32 := Scalar.addi v1939 c0_i32_1213
  let c128_i32_1591 : BitVec 32 := 128#32
  let v2327 : BitVec 32 := Scalar.muli v1940 c128_i32_1591
  ![0, v2327.toNat]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1221 : BitVec 32 := 4#32
  let v1955 : BitVec 32 := Scalar.muli v1938 c4_i32_1221
  let c1_i32_1222 : BitVec 32 := 1#32
  let v1956 : BitVec 32 := Scalar.addi v1955 c1_i32_1222
  let v1968 : BitVec 1 := Scalar.cmpi .ne v1956 v2
  let v1969 : BitVec 32 := Scalar.extui v1968
  let c0_i32_1229 : BitVec 32 := 0#32
  let v1970 : BitVec 1 := Scalar.cmpi .ne v1969 c0_i32_1229
  v1970

def k0_off143 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1221 : BitVec 32 := 4#32
  let v1955 : BitVec 32 := Scalar.muli v1938 c4_i32_1221
  let c1_i32_1222 : BitVec 32 := 1#32
  let v1956 : BitVec 32 := Scalar.addi v1955 c1_i32_1222
  let v1957 : BitVec 32 := Scalar.subi v2 v1956
  let c32_i32_1223 : BitVec 32 := 32#32
  let c0_i32_1224 : BitVec 32 := 0#32
  let v1958 : BitVec 1 := Scalar.cmpi .eq c32_i32_1223 c0_i32_1224
  let c1_i32_1225 : BitVec 32 := 1#32
  let v1959 : BitVec 32 := Scalar.select v1958 c1_i32_1225 c32_i32_1223
  let v1960 : BitVec 32 := Scalar.remsi v1957 v1959
  let c0_i32_1227 : BitVec 32 := 0#32
  let v1962 : BitVec 1 := Scalar.cmpi .slt v1960 c0_i32_1227
  let c0_i32_1228 : BitVec 32 := 0#32
  let v1963 : BitVec 1 := Scalar.cmpi .slt v1959 c0_i32_1228
  let v1964 : BitVec 1 := Scalar.xori v1962 v1963
  let c0_i32_1226 : BitVec 32 := 0#32
  let v1961 : BitVec 1 := Scalar.cmpi .ne v1960 c0_i32_1226
  let v1965 : BitVec 1 := Scalar.andi v1964 v1961
  let v1966 : BitVec 32 := Scalar.addi v1960 v1959
  let v1967 : BitVec 32 := Scalar.select v1965 v1966 v1960
  ![v1967.toNat]
def k0_off144 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1221 : BitVec 32 := 4#32
  let v1955 : BitVec 32 := Scalar.muli v1938 c4_i32_1221
  let c1_i32_1222 : BitVec 32 := 1#32
  let v1956 : BitVec 32 := Scalar.addi v1955 c1_i32_1222
  let c128_i32_1591 : BitVec 32 := 128#32
  let v2327 : BitVec 32 := Scalar.muli v1956 c128_i32_1591
  ![0, v2327.toNat]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1230 : BitVec 32 := 4#32
  let v1971 : BitVec 32 := Scalar.muli v1938 c4_i32_1230
  let c2_i32_1231 : BitVec 32 := 2#32
  let v1972 : BitVec 32 := Scalar.addi v1971 c2_i32_1231
  let v1984 : BitVec 1 := Scalar.cmpi .ne v1972 v2
  let v1985 : BitVec 32 := Scalar.extui v1984
  let c0_i32_1238 : BitVec 32 := 0#32
  let v1986 : BitVec 1 := Scalar.cmpi .ne v1985 c0_i32_1238
  v1986

def k0_off145 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1230 : BitVec 32 := 4#32
  let v1971 : BitVec 32 := Scalar.muli v1938 c4_i32_1230
  let c2_i32_1231 : BitVec 32 := 2#32
  let v1972 : BitVec 32 := Scalar.addi v1971 c2_i32_1231
  let v1973 : BitVec 32 := Scalar.subi v2 v1972
  let c32_i32_1232 : BitVec 32 := 32#32
  let c0_i32_1233 : BitVec 32 := 0#32
  let v1974 : BitVec 1 := Scalar.cmpi .eq c32_i32_1232 c0_i32_1233
  let c1_i32_1234 : BitVec 32 := 1#32
  let v1975 : BitVec 32 := Scalar.select v1974 c1_i32_1234 c32_i32_1232
  let v1976 : BitVec 32 := Scalar.remsi v1973 v1975
  let c0_i32_1236 : BitVec 32 := 0#32
  let v1978 : BitVec 1 := Scalar.cmpi .slt v1976 c0_i32_1236
  let c0_i32_1237 : BitVec 32 := 0#32
  let v1979 : BitVec 1 := Scalar.cmpi .slt v1975 c0_i32_1237
  let v1980 : BitVec 1 := Scalar.xori v1978 v1979
  let c0_i32_1235 : BitVec 32 := 0#32
  let v1977 : BitVec 1 := Scalar.cmpi .ne v1976 c0_i32_1235
  let v1981 : BitVec 1 := Scalar.andi v1980 v1977
  let v1982 : BitVec 32 := Scalar.addi v1976 v1975
  let v1983 : BitVec 32 := Scalar.select v1981 v1982 v1976
  ![v1983.toNat]
def k0_off146 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1230 : BitVec 32 := 4#32
  let v1971 : BitVec 32 := Scalar.muli v1938 c4_i32_1230
  let c2_i32_1231 : BitVec 32 := 2#32
  let v1972 : BitVec 32 := Scalar.addi v1971 c2_i32_1231
  let c128_i32_1591 : BitVec 32 := 128#32
  let v2327 : BitVec 32 := Scalar.muli v1972 c128_i32_1591
  ![0, v2327.toNat]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1239 : BitVec 32 := 4#32
  let v1987 : BitVec 32 := Scalar.muli v1938 c4_i32_1239
  let c3_i32_1240 : BitVec 32 := 3#32
  let v1988 : BitVec 32 := Scalar.addi v1987 c3_i32_1240
  let v2000 : BitVec 1 := Scalar.cmpi .ne v1988 v2
  let v2001 : BitVec 32 := Scalar.extui v2000
  let c0_i32_1247 : BitVec 32 := 0#32
  let v2002 : BitVec 1 := Scalar.cmpi .ne v2001 c0_i32_1247
  v2002

def k0_off147 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1239 : BitVec 32 := 4#32
  let v1987 : BitVec 32 := Scalar.muli v1938 c4_i32_1239
  let c3_i32_1240 : BitVec 32 := 3#32
  let v1988 : BitVec 32 := Scalar.addi v1987 c3_i32_1240
  let v1989 : BitVec 32 := Scalar.subi v2 v1988
  let c32_i32_1241 : BitVec 32 := 32#32
  let c0_i32_1242 : BitVec 32 := 0#32
  let v1990 : BitVec 1 := Scalar.cmpi .eq c32_i32_1241 c0_i32_1242
  let c1_i32_1243 : BitVec 32 := 1#32
  let v1991 : BitVec 32 := Scalar.select v1990 c1_i32_1243 c32_i32_1241
  let v1992 : BitVec 32 := Scalar.remsi v1989 v1991
  let c0_i32_1245 : BitVec 32 := 0#32
  let v1994 : BitVec 1 := Scalar.cmpi .slt v1992 c0_i32_1245
  let c0_i32_1246 : BitVec 32 := 0#32
  let v1995 : BitVec 1 := Scalar.cmpi .slt v1991 c0_i32_1246
  let v1996 : BitVec 1 := Scalar.xori v1994 v1995
  let c0_i32_1244 : BitVec 32 := 0#32
  let v1993 : BitVec 1 := Scalar.cmpi .ne v1992 c0_i32_1244
  let v1997 : BitVec 1 := Scalar.andi v1996 v1993
  let v1998 : BitVec 32 := Scalar.addi v1992 v1991
  let v1999 : BitVec 32 := Scalar.select v1997 v1998 v1992
  ![v1999.toNat]
def k0_off148 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c5_i32_1205 : BitVec 32 := 5#32
  let v1928 : BitVec 32 := Scalar.addi v3 c5_i32_1205
  let c8_i32_1206 : BitVec 32 := 8#32
  let c0_i32_1207 : BitVec 32 := 0#32
  let v1929 : BitVec 1 := Scalar.cmpi .eq c8_i32_1206 c0_i32_1207
  let c1_i32_1208 : BitVec 32 := 1#32
  let v1930 : BitVec 32 := Scalar.select v1929 c1_i32_1208 c8_i32_1206
  let v1931 : BitVec 32 := Scalar.remsi v1928 v1930
  let c0_i32_1210 : BitVec 32 := 0#32
  let v1933 : BitVec 1 := Scalar.cmpi .slt v1931 c0_i32_1210
  let c0_i32_1211 : BitVec 32 := 0#32
  let v1934 : BitVec 1 := Scalar.cmpi .slt v1930 c0_i32_1211
  let v1935 : BitVec 1 := Scalar.xori v1933 v1934
  let c0_i32_1209 : BitVec 32 := 0#32
  let v1932 : BitVec 1 := Scalar.cmpi .ne v1931 c0_i32_1209
  let v1936 : BitVec 1 := Scalar.andi v1935 v1932
  let v1937 : BitVec 32 := Scalar.addi v1931 v1930
  let v1938 : BitVec 32 := Scalar.select v1936 v1937 v1931
  let c4_i32_1239 : BitVec 32 := 4#32
  let v1987 : BitVec 32 := Scalar.muli v1938 c4_i32_1239
  let c3_i32_1240 : BitVec 32 := 3#32
  let v1988 : BitVec 32 := Scalar.addi v1987 c3_i32_1240
  let c128_i32_1591 : BitVec 32 := 128#32
  let v2327 : BitVec 32 := Scalar.muli v1988 c128_i32_1591
  ![0, v2327.toNat]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1267 : BitVec 32 := 4#32
  let v2028 : BitVec 32 := Scalar.muli v2027 c4_i32_1267
  let c0_i32_1268 : BitVec 32 := 0#32
  let v2029 : BitVec 32 := Scalar.addi v2028 c0_i32_1268
  let v2041 : BitVec 1 := Scalar.cmpi .ne v2029 v2
  let v2042 : BitVec 32 := Scalar.extui v2041
  let c0_i32_1275 : BitVec 32 := 0#32
  let v2043 : BitVec 1 := Scalar.cmpi .ne v2042 c0_i32_1275
  v2043

def k0_off149 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1267 : BitVec 32 := 4#32
  let v2028 : BitVec 32 := Scalar.muli v2027 c4_i32_1267
  let c0_i32_1268 : BitVec 32 := 0#32
  let v2029 : BitVec 32 := Scalar.addi v2028 c0_i32_1268
  let v2030 : BitVec 32 := Scalar.subi v2 v2029
  let c32_i32_1269 : BitVec 32 := 32#32
  let c0_i32_1270 : BitVec 32 := 0#32
  let v2031 : BitVec 1 := Scalar.cmpi .eq c32_i32_1269 c0_i32_1270
  let c1_i32_1271 : BitVec 32 := 1#32
  let v2032 : BitVec 32 := Scalar.select v2031 c1_i32_1271 c32_i32_1269
  let v2033 : BitVec 32 := Scalar.remsi v2030 v2032
  let c0_i32_1273 : BitVec 32 := 0#32
  let v2035 : BitVec 1 := Scalar.cmpi .slt v2033 c0_i32_1273
  let c0_i32_1274 : BitVec 32 := 0#32
  let v2036 : BitVec 1 := Scalar.cmpi .slt v2032 c0_i32_1274
  let v2037 : BitVec 1 := Scalar.xori v2035 v2036
  let c0_i32_1272 : BitVec 32 := 0#32
  let v2034 : BitVec 1 := Scalar.cmpi .ne v2033 c0_i32_1272
  let v2038 : BitVec 1 := Scalar.andi v2037 v2034
  let v2039 : BitVec 32 := Scalar.addi v2033 v2032
  let v2040 : BitVec 32 := Scalar.select v2038 v2039 v2033
  ![v2040.toNat]
def k0_off150 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1267 : BitVec 32 := 4#32
  let v2028 : BitVec 32 := Scalar.muli v2027 c4_i32_1267
  let c0_i32_1268 : BitVec 32 := 0#32
  let v2029 : BitVec 32 := Scalar.addi v2028 c0_i32_1268
  let c128_i32_1591 : BitVec 32 := 128#32
  let v2327 : BitVec 32 := Scalar.muli v2029 c128_i32_1591
  ![0, v2327.toNat]
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1276 : BitVec 32 := 4#32
  let v2044 : BitVec 32 := Scalar.muli v2027 c4_i32_1276
  let c1_i32_1277 : BitVec 32 := 1#32
  let v2045 : BitVec 32 := Scalar.addi v2044 c1_i32_1277
  let v2057 : BitVec 1 := Scalar.cmpi .ne v2045 v2
  let v2058 : BitVec 32 := Scalar.extui v2057
  let c0_i32_1284 : BitVec 32 := 0#32
  let v2059 : BitVec 1 := Scalar.cmpi .ne v2058 c0_i32_1284
  v2059

def k0_off151 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1276 : BitVec 32 := 4#32
  let v2044 : BitVec 32 := Scalar.muli v2027 c4_i32_1276
  let c1_i32_1277 : BitVec 32 := 1#32
  let v2045 : BitVec 32 := Scalar.addi v2044 c1_i32_1277
  let v2046 : BitVec 32 := Scalar.subi v2 v2045
  let c32_i32_1278 : BitVec 32 := 32#32
  let c0_i32_1279 : BitVec 32 := 0#32
  let v2047 : BitVec 1 := Scalar.cmpi .eq c32_i32_1278 c0_i32_1279
  let c1_i32_1280 : BitVec 32 := 1#32
  let v2048 : BitVec 32 := Scalar.select v2047 c1_i32_1280 c32_i32_1278
  let v2049 : BitVec 32 := Scalar.remsi v2046 v2048
  let c0_i32_1282 : BitVec 32 := 0#32
  let v2051 : BitVec 1 := Scalar.cmpi .slt v2049 c0_i32_1282
  let c0_i32_1283 : BitVec 32 := 0#32
  let v2052 : BitVec 1 := Scalar.cmpi .slt v2048 c0_i32_1283
  let v2053 : BitVec 1 := Scalar.xori v2051 v2052
  let c0_i32_1281 : BitVec 32 := 0#32
  let v2050 : BitVec 1 := Scalar.cmpi .ne v2049 c0_i32_1281
  let v2054 : BitVec 1 := Scalar.andi v2053 v2050
  let v2055 : BitVec 32 := Scalar.addi v2049 v2048
  let v2056 : BitVec 32 := Scalar.select v2054 v2055 v2049
  ![v2056.toNat]
def k0_off152 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1276 : BitVec 32 := 4#32
  let v2044 : BitVec 32 := Scalar.muli v2027 c4_i32_1276
  let c1_i32_1277 : BitVec 32 := 1#32
  let v2045 : BitVec 32 := Scalar.addi v2044 c1_i32_1277
  let c128_i32_1591 : BitVec 32 := 128#32
  let v2327 : BitVec 32 := Scalar.muli v2045 c128_i32_1591
  ![0, v2327.toNat]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1285 : BitVec 32 := 4#32
  let v2060 : BitVec 32 := Scalar.muli v2027 c4_i32_1285
  let c2_i32_1286 : BitVec 32 := 2#32
  let v2061 : BitVec 32 := Scalar.addi v2060 c2_i32_1286
  let v2073 : BitVec 1 := Scalar.cmpi .ne v2061 v2
  let v2074 : BitVec 32 := Scalar.extui v2073
  let c0_i32_1293 : BitVec 32 := 0#32
  let v2075 : BitVec 1 := Scalar.cmpi .ne v2074 c0_i32_1293
  v2075

def k0_off153 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1285 : BitVec 32 := 4#32
  let v2060 : BitVec 32 := Scalar.muli v2027 c4_i32_1285
  let c2_i32_1286 : BitVec 32 := 2#32
  let v2061 : BitVec 32 := Scalar.addi v2060 c2_i32_1286
  let v2062 : BitVec 32 := Scalar.subi v2 v2061
  let c32_i32_1287 : BitVec 32 := 32#32
  let c0_i32_1288 : BitVec 32 := 0#32
  let v2063 : BitVec 1 := Scalar.cmpi .eq c32_i32_1287 c0_i32_1288
  let c1_i32_1289 : BitVec 32 := 1#32
  let v2064 : BitVec 32 := Scalar.select v2063 c1_i32_1289 c32_i32_1287
  let v2065 : BitVec 32 := Scalar.remsi v2062 v2064
  let c0_i32_1291 : BitVec 32 := 0#32
  let v2067 : BitVec 1 := Scalar.cmpi .slt v2065 c0_i32_1291
  let c0_i32_1292 : BitVec 32 := 0#32
  let v2068 : BitVec 1 := Scalar.cmpi .slt v2064 c0_i32_1292
  let v2069 : BitVec 1 := Scalar.xori v2067 v2068
  let c0_i32_1290 : BitVec 32 := 0#32
  let v2066 : BitVec 1 := Scalar.cmpi .ne v2065 c0_i32_1290
  let v2070 : BitVec 1 := Scalar.andi v2069 v2066
  let v2071 : BitVec 32 := Scalar.addi v2065 v2064
  let v2072 : BitVec 32 := Scalar.select v2070 v2071 v2065
  ![v2072.toNat]
def k0_off154 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1285 : BitVec 32 := 4#32
  let v2060 : BitVec 32 := Scalar.muli v2027 c4_i32_1285
  let c2_i32_1286 : BitVec 32 := 2#32
  let v2061 : BitVec 32 := Scalar.addi v2060 c2_i32_1286
  let c128_i32_1591 : BitVec 32 := 128#32
  let v2327 : BitVec 32 := Scalar.muli v2061 c128_i32_1591
  ![0, v2327.toNat]
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1294 : BitVec 32 := 4#32
  let v2076 : BitVec 32 := Scalar.muli v2027 c4_i32_1294
  let c3_i32_1295 : BitVec 32 := 3#32
  let v2077 : BitVec 32 := Scalar.addi v2076 c3_i32_1295
  let v2089 : BitVec 1 := Scalar.cmpi .ne v2077 v2
  let v2090 : BitVec 32 := Scalar.extui v2089
  let c0_i32_1302 : BitVec 32 := 0#32
  let v2091 : BitVec 1 := Scalar.cmpi .ne v2090 c0_i32_1302
  v2091

def k0_off155 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1294 : BitVec 32 := 4#32
  let v2076 : BitVec 32 := Scalar.muli v2027 c4_i32_1294
  let c3_i32_1295 : BitVec 32 := 3#32
  let v2077 : BitVec 32 := Scalar.addi v2076 c3_i32_1295
  let v2078 : BitVec 32 := Scalar.subi v2 v2077
  let c32_i32_1296 : BitVec 32 := 32#32
  let c0_i32_1297 : BitVec 32 := 0#32
  let v2079 : BitVec 1 := Scalar.cmpi .eq c32_i32_1296 c0_i32_1297
  let c1_i32_1298 : BitVec 32 := 1#32
  let v2080 : BitVec 32 := Scalar.select v2079 c1_i32_1298 c32_i32_1296
  let v2081 : BitVec 32 := Scalar.remsi v2078 v2080
  let c0_i32_1300 : BitVec 32 := 0#32
  let v2083 : BitVec 1 := Scalar.cmpi .slt v2081 c0_i32_1300
  let c0_i32_1301 : BitVec 32 := 0#32
  let v2084 : BitVec 1 := Scalar.cmpi .slt v2080 c0_i32_1301
  let v2085 : BitVec 1 := Scalar.xori v2083 v2084
  let c0_i32_1299 : BitVec 32 := 0#32
  let v2082 : BitVec 1 := Scalar.cmpi .ne v2081 c0_i32_1299
  let v2086 : BitVec 1 := Scalar.andi v2085 v2082
  let v2087 : BitVec 32 := Scalar.addi v2081 v2080
  let v2088 : BitVec 32 := Scalar.select v2086 v2087 v2081
  ![v2088.toNat]
def k0_off156 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c6_i32_1260 : BitVec 32 := 6#32
  let v2017 : BitVec 32 := Scalar.addi v3 c6_i32_1260
  let c8_i32_1261 : BitVec 32 := 8#32
  let c0_i32_1262 : BitVec 32 := 0#32
  let v2018 : BitVec 1 := Scalar.cmpi .eq c8_i32_1261 c0_i32_1262
  let c1_i32_1263 : BitVec 32 := 1#32
  let v2019 : BitVec 32 := Scalar.select v2018 c1_i32_1263 c8_i32_1261
  let v2020 : BitVec 32 := Scalar.remsi v2017 v2019
  let c0_i32_1265 : BitVec 32 := 0#32
  let v2022 : BitVec 1 := Scalar.cmpi .slt v2020 c0_i32_1265
  let c0_i32_1266 : BitVec 32 := 0#32
  let v2023 : BitVec 1 := Scalar.cmpi .slt v2019 c0_i32_1266
  let v2024 : BitVec 1 := Scalar.xori v2022 v2023
  let c0_i32_1264 : BitVec 32 := 0#32
  let v2021 : BitVec 1 := Scalar.cmpi .ne v2020 c0_i32_1264
  let v2025 : BitVec 1 := Scalar.andi v2024 v2021
  let v2026 : BitVec 32 := Scalar.addi v2020 v2019
  let v2027 : BitVec 32 := Scalar.select v2025 v2026 v2020
  let c4_i32_1294 : BitVec 32 := 4#32
  let v2076 : BitVec 32 := Scalar.muli v2027 c4_i32_1294
  let c3_i32_1295 : BitVec 32 := 3#32
  let v2077 : BitVec 32 := Scalar.addi v2076 c3_i32_1295
  let c128_i32_1591 : BitVec 32 := 128#32
  let v2327 : BitVec 32 := Scalar.muli v2077 c128_i32_1591
  ![0, v2327.toNat]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1322 : BitVec 32 := 4#32
  let v2117 : BitVec 32 := Scalar.muli v2116 c4_i32_1322
  let c0_i32_1323 : BitVec 32 := 0#32
  let v2118 : BitVec 32 := Scalar.addi v2117 c0_i32_1323
  let v2130 : BitVec 1 := Scalar.cmpi .ne v2118 v2
  let v2131 : BitVec 32 := Scalar.extui v2130
  let c0_i32_1330 : BitVec 32 := 0#32
  let v2132 : BitVec 1 := Scalar.cmpi .ne v2131 c0_i32_1330
  v2132

def k0_off157 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1322 : BitVec 32 := 4#32
  let v2117 : BitVec 32 := Scalar.muli v2116 c4_i32_1322
  let c0_i32_1323 : BitVec 32 := 0#32
  let v2118 : BitVec 32 := Scalar.addi v2117 c0_i32_1323
  let v2119 : BitVec 32 := Scalar.subi v2 v2118
  let c32_i32_1324 : BitVec 32 := 32#32
  let c0_i32_1325 : BitVec 32 := 0#32
  let v2120 : BitVec 1 := Scalar.cmpi .eq c32_i32_1324 c0_i32_1325
  let c1_i32_1326 : BitVec 32 := 1#32
  let v2121 : BitVec 32 := Scalar.select v2120 c1_i32_1326 c32_i32_1324
  let v2122 : BitVec 32 := Scalar.remsi v2119 v2121
  let c0_i32_1328 : BitVec 32 := 0#32
  let v2124 : BitVec 1 := Scalar.cmpi .slt v2122 c0_i32_1328
  let c0_i32_1329 : BitVec 32 := 0#32
  let v2125 : BitVec 1 := Scalar.cmpi .slt v2121 c0_i32_1329
  let v2126 : BitVec 1 := Scalar.xori v2124 v2125
  let c0_i32_1327 : BitVec 32 := 0#32
  let v2123 : BitVec 1 := Scalar.cmpi .ne v2122 c0_i32_1327
  let v2127 : BitVec 1 := Scalar.andi v2126 v2123
  let v2128 : BitVec 32 := Scalar.addi v2122 v2121
  let v2129 : BitVec 32 := Scalar.select v2127 v2128 v2122
  ![v2129.toNat]
def k0_off158 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1322 : BitVec 32 := 4#32
  let v2117 : BitVec 32 := Scalar.muli v2116 c4_i32_1322
  let c0_i32_1323 : BitVec 32 := 0#32
  let v2118 : BitVec 32 := Scalar.addi v2117 c0_i32_1323
  let c128_i32_1591 : BitVec 32 := 128#32
  let v2327 : BitVec 32 := Scalar.muli v2118 c128_i32_1591
  ![0, v2327.toNat]
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1331 : BitVec 32 := 4#32
  let v2133 : BitVec 32 := Scalar.muli v2116 c4_i32_1331
  let c1_i32_1332 : BitVec 32 := 1#32
  let v2134 : BitVec 32 := Scalar.addi v2133 c1_i32_1332
  let v2146 : BitVec 1 := Scalar.cmpi .ne v2134 v2
  let v2147 : BitVec 32 := Scalar.extui v2146
  let c0_i32_1339 : BitVec 32 := 0#32
  let v2148 : BitVec 1 := Scalar.cmpi .ne v2147 c0_i32_1339
  v2148

def k0_off159 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1331 : BitVec 32 := 4#32
  let v2133 : BitVec 32 := Scalar.muli v2116 c4_i32_1331
  let c1_i32_1332 : BitVec 32 := 1#32
  let v2134 : BitVec 32 := Scalar.addi v2133 c1_i32_1332
  let v2135 : BitVec 32 := Scalar.subi v2 v2134
  let c32_i32_1333 : BitVec 32 := 32#32
  let c0_i32_1334 : BitVec 32 := 0#32
  let v2136 : BitVec 1 := Scalar.cmpi .eq c32_i32_1333 c0_i32_1334
  let c1_i32_1335 : BitVec 32 := 1#32
  let v2137 : BitVec 32 := Scalar.select v2136 c1_i32_1335 c32_i32_1333
  let v2138 : BitVec 32 := Scalar.remsi v2135 v2137
  let c0_i32_1337 : BitVec 32 := 0#32
  let v2140 : BitVec 1 := Scalar.cmpi .slt v2138 c0_i32_1337
  let c0_i32_1338 : BitVec 32 := 0#32
  let v2141 : BitVec 1 := Scalar.cmpi .slt v2137 c0_i32_1338
  let v2142 : BitVec 1 := Scalar.xori v2140 v2141
  let c0_i32_1336 : BitVec 32 := 0#32
  let v2139 : BitVec 1 := Scalar.cmpi .ne v2138 c0_i32_1336
  let v2143 : BitVec 1 := Scalar.andi v2142 v2139
  let v2144 : BitVec 32 := Scalar.addi v2138 v2137
  let v2145 : BitVec 32 := Scalar.select v2143 v2144 v2138
  ![v2145.toNat]
def k0_off160 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1331 : BitVec 32 := 4#32
  let v2133 : BitVec 32 := Scalar.muli v2116 c4_i32_1331
  let c1_i32_1332 : BitVec 32 := 1#32
  let v2134 : BitVec 32 := Scalar.addi v2133 c1_i32_1332
  let c128_i32_1591 : BitVec 32 := 128#32
  let v2327 : BitVec 32 := Scalar.muli v2134 c128_i32_1591
  ![0, v2327.toNat]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1340 : BitVec 32 := 4#32
  let v2149 : BitVec 32 := Scalar.muli v2116 c4_i32_1340
  let c2_i32_1341 : BitVec 32 := 2#32
  let v2150 : BitVec 32 := Scalar.addi v2149 c2_i32_1341
  let v2162 : BitVec 1 := Scalar.cmpi .ne v2150 v2
  let v2163 : BitVec 32 := Scalar.extui v2162
  let c0_i32_1348 : BitVec 32 := 0#32
  let v2164 : BitVec 1 := Scalar.cmpi .ne v2163 c0_i32_1348
  v2164

def k0_off161 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1340 : BitVec 32 := 4#32
  let v2149 : BitVec 32 := Scalar.muli v2116 c4_i32_1340
  let c2_i32_1341 : BitVec 32 := 2#32
  let v2150 : BitVec 32 := Scalar.addi v2149 c2_i32_1341
  let v2151 : BitVec 32 := Scalar.subi v2 v2150
  let c32_i32_1342 : BitVec 32 := 32#32
  let c0_i32_1343 : BitVec 32 := 0#32
  let v2152 : BitVec 1 := Scalar.cmpi .eq c32_i32_1342 c0_i32_1343
  let c1_i32_1344 : BitVec 32 := 1#32
  let v2153 : BitVec 32 := Scalar.select v2152 c1_i32_1344 c32_i32_1342
  let v2154 : BitVec 32 := Scalar.remsi v2151 v2153
  let c0_i32_1346 : BitVec 32 := 0#32
  let v2156 : BitVec 1 := Scalar.cmpi .slt v2154 c0_i32_1346
  let c0_i32_1347 : BitVec 32 := 0#32
  let v2157 : BitVec 1 := Scalar.cmpi .slt v2153 c0_i32_1347
  let v2158 : BitVec 1 := Scalar.xori v2156 v2157
  let c0_i32_1345 : BitVec 32 := 0#32
  let v2155 : BitVec 1 := Scalar.cmpi .ne v2154 c0_i32_1345
  let v2159 : BitVec 1 := Scalar.andi v2158 v2155
  let v2160 : BitVec 32 := Scalar.addi v2154 v2153
  let v2161 : BitVec 32 := Scalar.select v2159 v2160 v2154
  ![v2161.toNat]
def k0_off162 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1340 : BitVec 32 := 4#32
  let v2149 : BitVec 32 := Scalar.muli v2116 c4_i32_1340
  let c2_i32_1341 : BitVec 32 := 2#32
  let v2150 : BitVec 32 := Scalar.addi v2149 c2_i32_1341
  let c128_i32_1591 : BitVec 32 := 128#32
  let v2327 : BitVec 32 := Scalar.muli v2150 c128_i32_1591
  ![0, v2327.toNat]
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1349 : BitVec 32 := 4#32
  let v2165 : BitVec 32 := Scalar.muli v2116 c4_i32_1349
  let c3_i32_1350 : BitVec 32 := 3#32
  let v2166 : BitVec 32 := Scalar.addi v2165 c3_i32_1350
  let v2178 : BitVec 1 := Scalar.cmpi .ne v2166 v2
  let v2179 : BitVec 32 := Scalar.extui v2178
  let c0_i32_1357 : BitVec 32 := 0#32
  let v2180 : BitVec 1 := Scalar.cmpi .ne v2179 c0_i32_1357
  v2180

def k0_off163 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1349 : BitVec 32 := 4#32
  let v2165 : BitVec 32 := Scalar.muli v2116 c4_i32_1349
  let c3_i32_1350 : BitVec 32 := 3#32
  let v2166 : BitVec 32 := Scalar.addi v2165 c3_i32_1350
  let v2167 : BitVec 32 := Scalar.subi v2 v2166
  let c32_i32_1351 : BitVec 32 := 32#32
  let c0_i32_1352 : BitVec 32 := 0#32
  let v2168 : BitVec 1 := Scalar.cmpi .eq c32_i32_1351 c0_i32_1352
  let c1_i32_1353 : BitVec 32 := 1#32
  let v2169 : BitVec 32 := Scalar.select v2168 c1_i32_1353 c32_i32_1351
  let v2170 : BitVec 32 := Scalar.remsi v2167 v2169
  let c0_i32_1355 : BitVec 32 := 0#32
  let v2172 : BitVec 1 := Scalar.cmpi .slt v2170 c0_i32_1355
  let c0_i32_1356 : BitVec 32 := 0#32
  let v2173 : BitVec 1 := Scalar.cmpi .slt v2169 c0_i32_1356
  let v2174 : BitVec 1 := Scalar.xori v2172 v2173
  let c0_i32_1354 : BitVec 32 := 0#32
  let v2171 : BitVec 1 := Scalar.cmpi .ne v2170 c0_i32_1354
  let v2175 : BitVec 1 := Scalar.andi v2174 v2171
  let v2176 : BitVec 32 := Scalar.addi v2170 v2169
  let v2177 : BitVec 32 := Scalar.select v2175 v2176 v2170
  ![v2177.toNat]
def k0_off164 (d0 : Dev nD) : Fin 2 → Nat :=
  let c0_i32_1594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.muli v2 c0_i32
  let c7_i32_1315 : BitVec 32 := 7#32
  let v2106 : BitVec 32 := Scalar.addi v3 c7_i32_1315
  let c8_i32_1316 : BitVec 32 := 8#32
  let c0_i32_1317 : BitVec 32 := 0#32
  let v2107 : BitVec 1 := Scalar.cmpi .eq c8_i32_1316 c0_i32_1317
  let c1_i32_1318 : BitVec 32 := 1#32
  let v2108 : BitVec 32 := Scalar.select v2107 c1_i32_1318 c8_i32_1316
  let v2109 : BitVec 32 := Scalar.remsi v2106 v2108
  let c0_i32_1320 : BitVec 32 := 0#32
  let v2111 : BitVec 1 := Scalar.cmpi .slt v2109 c0_i32_1320
  let c0_i32_1321 : BitVec 32 := 0#32
  let v2112 : BitVec 1 := Scalar.cmpi .slt v2108 c0_i32_1321
  let v2113 : BitVec 1 := Scalar.xori v2111 v2112
  let c0_i32_1319 : BitVec 32 := 0#32
  let v2110 : BitVec 1 := Scalar.cmpi .ne v2109 c0_i32_1319
  let v2114 : BitVec 1 := Scalar.andi v2113 v2110
  let v2115 : BitVec 32 := Scalar.addi v2109 v2108
  let v2116 : BitVec 32 := Scalar.select v2114 v2115 v2109
  let c4_i32_1349 : BitVec 32 := 4#32
  let v2165 : BitVec 32 := Scalar.muli v2116 c4_i32_1349
  let c3_i32_1350 : BitVec 32 := 3#32
  let v2166 : BitVec 32 := Scalar.addi v2165 c3_i32_1350
  let c128_i32_1591 : BitVec 32 := 128#32
  let v2327 : BitVec 32 := Scalar.muli v2166 c128_i32_1591
  ![0, v2327.toNat]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ClippedIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.A2A.Cells.lean ====
/-
# The all-to-all: devices, semaphores, buffers, and how the buffers are cut

Every device owns four kinds of semaphores of its own and the barrier semaphore of the launch. This module
names each of them by a small index, shows that the slices the kernel's text writes name the same semaphores,
and cuts the buffers the transfers move into their blocks.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Semaphores -/

/-- The kernel's own semaphores: the four of the weight ring, then the send, the receive and the ready
    semaphores, one for each distance between two devices. -/
abbrev OwnIx : Type := Fin 4 ⊕ Fin 32 ⊕ Fin 32 ⊕ Fin 32
/-- All the semaphores of a device the protocol uses: the barrier (`none`) and its own. -/
abbrev CIx : Type := Option OwnIx

abbrev kW (b : Fin 4) : CIx := some (.inl b)
abbrev kS (o : Fin 32) : CIx := some (.inr (.inl o))
abbrev kR (o : Fin 32) : CIx := some (.inr (.inr (.inl o)))
abbrev kA (o : Fin 32) : CIx := some (.inr (.inr (.inr o)))

/-- The barrier semaphore of the launch. -/
abbrev barS : Sem sig := (SemArray.scalar (sig.barrier 0 rfl) : Sems sig S_).sem

/-- Weight semaphore `b`. -/
abbrev wS (b : Fin 4) : DmaSem sig := ⟨4 + b.val, by have := b.isLt; show 4 + b.val < 72; omega⟩
/-- Send semaphore at distance `o`. -/
abbrev sS (o : Fin 32) : DmaSem sig := ⟨8 + o.val, by have := o.isLt; show 8 + o.val < 72; omega⟩
/-- Receive semaphore at distance `o`. -/
abbrev rS (o : Fin 32) : DmaSem sig := ⟨40 + o.val, by have := o.isLt; show 40 + o.val < 72; omega⟩
/-- Ready semaphore at distance `o`. -/
abbrev aS (o : Fin 32) : Sem sig := ⟨o.val, by have := o.isLt; show o.val < 33; omega⟩

/-- The kernel's own semaphores as locations. -/
def osem : OwnIx → SemLoc sig
  | .inl b => .dma (wS b)
  | .inr (.inl o) => .dma (sS o)
  | .inr (.inr (.inl o)) => .dma (rS o)
  | .inr (.inr (.inr o)) => .reg (aS o)

/-- All semaphores of the protocol as locations. -/
def csem : CIx → SemLoc sig
  | none => .reg barS
  | some k => osem k

theorem csem_injective : Function.Injective csem := by decide +kernel

/-- The cell of semaphore `k` of device `c`. -/
abbrev cell (ck : Dev nD × CIx) : GSem nD τ sig := ((ck.1 : Thread nD τ), csem ck.2)

theorem cell_injective : Function.Injective cell := by
  rintro ⟨c, k⟩ ⟨c', k'⟩ h
  have h1 : c = c' := congrArg (fun g : GSem nD τ sig => g.1.1) h
  have h2 : k = k' := csem_injective (congrArg Prod.snd h)
  rw [h1, h2]

/-- One element of an array of consecutive semaphores, as the kernel's text selects it. -/
theorem sem_slice {n N base : ℕ} (hb : base + (⟨1, ![N]⟩ : Shape).numel ≤ n) (off : Fin 1 → ℕ) (o : ℕ) (ho : off = ![o]) (hinb)
    (hsq : Shape.Squeezes S1 S_) (i : Fin n) (hi : i.val = base + o) :
    (((SemArray.consecutive base (⟨1, ![N]⟩ : Shape) hb).slice (Rect.unit (s := ⟨1, ![N]⟩) off S1.size hinb)).squeeze S_ hsq).sem = i := by
  subst ho
  refine Fin.ext ?_
  rw [hi]
  show base + _ = base + o
  congr 1
  rw [Shape.rowMajor_val_one, Rect.emb_apply]
  have := ((Shape.reshapeEquiv (s := S1) (s' := S_) hsq.numel_eq (fun i => i.elim0)) 0).isLt
  show o + 1 * _ = o
  have h0 : ∀ z : Fin 1, o + 1 * z.val = o := fun z => by omega
  exact h0 _

/-! ## The blocks of the buffers -/

/-- Rows `128 d …` of the cast operand: what device `d` is sent. -/
def rowsQ (d : ℕ) : Finset S4096x128.Idx := Finset.univ.filter fun j => 128 * d ≤ (j 0).val ∧ (j 0).val < 128 * d + 128
/-- Columns `lo … hi` of the gathered operand. -/
def cols (lo hi : ℕ) : Finset S128x4096.Idx := Finset.univ.filter fun j => lo ≤ (j 1).val ∧ (j 1).val < hi
/-- The columns of the gathered operand which device `n` fills. -/
abbrev colsD (n : ℕ) : Finset S128x4096.Idx := cols (128 * n) (128 * n + 128)
/-- Rows `512 i …` of the weights. -/
def rowsW (i : ℕ) : Finset S4096x2048.Idx := Finset.univ.filter fun j => 512 * i ≤ (j 0).val ∧ (j 0).val < 512 * i + 512
/-- Slot `b` of the weight ring. -/
def slotB (b : ℕ) : Finset S4x512x2048.Idx := Finset.univ.filter fun j => (j 0).val = b

theorem mem_rowsQ {d : ℕ} {j : S4096x128.Idx} : j ∈ rowsQ d ↔ 128 * d ≤ (j 0).val ∧ (j 0).val < 128 * d + 128 := by
  simp [rowsQ]
theorem mem_cols {lo hi : ℕ} {j : S128x4096.Idx} : j ∈ cols lo hi ↔ lo ≤ (j 1).val ∧ (j 1).val < hi := by
  simp [cols]
theorem mem_rowsW {i : ℕ} {j : S4096x2048.Idx} : j ∈ rowsW i ↔ 512 * i ≤ (j 0).val ∧ (j 0).val < 512 * i + 512 := by
  simp [rowsW]
theorem mem_slotB {b : ℕ} {j : S4x512x2048.Idx} : j ∈ slotB b ↔ (j 0).val = b := by simp [slotB]

theorem rect_rowsQ {off : Fin 2 → ℕ} {d : ℕ} (h : off = ![128 * d, 0]) (hinb) :
    (Rect.unit (s := S4096x128) off S128x128.size hinb).set = rowsQ d := by
  subst h; ext j
  rw [Rect.mem_set_unit, mem_rowsQ, Fin.forall_fin_two]
  have h1 : (j 1).val < 128 := (j 1).isLt
  show (128 * d ≤ (j 0).val ∧ (j 0).val < 128 * d + 128) ∧ (0 ≤ (j 1).val ∧ (j 1).val < 0 + 128) ↔ _
  omega
theorem rect_colsD {off : Fin 2 → ℕ} {n : ℕ} (h : off = ![0, 128 * n]) (hinb) :
    (Rect.unit (s := S128x4096) off S128x128.size hinb).set = colsD n := by
  subst h; ext j
  rw [Rect.mem_set_unit, mem_cols, Fin.forall_fin_two]
  have h1 : (j 0).val < 128 := (j 0).isLt
  show (0 ≤ (j 0).val ∧ (j 0).val < 0 + 128) ∧ (128 * n ≤ (j 1).val ∧ (j 1).val < 128 * n + 128) ↔ _
  omega
theorem rect_cols512 {off : Fin 2 → ℕ} {i : ℕ} (h : off = ![0, 512 * i]) (hinb) :
    (Rect.unit (s := S128x4096) off S128x512.size hinb).set = cols (512 * i) (512 * i + 512) := by
  subst h; ext j
  rw [Rect.mem_set_unit, mem_cols, Fin.forall_fin_two]
  have h1 : (j 0).val < 128 := (j 0).isLt
  show (0 ≤ (j 0).val ∧ (j 0).val < 0 + 128) ∧ (512 * i ≤ (j 1).val ∧ (j 1).val < 512 * i + 512) ↔ _
  omega
theorem rect_rowsW {off : Fin 2 → ℕ} {i : ℕ} (h : off = ![512 * i, 0]) (hinb) :
    (Rect.unit (s := S4096x2048) off S512x2048.size hinb).set = rowsW i := by
  subst h; ext j
  rw [Rect.mem_set_unit, mem_rowsW, Fin.forall_fin_two]
  have h1 : (j 1).val < 2048 := (j 1).isLt
  show (512 * i ≤ (j 0).val ∧ (j 0).val < 512 * i + 512) ∧ (0 ≤ (j 1).val ∧ (j 1).val < 0 + 2048) ↔ _
  omega
theorem rect_slotB {off : Fin 3 → ℕ} {b : ℕ} (h : off = ![b, 0, 0]) (hinb) :
    (Rect.unit (s := S4x512x2048) off S1x512x2048.size hinb).set = slotB b := by
  subst h; ext j
  rw [Rect.mem_set_unit, mem_slotB]
  have h1 : (j 1).val < 512 := (j 1).isLt
  have h2 : (j 2).val < 2048 := (j 2).isLt
  refine ⟨fun h => ?_, fun h a => ?_⟩
  · have := h 0
    have h0 : b ≤ (j 0).val ∧ (j 0).val < b + 1 := this
    omega
  · fin_cases a
    · show b ≤ (j 0).val ∧ (j 0).val < b + 1; omega
    · show 0 ≤ (j 1).val ∧ (j 1).val < 0 + 512; omega
    · show 0 ≤ (j 2).val ∧ (j 2).val < 0 + 2048; omega

/-! ## The locations of the buffers -/

abbrev qM : Memref sig .tc .vmem S4096x128 .fp8e5m2 := Memref.whole cc0_scratch0
abbrev xM : Memref sig .tc .vmem S128x4096 .fp8e5m2 := Memref.whole cc0_scratch1
abbrev bM : Memref sig .tc .vmem S4x512x2048 .f32 := Memref.whole cc0_scratch2
abbrev wM : Memref sig .tc .hbm S4096x2048 .f32 := Memref.whole main_arg1

/-- Columns `[lo, mid)` and `[mid, hi)` make `[lo, hi)`. -/
theorem cols_union {lo mid hi : ℕ} (h1 : lo ≤ mid) (h2 : mid ≤ hi) : cols lo mid ∪ cols mid hi = cols lo hi := by
  ext j; rw [Finset.mem_union, mem_cols, mem_cols, mem_cols]; omega
theorem cols_disjoint (lo mid hi : ℕ) : Disjoint (cols lo mid) (cols mid hi) := by
  rw [Finset.disjoint_left]; intro j h h'
  rw [mem_cols] at h h'; omega

theorem rowsQ_disjoint (a b : Fin 32) (h : a ≠ b) : Disjoint (rowsQ a.val) (rowsQ b.val) := by
  rw [Finset.disjoint_left]; intro j h1 h2
  rw [mem_rowsQ] at h1 h2
  exact h (Fin.ext (by omega))
theorem rowsQ_cover : Finset.univ.biUnion (fun a : Fin 32 => rowsQ a.val) = Finset.univ := by
  ext j; simp only [Finset.mem_biUnion, Finset.mem_univ, true_and, iff_true, mem_rowsQ]
  have h1 : (j 0).val < 4096 := (j 0).isLt
  exact ⟨⟨(j 0).val / 128, by omega⟩, by show 128 * ((j 0).val / 128) ≤ _ ∧ _; dsimp only; omega⟩
theorem colsD_disjoint (a b : Fin 32) (h : a ≠ b) : Disjoint (colsD a.val) (colsD b.val) := by
  rw [Finset.disjoint_left]; intro j h1 h2
  rw [mem_cols] at h1 h2
  exact h (Fin.ext (by omega))
theorem colsD_cover : Finset.univ.biUnion (fun a : Fin 32 => colsD a.val) = Finset.univ := by
  ext j; simp only [Finset.mem_biUnion, Finset.mem_univ, true_and, iff_true, mem_cols]
  have h1 : (j 1).val < 4096 := (j 1).isLt
  exact ⟨⟨(j 1).val / 128, by omega⟩, by show 128 * ((j 1).val / 128) ≤ _ ∧ _; dsimp only; omega⟩
theorem rowsW_disjoint (a b : Fin 8) (h : a ≠ b) : Disjoint (rowsW a.val) (rowsW b.val) := by
  rw [Finset.disjoint_left]; intro j h1 h2
  rw [mem_rowsW] at h1 h2
  exact h (Fin.ext (by omega))
theorem rowsW_cover : Finset.univ.biUnion (fun a : Fin 8 => rowsW a.val) = Finset.univ := by
  ext j; simp only [Finset.mem_biUnion, Finset.mem_univ, true_and, iff_true, mem_rowsW]
  have h1 : (j 0).val < 4096 := (j 0).isLt
  exact ⟨⟨(j 0).val / 512, by omega⟩, by show 512 * ((j 0).val / 512) ≤ _ ∧ _; dsimp only; omega⟩
theorem slotB_disjoint (a b : Fin 4) (h : a ≠ b) : Disjoint (slotB a.val) (slotB b.val) := by
  rw [Finset.disjoint_left]; intro j h1 h2
  rw [mem_slotB] at h1 h2
  exact h (Fin.ext (by omega))
theorem slotB_cover : Finset.univ.biUnion (fun a : Fin 4 => slotB a.val) = Finset.univ := by
  ext j; simp only [Finset.mem_biUnion, Finset.mem_univ, true_and, iff_true, mem_slotB]
  have h1 : (j 0).val < 4 := (j 0).isLt
  exact ⟨⟨(j 0).val, h1⟩, rfl⟩

/-! ## What the buffers hold -/

section Contents
variable (X : Dev nD → Vec F S4096x128 .f32) (Wt : Dev nD → Vec F S4096x2048 .f32)

/-- The cast operand of device `c`. -/
def qv (c : Dev nD) : Vec F S4096x128 .fp8e5m2 := k0_pay2 (X c)

/-- A row and a column of an array of rank two, as its index. -/
abbrev ix2 {n k : ℕ} (r : Fin n) (q : Fin k) : (⟨2, ![n, k]⟩ : Shape).Idx := Shape.pair (d := ![n, k]) r q

/-- What device `c` has gathered when all blocks have come: columns `128 s …` are the rows `128 c …` of device `s`. -/
def xv (c : Dev nD) : Vec F S128x4096 .fp8e5m2 := fun j =>
  qv X ⟨(j 1).val / 128, by have h : (j 1).val < 4096 := (j 1).isLt; show _ < 32; omega⟩
    (ix2 (n := 4096) (k := 128)
      ⟨128 * c.val + (j 0).val, by have h : (j 0).val < 128 := (j 0).isLt; have hc : c.val < 32 := c.isLt; omega⟩
      ⟨(j 1).val % 128, Nat.mod_lt _ (by decide)⟩)

/-- The weight ring of device `c` with every slot holding block `i` of the weights. -/
def bv (c : Dev nD) (i : Fin 8) : Vec F S4x512x2048 .f32 := fun j =>
  Wt c (ix2 (n := 4096) (k := 2048)
    ⟨512 * i.val + (j 1).val, by have h : (j 1).val < 512 := (j 1).isLt; have hi := i.isLt; omega⟩
    ⟨(j 2).val, (j 2).isLt⟩)

end Contents
end Cert.A2A
-- ==== Proof.A2A.Schedule.lean ====
/-
# The all-to-all: the schedule of the semaphores

Which rounds a semaphore has, what raises it, and what comes with the raise. A transfer's round comes with the
elements it moved, at their contents: a gathered block is known to be the sender's rows, a slot of the weight ring
to be the block of the weights fetched into it. A ready signal comes with the leave to write into the signaller's
gathered operand.
-/
module

public import proofs.«01_k».proof.Proof.A2A.Cells

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's own ghost state beside the schedule's. -/
abbrev UB : Type := URounds (GSem nD τ sig) Unit
abbrev UU : Type := UR sig nD τ × UB

local notation "𝕄" => MT nD τ sig Unit (Elt F) ℕ UU ℕ

abbrev EP : Emb (UR sig nD τ) 𝕄 := embL
abbrev ER : Emb UB 𝕄 := embR

/-! ## Distances between devices -/

/-- The device `o` places after `c`, and the one `o` places before. -/
def aft (c : Dev nD) (o : Fin 32) : Dev nD := ⟨(c.val + o.val) % 32, Nat.mod_lt _ (by decide)⟩
def bef (c : Dev nD) (o : Fin 32) : Dev nD := ⟨(c.val + (32 - o.val)) % 32, Nat.mod_lt _ (by decide)⟩
/-- How many places `d` lies after `c`. -/
def dist (c d : Dev nD) : Fin 32 := ⟨(d.val + (32 - c.val)) % 32, Nat.mod_lt _ (by decide)⟩
/-- The distance back. -/
def opp (o : Fin 32) : Fin 32 := ⟨(32 - o.val) % 32, Nat.mod_lt _ (by decide)⟩

theorem dev_lt (c : Dev nD) : c.val < 32 := c.isLt
theorem aft_dist (c d : Dev nD) : aft c (dist c d) = d := by
  apply Fin.ext; have := dev_lt c; have := dev_lt d; show (c.val + (d.val + (32 - c.val)) % 32) % 32 = d.val; omega
theorem dist_aft (c : Dev nD) (o : Fin 32) : dist c (aft c o) = o := by
  apply Fin.ext; have := dev_lt c; have := o.isLt; show ((c.val + o.val) % 32 + (32 - c.val)) % 32 = o.val; omega
theorem bef_dist (c d : Dev nD) : bef d (dist c d) = c := by
  apply Fin.ext; have := dev_lt c; have := dev_lt d
  show (d.val + (32 - (d.val + (32 - c.val)) % 32)) % 32 = c.val; omega
theorem bef_aft (c : Dev nD) (o : Fin 32) : bef (aft c o) o = c := by
  apply Fin.ext; have := dev_lt c; have := o.isLt
  show ((c.val + o.val) % 32 + (32 - o.val)) % 32 = c.val; omega
theorem aft_bef (c : Dev nD) (o : Fin 32) : aft (bef c o) o = c := by
  apply Fin.ext; have := dev_lt c; have := o.isLt
  show ((c.val + (32 - o.val)) % 32 + o.val) % 32 = c.val; omega
theorem aft_opp (c : Dev nD) (o : Fin 32) : aft c (opp o) = bef c o := by
  apply Fin.ext; have := dev_lt c; have := o.isLt
  show (c.val + (32 - o.val) % 32) % 32 = (c.val + (32 - o.val)) % 32; omega
theorem opp_opp (o : Fin 32) : opp (opp o) = o := by revert o; decide
theorem opp_eq_zero (o : Fin 32) : opp o = 0 ↔ o = 0 := by revert o; decide
theorem dist_eq_zero (c d : Dev nD) : dist c d = 0 ↔ d = c := by
  constructor
  · intro h; rw [← aft_dist c d, h]; apply Fin.ext; have := dev_lt c; show (c.val + 0) % 32 = c.val; omega
  · rintro rfl; apply Fin.ext; have := dev_lt d; show (d.val + (32 - d.val)) % 32 = 0; omega

/-- Going `o` places on, for all devices at once: a renumbering. -/
def aftEquiv (o : Fin 32) : Dev nD ≃ Dev nD := ⟨fun c => aft c o, fun c => bef c o, fun c => bef_aft c o, fun c => aft_bef c o⟩

/-! ## The schedule -/

/-- The credit of one transferred block. -/
def NX : ℕ := ((xM : Memref sig .tc .vmem S128x4096 .fp8e5m2).slice
  (Rect.unit ![0, 0] S128x128.size inb_S128x4096_S128x128_0_0) (fun _ => rfl)).view.dmaCredit
/-- The credit of one fetched block of the weights. -/
def NW : ℕ := (((bM : Memref sig .tc .vmem S4x512x2048 .f32).slice
  (Rect.unit ![0, 0, 0] S1x512x2048.size inb_S4x512x2048_S1x512x2048_0_0_0) (fun _ => rfl)).squeeze S512x2048
    squeezes_S1x512x2048_S512x2048).view.dmaCredit
theorem NX_pos : 0 < NX := View.dmaCredit_pos _ (by decide)
theorem NW_pos : 0 < NW := View.dmaCredit_pos _ (by decide)

/-- How many rounds a semaphore has. -/
def rounds : CIx → ℕ
  | none => 1
  | some (.inl _) => 2
  | some (.inr (.inl o)) => if o = 0 then 0 else 1
  | some (.inr (.inr (.inl o))) => if o = 0 then 0 else 1
  | some (.inr (.inr (.inr o))) => if o = 0 then 0 else 1

/-- By how much a round raises it. -/
def amt : CIx → ℕ
  | none => 1
  | some (.inl _) => NW
  | some (.inr (.inl _)) => NX
  | some (.inr (.inr (.inl _))) => NX
  | some (.inr (.inr (.inr _))) => 1

theorem amt_pos (k : CIx) : 0 < amt k := by
  rcases k with _ | b | o | o | o
  · exact Nat.one_pos
  · exact NW_pos
  · exact NX_pos
  · exact NX_pos
  · exact Nat.one_pos

/-- Which block of the weights round `r` of the ring's slot `b` brings. -/
def blkOf (b : Fin 4) (r : ℕ) : Fin 8 := ⟨(b.val + 4 * r) % 8, Nat.mod_lt _ (by decide)⟩

/-- The semaphore a cell of the mesh is, if it is one of the protocol's. -/
def decode (g : GSem nD τ sig) : Option (Dev nD × CIx) := Function.partialInv cell g
theorem decode_cell (x : Dev nD × CIx) : decode (cell x) = some x := Function.partialInv_left cell_injective x

section Sched
variable (X : Dev nD → Vec F S4096x128 .f32) (Wt : Dev nD → Vec F S4096x2048 .f32)

/-- Rows `128 d …` of the cast operand of `c`, at their contents. -/
def qPts (c : Dev nD) (d : ℕ) : sProp 𝕄 := qM.view.loc (c : Thread nD τ) ↦[rowsQ d]{fullShare} qv X c
/-- Columns of the gathered operand of `c`, at their contents. -/
def xPts (c : Dev nD) (S : Finset S128x4096.Idx) : sProp 𝕄 := xM.view.loc (c : Thread nD τ) ↦[S]{fullShare} xv X c
/-- Columns of the gathered operand of `c`, at some contents. -/
def xAny (c : Dev nD) (n : ℕ) : sProp 𝕄 := iprop(∃ f, xM.view.loc (c : Thread nD τ) ↦[colsD n]{fullShare} f)
/-- Slot `b` of the ring of `c`, holding block `i`. -/
def bPts (c : Dev nD) (b : Fin 4) (i : Fin 8) : sProp 𝕄 := bM.view.loc (c : Thread nD τ) ↦[slotB b.val]{fullShare} bv Wt c i
/-- Slot `b` of the ring of `c`, at some contents. -/
def bAny (c : Dev nD) (b : Fin 4) : sProp 𝕄 := iprop(∃ f, bM.view.loc (c : Thread nD τ) ↦[slotB b.val]{fullShare} f)
/-- Block `i` of the weights of `c`. -/
def wPts (c : Dev nD) (i : Fin 8) : sProp 𝕄 := wM.view.loc (c : Thread nD τ) ↦[rowsW i.val]{fullShare} Wt c

/-- What a round comes with. -/
def pay (c : Dev nD) : CIx → ℕ → sProp 𝕄
  | none, _ => iprop(emp)
  | some (.inl b), r => iprop(bPts Wt c b (blkOf b r) ∗ wPts Wt c (blkOf b r))
  | some (.inr (.inl o)), _ => qPts X c (aft c o).val
  | some (.inr (.inr (.inl o))), _ => xPts X c (colsD (bef c o).val)
  | some (.inr (.inr (.inr o))), _ => xAny (aft c o) c.val

instance pay_storable (c : Dev nD) (k : CIx) (r : ℕ) : BI.Storable (upEmb : UEmb _ 𝕄) (pay X Wt c k r) := by
  rcases k with _ | b | o | o | o <;> unfold pay <;> (try unfold bPts wPts) <;> (try unfold qPts) <;> (try unfold xPts) <;>
    (try unfold xAny) <;> infer_instance

/-- The schedule: one duty a round, until the rounds run out. -/
def Rd : Rounds.Schedule (GSem nD τ sig) Unit 𝕄 where
  duties g r := match decode g with
    | some (_, k) => if r < rounds k then {()} else ∅
    | none => ∅
  unitless _ := False
  amount g _ _ := match decode g with
    | some (_, k) => amt k
    | none => 1
  payload g r _ := match decode g with
    | some (c, k) => pay X Wt c k r
    | none => iprop(emp)
  amount_pos g _ _ _ := by
    split
    · exact amt_pos _
    · exact Nat.one_pos

instance Rd_payload_storable (g : GSem nD τ sig) (r : ℕ) (d : Unit) :
    BI.Storable (upEmb : UEmb _ 𝕄) ((Rd X Wt).payload g r d) := by
  show BI.Storable upEmb (match decode g with | some (c, k) => pay X Wt c k r | none => iprop(emp))
  split <;> infer_instance

theorem duties_cell (c : Dev nD) (k : CIx) (r : ℕ) : (Rd X Wt).duties (cell (c, k)) r = if r < rounds k then {()} else ∅ := by
  dsimp only [Rd]; rw [decode_cell]
theorem duty_mem {c : Dev nD} {k : CIx} {r : ℕ} (h : r < rounds k) : () ∈ (Rd X Wt).duties (cell (c, k)) r := by
  rw [duties_cell, if_pos h]; exact Finset.mem_singleton_self _
theorem amount_cell (c : Dev nD) (k : CIx) (r : ℕ) (d : Unit) : (Rd X Wt).amount (cell (c, k)) r d = amt k := by
  dsimp only [Rd]; rw [decode_cell]
theorem payload_cell (c : Dev nD) (k : CIx) (r : ℕ) (d : Unit) : (Rd X Wt).payload (cell (c, k)) r d = pay X Wt c k r := by
  dsimp only [Rd]; rw [decode_cell]
theorem expect_cell {c : Dev nD} {k : CIx} {r : ℕ} (h : r < rounds k) : (Rd X Wt).expect (cell (c, k)) r = amt k := by
  unfold Schedule.expect Schedule.amountOf
  rw [duties_cell, if_pos h, Finset.sum_singleton, amount_cell]
theorem rest_cell {c : Dev nD} {k : CIx} {r : ℕ} (h : r < rounds k) :
    bigSep ((Rd X Wt).duties (cell (c, k)) r \ ∅) (fun d => (Rd X Wt).payload (cell (c, k)) r d) = pay X Wt c k r := by
  rw [Finset.sdiff_empty, duties_cell, if_pos h, bigSep_singleton, payload_cell]
theorem duties_done (c : Dev nD) (k : CIx) : ∀ r, rounds k ≤ r → (Rd X Wt).duties (cell (c, k)) r = ∅ := fun r h => by
  rw [duties_cell, if_neg (by omega)]

end Sched

/-! ## What a device owes, and the order of waiting -/

/-- `base` and `f x` for every `x` of the list, the first of the list last. -/
def owl {A : Type} (base : CellTallies nD τ sig Unit) (f : A → CellTallies nD τ sig Unit) : List A → CellTallies nD τ sig Unit
  | [] => base
  | x :: l => owl base f l + f x

/-- The transfer `c` owes to `d`. -/
def oX (c d : Dev nD) : CellTallies nD τ sig Unit := if d = c then 0 else tallyAt (cell (d, kR (dist c d))) () NX
/-- The ready signal `c` owes to the device `o` places on. -/
def oA (c : Dev nD) (o : Fin 32) : CellTallies nD τ sig Unit := tallyAt (cell (aft c o, kA (opp o))) () 1

/-- The order in which the kernel sends. -/
abbrev sendOrder : List (Fin 32) :=
  [0, 1, 2, 3, 28, 29, 30, 31, 24, 25, 26, 27, 20, 21, 22, 23, 16, 17, 18, 19, 12, 13, 14, 15, 8, 9, 10, 11, 4, 5, 6, 7]
/-- The distances from one on. -/
abbrev steps : List (Fin 32) :=
  [1, 2, 3, 4, 5, 6, 7, 8, 9, 10, 11, 12, 13, 14, 15, 16, 17, 18, 19, 20, 21, 22, 23, 24, 25, 26, 27, 28, 29, 30, 31]

/-- What `c` owes while the transfers to the devices of `l` are to come. -/
abbrev OX (c : Dev nD) (l : List (Fin 32)) : CellTallies nD τ sig Unit := owl 0 (oX c) l
/-- What `c` owes while the ready signals `l` and all transfers are to come. -/
abbrev OA (c : Dev nD) (l : List (Fin 32)) : CellTallies nD τ sig Unit := owl (OX c sendOrder) (oA c) l
/-- What `c` owes at the start. -/
def O₀ (c : Dev nD) : CellTallies nD τ sig Unit := OA c steps + tallyAt (cell (c, none)) () 1

theorem owl_apply {A : Type} (base : CellTallies nD τ sig Unit) (f : A → CellTallies nD τ sig Unit) (l : List A) (g : GSem nD τ sig) (u : Unit) :
    owl base f l g u = base g u + (l.map fun x => f x g u).sum := by
  induction l with
  | nil => simp [owl]
  | cons x l ih =>
    show (owl base f l + f x) g u = _
    rw [Pi.add_apply, Finsupp.add_apply, ih, List.map_cons, List.sum_cons]; omega

theorem owl_pos {A : Type} {base : CellTallies nD τ sig Unit} {f : A → CellTallies nD τ sig Unit} {l : List A} {g : GSem nD τ sig} {u : Unit}
    (h : 0 < owl base f l g u) : 0 < base g u ∨ ∃ x, 0 < f x g u := by
  induction l with
  | nil => exact Or.inl h
  | cons x l ih =>
    rw [show owl base f (x :: l) = owl base f l + f x from rfl, Pi.add_apply, Finsupp.add_apply] at h
    by_cases hx : 0 < f x g u
    · exact Or.inr ⟨x, hx⟩
    · exact ih (by omega)

/-- Barrier and ready semaphores are waited for while transfers are owed, receive semaphores come above them. -/
def lvK : CIx → ℕ
  | none => 1
  | some (.inr (.inr (.inr _))) => 1
  | some (.inr (.inr (.inl _))) => 2
  | _ => 0

def L (g : GSem nD τ sig) : Finset Unit := if g.1.2 = .tc then {()} else ∅
def lv (g : GSem nD τ sig) (_ : Unit) : ℕ := match decode g with
  | some (_, k) => lvK k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (x : Dev nD × CIx) : lv (cell x) () = lvK x.2 := by dsimp only [lv]; rw [decode_cell]

theorem oX_pos {c d : Dev nD} {g : GSem nD τ sig} {u : Unit} (h : 0 < oX c d g u) : g = cell (d, kR (dist c d)) := by
  unfold oX at h
  split at h
  · exact absurd h (Nat.lt_irrefl 0)
  · rw [tallyAt_apply] at h
    by_contra hn
    rw [if_neg (fun h' => hn h'.1)] at h
    exact Nat.lt_irrefl 0 h
theorem oA_pos {c : Dev nD} {o : Fin 32} {g : GSem nD τ sig} {u : Unit} (h : 0 < oA c o g u) : g = cell (aft c o, kA (opp o)) := by
  unfold oA at h
  rw [tallyAt_apply] at h
  by_contra hn
  rw [if_neg (fun h' => hn h'.1)] at h
  exact Nat.lt_irrefl 0 h

theorem OX_pos {c : Dev nD} {l : List (Fin 32)} {g : GSem nD τ sig} {u : Unit} (h : 0 < OX c l g u) : ∃ d, g = cell (d, kR (dist c d)) := by
  rcases owl_pos h with h | ⟨d, h⟩
  · exact absurd h (Nat.lt_irrefl 0)
  · exact ⟨d, oX_pos h⟩
theorem O₀_pos {c : Dev nD} {g : GSem nD τ sig} {u : Unit} (h : 0 < O₀ c g u) : ∃ x : Dev nD × CIx, g = cell x ∧ 0 < lvK x.2 := by
  unfold O₀ at h
  rw [Pi.add_apply, Finsupp.add_apply] at h
  by_cases h1 : 0 < OA c steps g u
  · rcases owl_pos h1 with h | ⟨o, h⟩
    · obtain ⟨d, hd⟩ := OX_pos h
      exact ⟨_, hd, Nat.two_pos⟩
    · exact ⟨_, oA_pos h, Nat.one_pos⟩
  · refine ⟨(c, none), ?_, Nat.one_pos⟩
    by_contra hn
    rw [tallyAt_apply, if_neg (fun h' => hn h'.1)] at h
    omega

/-- While transfers are owed a device may wait for its barrier and its ready semaphores. -/
theorem mayWait_low (c : Dev nD) (k : CIx) (hk : lvK k ≤ 1) (l : List (Fin 32)) :
    (levAts L lv : sProp 𝕄) ⊢ MayWait (c : Thread nD τ) (csem k) () (OX c l) :=
  MayOwe.of_cut (L := L) (lev := lv) 1 (fun p hp => by rw [Finset.mem_singleton.mp hp, L_tc]; exact Finset.mem_singleton_self _)
    (fun g u hg => by obtain ⟨d, rfl⟩ := OX_pos hg; exact Finset.mem_singleton_self _)
    (fun p hp => by rw [Finset.mem_singleton.mp hp]; exact (le_of_eq (lv_cell (c, k))).trans hk)
    (fun g u hg => by
      obtain ⟨d, rfl⟩ := OX_pos hg
      exact lt_of_lt_of_eq (by decide : 1 < 2) (lv_cell (d, kR (dist c d))).symm)

/-- What is no semaphore of the protocol may be waited for whatever is owed. -/
theorem mayWait_stage (c : Dev nD) (q : SemLoc sig) (hq : ∀ k, csem k ≠ q) (O : CellTallies nD τ sig Unit) (hO : O = O₀ c ∨ O = 0) :
    (levAts L lv : sProp 𝕄) ⊢ MayWait (c : Thread nD τ) q () O := by
  have hd : decode ((c : Thread nD τ), q) = none := by
    cases h : decode ((c : Thread nD τ), q) with
    | none => rfl
    | some x =>
      have := Function.partialInv_of_injective cell_injective x ((c : Thread nD τ), q)
      exact absurd (congrArg Prod.snd (this.mp h)) (hq x.2)
  rcases hO with rfl | rfl
  · refine MayOwe.of_cut (L := L) (lev := lv) 0 (fun p hp => by rw [Finset.mem_singleton.mp hp, L_tc]; exact Finset.mem_singleton_self _)
      (fun g u hg => by obtain ⟨x, rfl, _⟩ := O₀_pos hg; exact Finset.mem_singleton_self _)
      (fun p hp => by rw [Finset.mem_singleton.mp hp]; dsimp only [lv]; rw [hd])
      (fun g u hg => by
        obtain ⟨x, rfl, hx⟩ := O₀_pos hg
        exact lt_of_lt_of_eq hx (lv_cell x).symm)
  · rw [MayWait_zero]; iintro -; iempintro

end Cert.A2A
-- ==== Proof.A2A.State.lean ====
/-
# The all-to-all: what a device holds along its run

The run of a device is stepped through as a sequence of states. A state lists what is still to be done and what
has been done: ready signals to give, fetches of the weights, transfers to send, blocks to receive.
-/
module

public import proofs.«01_k».proof.Proof.A2A.Schedule

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running a program on device `c`, with what holds at its end. -/
abbrev run {α : Type} (c : Dev nD) (p : Prog (TpuEff nD τ sig (Elt F) Λ₀ .tc) α) (Q : α → sProp 𝕄) : sProp 𝕄 :=
  wp frame (wpE (defs₀ (F := F)) 𝒱₀ (Dev.tc c : Thread nD τ) none) Set.univ p Q

section Rules
variable {α β : Type} {c : Dev nD}

/-- A value is returned when what is claimed of it holds. -/
theorem run_ret {P : sProp 𝕄} {a : α} {Q : α → sProp 𝕄} (h : P ⊢ Q a) : P ⊢ run c (pure a) Q :=
  h.trans (fupd_intro (PROP := sProp 𝕄))

/-- One program after another. -/
theorem run_seq {P : sProp 𝕄} {p : Prog (TpuEff nD τ sig (Elt F) Λ₀ .tc) α} {k : α → Prog (TpuEff nD τ sig (Elt F) Λ₀ .tc) β}
    {Q : β → sProp 𝕄} {R : α → sProp 𝕄} (h : P ⊢ run c p R) (hk : ∀ a, R a ⊢ run c (k a) Q) : P ⊢ run c (p >>= k) Q := by
  unfold run; rw [wp_bind]
  exact h.trans (wp_mono _ _ _ hk)

/-- One program after another, the first returning a known value. -/
theorem run_seq_eq {P P' : sProp 𝕄} {p : Prog (TpuEff nD τ sig (Elt F) Λ₀ .tc) α} {k : α → Prog (TpuEff nD τ sig (Elt F) Λ₀ .tc) β}
    {Q : β → sProp 𝕄} (e : α) (h : P ⊢ run c p fun a => iprop(⌜a = e⌝ ∗ P')) (hk : P' ⊢ run c (k e) Q) : P ⊢ run c (p >>= k) Q :=
  run_seq h fun a => by
    iintro ⟨%h, H⟩
    subst h
    iapply hk; iexact H

/-- Weakening before. -/
theorem run_pre {P P' : sProp 𝕄} {p : Prog (TpuEff nD τ sig (Elt F) Λ₀ .tc) α} {Q : α → sProp 𝕄} (h : P ⊢ P') (hp : P' ⊢ run c p Q) :
    P ⊢ run c p Q :=
  h.trans hp

end Rules

/-! ## Resources in a row -/

/-- The resources `Φ x` for the members of a list. -/
def lsep {A : Type} (l : List A) (Φ : A → sProp 𝕄) : sProp 𝕄 := l.foldr (fun x P => iprop(Φ x ∗ P)) iprop(emp)

theorem lsep_nil {A : Type} (Φ : A → sProp 𝕄) : lsep [] Φ = iprop(emp) := rfl
theorem lsep_cons {A : Type} (x : A) (l : List A) (Φ : A → sProp 𝕄) : lsep (x :: l) Φ = iprop(Φ x ∗ lsep l Φ) := rfl

theorem lsep_append {A : Type} (l l' : List A) (Φ : A → sProp 𝕄) : lsep (l ++ l') Φ ⊣⊢ iprop(lsep l Φ ∗ lsep l' Φ) := by
  induction l with
  | nil =>
    rw [List.nil_append, lsep_nil]
    exact ⟨(emp_sep (PROP := sProp 𝕄)).2, (emp_sep (PROP := sProp 𝕄)).1⟩
  | cons x l ih =>
    rw [List.cons_append, lsep_cons, lsep_cons]
    constructor
    · iintro ⟨H, H'⟩
      ihave H'' := ih.1 $$ H'
      icases H'' with ⟨H1, H2⟩
      isplitl [H H1]
      · isplitl [H] <;> iassumption
      · iexact H2
    · iintro ⟨⟨H, H1⟩, H2⟩
      isplitl [H]; · iexact H
      iapply ih.2
      isplitl [H1] <;> iassumption

/-- A separating conjunction over a type with a listing of its members. -/
theorem bigSep_lsep {A : Type} [DecidableEq A] (l : List A) (hl : l.Nodup) (Φ : A → sProp 𝕄) :
    bigSep l.toFinset Φ = lsep l Φ := by
  induction l with
  | nil => rw [List.toFinset_nil, bigSep_empty]; rfl
  | cons x l ih =>
    rw [List.nodup_cons] at hl
    rw [List.toFinset_cons, bigSep_insert (by rw [List.mem_toFinset]; exact hl.1), ih hl.2, lsep_cons]; rfl

theorem lsep_mono {A : Type} {l : List A} {Φ Ψ : A → sProp 𝕄} (h : ∀ x, Φ x ⊢ Ψ x) : lsep l Φ ⊢ lsep l Ψ := by
  induction l with
  | nil => exact Entails.refl _
  | cons x l ih => rw [lsep_cons, lsep_cons]; exact BI.sep_mono (h x) ih

/-! ## The pieces of a state -/

section State
variable (X : Dev nD → Vec F S4096x128 .f32) (Wt : Dev nD → Vec F S4096x2048 .f32)

/-- What all devices know throughout: every semaphore follows the schedule, and its first round has been reached. -/
def Inv (K : Dev nD × CIx → ℕ) : sProp 𝕄 :=
  iprop((bigSep Finset.univ fun x : Dev nD × CIx => cellInv ER (Rd X Wt) (K x) (cell x))
    ∗ (bigSep Finset.univ fun x : Dev nD × CIx => reached ER (cell x) 0) ∗ (levAts L lv : sProp 𝕄))

instance Inv_persistent (K : Dev nD × CIx → ℕ) : BI.Persistent (Inv X Wt K) := by unfold Inv; infer_instance

theorem Inv_cell (K : Dev nD × CIx → ℕ) (x : Dev nD × CIx) : Inv X Wt K ⊢ cellInv ER (Rd X Wt) (K x) (cell x) := by
  unfold Inv
  iintro ⟨H, -, -⟩
  iapply (show (bigSep Finset.univ fun x : Dev nD × CIx => (cellInv ER (Rd X Wt) (K x) (cell x) : sProp 𝕄)) ⊢ cellInv ER (Rd X Wt) (K x) (cell x)
    from bigSep_elim (Finset.mem_univ x)); iexact H
theorem Inv_reached (K : Dev nD × CIx → ℕ) (x : Dev nD × CIx) : Inv X Wt K ⊢ reached ER (cell x) 0 := by
  unfold Inv
  iintro ⟨-, H, -⟩
  iapply (show (bigSep Finset.univ fun x : Dev nD × CIx => (reached ER (cell x) 0 : sProp 𝕄)) ⊢ reached ER (cell x) 0
    from bigSep_elim (Finset.mem_univ x)); iexact H
theorem Inv_lev (K : Dev nD × CIx → ℕ) : Inv X Wt K ⊢ (levAts L lv : sProp 𝕄) := by
  unfold Inv
  iintro ⟨-, -, H⟩
  iexact H

/-- What the device owes, whatever waits it has made. -/
def owesE (c : Dev nD) (O : CellTallies nD τ sig Unit) : sProp 𝕄 := iprop(∃ W, owes (c : Thread nD τ) O W)

/-- To give the device `o` places on its ready signal: the duty, and the columns it may then write. -/
def ackT (c : Dev nD) (o : Fin 32) : sProp 𝕄 :=
  iprop(dutyTok ER (cell (aft c o, kA (opp o))) 0 () ∗ xAny c (aft c o).val)

/-- The slot a block of the weights is fetched into, and the round of its semaphore. -/
def slotOf (i : Fin 8) : Fin 4 := ⟨i.val % 4, Nat.mod_lt _ (by decide)⟩
def rnd (i : Fin 8) : ℕ := i.val / 4

/-- A slot of the weight ring: free for block `i`, in flight with it, or filled by it. -/
inductive Slot : Type
  | free (i : Fin 8)
  | busy (i : Fin 8)
  | full (i : Fin 8)

def slotS (c : Dev nD) : Slot → sProp 𝕄
  | .free i => iprop(bAny c (slotOf i) ∗ atPos ER (cell (c, kW (slotOf i))) (rnd i) ∅ 0 ∗ reached ER (cell (c, kW (slotOf i))) (rnd i))
  | .busy i => iprop(cred (tallyAt (cell (c, kW (slotOf i))) () NW) ∗ atPos ER (cell (c, kW (slotOf i))) (rnd i) ∅ 0)
  | .full i => iprop(bPts Wt c (slotOf i) i ∗ atPos ER (cell (c, kW (slotOf i))) (rnd i + 1) ∅ 0
      ∗ reached ER (cell (c, kW (slotOf i))) (rnd i + 1))

/-- A block of the weights yet to be fetched. -/
def wtodo (c : Dev nD) (i : Fin 8) : sProp 𝕄 :=
  iprop(wPts Wt c i ∗ dutyTok ER (cell (c, kW (slotOf i))) (rnd i) ())

/-- To send device `d` its rows; the own rows stay. -/
def sndT (c d : Dev nD) : sProp 𝕄 :=
  if d = c then iprop(emp)
  else iprop(atPos ER (cell (c, kA (dist c d))) 0 ∅ 0 ∗ cred (tallyAt (cell (c, kA (dist c d))) () 1)
    ∗ dutyTok ER (cell (c, kS (dist c d))) 0 () ∗ dutyTok ER (cell (d, kR (dist c d))) 0 ())
def sndS (c d : Dev nD) : sProp 𝕄 := iprop(sndT c d ∗ qPts X c d.val)
/-- Sent. -/
def sent (c d : Dev nD) : sProp 𝕄 :=
  if d = c then qPts X c d.val
  else iprop(atPos ER (cell (c, kA (dist c d))) 1 ∅ 0 ∗ cred (tallyAt (cell (c, kS (dist c d))) () NX))

/-- To receive the block of device `s`; the own one is there. -/
def rcvS (c s : Dev nD) : sProp 𝕄 :=
  if s = c then xPts X c (colsD s.val)
  else iprop(cred (tallyAt (cell (c, kR (dist s c))) () NX) ∗ atPos ER (cell (c, kR (dist s c))) 0 ∅ 0)
/-- Received. -/
def rcvd (c s : Dev nD) : sProp 𝕄 :=
  if s = c then iprop(emp) else iprop(atPos ER (cell (c, kR (dist s c))) 1 ∅ 0)

/-- To wait for the transfer `o` places on to be out. -/
def outS (c : Dev nD) (o : Fin 32) : sProp 𝕄 :=
  iprop(cred (tallyAt (cell (c, kS o)) () NX) ∗ atPos ER (cell (c, kS o)) 0 ∅ 0)
def outD (c : Dev nD) (o : Fin 32) : sProp 𝕄 :=
  iprop(qPts X c (aft c o).val ∗ atPos ER (cell (c, kS o)) 1 ∅ 0)

/-- A state. Owed `O`; ready signals to give `A`; slots `G` of the weight ring, in the order of their next use; blocks
    of the weights to fetch `T` and fetched `D`; devices to send to `S` and sent to `S'`; devices to receive from `V` and
    received from `V'`, their columns, `k` blocks, filled; transfers to see out `E`, and out `E'`; anything else `R`. -/
def St (K : Dev nD × CIx → ℕ) (c : Dev nD) (O : CellTallies nD τ sig Unit) (A : List (Fin 32)) (G : List Slot) (T D : List (Fin 8))
    (S S' V V' : List (Fin 32)) (k : ℕ) (E E' : List (Fin 32)) (R : sProp 𝕄) : sProp 𝕄 :=
  iprop(Inv X Wt K ∗ owesE c O ∗ lsep A (ackT c) ∗ lsep G (slotS Wt c) ∗ lsep T (wtodo Wt c) ∗ lsep D (wPts Wt c)
    ∗ lsep S (sndS X c) ∗ lsep S' (sent X c) ∗ lsep V (rcvS X c) ∗ lsep V' (rcvd c) ∗ xPts X c (cols 0 (128 * k))
    ∗ lsep E (outS c) ∗ lsep E' (outD X c) ∗ R)

end State
end Cert.A2A
-- ==== Proof.A2A.Landing.lean ====
/-
# The all-to-all: what a transfer leaves where it lands

A block sent to a device lands as that device's gathered columns; a block of the weights lands in its slot of the
ring; and a read of the gathered columns or of a slot finds these contents again.
-/
module

public import proofs.«01_k».proof.Proof.A2A.State

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The block of the gathered operand at offset `o`. -/
abbrev xBlk (o : Fin 2 → ℕ) (hinb : ∀ a, o a + S128x128.size a ≤ S128x4096.size a) : Memref sig .tc .vmem S128x128 .fp8e5m2 :=
  xM.slice (Rect.unit (s := S128x4096) o S128x128.size hinb) (fun _ => rfl)
/-- The block of the cast operand at offset `o`. -/
abbrev qBlk (o : Fin 2 → ℕ) (hinb : ∀ a, o a + S128x128.size a ≤ S4096x128.size a) : Memref sig .tc .vmem S128x128 .fp8e5m2 :=
  qM.slice (Rect.unit (s := S4096x128) o S128x128.size hinb) (fun _ => rfl)
/-- The block of the weights at offset `o`. -/
abbrev wBlk (o : Fin 2 → ℕ) (hinb : ∀ a, o a + S512x2048.size a ≤ S4096x2048.size a) : Memref sig .tc .hbm S512x2048 .f32 :=
  wM.slice (Rect.unit (s := S4096x2048) o S512x2048.size hinb) (fun _ => rfl)
/-- The slot of the ring at offset `o`. -/
abbrev bBlk (o : Fin 3 → ℕ) (hinb : ∀ a, o a + S1x512x2048.size a ≤ S4x512x2048.size a) : Memref sig .tc .vmem S512x2048 .f32 :=
  (bM.slice (Rect.unit (s := S4x512x2048) o S1x512x2048.size hinb) (fun _ => rfl)).squeeze S512x2048 squeezes_S1x512x2048_S512x2048

theorem xBlk_set {o : Fin 2 → ℕ} {n : ℕ} (h : o = ![0, 128 * n]) (hinb) : (xBlk o hinb).view.set = colsD n :=
  (View.set_slice_whole _ _).trans (rect_colsD h hinb)
theorem qBlk_set {o : Fin 2 → ℕ} {n : ℕ} (h : o = ![128 * n, 0]) (hinb) : (qBlk o hinb).view.set = rowsQ n :=
  (View.set_slice_whole _ _).trans (rect_rowsQ h hinb)
theorem wBlk_set {o : Fin 2 → ℕ} {n : ℕ} (h : o = ![512 * n, 0]) (hinb) : (wBlk o hinb).view.set = rowsW n :=
  (View.set_slice_whole _ _).trans (rect_rowsW h hinb)
theorem bBlk_set {o : Fin 3 → ℕ} {n : ℕ} (h : o = ![n, 0, 0]) (hinb) : (bBlk o hinb).view.set = slotB n :=
  (View.set_reshape _ _).trans ((View.set_slice_whole _ _).trans (rect_slotB h hinb))

/-- A slot of the ring, seen without its leading axis of one. -/
theorem squeeze_coords (y : S512x2048.Idx) :
    ((Shape.reshapeEquiv (s := S1x512x2048) (s' := S512x2048) squeezes_S1x512x2048_S512x2048.numel_eq y) 1 : Fin 512).val = (y 0).val
      ∧ ((Shape.reshapeEquiv (s := S1x512x2048) (s' := S512x2048) squeezes_S1x512x2048_S512x2048.numel_eq y) 2 : Fin 2048).val = (y 1).val := by
  have h := Shape.rowMajor_reshapeEquiv (s := S1x512x2048) (s' := S512x2048) squeezes_S1x512x2048_S512x2048.numel_eq y
  generalize Shape.reshapeEquiv (s := S1x512x2048) (s' := S512x2048) squeezes_S1x512x2048_S512x2048.numel_eq y = z at h ⊢
  rw [Shape.rowMajor_val_three, Shape.rowMajor_val_two] at h
  have h' : ((z 0).val * 512 + (z 1).val) * 2048 + (z 2).val = (y 0).val * 2048 + (y 1).val := h
  have z0 : (z 0).val < 1 := (z 0).isLt
  have z1 : (z 1).val < 512 := (z 1).isLt
  have z2 : (z 2).val < 2048 := (z 2).isLt
  have y1 : (y 1).val < 2048 := (y 1).isLt
  constructor
  · show (z 1).val = (y 0).val; omega
  · show (z 2).val = (y 1).val; omega

section Landing
variable (X : Dev nD → Vec F S4096x128 .f32) (Wt : Dev nD → Vec F S4096x2048 .f32)

/-- The rows of `c` meant for `d` land as columns of what `d` gathers. -/
theorem landed_x (c d : Dev nD) {o2 o3 : Fin 2 → ℕ} (h2 : o2 = ![0, 128 * c.val]) (h3 : o3 = ![128 * d.val, 0]) (i2) (i3)
    (fd : (xBlk o2 i2).view.ty.Contents (Elt F)) :
    ∀ j ∈ (xBlk o2 i2).view.set,
      (xBlk o2 i2).view.write (Elt F) fd ((qBlk o3 i3).view.read (Elt F) (qv X c)) Finset.univ j = xv X d j := by
  subst h2 h3
  intro j hj
  obtain ⟨y, -, rfl⟩ := Finset.mem_map.mp hj
  rw [View.write_emb_of_mem _ _ (Finset.mem_univ y), View.read_apply]
  have hy0 : (y 0).val < 128 := (y 0).isLt
  have hy1 : (y 1).val < 128 := (y 1).isLt
  show qv X c _ = qv X _ _
  have hs : (⟨(128 * c.val + 1 * (y 1).val) / 128, by have := dev_lt c; show _ < 32; omega⟩ : Dev nD) = c :=
    Fin.ext (by show (128 * c.val + 1 * (y 1).val) / 128 = c.val; omega)
  refine (congrArg (qv X c) ?_).trans (congrArg (fun e => qv X e _) hs.symm)
  funext a
  refine Fin.ext ?_
  match a with
  | ⟨0, _⟩ => show 128 * d.val + 1 * (y 0).val = 128 * d.val + (0 + 1 * (y 0).val); omega
  | ⟨1, _⟩ => show 0 + 1 * (y 1).val = (128 * c.val + 1 * (y 1).val) % 128; omega

/-- Block `i` of the weights lands in its slot. -/
theorem landed_w (c : Dev nD) (b : Fin 4) (i : Fin 8) {o2 : Fin 3 → ℕ} {o3 : Fin 2 → ℕ} (h2 : o2 = ![b.val, 0, 0]) (h3 : o3 = ![512 * i.val, 0])
    (i2) (i3) (fd : (bBlk o2 i2).view.ty.Contents (Elt F)) :
    ∀ j ∈ (bBlk o2 i2).view.set,
      (bBlk o2 i2).view.write (Elt F) fd ((wBlk o3 i3).view.read (Elt F) (Wt c)) Finset.univ j = bv Wt c i j := by
  subst h2 h3
  intro j hj
  obtain ⟨y, -, rfl⟩ := Finset.mem_map.mp hj
  rw [View.write_emb_of_mem _ _ (Finset.mem_univ y), View.read_apply]
  obtain ⟨h1, h2⟩ := squeeze_coords y
  have hk : ∀ n a b : ℕ, a = b → n + 1 * b = n + (0 + 1 * a) := by omega
  have hk' : ∀ a b : ℕ, a = b → 0 + 1 * b = 0 + 1 * a := by omega
  show Wt c _ = Wt c _
  refine congrArg (Wt c) ?_
  funext a
  refine Fin.ext ?_
  match a with
  | ⟨0, _⟩ => exact hk _ _ _ h1
  | ⟨1, _⟩ => exact hk' _ _ h2

end Landing
end Cert.A2A
-- ==== Proof.A2A.Steps.lean ====
/-
# The all-to-all: the steps of a device's run

What each kind of effect does to the state: a ready signal is given, a block of the weights is fetched or waited
for, a block of rows is sent, a block is received, a transfer is seen out.
-/
module

public import proofs.«01_k».proof.Proof.A2A.Landing

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Steps
variable {X : Dev nD → Vec F S4096x128 .f32} {Wt : Dev nD → Vec F S4096x2048 .f32} {K : Dev nD × CIx → ℕ}
variable {α : Type}

theorem rounds_S {o : Fin 32} (h : o ≠ 0) : 0 < rounds (kS o) := by show 0 < if o = 0 then 0 else 1; rw [if_neg h]; exact Nat.one_pos
theorem rounds_R {o : Fin 32} (h : o ≠ 0) : 0 < rounds (kR o) := by show 0 < if o = 0 then 0 else 1; rw [if_neg h]; exact Nat.one_pos
theorem rounds_A {o : Fin 32} (h : o ≠ 0) : 0 < rounds (kA o) := by show 0 < if o = 0 then 0 else 1; rw [if_neg h]; exact Nat.one_pos

/-- The device reads its own number. -/
theorem dev_then {P : sProp 𝕄} {c : Dev nD} {k : Dev nD → Prog (TpuEff nD τ sig (Elt F) Λ₀ .tc) α} {Q : α → sProp 𝕄} (h : P ⊢ run c (k c) Q) :
    P ⊢ run c (Prog.lift .deviceId >>= k) Q := by
  show P ⊢ run c (.op .deviceId k) Q
  unfold run; rw [wp_deviceId]; exact h

/-- A wait for a round of a semaphore hands over what came with the round. -/
theorem wait_gen {c : Dev nD} {k : CIx} {r : ℕ} (hr : r < rounds k) {w : TpuEff nD τ sig (Elt F) Λ₀ .tc PUnit} {sm : SemLoc sig} {n : ℕ}
    (hw : ∀ J : PUnit → sProp 𝕄, wpE (defs₀ (F := F)) 𝒱₀ (Dev.tc c : Thread nD τ) none Set.univ w J = waitSpec (Dev.tc c : Thread nD τ) Set.univ sm n J)
    (hsm : sm = csem k) (hn : n = amt k) {O : CellTallies nD τ sig Unit} {p : PUnit → Prog (TpuEff nD τ sig (Elt F) Λ₀ .tc) α} {Q : α → sProp 𝕄} :
    iprop(Inv X Wt K ∗ cred (tallyAt (cell (c, k)) () (amt k)) ∗ owesE c O ∗ MayWait (c : Thread nD τ) (csem k) () O ∗ atPos ER (cell (c, k)) r ∅ 0)
      ⊢ iprop(((owesE c O ∗ atPos ER (cell (c, k)) (r + 1) ∅ 0 ∗ reached ER (cell (c, k)) (r + 1) ∗ pay X Wt c k r) -∗ run c (p ⟨⟩) Q)
          -∗ run c (.op w p) Q) := by
  subst hsm hn
  unfold owesE
  iintro ⟨#HI, Hc, ⟨%W, HO⟩, HM, Hp⟩ Hk
  iapply (Rounds.wp_wait_rest_token 𝒱₀ ER (Rd X Wt) (c : Thread nD τ) none (κ := K (c, k)) hw (Set.mem_univ _) () (O := O) (W := W) (R := r)
      (m := 0) (T := ∅) (by rw [Nat.zero_add]; exact (expect_cell X Wt hr).symm)) $$ [Hc HO HM Hp]
  · isplitr; · iapply (Inv_cell X Wt K (c, k)); iexact HI
    isplitl [Hc]; · iexact Hc
    isplitl [HO]; · iexact HO
    isplitl [HM]; · iexact HM
    iexact Hp
  iintro ⟨HO, Hp, Hr, Hpay⟩
  iapply Hk
  isplitl [HO]; · iexists _; iexact HO
  isplitl [Hp]; · iexact Hp
  isplitl [Hr]; · iexact Hr
  iapply (Entails.of_eq (rest_cell X Wt hr)); iexact Hpay

/-- While transfers are owed a device may wait for its barrier and its ready semaphores. -/
theorem Inv_mayWait (c : Dev nD) (k : CIx) (hk : lvK k ≤ 1) (l : List (Fin 32)) :
    Inv X Wt K ⊢ MayWait (c : Thread nD τ) (csem k) () (OX c l) := by
  unfold Inv
  iintro ⟨-, -, H⟩
  iapply (mayWait_low (F := F) c k hk l)
  iexact H
/-- While nothing is owed a device may wait for anything. -/
theorem mayWait_free {P : sProp 𝕄} (c : Dev nD) (k : CIx) : P ⊢ MayWait (c : Thread nD τ) (csem k) () 0 := by
  rw [MayWait_zero]; iintro -; iempintro

/-- A signal to a semaphore pays one owed. -/
theorem signal_gen {c d : Dev nD} {k : CIx} {r : ℕ} (hr : r < rounds k) (ha : amt k = 1) {s : Sem sig} (hs : SemLoc.reg s = csem k)
    {O : CellTallies nD τ sig Unit} {p : PUnit → Prog (TpuEff nD τ sig (Elt F) Λ₀ .tc) α} {Q : α → sProp 𝕄} :
    iprop(Inv X Wt K ∗ owesE c (O + tallyAt (cell (d, k)) () 1) ∗ dutyTok ER (cell (d, k)) r () ∗ pay X Wt d k r ∗ reached ER (cell (d, k)) r)
      ⊢ iprop((owesE c O -∗ run c (p ⟨⟩) Q)
          -∗ run c (.op (.semSignal (Dev.tc d : Thread nD τ) s ((1 : ℕ) : ℤ)) p) Q) := by
  have hc : cell (d, k) = ((d : Thread nD τ), SemLoc.reg s) := by rw [hs]
  unfold owesE
  rw [hc]
  iintro ⟨#HI, ⟨%W, HO⟩, Ht, Hpay, Hr⟩ Hk
  iapply (Rounds.wp_signal 𝒱₀ ER (Rd X Wt) (c : Thread nD τ) none (dst := (d : Thread nD τ)) (κ := K (d, k)) (r := r) (d := ())
      (by rw [← hc]; exact duty_mem X Wt hr) (by rw [← hc, amount_cell, ha]) () O rfl (W := W)) $$ [HO Ht Hpay Hr]
  · rw [← hc, payload_cell]
    isplitr; · iapply (Inv_cell X Wt K (d, k)); iexact HI
    isplitl [HO]; · iexact HO
    isplitl [Ht]; · iexact Ht
    isplitl [Hpay]; · iexact Hpay
    iexact Hr
  iintro HO
  iapply Hk
  iexists _; iexact HO

/-- The ready signal to the device `o` places on is given. -/
theorem ack_then {c : Dev nD} (o : Fin 32) {n : Dev nD → ℕ} {hlt : ∀ c, n c < nD} {q : ℕ} {hinb} {hsq}
    {l : List (Fin 32)} {G T D S S' V V' k E E' R} {p : PUnit → Prog (TpuEff nD τ sig (Elt F) Λ₀ .tc) α} {Q : α → sProp 𝕄}
    (hk : St X Wt K c (OA c l) l G T D S S' V V' k E E' R ⊢ run c (p ⟨⟩) Q)
    (ho : o ≠ 0 := by decide) (hn : ∀ c, n c = (aft c o).val := by decide +kernel) (hq : q = (opp o).val := by rfl) :
    St X Wt K c (OA c (o :: l)) (o :: l) G T D S S' V V' k E E' R
      ⊢ run c (semSignalWord (⟨n c, hlt c⟩ : Dev nD) ((cc0_scratch6.slice (Rect.unit (s := S32) ![q] S1.size hinb)).squeeze S_ hsq).sem 1#32 >>= p) Q := by
  subst hq
  rw [show (⟨n c, hlt c⟩ : Dev nD) = aft c o from Fin.ext (hn c), sem_slice (N := 32) _ _ _ rfl _ _ (aS (opp o)) (Nat.zero_add _).symm]
  show _ ⊢ run c (.op (.semSignal (Dev.tc (aft c o) : Thread nD τ) (aS (opp o)) ((1 : ℕ) : ℤ)) p) Q
  unfold St
  rw [lsep_cons, show ackT c o = (iprop(dutyTok ER (cell (aft c o, kA (opp o))) 0 () ∗ xAny c (aft c o).val) : sProp 𝕄) from rfl]
  iintro ⟨#HI, HO, ⟨⟨Ht, Hx⟩, HA⟩, HG, HT, HD, HS, HS', HV, HV', HX, HE, HE', HR⟩
  iapply (signal_gen (X := X) (Wt := Wt) (K := K) (c := c) (d := aft c o) (k := kA (opp o)) (r := 0)
    (rounds_A (fun h => ho ((opp_eq_zero o).mp h))) rfl rfl (O := OA c l)) $$ [HO Ht Hx]
  · isplitr; · iexact HI
    isplitl [HO]; · iexact HO
    isplitl [Ht]; · iexact Ht
    isplitl [Hx]
    · iapply (Entails.of_eq (show xAny c (aft c o).val = (pay X Wt (aft c o) (kA (opp o)) 0 : sProp 𝕄) by
        show _ = xAny (aft (aft c o) (opp o)) (aft c o).val
        rw [aft_opp, bef_aft])); iexact Hx
    iapply (Inv_reached X Wt K (aft c o, kA (opp o))); iexact HI
  iintro HO
  iapply hk
  unfold St; iframe HI HO HA HG HT HD HS HS' HV HV' HX HE HE' HR

/-- The device signals its own barrier. -/
theorem bar_then {c : Dev nD} {A G T D S S' V V' k E E'} {R : sProp 𝕄} {p : PUnit → Prog (TpuEff nD τ sig (Elt F) Λ₀ .tc) α} {Q : α → sProp 𝕄}
    (hk : St X Wt K c (OA c steps) A G T D S S' V V' k E E' R ⊢ run c (p ⟨⟩) Q) :
    St X Wt K c (O₀ c) A G T D S S' V V' k E E' iprop(dutyTok ER (cell (c, none)) 0 () ∗ R)
      ⊢ run c (semSignalHereWord barS 1#32 >>= p) Q := by
  refine dev_then (k := fun d => .op (.semSignal (Dev.tc d : Thread nD τ) barS ((1 : ℕ) : ℤ)) p) ?_
  unfold St
  iintro ⟨#HI, HO, HA, HG, HT, HD, HS, HS', HV, HV', HX, HE, HE', Ht, HR⟩
  iapply (signal_gen (X := X) (Wt := Wt) (K := K) (c := c) (d := c) (k := none) (r := 0) Nat.one_pos rfl rfl (O := OA c steps)) $$ [HO Ht]
  · isplitr; · iexact HI
    isplitl [HO]; · iexact HO
    isplitl [Ht]; · iexact Ht
    isplitr; · iapply (Entails.of_eq (show (iprop(emp) : sProp 𝕄) = pay X Wt c none 0 from rfl)); iempintro
    iapply (Inv_reached X Wt K (c, none)); iexact HI
  iintro HO
  iapply hk
  unfold St; iframe HI HO HA HG HT HD HS HS' HV HV' HX HE HE' HR

/-- The device passes its own barrier. -/
theorem barw_then {c : Dev nD} {l A G T D S S' V V' k E E'} {R : sProp 𝕄} {p : PUnit → Prog (TpuEff nD τ sig (Elt F) Λ₀ .tc) α} {Q : α → sProp 𝕄}
    (hk : St X Wt K c (OX c l) A G T D S S' V V' k E E' iprop(atPos ER (cell (c, none)) 1 ∅ 0 ∗ R) ⊢ run c (p ⟨⟩) Q) :
    St X Wt K c (OX c l) A G T D S S' V V' k E E' iprop((cred (tallyAt (cell (c, none)) () 1) ∗ atPos ER (cell (c, none)) 0 ∅ 0) ∗ R)
      ⊢ run c (semWaitWord barS 1#32 >>= p) Q := by
  show _ ⊢ run c (.op (.semWait barS ((1 : ℕ) : ℤ)) p) Q
  unfold St
  iintro ⟨#HI, HO, HA, HG, HT, HD, HS, HS', HV, HV', HX, HE, HE', ⟨Hc, Hp⟩, HR⟩
  iapply (wait_gen (X := X) (Wt := Wt) (K := K) (c := c) (k := none) (r := 0) Nat.one_pos
    (wpE_semWait_eq 𝒱₀ (c : Thread nD τ) none Set.univ) rfl rfl (O := OX c l)) $$ [HO Hc Hp]
  · isplitr; · iexact HI
    isplitl [Hc]; · iexact Hc
    isplitl [HO]; · iexact HO
    isplitr; · iapply (Inv_mayWait c none (le_refl 1) l); iexact HI
    iexact Hp
  iintro ⟨HO, Hp, -, -⟩
  iapply hk
  unfold St; iframe HI HO HA HG HT HD HS HS' HV HV' HX HE HE' HR
  iexact Hp

theorem blk_slot (i : Fin 8) : blkOf (slotOf i) (rnd i) = i := by revert i; decide
theorem rnd_lt (i : Fin 8) : rnd i < 2 := by revert i; decide

/-- A block of the weights is sent for. -/
theorem fetch_at {c : Dev nD} (i : Fin 8) {b : ℕ} (hb : b = (slotOf i).val) {o3 : Dev nD → Fin 2 → ℕ} (h3 : ∀ c, o3 c = ![512 * i.val, 0])
    {sm : DmaSem sig} (hs : sm = wS (slotOf i)) (i2) (i3) (w1) (w2) (ht) {O A G T D S S' V V' k E E'} {R : sProp 𝕄} {p : PUnit → Prog (TpuEff nD τ sig (Elt F) Λ₀ .tc) α} {Q : α → sProp 𝕄}
    (hk : St X Wt K c O A (G ++ [.busy i]) T D S S' V V' k E E' R ⊢ run c (p ⟨⟩) Q) :
    St X Wt K c O A (.free i :: G) (i :: T) D S S' V V' k E E' R
      ⊢ run c (Prog.lift (.enqueueDma (wBlk (o3 c) i3) (.here (bBlk ![b, 0, 0] i2)) (.dma sm) w1 w2 ht) >>= p) Q := by
  subst hb hs
  have e2 := bBlk_set (n := (slotOf i).val) (o := ![(slotOf i).val, 0, 0]) rfl i2
  have e3 := wBlk_set (n := i.val) (h3 c) i3
  show _ ⊢ run c (.op (.enqueueDma (wBlk (o3 c) i3) (.here (bBlk ![(slotOf i).val, 0, 0] i2)) (.dma (wS (slotOf i))) w1 w2 ht) p) Q
  unfold St
  rw [lsep_cons, lsep_cons,
    show slotS Wt c (.free i) = (iprop(bAny c (slotOf i) ∗ atPos ER (cell (c, kW (slotOf i))) (rnd i) ∅ 0
      ∗ reached ER (cell (c, kW (slotOf i))) (rnd i)) : sProp 𝕄) from rfl,
    show wtodo Wt c i = (iprop((wM.view.loc (c : Thread nD τ) ↦[rowsW i.val]{fullShare} Wt c) ∗ dutyTok ER (cell (c, kW (slotOf i))) (rnd i) ()) : sProp 𝕄) from rfl,
    show (bAny c (slotOf i) : sProp 𝕄) = iprop(∃ f, bM.view.loc (c : Thread nD τ) ↦[slotB (slotOf i).val]{fullShare} f) from rfl]
  iintro ⟨#HI, HO, HA, ⟨⟨⟨%fd, Hb⟩, Hp, Hr⟩, HG⟩, ⟨⟨Hw, Ht⟩, HT⟩, HD, HS, HS', HV, HV', HX, HE, HE', HR⟩
  iapply (Rounds.wp_copy_pointsTo 𝒱₀ ER (Rd X Wt) (c : Thread nD τ) none (src := wBlk (o3 c) i3) (dst := bBlk ![(slotOf i).val, 0, 0] i2)
    (sem := .dma (wS (slotOf i))) (q := fullShare) (fs := Wt c) (fd := fd) (r := rnd i) (d := ()) (κ := K (c, kW (slotOf i)))
    (duty_mem X Wt (c := c) (k := kW (slotOf i)) (rnd_lt i)) () NW rfl (amount_cell X Wt c (kW (slotOf i)) (rnd i) ())
    (by
      rw [show (Rd X Wt).payload ((c : Thread nD τ), .dma (wS (slotOf i))) (rnd i) () = pay X Wt c (kW (slotOf i)) (rnd i) from
        payload_cell X Wt c (kW (slotOf i)) (rnd i) ()]
      show _ ⊢ iprop(bPts Wt c (slotOf i) (blkOf (slotOf i) (rnd i)) ∗ wPts Wt c (blkOf (slotOf i) (rnd i)))
      rw [blk_slot]
      refine BI.sep_mono ?_ ?_
      · rw [pointsTo_congr (landed_w Wt c (slotOf i) i rfl (h3 c) i2 i3 fd)]
        exact Entails.of_eq (congrArg (fun s => (bM.view.loc (c : Thread nD τ) ↦[s]{fullShare} bv Wt c i : sProp 𝕄)) e2)
      · exact Entails.of_eq (congrArg (fun s => (wM.view.loc (c : Thread nD τ) ↦[s]{fullShare} Wt c : sProp 𝕄)) e3))) $$ [Hb Hw Ht Hr]
  · isplitr; · iapply (Inv_cell X Wt K (c, kW (slotOf i))); iexact HI
    isplitl [Hw]
    · iapply (Entails.of_eq (congrArg (fun s => (wM.view.loc (c : Thread nD τ) ↦[s]{fullShare} Wt c : sProp 𝕄)) e3.symm)); iexact Hw
    isplitl [Hb]
    · iapply (Entails.of_eq (congrArg (fun s => (bM.view.loc (c : Thread nD τ) ↦[s]{fullShare} fd : sProp 𝕄)) e2.symm)); iexact Hb
    isplitl [Ht]; · iexact Ht
    iexact Hr
  iintro Hc
  iapply hk
  unfold St
  iframe HI HO HA HT HD HS HS' HV HV' HX HE HE' HR
  iapply (lsep_append G [Slot.busy i] (slotS Wt c)).2
  rw [lsep_cons, lsep_nil, show slotS Wt c (.busy i) = (iprop(cred (tallyAt (cell (c, kW (slotOf i))) () NW)
    ∗ atPos ER (cell (c, kW (slotOf i))) (rnd i) ∅ 0) : sProp 𝕄) from rfl]
  iframe HG Hc Hp

theorem fetch_then {c : Dev nD} (i : Fin 8) {b : ℕ} {w : BitVec 32} {o3 : Dev nD → BitVec 32 → Fin 2 → ℕ}
    {i2} {i3} {hinb} {hsq} {w1} {w2} {ht} {O A G T D S S' V V' k E E'} {R : sProp 𝕄} {p : PUnit → Prog (TpuEff nD τ sig (Elt F) Λ₀ .tc) α} {Q : α → sProp 𝕄}
    (hk : St X Wt K c O A (G ++ [.busy i]) T D S S' V V' k E E' R ⊢ run c (p ⟨⟩) Q)
    (hb : b = (slotOf i).val := by rfl) (h3 : ∀ c, o3 c w = ![512 * i.val, 0] := by decide +kernel) :
    St X Wt K c O A (.free i :: G) (i :: T) D S S' V V' k E E' R
      ⊢ run c (Prog.lift (.enqueueDma (wBlk (o3 c w) i3) (.here (bBlk ![b, 0, 0] i2))
          (.dma ((cc0_scratch3.slice (Rect.unit (s := S4) ![b] S1.size hinb)).squeeze S_ hsq).sem) w1 w2 ht) >>= p) Q :=
  fetch_at i hb (o3 := fun c => o3 c w) h3 (sem_slice (N := 4) _ _ _ rfl _ _ (wS (slotOf i)) (by rw [hb])) i2 i3 w1 w2 ht hk

/-- The device's rows for another device are sent, once that device is ready. -/
theorem send_at {c d : Dev nD} (h : c ≠ d) {o2 o3 : Fin 2 → ℕ} (h2 : o2 = ![0, 128 * c.val]) (h3 : o3 = ![128 * d.val, 0])
    {sa : Sem sig} (ha : sa = aS (dist c d)) {ss sr : DmaSem sig} (hs : ss = sS (dist c d)) (hr : sr = rS (dist c d)) {n : Dev nD} (hn : n = d)
    (i2) (i3) (w1 : (qBlk o3 i3).view.WordExact) (w2 : (xBlk o2 i2).view.WordExact) (w3 : (xBlk o2 i2).view.ref.isScScratch = false)
    (ht : DmaTarget.Typed .vmem (.dma sr) (.remote (Dev.tc n) (xBlk o2 i2) (.dma ss) w3)) {S : List (Fin 32)} {A G T D S' V V' k E E'} {R : sProp 𝕄} {p : Prog (TpuEff nD τ sig (Elt F) Λ₀ .tc) α} {Q : α → sProp 𝕄}
    (hk : St X Wt K c (OX c S) A G T D S (d :: S') V V' k E E' R ⊢ run c p Q) :
    St X Wt K c (OX c (d :: S)) A G T D (d :: S) S' V V' k E E' R
      ⊢ run c (semWaitWord sa 1#32 >>= fun _ => Prog.lift (.enqueueDma (qBlk o3 i3) (.remote (Dev.tc n) (xBlk o2 i2) (.dma ss) w3) (.dma sr) w1 w2 ht)
          >>= fun _ => p) Q := by
  subst ha hs hr hn
  have h0 : dist c n ≠ 0 := fun e => h ((dist_eq_zero c n).mp e).symm
  have e2 := xBlk_set (n := c.val) h2 i2
  have e3 := qBlk_set (n := n.val) h3 i3
  have hO : OX c (n :: S) = OX c S + tallyAt (cell (n, kR (dist c n))) () NX := by
    show owl 0 (oX c) S + oX c n = _
    rw [show oX c n = tallyAt (cell (n, kR (dist c n))) () NX from if_neg (fun e => h e.symm)]
  show _ ⊢ run c (.op (.semWait (aS (dist c n)) ((1 : ℕ) : ℤ)) fun _ =>
    .op (.enqueueDma (qBlk o3 i3) (.remote (Dev.tc n) (xBlk o2 i2) (.dma (sS (dist c n))) w3) (.dma (rS (dist c n))) w1 w2 ht) fun _ => p) Q
  unfold St
  rw [lsep_cons,
    show sndS X c n = (iprop((atPos ER (cell (c, kA (dist c n))) 0 ∅ 0 ∗ cred (tallyAt (cell (c, kA (dist c n))) () 1)
      ∗ dutyTok ER (cell (c, kS (dist c n))) 0 () ∗ dutyTok ER (cell (n, kR (dist c n))) 0 ())
      ∗ qM.view.loc (c : Thread nD τ) ↦[rowsQ n.val]{fullShare} qv X c) : sProp 𝕄) by
        unfold sndS sndT; rw [if_neg (fun e => h e.symm)]; rfl]
  iintro ⟨#HI, HO, HA, HG, HT, HD, ⟨⟨⟨Hp, Hc, Ht1, Ht2⟩, Hq⟩, HS⟩, HS', HV, HV', HX, HE, HE', HR⟩
  iapply (wait_gen (X := X) (Wt := Wt) (K := K) (c := c) (k := kA (dist c n)) (r := 0) (rounds_A h0)
    (wpE_semWait_eq 𝒱₀ (c : Thread nD τ) none Set.univ) (sm := .reg (aS (dist c n))) (n := 1) rfl rfl (O := OX c (n :: S))) $$ [HO Hc Hp]
  · isplitr; · iexact HI
    isplitl [Hc]; · iexact Hc
    isplitl [HO]; · iexact HO
    isplitr; · iapply (Inv_mayWait c (kA (dist c n)) (le_refl 1) (n :: S)); iexact HI
    iexact Hp
  iintro ⟨HO, Hp, -, Hx⟩
  ihave Hx' := (Entails.of_eq (show (pay X Wt c (kA (dist c n)) 0 : sProp 𝕄) = iprop(∃ f, xM.view.loc (n : Thread nD τ) ↦[colsD c.val]{fullShare} f) by
    show xAny (aft c (dist c n)) c.val = _
    rw [aft_dist]; rfl)) $$ Hx
  icases Hx' with ⟨%fd, Hx⟩
  ihave HO' := (Entails.of_eq (show (owesE c (OX c (n :: S)) : sProp 𝕄)
      = iprop(∃ W, owes (c : Thread nD τ) (OX c S + tallyAt (cell (n, kR (dist c n))) () NX) W) by rw [hO]; rfl)) $$ HO
  icases HO' with ⟨%W, HO⟩
  iapply (Rounds.wp_send_pointsTo 𝒱₀ ER (Rd X Wt) (c : Thread nD τ) none (c' := (n : Thread nD τ)) (src := qBlk o3 i3) (dst := xBlk o2 i2)
    (sS := .dma (sS (dist c n))) (sem := .dma (rS (dist c n))) (q := fullShare) (fs := qv X c) (fd := fd) (r₁ := 0) (r₂ := 0) (d₁ := ()) (d₂ := ())
    (κ₁ := K (c, kS (dist c n))) (κ₂ := K (n, kR (dist c n)))
    (duty_mem X Wt (c := c) (k := kS (dist c n)) (rounds_S h0)) (duty_mem X Wt (c := n) (k := kR (dist c n)) (rounds_R h0)) () () NX rfl
    (amount_cell X Wt c (kS (dist c n)) 0 ()) (amount_cell X Wt n (kR (dist c n)) 0 ()) (OX c S) rfl (W := W)
    (by
      rw [show (Rd X Wt).payload ((c : Thread nD τ), .dma (sS (dist c n))) 0 () = pay X Wt c (kS (dist c n)) 0 from
        payload_cell X Wt c (kS (dist c n)) 0 ()]
      show _ ⊢ qPts X c (aft c (dist c n)).val
      rw [aft_dist]
      exact Entails.of_eq (congrArg (fun s => (qM.view.loc (c : Thread nD τ) ↦[s]{fullShare} qv X c : sProp 𝕄)) e3))
    (by
      rw [show (Rd X Wt).payload ((n : Thread nD τ), .dma (rS (dist c n))) 0 () = pay X Wt n (kR (dist c n)) 0 from
        payload_cell X Wt n (kR (dist c n)) 0 ()]
      show _ ⊢ xPts X n (colsD (bef n (dist c n)).val)
      rw [bef_dist, pointsTo_congr (landed_x X c n h2 h3 i2 i3 fd)]
      exact Entails.of_eq (congrArg (fun s => (xM.view.loc (n : Thread nD τ) ↦[s]{fullShare} xv X n : sProp 𝕄)) e2))) $$ [Hq Hx HO Ht1 Ht2]
  · isplitr; · iapply (Inv_cell X Wt K (c, kS (dist c n))); iexact HI
    isplitr; · iapply (Inv_cell X Wt K (n, kR (dist c n))); iexact HI
    isplitl [Hq]
    · iapply (Entails.of_eq (congrArg (fun s => (qM.view.loc (c : Thread nD τ) ↦[s]{fullShare} qv X c : sProp 𝕄)) e3.symm)); iexact Hq
    isplitl [Hx]
    · iapply (Entails.of_eq (congrArg (fun s => (xM.view.loc (n : Thread nD τ) ↦[s]{fullShare} fd : sProp 𝕄)) e2.symm)); iexact Hx
    isplitl [HO]; · iexact HO
    isplitl [Ht1]; · iexact Ht1
    isplitr; · iapply (Inv_reached X Wt K (c, kS (dist c n))); iexact HI
    isplitl [Ht2]; · iexact Ht2
    iapply (Inv_reached X Wt K (n, kR (dist c n))); iexact HI
  iintro ⟨Hc, HO⟩
  iapply hk
  unfold St owesE
  iframe HI HA HG HT HD HS HV HV' HX HE HE' HR
  isplitl [HO]; · iexists W; iexact HO
  rw [lsep_cons, show sent X c n = (iprop(atPos ER (cell (c, kA (dist c n))) 1 ∅ 0 ∗ cred (tallyAt (cell (c, kS (dist c n))) () NX)) : sProp 𝕄) by
    unfold sent; rw [if_neg (fun e => h e.symm)]]
  iframe HS'
  isplitl [Hp]; · iexact Hp
  iexact Hc

/-- What a device has for itself is not sent. -/
theorem St_self (c : Dev nD) {S : List (Fin 32)} {A G T D S' V V' k E E'} {R : sProp 𝕄} :
    St X Wt K c (OX c (c :: S)) A G T D (c :: S) S' V V' k E E' R ⊢ St X Wt K c (OX c S) A G T D S (c :: S') V V' k E E' R := by
  have hO : OX c (c :: S) = OX c S := by
    show owl 0 (oX c) S + oX c c = _
    rw [show oX c c = 0 from if_pos rfl, add_zero]
  rw [hO]
  unfold St
  rw [lsep_cons, lsep_cons, show sndS X c c = (iprop(emp ∗ qPts X c c.val) : sProp 𝕄) by unfold sndS sndT; rw [if_pos rfl],
    show sent X c c = (qPts X c c.val : sProp 𝕄) by unfold sent; rw [if_pos rfl]]
  iintro ⟨#HI, HO, HA, HG, HT, HD, ⟨⟨-, Hq⟩, HS⟩, HS', HV, HV', HX, HE, HE', HR⟩
  iframe HI HO HA HG HT HD HS HS' HV HV' HX HE HE' HR
  iexact Hq

/-- The rows for device `d` are sent, unless `d` is the device itself. -/
theorem send_then (d : Dev nD) {cond : Dev nD → BitVec 1} {o1 : Dev nD → Fin 1 → ℕ} {o2 o3 : Dev nD → Fin 2 → ℕ}
    {nv : Dev nD → ℕ} {c : Dev nD}
    {i1 : cond c = 1#1 → ∀ a, o1 c a + S1.size a ≤ S32.size a} {i2 : cond c = 1#1 → ∀ a, o2 c a + S128x128.size a ≤ S128x4096.size a}
    {i3 : cond c = 1#1 → ∀ a, o3 c a + S128x128.size a ≤ S4096x128.size a} {hsq : S1.Squeezes S_} {hlt : cond c = 1#1 → nv c < nD}
    {w1 : ∀ h, (qBlk (o3 c) (i3 h)).view.WordExact} {w2 : ∀ h, (xBlk (o2 c) (i2 h)).view.WordExact}
    {w3 : ∀ h, (xBlk (o2 c) (i2 h)).view.ref.isScScratch = false}
    {ht : ∀ h, DmaTarget.Typed .vmem (.dma ((cc0_scratch5.slice (Rect.unit (s := S32) (o1 c) S1.size (i1 h))).squeeze S_ hsq).sem)
      (.remote (Dev.tc (⟨nv c, hlt h⟩ : Dev nD)) (xBlk (o2 c) (i2 h)) (.dma ((cc0_scratch4.slice (Rect.unit (s := S32) (o1 c) S1.size (i1 h))).squeeze S_ hsq).sem) (w3 h))}
    {S : List (Fin 32)} {A G T D S' V V' k E E'} {R : sProp 𝕄} {p : Prog (TpuEff nD τ sig (Elt F) Λ₀ .tc) α} {Q : α → sProp 𝕄}
    (hk : St X Wt K c (OX c S) A G T D S (d :: S') V V' k E E' R ⊢ run c p Q)
    (hc : ∀ c, cond c = 1#1 ↔ c ≠ d := by decide +kernel) (h1 : ∀ c, o1 c = ![(dist c d).val] := by decide +kernel)
    (h2 : ∀ c, o2 c = ![0, 128 * c.val] := by decide +kernel) (h3 : ∀ c, o3 c = ![128 * d.val, 0] := by decide +kernel)
    (hn : ∀ c, nv c = d.val := by decide +kernel) :
    St X Wt K c (OX c (d :: S)) A G T D (d :: S) S' V V' k E E' R
      ⊢ run c (if h : cond c = 1#1 then
          (semWaitWord ((cc0_scratch6.slice (Rect.unit (s := S32) (o1 c) S1.size (i1 h))).squeeze S_ hsq).sem 1#32 >>= fun _ =>
            Prog.lift (.enqueueDma (qBlk (o3 c) (i3 h)) (.remote (Dev.tc (⟨nv c, hlt h⟩ : Dev nD)) (xBlk (o2 c) (i2 h))
              (.dma ((cc0_scratch4.slice (Rect.unit (s := S32) (o1 c) S1.size (i1 h))).squeeze S_ hsq).sem) (w3 h))
              (.dma ((cc0_scratch5.slice (Rect.unit (s := S32) (o1 c) S1.size (i1 h))).squeeze S_ hsq).sem) (w1 h) (w2 h) (ht h)) >>= fun _ => p)
        else p) Q := by
  by_cases h : cond c = 1#1
  · rw [dif_pos h]
    exact send_at ((hc c).mp h) (h2 c) (h3 c)
      (sem_slice (N := 32) _ _ _ (h1 c) _ _ (aS (dist c d)) (Nat.zero_add _).symm)
      (sem_slice (N := 32) _ _ _ (h1 c) _ _ (sS (dist c d)) rfl)
      (sem_slice (N := 32) _ _ _ (h1 c) _ _ (rS (dist c d)) rfl) (Fin.ext (hn c)) (i2 h) (i3 h) (w1 h) (w2 h) (w3 h) (ht h) hk
  · rw [dif_neg h]
    have e : c = d := by by_contra e; exact h ((hc c).mpr e)
    subst e
    exact (St_self c).trans hk

theorem filled_next (c : Dev nD) {k : ℕ} : iprop(xPts X c (cols 0 (128 * k)) ∗ xPts X c (colsD k)) ⊢ xPts X c (cols 0 (128 * (k + 1))) := by
  unfold xPts
  refine (pointsTo_union (cols_disjoint 0 (128 * k) (128 * k + 128))).2.trans (Entails.of_eq ?_)
  rw [cols_union (Nat.zero_le _) (Nat.le_add_right _ _), Nat.mul_succ]

/-- The block of another device is received. -/
theorem recv_at {c s : Dev nD} (h : c ≠ s) {o2 : Fin 2 → ℕ} {sr : DmaSem sig} (hr : sr = rS (dist s c)) (i2) {o3} (i3)
    (w1 : (qBlk o3 i3).view.WordExact) (w2 : (xBlk o2 i2).view.WordExact) {k : ℕ} (hk' : k = s.val)
    {A G T D S S' V V' E E'} {R : sProp 𝕄} {p : Prog (TpuEff nD τ sig (Elt F) Λ₀ .tc) α} {Q : α → sProp 𝕄}
    (hk : St X Wt K c 0 A G T D S S' V (s :: V') (k + 1) E E' R ⊢ run c p Q) :
    St X Wt K c 0 A G T D S S' (s :: V) V' k E E' R
      ⊢ run c (Prog.lift (.waitDma2 sr (qBlk o3 i3) (xBlk o2 i2) w1 w2) >>= fun _ => p) Q := by
  subst hr hk'
  have h0 : dist s c ≠ 0 := fun e => h ((dist_eq_zero s c).mp e)
  show _ ⊢ run c (.op (.waitDma2 (rS (dist s c)) (qBlk o3 i3) (xBlk o2 i2) w1 w2) fun _ => p) Q
  unfold St
  rw [lsep_cons,
    show rcvS X c s = (iprop(cred (tallyAt (cell (c, kR (dist s c))) () NX) ∗ atPos ER (cell (c, kR (dist s c))) 0 ∅ 0) : sProp 𝕄) by
      unfold rcvS; rw [if_neg (fun e => h e.symm)]]
  iintro ⟨#HI, HO, HA, HG, HT, HD, HS, HS', ⟨⟨Hc, Hp⟩, HV⟩, HV', HX, HE, HE', HR⟩
  iapply (wait_gen (X := X) (Wt := Wt) (K := K) (c := c) (k := kR (dist s c)) (r := 0) (rounds_R h0)
    (wpE_waitDma2_eq 𝒱₀ (c : Thread nD τ) none Set.univ (sem := rS (dist s c)) (src := qBlk o3 i3) (dst := xBlk o2 i2) (hsrc := w1) (hdst := w2)) (sm := .dma (rS (dist s c))) (n := (xBlk o2 i2).view.dmaCredit) rfl rfl (O := 0)) $$ [HO Hc Hp]
  · isplitr; · iexact HI
    isplitl [Hc]; · iexact Hc
    isplitl [HO]; · iexact HO
    isplitr; · iapply (mayWait_free c (kR (dist s c))); iexact HI
    iexact Hp
  iintro ⟨HO, Hp, -, Hx⟩
  iapply hk
  unfold St
  rw [lsep_cons, show rcvd c s = (iprop(atPos ER (cell (c, kR (dist s c))) 1 ∅ 0) : sProp 𝕄) by unfold rcvd; rw [if_neg (fun e => h e.symm)]]
  iframe HI HO HA HG HT HD HS HS' HV HV' HE HE' HR
  isplitl [Hp]; · iexact Hp
  iapply (filled_next c)
  iframe HX
  iapply (Entails.of_eq (show (pay X Wt c (kR (dist s c)) 0 : sProp 𝕄) = xPts X c (colsD s.val) by
    show xPts X c (colsD (bef c (dist s c)).val) = _
    rw [bef_dist]))
  iexact Hx

/-- The block of device `s` is received; the device's own is there. -/
theorem recv_then (s : Dev nD) {cond : Dev nD → BitVec 1} {o1 : Dev nD → Fin 1 → ℕ} {o2 : Dev nD → Fin 2 → ℕ} {o3}
    {c : Dev nD}
    {i1 : cond c = 1#1 → ∀ a, o1 c a + S1.size a ≤ S32.size a} {i2 : cond c = 1#1 → ∀ a, o2 c a + S128x128.size a ≤ S128x4096.size a}
    {i3} {hsq : S1.Squeezes S_}
    {w1 : cond c = 1#1 → (qBlk o3 i3).view.WordExact} {w2 : ∀ h, (xBlk (o2 c) (i2 h)).view.WordExact} {k : ℕ}
    {A G T D S S' V V' E E'} {R : sProp 𝕄} {p : Prog (TpuEff nD τ sig (Elt F) Λ₀ .tc) α} {Q : α → sProp 𝕄}
    (hk : St X Wt K c 0 A G T D S S' V (s :: V') (k + 1) E E' R ⊢ run c p Q)
    (hc : ∀ c, cond c = 1#1 ↔ c ≠ s := by decide +kernel) (h1 : ∀ c, o1 c = ![(dist s c).val] := by decide +kernel) (hk' : k = s.val := by rfl) :
    St X Wt K c 0 A G T D S S' (s :: V) V' k E E' R
      ⊢ run c (if h : cond c = 1#1 then
          (Prog.lift (.waitDma2 ((cc0_scratch5.slice (Rect.unit (s := S32) (o1 c) S1.size (i1 h))).squeeze S_ hsq).sem (qBlk o3 i3)
            (xBlk (o2 c) (i2 h)) (w1 h) (w2 h)) >>= fun _ => p)
        else p) Q := by
  by_cases h : cond c = 1#1
  · rw [dif_pos h]
    exact recv_at ((hc c).mp h) (sem_slice (N := 32) _ _ _ (h1 c) _ _ (rS (dist s c)) rfl) (i2 h) i3 (w1 h) (w2 h) hk' hk
  · rw [dif_neg h]
    have e : c = s := by by_contra e; exact h ((hc c).mpr e)
    subst e hk'
    refine run_pre ?_ hk
    unfold St
    rw [lsep_cons, lsep_cons, show rcvS X c c = (xPts X c (colsD c.val) : sProp 𝕄) by unfold rcvS; rw [if_pos rfl],
      show rcvd c c = (iprop(emp) : sProp 𝕄) by unfold rcvd; rw [if_pos rfl]]
    iintro ⟨#HI, HO, HA, HG, HT, HD, HS, HS', ⟨Hx, HV⟩, HV', HX, HE, HE', HR⟩
    iframe HI HO HA HG HT HD HS HS' HV HV' HE HE' HR
    iapply (filled_next c)
    iframe HX Hx

/-- A transfer is seen out. -/
theorem out_at {c : Dev nD} {o : Fin 32} (ho : o ≠ 0) {sm : DmaSem sig} (hs : sm = sS o) {o2 o3} (i2) (i3)
    (w1 : (xBlk o2 i2).view.WordExact) (w2 : (qBlk o3 i3).view.WordExact)
    {A G T D S S' V V' k E E'} {R : sProp 𝕄} {p : PUnit → Prog (TpuEff nD τ sig (Elt F) Λ₀ .tc) α} {Q : α → sProp 𝕄}
    (hk : St X Wt K c 0 A G T D S S' V V' k E (o :: E') R ⊢ run c (p ⟨⟩) Q) :
    St X Wt K c 0 A G T D S S' V V' k (o :: E) E' R
      ⊢ run c (Prog.lift (.waitDma2 sm (xBlk o2 i2) (qBlk o3 i3) w1 w2) >>= p) Q := by
  subst hs
  show _ ⊢ run c (.op (.waitDma2 (sS o) (xBlk o2 i2) (qBlk o3 i3) w1 w2) p) Q
  unfold St
  rw [lsep_cons,
    show outS c o = (iprop(cred (tallyAt (cell (c, kS o)) () NX) ∗ atPos ER (cell (c, kS o)) 0 ∅ 0) : sProp 𝕄) from rfl]
  iintro ⟨#HI, HO, HA, HG, HT, HD, HS, HS', HV, HV', HX, ⟨⟨Hc, Hp⟩, HE⟩, HE', HR⟩
  iapply (wait_gen (X := X) (Wt := Wt) (K := K) (c := c) (k := kS o) (r := 0) (rounds_S ho)
    (wpE_waitDma2_eq 𝒱₀ (c : Thread nD τ) none Set.univ (sem := sS o) (src := xBlk o2 i2) (dst := qBlk o3 i3) (hsrc := w1) (hdst := w2)) (sm := .dma (sS o)) (n := (qBlk o3 i3).view.dmaCredit) rfl rfl (O := 0)) $$ [HO Hc Hp]
  · isplitr; · iexact HI
    isplitl [Hc]; · iexact Hc
    isplitl [HO]; · iexact HO
    isplitr; · iapply (mayWait_free c (kS o)); iexact HI
    iexact Hp
  iintro ⟨HO, Hp, -, Hx⟩
  iapply hk
  unfold St
  rw [lsep_cons, show outD X c o = (iprop(qPts X c (aft c o).val ∗ atPos ER (cell (c, kS o)) 1 ∅ 0) : sProp 𝕄) from rfl]
  iframe HI HO HA HG HT HD HS HS' HV HV' HX HE HE' HR
  isplitl [Hx]
  · iapply (Entails.of_eq (show (pay X Wt c (kS o) 0 : sProp 𝕄) = qPts X c (aft c o).val from rfl)); iexact Hx
  iexact Hp

theorem out_then {c : Dev nD} (o : Fin 32) {q : ℕ} {hinb} {hsq} {o2 o3} {i2} {i3}
    {w1 : (xBlk o2 i2).view.WordExact} {w2 : (qBlk o3 i3).view.WordExact}
    {A G T D S S' V V' k E E'} {R : sProp 𝕄} {p : PUnit → Prog (TpuEff nD τ sig (Elt F) Λ₀ .tc) α} {Q : α → sProp 𝕄}
    (hk : St X Wt K c 0 A G T D S S' V V' k E (o :: E') R ⊢ run c (p ⟨⟩) Q)
    (ho : o ≠ 0 := by decide) (hq : q = o.val := by rfl) :
    St X Wt K c 0 A G T D S S' V V' k (o :: E) E' R
      ⊢ run c (Prog.lift (.waitDma2 ((cc0_scratch4.slice (Rect.unit (s := S32) ![q] S1.size hinb)).squeeze S_ hsq).sem
          (xBlk o2 i2) (qBlk o3 i3) w1 w2) >>= p) Q :=
  out_at ho (sem_slice (N := 32) _ _ _ rfl _ _ (sS o) (by rw [hq])) i2 i3 w1 w2 hk

/-- A block of the weights has come. -/
theorem wwait_at {c : Dev nD} (i : Fin 8) {sm : DmaSem sig} (hs : sm = wS (slotOf i)) {o2 o3} (i2) (i3)
    (w1 : (wBlk o3 i3).view.WordExact) (w2 : (bBlk o2 i2).view.WordExact)
    {A G T D S S' V V' k E E'} {R : sProp 𝕄} {p : PUnit → Prog (TpuEff nD τ sig (Elt F) Λ₀ .tc) α} {Q : α → sProp 𝕄}
    (hk : St X Wt K c 0 A (.full i :: G) T (i :: D) S S' V V' k E E' R ⊢ run c (p ⟨⟩) Q) :
    St X Wt K c 0 A (.busy i :: G) T D S S' V V' k E E' R
      ⊢ run c (Prog.lift (.waitDma2 sm (wBlk o3 i3) (bBlk o2 i2) w1 w2) >>= p) Q := by
  subst hs
  show _ ⊢ run c (.op (.waitDma2 (wS (slotOf i)) (wBlk o3 i3) (bBlk o2 i2) w1 w2) p) Q
  unfold St
  rw [lsep_cons,
    show slotS Wt c (.busy i) = (iprop(cred (tallyAt (cell (c, kW (slotOf i))) () NW) ∗ atPos ER (cell (c, kW (slotOf i))) (rnd i) ∅ 0) : sProp 𝕄) from rfl]
  iintro ⟨#HI, HO, HA, ⟨⟨Hc, Hp⟩, HG⟩, HT, HD, HS, HS', HV, HV', HX, HE, HE', HR⟩
  iapply (wait_gen (X := X) (Wt := Wt) (K := K) (c := c) (k := kW (slotOf i)) (r := rnd i) (rnd_lt i)
    (wpE_waitDma2_eq 𝒱₀ (c : Thread nD τ) none Set.univ (sem := wS (slotOf i)) (src := wBlk o3 i3) (dst := bBlk o2 i2) (hsrc := w1) (hdst := w2)) (sm := .dma (wS (slotOf i))) (n := (bBlk o2 i2).view.dmaCredit) rfl rfl (O := 0)) $$ [HO Hc Hp]
  · isplitr; · iexact HI
    isplitl [Hc]; · iexact Hc
    isplitl [HO]; · iexact HO
    isplitr; · iapply (mayWait_free c (kW (slotOf i))); iexact HI
    iexact Hp
  iintro ⟨HO, Hp, Hr, Hx⟩
  ihave Hx' := (Entails.of_eq (show (pay X Wt c (kW (slotOf i)) (rnd i) : sProp 𝕄) = iprop(bPts Wt c (slotOf i) i ∗ wPts Wt c i) by
    show iprop(bPts Wt c (slotOf i) (blkOf (slotOf i) (rnd i)) ∗ wPts Wt c (blkOf (slotOf i) (rnd i))) = _
    rw [blk_slot])) $$ Hx
  icases Hx' with ⟨Hb, Hw⟩
  iapply hk
  unfold St
  rw [lsep_cons, lsep_cons, show slotS Wt c (.full i) = (iprop(bPts Wt c (slotOf i) i ∗ atPos ER (cell (c, kW (slotOf i))) (rnd i + 1) ∅ 0
      ∗ reached ER (cell (c, kW (slotOf i))) (rnd i + 1)) : sProp 𝕄) from rfl]
  iframe HI HO HA HG HT HD HS HS' HV HV' HX HE HE' HR Hb Hp Hr Hw

theorem wwait_then {c : Dev nD} (i : Fin 8) {b : ℕ} {hinb} {hsq} {o2 o3} {i2} {i3}
    {w1 : (wBlk o3 i3).view.WordExact} {w2 : (bBlk o2 i2).view.WordExact}
    {A G T D S S' V V' k E E'} {R : sProp 𝕄} {p : PUnit → Prog (TpuEff nD τ sig (Elt F) Λ₀ .tc) α} {Q : α → sProp 𝕄}
    (hk : St X Wt K c 0 A (.full i :: G) T (i :: D) S S' V V' k E E' R ⊢ run c (p ⟨⟩) Q)
    (hb : b = (slotOf i).val := by rfl) :
    St X Wt K c 0 A (.busy i :: G) T D S S' V V' k E E' R
      ⊢ run c (Prog.lift (.waitDma2 ((cc0_scratch3.slice (Rect.unit (s := S4) ![b] S1.size hinb)).squeeze S_ hsq).sem (wBlk o3 i3) (bBlk o2 i2) w1 w2) >>= p) Q :=
  wwait_at i (sem_slice (N := 4) _ _ _ rfl _ _ (wS (slotOf i)) (by rw [hb])) i2 i3 w1 w2 hk

end Steps
end Cert.A2A
-- ==== Proof.A2A.Loads.lean ====
/-
# The all-to-all: reading and writing along the run

The loads of a block of the weights and of the gathered columns it meets, and loads and stores of the buffers a
device keeps to itself.
-/
module

public import proofs.«01_k».proof.Proof.A2A.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Loads
variable {X : Dev nD → Vec F S4096x128 .f32} {Wt : Dev nD → Vec F S4096x2048 .f32} {K : Dev nD × CIx → ℕ}
variable {α : Type}

/-- Block `i` of the weights of `c`, as loaded from a slot of the ring. -/
def wslab (Wt : Dev nD → Vec F S4096x2048 .f32) (c : Dev nD) (i : Fin 8) : Vec F S1x512x2048 .f32 := fun y =>
  Wt c (ix2 (n := 4096) (k := 2048) ⟨512 * i.val + (y 1).val, by have h : (y 1).val < 512 := (y 1).isLt; have := i.isLt; omega⟩
    ⟨(y 2).val, (y 2).isLt⟩)

/-- Columns `512 i …` of what `c` gathers. -/
def xslab (X : Dev nD → Vec F S4096x128 .f32) (c : Dev nD) (i : Fin 8) : Vec F S128x512 .fp8e5m2 := fun y =>
  xv X c (ix2 (n := 128) (k := 4096) (y 0) ⟨512 * i.val + (y 1).val, by
    have h : (y 1).val < 512 := (y 1).isLt; have := i.isLt; omega⟩)

/-- An effect and what follows it. -/
theorem lift_then {β : Type} {P : sProp 𝕄} {c : Dev nD} {e : TpuEff nD τ sig (Elt F) Λ₀ .tc β} {p : β → Prog (TpuEff nD τ sig (Elt F) Λ₀ .tc) α} {Q : α → sProp 𝕄}
    (h : P ⊢ run c (.op e p) Q) : P ⊢ run c (Prog.lift e >>= p) Q := h

/-- Change of what else there is. -/
theorem St_rest {c : Dev nD} {O A G T D S S' V V' k E E'} {R R' : sProp 𝕄} (h : R ⊢ R') :
    St X Wt K c O A G T D S S' V V' k E E' R ⊢ St X Wt K c O A G T D S S' V V' k E E' R' := by
  unfold St
  iintro ⟨#HI, HO, HA, HG, HT, HD, HS, HS', HV, HV', HX, HE, HE', HR⟩
  iframe HI HO HA HG HT HD HS HS' HV HV' HX HE HE'
  iapply h; iexact HR

/-- Another order or grouping of what else there is. -/
theorem rest_then {c : Dev nD} {O A G T D S S' V V' k E E'} {R R' : sProp 𝕄} {p : Prog (TpuEff nD τ sig (Elt F) Λ₀ .tc) α} {Q : α → sProp 𝕄}
    (h : R ⊢ R') (hk : St X Wt K c O A G T D S S' V V' k E E' R' ⊢ run c p Q) :
    St X Wt K c O A G T D S S' V V' k E E' R ⊢ run c p Q :=
  (St_rest h).trans hk

/-- A load from a buffer the device holds. -/
theorem load_then {c : Dev nD} {O A G T D S S' V V' k E E'} {R : sProp 𝕄} {Q : α → sProp 𝕄}
    {cs : CoreSpace} {s : Shape} {e : EltTy} {m : Memref sig .tc cs s e} {r : Rect s} {hl : m.view.LoadsAt r}
    {p : (r.shape.Idx → Elt F e) → Prog (TpuEff nD τ sig (Elt F) Λ₀ .tc) α}
    {I : Finset (Idx ((m.access r).loc (c : Thread nD τ)))} {q : PosShare TreeShare} {f : Buf (Elt F) ((m.access r).loc (c : Thread nD τ))}
    (hS : (m.access r).set ⊆ I)
    (hk : St X Wt K c O A G T D S S' V V' k E E' iprop(((m.access r).loc (c : Thread nD τ) ↦[I]{q} f) ∗ R) ⊢ run c (p ((m.access r).read (Elt F) f)) Q) :
    St X Wt K c O A G T D S S' V V' k E E' iprop(((m.access r).loc (c : Thread nD τ) ↦[I]{q} f) ∗ R)
      ⊢ run c (Prog.lift (.load m r hl) >>= p) Q := by
  refine lift_then ?_
  unfold St
  iintro ⟨#HI, HO, HA, HG, HT, HD, HS, HS', HV, HV', HX, HE, HE', Hb, HR⟩
  iapply (wp_load_rect 𝒱₀ (c : Thread nD τ) none Set.univ (defs := defs₀ (F := F)) (m := m) (r := r) (hl := hl) (k := p) (S := I) (q := q) (f := f) hS) $$ Hb
  iintro Hb
  iapply hk
  unfold St
  iframe HI HO HA HG HT HD HS HS' HV HV' HX HE HE' Hb HR

/-- A store to a buffer the device holds. -/
theorem store_then {c : Dev nD} {O A G T D S S' V V' k E E'} {R : sProp 𝕄} {Q : α → sProp 𝕄}
    {cs : CoreSpace} {s : Shape} {e : EltTy} {m : Memref sig .tc cs s e} {r : Rect s} {w : r.shape.Idx → Elt F e}
    {hx : (m.access r).Stores Finset.univ} {hm} {p : PUnit → Prog (TpuEff nD τ sig (Elt F) Λ₀ .tc) α}
    {I : Finset (Idx ((m.access r).loc (c : Thread nD τ)))} {f : Buf (Elt F) ((m.access r).loc (c : Thread nD τ))}
    (hS : (m.access r).set ⊆ I)
    (hk : St X Wt K c O A G T D S S' V V' k E E'
        iprop(((m.access r).loc (c : Thread nD τ) ↦[I]{fullShare} ((m.access r).write (Elt F) f w Finset.univ)) ∗ R) ⊢ run c (p ⟨⟩) Q) :
    St X Wt K c O A G T D S S' V V' k E E' iprop(((m.access r).loc (c : Thread nD τ) ↦[I]{fullShare} f) ∗ R)
      ⊢ run c (Prog.lift (.store m r w Finset.univ hx hm) >>= p) Q := by
  refine lift_then ?_
  unfold St
  iintro ⟨#HI, HO, HA, HG, HT, HD, HS, HS', HV, HV', HX, HE, HE', Hb, HR⟩
  iapply (wp_store 𝒱₀ (c : Thread nD τ) none Set.univ (m := m) (r := r) (Mk := Finset.univ) hS) $$ Hb
  iintro Hb
  iapply hk
  unfold St
  iframe HI HO HA HG HT HD HS HS' HV HV' HX HE HE' Hb HR

/-- What a load of a slot reads. -/
theorem read_slot (c : Dev nD) (i : Fin 8) {o : Fin 3 → ℕ} (b : ℕ) (h : o = ![b, 0, 0]) (hinb) :
    ((bM : Memref sig .tc .vmem S4x512x2048 .f32).access (Rect.unit (s := S4x512x2048) o S1x512x2048.size hinb)).read (Elt F) (bv Wt c i) = wslab Wt c i := by
  subst h
  funext y
  rw [View.read_apply]
  have hk : ∀ a : ℕ, 0 + 1 * a = a := by omega
  show Wt c _ = Wt c _
  refine congrArg (Wt c) ?_
  funext a
  refine Fin.ext ?_
  match a with
  | ⟨0, _⟩ => exact congrArg (512 * i.val + ·) (hk (y 1).val)
  | ⟨1, _⟩ => exact hk (y 2).val

/-- What a load of 512 gathered columns reads. -/
theorem read_cols (c : Dev nD) (i : Fin 8) {o : Fin 2 → ℕ} (h : o = ![0, 512 * i.val]) (hinb) :
    ((xM : Memref sig .tc .vmem S128x4096 .fp8e5m2).access (Rect.unit (s := S128x4096) o S128x512.size hinb)).read (Elt F) (xv X c) = xslab X c i := by
  subst h
  funext y
  rw [View.read_apply]
  show xv X c _ = xv X c _
  refine congrArg (xv X c) ?_
  funext a
  refine Fin.ext ?_
  match a with
  | ⟨0, _⟩ => show 0 + 1 * (y 0).val = (y 0).val; omega
  | ⟨1, _⟩ => show 512 * i.val + 1 * (y 1).val = 512 * i.val + (y 1).val; omega

/-- The load of a filled slot. -/
theorem wload_then {c : Dev nD} (i : Fin 8) {O A G T D S S' V V' k E E'} {R : sProp 𝕄} {Q : α → sProp 𝕄} {b : ℕ} {hinb} {hl}
    {p : Vec F S1x512x2048 .f32 → Prog (TpuEff nD τ sig (Elt F) Λ₀ .tc) α}
    (hk : St X Wt K c O A (.full i :: G) T D S S' V V' k E E' R ⊢ run c (p (wslab Wt c i)) Q)
    (hb : b = (slotOf i).val := by rfl) :
    St X Wt K c O A (.full i :: G) T D S S' V V' k E E' R
      ⊢ run c (Prog.lift (.load bM (Rect.unit (s := S4x512x2048) ![b, 0, 0] S1x512x2048.size hinb).toLoadRect hl) >>= p) Q := by
  subst hb
  have hS : ((bM : Memref sig .tc .vmem S4x512x2048 .f32).access (Rect.unit (s := S4x512x2048) ![(slotOf i).val, 0, 0] S1x512x2048.size hinb)).set
      ⊆ slotB (slotOf i).val :=
    (Finset.Subset.antisymm_iff.mp ((View.set_slice_whole _ _).trans (rect_slotB rfl hinb))).1
  rw [← read_slot c i (slotOf i).val rfl hinb] at hk
  refine lift_then ?_
  unfold St
  rw [lsep_cons, show slotS Wt c (.full i) = (iprop((bM.view.loc (c : Thread nD τ) ↦[slotB (slotOf i).val]{fullShare} bv Wt c i)
    ∗ atPos ER (cell (c, kW (slotOf i))) (rnd i + 1) ∅ 0
      ∗ reached ER (cell (c, kW (slotOf i))) (rnd i + 1)) : sProp 𝕄) from rfl]
  iintro ⟨#HI, HO, HA, ⟨⟨Hb, Hp⟩, HG⟩, HT, HD, HS, HS', HV, HV', HX, HE, HE', HR⟩
  iapply (wp_load_rect 𝒱₀ (c : Thread nD τ) none Set.univ (m := bM)
    (r := Rect.unit (s := S4x512x2048) ![(slotOf i).val, 0, 0] S1x512x2048.size hinb) hS) $$ Hb
  iintro Hb
  iapply hk
  unfold St
  rw [lsep_cons, show slotS Wt c (.full i) = (iprop((bM.view.loc (c : Thread nD τ) ↦[slotB (slotOf i).val]{fullShare} bv Wt c i)
    ∗ atPos ER (cell (c, kW (slotOf i))) (rnd i + 1) ∅ 0
      ∗ reached ER (cell (c, kW (slotOf i))) (rnd i + 1)) : sProp 𝕄) from rfl]
  iframe HI HO HA HG HT HD HS HS' HV HV' HX HE HE' HR
  isplitl [Hb]; · iexact Hb
  iexact Hp

/-- The load of 512 columns that have come. -/
theorem xload_then {c : Dev nD} (i : Fin 8) {O A G T D S S' V V' k E E'} {R : sProp 𝕄} {Q : α → sProp 𝕄} {w : BitVec 32} {o : Dev nD → BitVec 32 → Fin 2 → ℕ}
    {hinb} {hl}
    {p : Vec F S128x512 .fp8e5m2 → Prog (TpuEff nD τ sig (Elt F) Λ₀ .tc) α}
    (hk : St X Wt K c O A G T D S S' V V' k E E' R ⊢ run c (p (xslab X c i)) Q)
    (h : ∀ c, o c w = ![0, 512 * i.val] := by decide +kernel) (hki : 4 * i.val + 4 ≤ k := by decide) :
    St X Wt K c O A G T D S S' V V' k E E' R
      ⊢ run c (Prog.lift (.load xM (Rect.unit (s := S128x4096) (o c w) S128x512.size hinb).toLoadRect hl) >>= p) Q := by
  have hS : ((xM : Memref sig .tc .vmem S128x4096 .fp8e5m2).access (Rect.unit (s := S128x4096) (o c w) S128x512.size hinb)).set ⊆ cols 0 (128 * k) := by
    rw [show ((xM : Memref sig .tc .vmem S128x4096 .fp8e5m2).access (Rect.unit (s := S128x4096) (o c w) S128x512.size hinb)).set
      = cols (512 * i.val) (512 * i.val + 512) from (View.set_slice_whole _ _).trans (rect_cols512 (h c) hinb)]
    intro j hj
    rw [mem_cols] at hj ⊢
    omega
  rw [← read_cols c i (h c) hinb] at hk
  refine lift_then ?_
  unfold St xPts
  iintro ⟨#HI, HO, HA, HG, HT, HD, HS, HS', HV, HV', HX, HE, HE', HR⟩
  iapply (wp_load_rect 𝒱₀ (c : Thread nD τ) none Set.univ (m := xM)
    (r := Rect.unit (s := S128x4096) (o c w) S128x512.size hinb) hS) $$ HX
  iintro HX
  iapply hk
  unfold St xPts
  iframe HI HO HA HG HT HD HS HS' HV HV' HX HE HE' HR

/-- A used slot is free for the block four places on. -/
theorem reuse_then {c : Dev nD} (i j : Fin 8) (hj : j.val = i.val + 4) {O A G T D S S' V V' k E E'} {R : sProp 𝕄} {p : Prog (TpuEff nD τ sig (Elt F) Λ₀ .tc) α} {Q : α → sProp 𝕄}
    (hk : St X Wt K c O A (.free j :: G) T D S S' V V' k E E' R ⊢ run c p Q) :
    St X Wt K c O A (.full i :: G) T D S S' V V' k E E' R ⊢ run c p Q := by
  refine run_pre ?_ hk
  have e1 : slotOf j = slotOf i := Fin.ext (by show j.val % 4 = i.val % 4; omega)
  have e2 : rnd j = rnd i + 1 := by show j.val / 4 = i.val / 4 + 1; omega
  unfold St
  rw [lsep_cons, lsep_cons, show slotS Wt c (.full i) = (iprop(bPts Wt c (slotOf i) i
    ∗ atPos ER (cell (c, kW (slotOf i))) (rnd i + 1) ∅ 0
      ∗ reached ER (cell (c, kW (slotOf i))) (rnd i + 1)) : sProp 𝕄) from rfl,
    show slotS Wt c (.free j) = (iprop(bAny c (slotOf j) ∗ atPos ER (cell (c, kW (slotOf j))) (rnd j) ∅ 0
      ∗ reached ER (cell (c, kW (slotOf j))) (rnd j)) : sProp 𝕄) from rfl, e1, e2]
  iintro ⟨#HI, HO, HA, ⟨⟨Hb, Hp⟩, HG⟩, HT, HD, HS, HS', HV, HV', HX, HE, HE', HR⟩
  iframe HI HO HA HG HT HD HS HS' HV HV' HX HE HE' HR
  isplitl [Hb]
  · iapply (show (bPts Wt c (slotOf i) i : sProp 𝕄) ⊢ bAny c (slotOf i) by unfold bPts bAny; iintro H; iexists _; iexact H); iexact Hb
  iexact Hp

/-- A used slot waits behind the others. -/
theorem rotate_then {c : Dev nD} {g : Slot} {O A G T D S S' V V' k E E'} {R : sProp 𝕄} {p : Prog (TpuEff nD τ sig (Elt F) Λ₀ .tc) α} {Q : α → sProp 𝕄}
    (hk : St X Wt K c O A (G ++ [g]) T D S S' V V' k E E' R ⊢ run c p Q) :
    St X Wt K c O A (g :: G) T D S S' V V' k E E' R ⊢ run c p Q := by
  refine run_pre ?_ hk
  unfold St
  rw [lsep_cons]
  iintro ⟨#HI, HO, HA, ⟨Hg, HG⟩, HT, HD, HS, HS', HV, HV', HX, HE, HE', HR⟩
  iframe HI HO HA HT HD HS HS' HV HV' HX HE HE' HR
  iapply (lsep_append G [g] (slotS Wt c)).2
  rw [lsep_cons, lsep_nil]
  iframe HG Hg

end Loads

/-- A part of the body, over the buffers and semaphores the kernel is launched with. -/
abbrev onBufs {β : Type*} (f : (arg0 : Memref sig .tc .vmem S4096x128 .f32) → arg0.IsWhole → (arg1 : Memref sig .tc .hbm S4096x2048 .f32) → arg1.IsWhole →
    (arg2 : Memref sig .tc .smem S1 .f32) → arg2.IsWhole → (arg3 : Memref sig .tc .smem S1 .f32) → arg3.IsWhole →
    (arg4 : Memref sig .tc .vmem S128x2048 .f32) → arg4.IsWhole → (arg5 : Memref sig .tc .vmem S4096x128 .fp8e5m2) → arg5.IsWhole →
    (arg6 : Memref sig .tc .vmem S128x4096 .fp8e5m2) → arg6.IsWhole → (arg7 : Memref sig .tc .vmem S4x512x2048 .f32) → arg7.IsWhole →
    DmaSems sig S4 → DmaSems sig S32 → DmaSems sig S32 → Sems sig S32 → β) : β :=
  f (Memref.whole cc0_stg0_0) (Memref.isWhole_whole _) (Memref.whole main_arg1) (Memref.isWhole_whole _) (Memref.whole cc0_stg1_0) (Memref.isWhole_whole _)
    (Memref.whole cc0_stg2_0) (Memref.isWhole_whole _) (Memref.whole cc0_stg3_0) (Memref.isWhole_whole _) qM (Memref.isWhole_whole _)
    xM (Memref.isWhole_whole _) bM (Memref.isWhole_whole _) cc0_scratch3 cc0_scratch4 cc0_scratch5 cc0_scratch6

/-- A fact beside a state. -/
theorem St_val {P : sProp 𝕄} {φ : Prop} (h : φ) : P ⊢ iprop(⌜φ⌝ ∗ P) := by
  iintro H
  isplitr; · ipureintro; exact h
  iexact H

end Cert.A2A
-- ==== Proof.A2A.PartsReady.lean ====
/-
# The all-to-all: the parts that give the ready signals

Each device tells every other that its columns may be written, and starts the fetches of the weights.
-/
module

public import proofs.«01_k».proof.Proof.A2A.Loads

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable {X : Dev nD → Vec F S4096x128 .f32} {Wt : Dev nD → Vec F S4096x2048 .f32} {K : Dev nD × CIx → ℕ} {c : Dev nD}
variable {O : CellTallies nD τ sig Unit} {A l : List (Fin 32)} {G : List Slot} {T D : List (Fin 8)} {S S' V V' : List (Fin 32)} {k : ℕ}
  {E E' : List (Fin 32)}

/-- Ready signals 1 places on. -/
theorem part1 {R : sProp 𝕄} :
    St X Wt K c (O₀ c) steps G T D S S' V V' k E E' iprop(dutyTok ER (cell (c, none)) 0 () ∗ R)
    ⊢ run c (onBufs (k0_part1 (F := F))) fun a =>
      iprop(⌜a.1 = c ∧ a.2.2.2.1.sem = barS⌝ ∗ St X Wt K c (OA c steps.tail) (steps.tail) G T D S S' V V' k E E' R) := by
  rw [k0_part1_eq_skeleton]; unfold onBufs k0_part1_skel
  refine dev_then ?_
  refine bar_then ?_
  refine ack_then 1 ?_
  exact run_ret (St_val ⟨rfl, rfl⟩)

/-- Ready signals 2, 3, 4 places on. -/
theorem part2 {R : sProp 𝕄} {w1 w2} :
    St X Wt K c (OA c (2 :: 3 :: 4 :: l)) (2 :: 3 :: 4 :: l) G T D S S' V V' k E E' R
    ⊢ run c (onBufs (k0_part2 (F := F)) c w1 w2) fun _ =>
      St X Wt K c (OA c l) l G T D S S' V V' k E E' R := by
  rw [k0_part2_eq_skeleton]; unfold onBufs k0_part2_skel
  refine ack_then 2 ?_
  refine ack_then 3 ?_
  refine ack_then 4 ?_
  exact run_ret (Entails.of_eq rfl)

/-- Ready signals 5, 6 places on. -/
theorem part3 {R : sProp 𝕄} {w1 w2} :
    St X Wt K c (OA c (5 :: 6 :: l)) (5 :: 6 :: l) G T D S S' V V' k E E' R
    ⊢ run c (onBufs (k0_part3 (F := F)) c w1 w2) fun _ =>
      St X Wt K c (OA c l) l G T D S S' V V' k E E' R := by
  rw [k0_part3_eq_skeleton]; unfold onBufs k0_part3_skel
  refine ack_then 5 ?_
  refine ack_then 6 ?_
  exact run_ret (Entails.of_eq rfl)

/-- Ready signals 7, 8 places on. -/
theorem part4 {R : sProp 𝕄} {w1 w2 w3} :
    St X Wt K c (OA c (7 :: 8 :: l)) (7 :: 8 :: l) G T D S S' V V' k E E' R
    ⊢ run c (onBufs (k0_part4 (F := F)) c w1 w2 w3) fun _ =>
      St X Wt K c (OA c l) l G T D S S' V V' k E E' R := by
  rw [k0_part4_eq_skeleton]; unfold onBufs k0_part4_skel
  refine ack_then 7 ?_
  refine ack_then 8 ?_
  exact run_ret (Entails.of_eq rfl)

/-- Ready signals 9, 10 places on. -/
theorem part5 {R : sProp 𝕄} {w1 w2 w3 w4 w5 w6} :
    St X Wt K c (OA c (9 :: 10 :: l)) (9 :: 10 :: l) G T D S S' V V' k E E' R
    ⊢ run c (onBufs (k0_part5 (F := F)) c w1 w2 w3 w4 w5 w6) fun _ =>
      St X Wt K c (OA c l) l G T D S S' V V' k E E' R := by
  rw [k0_part5_eq_skeleton]; unfold onBufs k0_part5_skel
  refine ack_then 9 ?_
  refine ack_then 10 ?_
  exact run_ret (Entails.of_eq rfl)

/-- Ready signals 11, 12 places on. -/
theorem part6 {R : sProp 𝕄} {w1 w2} :
    St X Wt K c (OA c (11 :: 12 :: l)) (11 :: 12 :: l) G T D S S' V V' k E E' R
    ⊢ run c (onBufs (k0_part6 (F := F)) c w1 w2) fun _ =>
      St X Wt K c (OA c l) l G T D S S' V V' k E E' R := by
  rw [k0_part6_eq_skeleton]; unfold onBufs k0_part6_skel
  refine ack_then 11 ?_
  refine ack_then 12 ?_
  exact run_ret (Entails.of_eq rfl)

/-- Ready signals 13, 14, 15 places on. -/
theorem part7 {R : sProp 𝕄} {w1 w2 w3} :
    St X Wt K c (OA c (13 :: 14 :: 15 :: l)) (13 :: 14 :: 15 :: l) G T D S S' V V' k E E' R
    ⊢ run c (onBufs (k0_part7 (F := F)) c w1 w2 w3) fun _ =>
      St X Wt K c (OA c l) l G T D S S' V V' k E E' R := by
  rw [k0_part7_eq_skeleton]; unfold onBufs k0_part7_skel
  refine ack_then 13 ?_
  refine ack_then 14 ?_
  refine ack_then 15 ?_
  exact run_ret (Entails.of_eq rfl)

/-- Ready signals 16, 17 places on. -/
theorem part8 {R : sProp 𝕄} {w1 w2 w3 w4} :
    St X Wt K c (OA c (16 :: 17 :: l)) (16 :: 17 :: l) G T D S S' V V' k E E' R
    ⊢ run c (onBufs (k0_part8 (F := F)) c w1 w2 w3 w4) fun _ =>
      St X Wt K c (OA c l) l G T D S S' V V' k E E' R := by
  rw [k0_part8_eq_skeleton]; unfold onBufs k0_part8_skel
  refine ack_then 16 ?_
  refine ack_then 17 ?_
  exact run_ret (Entails.of_eq rfl)

/-- Ready signals 18, 19 places on. -/
theorem part9 {R : sProp 𝕄} {w1 w2 w3 w4} :
    St X Wt K c (OA c (18 :: 19 :: l)) (18 :: 19 :: l) G T D S S' V V' k E E' R
    ⊢ run c (onBufs (k0_part9 (F := F)) c w1 w2 w3 w4) fun _ =>
      St X Wt K c (OA c l) l G T D S S' V V' k E E' R := by
  rw [k0_part9_eq_skeleton]; unfold onBufs k0_part9_skel
  refine ack_then 18 ?_
  refine ack_then 19 ?_
  exact run_ret (Entails.of_eq rfl)

/-- Ready signals 20, 21 places on. -/
theorem part10 {R : sProp 𝕄} {w1 w2 w3 w4} :
    St X Wt K c (OA c (20 :: 21 :: l)) (20 :: 21 :: l) G T D S S' V V' k E E' R
    ⊢ run c (onBufs (k0_part10 (F := F)) c w1 w2 w3 w4) fun _ =>
      St X Wt K c (OA c l) l G T D S S' V V' k E E' R := by
  rw [k0_part10_eq_skeleton]; unfold onBufs k0_part10_skel
  refine ack_then 20 ?_
  refine ack_then 21 ?_
  exact run_ret (Entails.of_eq rfl)

/-- Ready signals 22, 23, 24 places on. -/
theorem part11 {R : sProp 𝕄} {w1 w2} :
    St X Wt K c (OA c (22 :: 23 :: 24 :: l)) (22 :: 23 :: 24 :: l) G T D S S' V V' k E E' R
    ⊢ run c (onBufs (k0_part11 (F := F)) c w1 w2) fun _ =>
      St X Wt K c (OA c l) l G T D S S' V V' k E E' R := by
  rw [k0_part11_eq_skeleton]; unfold onBufs k0_part11_skel
  refine ack_then 22 ?_
  refine ack_then 23 ?_
  refine ack_then 24 ?_
  exact run_ret (Entails.of_eq rfl)

/-- Ready signals 25, 26 places on. -/
theorem part12 {R : sProp 𝕄} {w1 w2} :
    St X Wt K c (OA c (25 :: 26 :: l)) (25 :: 26 :: l) G T D S S' V V' k E E' R
    ⊢ run c (onBufs (k0_part12 (F := F)) c w1 w2) fun _ =>
      St X Wt K c (OA c l) l G T D S S' V V' k E E' R := by
  rw [k0_part12_eq_skeleton]; unfold onBufs k0_part12_skel
  refine ack_then 25 ?_
  refine ack_then 26 ?_
  exact run_ret (Entails.of_eq rfl)

/-- Ready signals 27, 28 places on. -/
theorem part13 {R : sProp 𝕄} {w1 w2 w3} :
    St X Wt K c (OA c (27 :: 28 :: l)) (27 :: 28 :: l) G T D S S' V V' k E E' R
    ⊢ run c (onBufs (k0_part13 (F := F)) c w1 w2 w3) fun _ =>
      St X Wt K c (OA c l) l G T D S S' V V' k E E' R := by
  rw [k0_part13_eq_skeleton]; unfold onBufs k0_part13_skel
  refine ack_then 27 ?_
  refine ack_then 28 ?_
  exact run_ret (Entails.of_eq rfl)

/-- Ready signals 29, 30 places on. -/
theorem part14 {R : sProp 𝕄} {w1 w2 w3 w4 w5 w6} :
    St X Wt K c (OA c (29 :: 30 :: l)) (29 :: 30 :: l) G T D S S' V V' k E E' R
    ⊢ run c (onBufs (k0_part14 (F := F)) c w1 w2 w3 w4 w5 w6) fun _ =>
      St X Wt K c (OA c l) l G T D S S' V V' k E E' R := by
  rw [k0_part14_eq_skeleton]; unfold onBufs k0_part14_skel
  refine ack_then 29 ?_
  refine ack_then 30 ?_
  exact run_ret (Entails.of_eq rfl)

/-- Ready signals 31 places on; block 0 of the weights fetched. -/
theorem part15 {R : sProp 𝕄} {w1 w2} :
    St X Wt K c (OA c (31 :: l)) (31 :: l) (.free 0 :: G) (0 :: T) D S S' V V' k E E' R
    ⊢ run c (onBufs (k0_part15 (F := F)) c w1 w2) fun _ =>
      St X Wt K c (OA c l) l (G ++ [.busy 0]) T D S S' V V' k E E' R := by
  rw [k0_part15_eq_skeleton]; unfold onBufs k0_part15_skel
  refine ack_then 31 ?_
  refine fetch_then 0 ?_
  exact run_ret (Entails.of_eq rfl)

/-- Block 1, 2 of the weights fetched. -/
theorem part16 {R : sProp 𝕄} {w1} :
    St X Wt K c O A (.free 1 :: .free 2 :: G) (1 :: 2 :: T) D S S' V V' k E E' R
    ⊢ run c (onBufs (k0_part16 (F := F)) c w1) fun _ =>
      St X Wt K c O A ((G ++ [.busy 1]) ++ [.busy 2]) T D S S' V V' k E E' R := by
  rw [k0_part16_eq_skeleton]; unfold onBufs k0_part16_skel
  refine fetch_then 1 ?_
  refine fetch_then 2 ?_
  exact run_ret (Entails.of_eq rfl)

end Parts
end Cert.A2A
-- ==== Proof.A2A.Own.lean ====
/-
# The all-to-all: cutting and regrouping what a device holds

Before the first transfer the cast operand is cut into the rows the other devices get, and the own block is put in
place. Before the last waits what the transfers left is put in the order of the distances.
-/
module

public import proofs.«01_k».proof.Proof.A2A.Loads
public import Idealize.ShloMosaic.Lib.Pipeline.Value

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The devices in the order in which their blocks are received. -/
abbrev order : List (Fin 32) :=
  [0, 1, 2, 3, 4, 5, 6, 7, 8, 9, 10, 11, 12, 13, 14, 15, 16, 17, 18, 19, 20, 21, 22, 23, 24, 25, 26, 27, 28, 29, 30, 31]

/-! ## Lists and sets of resources -/

/-- Resources for a list that has every member once. -/
theorem lsep_univ {A : Type} [DecidableEq A] [Fintype A] {l : List A} (hl : l.Nodup) (hu : l.toFinset = Finset.univ) (Φ : A → sProp 𝕄) :
    lsep l Φ = bigSep Finset.univ Φ := by rw [← bigSep_lsep l hl, hu]

/-- Resources for a list that has every distance but zero once. -/
theorem lsep_steps {l : List (Fin 32)} (hl : l.Nodup) (hu : l.toFinset = Finset.univ.erase 0) (Φ : Fin 32 → sProp 𝕄) :
    lsep l Φ = bigSep (Finset.univ.erase 0) Φ := by rw [← bigSep_lsep l hl, hu]

/-- Resources for the distances other than zero, zero having its own. -/
theorem bigSep_off (P : sProp 𝕄) (Φ : Fin 32 → sProp 𝕄) :
    bigSep Finset.univ (fun o : Fin 32 => if o = 0 then P else Φ o) = iprop(P ∗ bigSep (Finset.univ.erase 0) Φ) := by
  rw [bigSep_univ_at _ (0 : Fin 32), if_pos rfl, bigSep_congr fun o ho => if_neg (Finset.ne_of_mem_erase ho)]

/-- The distance from `c` numbers the devices. -/
def distEquiv (c : Dev nD) : Fin 32 ≃ Dev nD := ⟨aft c, dist c, dist_aft c, aft_dist c⟩
/-- So does the distance to `c`. -/
def backEquiv (c : Dev nD) : Fin 32 ≃ Dev nD :=
  ⟨bef c, fun s => dist s c, fun o => by
    show dist (bef c o) c = o
    conv_lhs => rw [← aft_bef c o, bef_aft]
    exact dist_aft _ o, fun s => bef_dist s c⟩

theorem dist_bef (c : Dev nD) (o : Fin 32) : dist (bef c o) c = o := (backEquiv c).left_inv o
theorem aft_eq_self (c : Dev nD) (o : Fin 32) : aft c o = c ↔ o = 0 := by
  rw [← dist_eq_zero, dist_aft]
theorem bef_eq_self (c : Dev nD) (o : Fin 32) : bef c o = c ↔ o = 0 := by
  rw [eq_comm, ← dist_eq_zero, dist_bef]

/-- Resources for the devices, by their distance from `c`. -/
theorem by_dist (c : Dev nD) (P : sProp 𝕄) (Φ : Fin 32 → sProp 𝕄) (Ψ : Dev nD → sProp 𝕄)
    (h : ∀ o, Ψ (aft c o) = if aft c o = c then P else Φ o) :
    bigSep Finset.univ Ψ = iprop(P ∗ bigSep (Finset.univ.erase 0) Φ) := by
  rw [bigSep_univ_equiv (distEquiv c) Ψ, ← bigSep_off P Φ]
  refine bigSep_congr fun o _ => (h o).trans ?_
  rw [if_congr (aft_eq_self c o) rfl rfl]

/-- Resources for the devices, by their distance to `c`. -/
theorem by_back (c : Dev nD) (P : sProp 𝕄) (Φ : Fin 32 → sProp 𝕄) (Ψ : Dev nD → sProp 𝕄)
    (h : ∀ o, Ψ (bef c o) = if bef c o = c then P else Φ o) :
    bigSep Finset.univ Ψ = iprop(P ∗ bigSep (Finset.univ.erase 0) Φ) := by
  rw [bigSep_univ_equiv (backEquiv c) Ψ, ← bigSep_off P Φ]
  refine bigSep_congr fun o _ => (h o).trans ?_
  rw [if_congr (bef_eq_self c o) rfl rfl]

section Own
variable {X : Dev nD → Vec F S4096x128 .f32} {Wt : Dev nD → Vec F S4096x2048 .f32} {K : Dev nD × CIx → ℕ} {c : Dev nD}

/-- To receive the block of device `s`, the own one left out. -/
def rcvT (c s : Dev nD) : sProp 𝕄 :=
  if s = c then iprop(emp)
  else iprop(cred (tallyAt (cell (c, kR (dist s c))) () NX) ∗ atPos ER (cell (c, kR (dist s c))) 0 ∅ 0)

/-- The own block put in place, every device's block is there or to be received. -/
theorem own_put : iprop(xPts X c (colsD c.val) ∗ bigSep Finset.univ (rcvT (F := F) c)) ⊢ bigSep Finset.univ (rcvS X c) := by
  rw [bigSep_univ_at (rcvT (F := F) c) c, bigSep_univ_at (rcvS X c) c, show rcvT (F := F) c c = iprop(emp) from if_pos rfl,
    show rcvS X c c = xPts X c (colsD c.val) from if_pos rfl,
    bigSep_congr (s := Finset.univ.erase c) (Φ := rcvT (F := F) c) (Ψ := rcvS X c) fun s hs => by
      unfold rcvT rcvS; rw [if_neg (Finset.ne_of_mem_erase hs), if_neg (Finset.ne_of_mem_erase hs)]]
  iintro ⟨H, -, H'⟩
  iframe H H'

/-- The cast operand, cut into the rows of the devices. -/
theorem q_cut : (((c : Thread nD τ).loc cc0_scratch0) ↦{fullShare} qv X c : sProp 𝕄) = bigSep Finset.univ fun d : Dev nD => qPts X c d.val :=
  Ring.pointsTo_blocks (ℓ := (c : Thread nD τ).loc cc0_scratch0) (q := fullShare) (fun d : Fin 32 => rowsQ d.val) rowsQ_disjoint rowsQ_cover (qv X c)

/-- What the transfers left: the own rows, and for every distance what is needed to see its transfer out. -/
theorem sent_out (X : Dev nD → Vec F S4096x128 .f32) (c : Dev nD) : bigSep Finset.univ (sent X c)
    = iprop(qPts X c c.val ∗ bigSep (Finset.univ.erase 0) fun o =>
        iprop(atPos ER (cell (c, kA o)) 1 ∅ 0 ∗ cred (tallyAt (cell (c, kS o)) () NX))) :=
  by_dist c _ _ _ fun o => by
    unfold sent
    by_cases h : aft c o = c
    · rw [if_pos h, if_pos h, h]
    · rw [if_neg h, if_neg h, dist_aft]

/-- All blocks received. -/
theorem rcvd_in (c : Dev nD) : bigSep Finset.univ (rcvd (F := F) c)
    = iprop(emp ∗ bigSep (Finset.univ.erase 0) fun o => (atPos ER (cell (c, kR o)) 1 ∅ 0 : sProp 𝕄)) :=
  by_back c _ _ _ fun o => by
    unfold rcvd
    rw [dist_bef]

/-- To receive, by distance. -/
theorem rcvT_in (c : Dev nD) : bigSep Finset.univ (rcvT (F := F) c)
    = iprop(emp ∗ bigSep (Finset.univ.erase 0) fun o => iprop(cred (tallyAt (cell (c, kR o)) () NX) ∗ atPos ER (cell (c, kR o)) 0 ∅ 0)) :=
  by_back c _ _ _ fun o => by
    unfold rcvT
    rw [dist_bef]

/-- To send, by distance. -/
theorem sndT_out (c : Dev nD) : bigSep Finset.univ (sndT (F := F) c)
    = iprop(emp ∗ bigSep (Finset.univ.erase 0) fun o => iprop(atPos ER (cell (c, kA o)) 0 ∅ 0 ∗ cred (tallyAt (cell (c, kA o)) () 1)
    ∗ dutyTok ER (cell (c, kS o)) 0 () ∗ dutyTok ER (cell (aft c o, kR o)) 0 ())) :=
  by_dist c _ _ _ fun o => by
    unfold sndT
    rw [dist_aft]

theorem hz2 : (![0, 0] : Fin 2 → Nat) = fun _ => 0 := funext fun a => by fin_cases a <;> rfl

/-- The own block, copied, is in place. -/
theorem own_block (c : Dev nD) (fx : Vec F S128x4096 .fp8e5m2) (i2 i3) :
    ∀ j ∈ colsD c.val, ((xM : Memref sig .tc .vmem S128x4096 .fp8e5m2).access (Rect.unit (s := S128x4096) (k0_off3 c) S128x128.size i2)).write (Elt F) fx
      (k0_pay3 (((qM : Memref sig .tc .vmem S4096x128 .fp8e5m2).access (Rect.unit (s := S4096x128) (k0_off2 c) S128x128.size i3)).read (Elt F) (qv X c)))
      Finset.univ j = xv X c j := by
  have e : ∀ v : Vec F S128x128 .fp8e5m2, k0_pay3 v = v := fun v => by
    unfold k0_pay3; exact shapeCast_self _ _
  rw [e]
  intro j hj
  exact landed_x X c c (k0_off3_eq c) (k0_off2_eq c) i2 i3 fx j ((xBlk_set (k0_off3_eq c) i2).symm ▸ hj)

end Own
end Cert.A2A
-- ==== Proof.A2A.PartOwn.lean ====
/-
# The all-to-all: the part that casts the operand and puts the own block in place

The last of the first four blocks of the weights is fetched, the operand is cast, the device's own block is copied to
its columns, and the barrier semaphore is waited for. From then on blocks are sent.
-/
module

public import proofs.«01_k».proof.Proof.A2A.Own

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable {X : Dev nD → Vec F S4096x128 .f32} {Wt : Dev nD → Vec F S4096x2048 .f32} {K : Dev nD × CIx → ℕ} {c : Dev nD}
variable {O : CellTallies nD τ sig Unit} {A l : List (Fin 32)} {G : List Slot} {T D : List (Fin 8)} {S S' V V' : List (Fin 32)} {k : ℕ}
  {E E' : List (Fin 32)}

/-- With the operand cast and the own block in place there is something for every device to send and to receive. -/
theorem ready_send {R : sProp 𝕄} :
    St X Wt K c O A G T D [] S' [] V' k E E'
      iprop(((c : Thread nD τ).loc cc0_scratch0 ↦{fullShare} qv X c) ∗ xPts X c (colsD c.val)
        ∗ lsep sendOrder (sndT (F := F) c) ∗ lsep order (rcvT (F := F) c) ∗ R)
    ⊢ St X Wt K c O A G T D sendOrder S' order V' k E E' R := by
  have hs : lsep sendOrder (sndS X c) = iprop(lsep sendOrder (sndT (F := F) c) ∗ bigSep Finset.univ fun d : Dev nD => qPts X c d.val) := by
    rw [lsep_univ (by decide) (by decide), lsep_univ (by decide) (by decide), ← bigSep_sep']; rfl
  unfold St
  rw [lsep_nil, lsep_nil, hs, q_cut, lsep_univ (l := order) (by decide) (by decide) (rcvS X c),
    lsep_univ (l := order) (by decide) (by decide) (rcvT (F := F) c)]
  iintro ⟨#HI, HO, HA, HG, HT, HD, HS, HS', HV, HV', HX, HE, HE', Hq, Hx, Ht, Hr, HR⟩
  iframe HI HO HA HG HT HD HS' HV' HX HE HE' HR Ht Hq
  iapply (own_put (X := X) (c := c))
  iframe Hx Hr

/-- Block 3 of the weights fetched, the operand cast, the own block put in place, the barrier semaphore waited for. -/
theorem part17 {R : sProp 𝕄} {w1 w2 w3 w4} {v4 : Sems sig S_} (h4 : v4.sem = barS)
    (fq : Vec F S4096x128 .fp8e5m2) (fx : Vec F S128x4096 .fp8e5m2) :
    St X Wt K c (OX c l) A (.free 3 :: G) (3 :: T) D [] S' [] V' k E E'
      iprop(((c : Thread nD τ).loc cc0_stg0_0 ↦{fullShare} X c)
        ∗ ((c : Thread nD τ).loc cc0_scratch0 ↦{fullShare} fq)
        ∗ ((c : Thread nD τ).loc cc0_scratch1 ↦[colsD c.val]{fullShare} fx)
        ∗ (cred (tallyAt (cell (c, none)) () 1) ∗ atPos ER (cell (c, none)) 0 ∅ 0)
        ∗ lsep sendOrder (sndT (F := F) c) ∗ lsep order (rcvT (F := F) c) ∗ R)
    ⊢ run c (onBufs (k0_part17 (F := F)) c w1 w2 v4 w3 w4) fun _ =>
      St X Wt K c (OX c l) A (G ++ [.busy 3]) T D sendOrder S' order V' k E E'
        iprop(atPos ER (cell (c, none)) 1 ∅ 0 ∗ ((c : Thread nD τ).loc cc0_stg0_0 ↦{fullShare} X c) ∗ R) := by
  rw [k0_part17_eq_skeleton]; unfold onBufs k0_part17_skel
  rw [h4]
  refine fetch_then 3 ?_
  refine load_then (m := Memref.whole cc0_stg0_0) (r := Rect.unit (s := S4096x128) ![0, 0] S4096x128.size inb_S4096x128_S4096x128_0_0)
    (Finset.subset_univ _) ?_
  rw [show ((Memref.whole cc0_stg0_0 : Memref sig .tc .vmem S4096x128 .f32).access
      (Rect.unit (s := S4096x128) ![0, 0] S4096x128.size inb_S4096x128_S4096x128_0_0)).read (Elt F) (X c) = X c from
    Memref.readAt_unit_zero (Elt F) cc0_stg0_0 hz2 _ (X c)]
  refine rest_then (R' := iprop(((c : Thread nD τ).loc cc0_scratch0 ↦{fullShare} fq)
        ∗ ((c : Thread nD τ).loc cc0_scratch1 ↦[colsD c.val]{fullShare} fx)
        ∗ (cred (tallyAt (cell (c, none)) () 1) ∗ atPos ER (cell (c, none)) 0 ∅ 0)
        ∗ ((c : Thread nD τ).loc cc0_stg0_0 ↦{fullShare} X c)
        ∗ lsep sendOrder (sndT (F := F) c) ∗ lsep order (rcvT (F := F) c) ∗ R)) (by
    iintro ⟨H0, H1, H2, H3, H4⟩
    iframe H1 H2 H3 H0 H4) ?_
  refine load_then (m := qM) (r := Rect.unit (s := S4096x128) ![0, 0] S4096x128.size inb_S4096x128_S4096x128_0_0) (Finset.subset_univ _) ?_
  refine store_then (m := qM) (r := Rect.unit (s := S4096x128) ![0, 0] S4096x128.size inb_S4096x128_S4096x128_0_0) (Finset.subset_univ _) ?_
  rw [show ((qM : Memref sig .tc .vmem S4096x128 .fp8e5m2).access
      (Rect.unit (s := S4096x128) ![0, 0] S4096x128.size inb_S4096x128_S4096x128_0_0)).write (Elt F) fq (k0_pay2 (X c)) Finset.univ = qv X c from
    Memref.write_access_unit_zero_univ (Elt F) cc0_scratch0 hz2 _ fq (k0_pay2 (X c))]
  refine load_then (m := qM) (r := Rect.unit (s := S4096x128) (k0_off2 c) S128x128.size (k0_off2_inb c)) (Finset.subset_univ _) ?_
  refine rest_then (R' := iprop(((c : Thread nD τ).loc cc0_scratch1 ↦[colsD c.val]{fullShare} fx)
        ∗ (cred (tallyAt (cell (c, none)) () 1) ∗ atPos ER (cell (c, none)) 0 ∅ 0)
        ∗ ((c : Thread nD τ).loc cc0_stg0_0 ↦{fullShare} X c)
        ∗ ((c : Thread nD τ).loc cc0_scratch0 ↦{fullShare} qv X c)
        ∗ lsep sendOrder (sndT (F := F) c) ∗ lsep order (rcvT (F := F) c) ∗ R)) (by
    iintro ⟨H1, H2, H3, H0, H4⟩
    iframe H2 H3 H0 H4
    iexact H1) ?_
  have hS : ((xM : Memref sig .tc .vmem S128x4096 .fp8e5m2).access (Rect.unit (s := S128x4096) (k0_off3 c) S128x128.size (k0_off3_inb c))).set
      ⊆ colsD c.val :=
    (Finset.Subset.antisymm_iff.mp ((View.set_slice_whole _ _).trans (rect_colsD (k0_off3_eq c) (k0_off3_inb c)))).1
  refine load_then (m := xM) (r := Rect.unit (s := S128x4096) (k0_off3 c) S128x128.size (k0_off3_inb c)) hS ?_
  refine store_then (m := xM) (r := Rect.unit (s := S128x4096) (k0_off3 c) S128x128.size (k0_off3_inb c)) hS ?_
  refine rest_then (R' := iprop((cred (tallyAt (cell (c, none)) () 1) ∗ atPos ER (cell (c, none)) 0 ∅ 0)
        ∗ ((c : Thread nD τ).loc cc0_stg0_0 ↦{fullShare} X c)
        ∗ ((c : Thread nD τ).loc cc0_scratch0 ↦{fullShare} qv X c)
        ∗ xPts X c (colsD c.val)
        ∗ lsep sendOrder (sndT (F := F) c) ∗ lsep order (rcvT (F := F) c) ∗ R)) (by
    iintro ⟨H1, H2, H3, H0, H4⟩
    iframe H2 H3 H0 H4
    iapply (show _ ⊢ xPts X c (colsD c.val) from
      Entails.of_eq (pointsTo_congr (own_block c fx (k0_off3_inb c) (k0_off2_inb c))))
    iexact H1) ?_
  refine barw_then ?_
  refine run_ret ?_
  refine (St_rest (R' := iprop(((c : Thread nD τ).loc cc0_scratch0 ↦{fullShare} qv X c)
        ∗ xPts X c (colsD c.val)
        ∗ lsep sendOrder (sndT (F := F) c) ∗ lsep order (rcvT (F := F) c)
        ∗ atPos ER (cell (c, none)) 1 ∅ 0 ∗ ((c : Thread nD τ).loc cc0_stg0_0 ↦{fullShare} X c) ∗ R)) ?_).trans ready_send
  iintro ⟨H1, H2, H3, H4, H5, H6, H7⟩
  iframe H3 H4 H5 H6 H1 H2 H7

end Parts
end Cert.A2A
-- ==== Proof.A2A.PartsSend.lean ====
/-
# The all-to-all: the parts that send

Each device sends every other its rows, once the ready signal of that device has come.
-/
module

public import proofs.«01_k».proof.Proof.A2A.Loads

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable {X : Dev nD → Vec F S4096x128 .f32} {Wt : Dev nD → Vec F S4096x2048 .f32} {K : Dev nD × CIx → ℕ} {c : Dev nD}
variable {O : CellTallies nD τ sig Unit} {A l : List (Fin 32)} {G : List Slot} {T D : List (Fin 8)} {S S' V V' : List (Fin 32)} {k : ℕ}
  {E E' : List (Fin 32)}

/-- The rows for device 0 sent. -/
theorem part18 {R : sProp 𝕄} {w1 w2 w3 w4} :
    St X Wt K c (OX c (0 :: S)) A G T D (0 :: S) S' V V' k E E' R
    ⊢ run c (onBufs (k0_part18 (F := F)) c w1 w2 w3 w4) fun _ =>
      St X Wt K c (OX c S) A G T D S (0 :: S') V V' k E E' R := by
  rw [k0_part18_eq_skeleton]; unfold onBufs k0_part18_skel
  refine send_then 0 ?_
  exact run_ret (Entails.of_eq rfl)

/-- The rows for device 1, 2 sent. -/
theorem part19 {R : sProp 𝕄} {w1 w2 w3 w4 w5 w6} :
    St X Wt K c (OX c (1 :: 2 :: S)) A G T D (1 :: 2 :: S) S' V V' k E E' R
    ⊢ run c (onBufs (k0_part19 (F := F)) c w1 w2 w3 w4 w5 w6) fun _ =>
      St X Wt K c (OX c S) A G T D S (2 :: 1 :: S') V V' k E E' R := by
  rw [k0_part19_eq_skeleton]; unfold onBufs k0_part19_skel
  refine send_then 1 ?_
  refine send_then 2 ?_
  exact run_ret (Entails.of_eq rfl)

/-- The rows for device 3 sent. -/
theorem part20 {R : sProp 𝕄} {w1 w2 w3 w4 w5} :
    St X Wt K c (OX c (3 :: S)) A G T D (3 :: S) S' V V' k E E' R
    ⊢ run c (onBufs (k0_part20 (F := F)) c w1 w2 w3 w4 w5) fun _ =>
      St X Wt K c (OX c S) A G T D S (3 :: S') V V' k E E' R := by
  rw [k0_part20_eq_skeleton]; unfold onBufs k0_part20_skel
  refine send_then 3 ?_
  exact run_ret (Entails.of_eq rfl)

/-- The rows for device 28 sent. -/
theorem part21 {R : sProp 𝕄} {w1 w2 w3 w4 w5 w6} :
    St X Wt K c (OX c (28 :: S)) A G T D (28 :: S) S' V V' k E E' R
    ⊢ run c (onBufs (k0_part21 (F := F)) c w1 w2 w3 w4 w5 w6) fun _ =>
      St X Wt K c (OX c S) A G T D S (28 :: S') V V' k E E' R := by
  rw [k0_part21_eq_skeleton]; unfold onBufs k0_part21_skel
  refine send_then 28 ?_
  exact run_ret (Entails.of_eq rfl)

/-- The rows for device 29, 30 sent. -/
theorem part22 {R : sProp 𝕄} {w1 w2 w3 w4} :
    St X Wt K c (OX c (29 :: 30 :: S)) A G T D (29 :: 30 :: S) S' V V' k E E' R
    ⊢ run c (onBufs (k0_part22 (F := F)) c w1 w2 w3 w4) fun _ =>
      St X Wt K c (OX c S) A G T D S (30 :: 29 :: S') V V' k E E' R := by
  rw [k0_part22_eq_skeleton]; unfold onBufs k0_part22_skel
  refine send_then 29 ?_
  refine send_then 30 ?_
  exact run_ret (Entails.of_eq rfl)

/-- The rows for device 31 sent. -/
theorem part23 {R : sProp 𝕄} {w1 w2 w3 w4 w5 w6 w7} :
    St X Wt K c (OX c (31 :: S)) A G T D (31 :: S) S' V V' k E E' R
    ⊢ run c (onBufs (k0_part23 (F := F)) c w1 w2 w3 w4 w5 w6 w7) fun _ =>
      St X Wt K c (OX c S) A G T D S (31 :: S') V V' k E E' R := by
  rw [k0_part23_eq_skeleton]; unfold onBufs k0_part23_skel
  refine send_then 31 ?_
  exact run_ret (Entails.of_eq rfl)

/-- The rows for device 24, 25 sent. -/
theorem part24 {R : sProp 𝕄} {w1 w2 w3 w4 w5} :
    St X Wt K c (OX c (24 :: 25 :: S)) A G T D (24 :: 25 :: S) S' V V' k E E' R
    ⊢ run c (onBufs (k0_part24 (F := F)) c w1 w2 w3 w4 w5) fun _ =>
      St X Wt K c (OX c S) A G T D S (25 :: 24 :: S') V V' k E E' R := by
  rw [k0_part24_eq_skeleton]; unfold onBufs k0_part24_skel
  refine send_then 24 ?_
  refine send_then 25 ?_
  exact run_ret (Entails.of_eq rfl)

/-- The rows for device 26 sent. -/
theorem part25 {R : sProp 𝕄} {w1 w2 w3} :
    St X Wt K c (OX c (26 :: S)) A G T D (26 :: S) S' V V' k E E' R
    ⊢ run c (onBufs (k0_part25 (F := F)) c w1 w2 w3) fun _ =>
      St X Wt K c (OX c S) A G T D S (26 :: S') V V' k E E' R := by
  rw [k0_part25_eq_skeleton]; unfold onBufs k0_part25_skel
  refine send_then 26 ?_
  exact run_ret (Entails.of_eq rfl)

/-- The rows for device 27 sent. -/
theorem part26 {R : sProp 𝕄} {w1 w2 w3 w4 w5} :
    St X Wt K c (OX c (27 :: S)) A G T D (27 :: S) S' V V' k E E' R
    ⊢ run c (onBufs (k0_part26 (F := F)) c w1 w2 w3 w4 w5) fun _ =>
      St X Wt K c (OX c S) A G T D S (27 :: S') V V' k E E' R := by
  rw [k0_part26_eq_skeleton]; unfold onBufs k0_part26_skel
  refine send_then 27 ?_
  exact run_ret (Entails.of_eq rfl)

/-- The rows for device 20, 21 sent. -/
theorem part27 {R : sProp 𝕄} {w1 w2 w3 w4 w5 w6 w7} :
    St X Wt K c (OX c (20 :: 21 :: S)) A G T D (20 :: 21 :: S) S' V V' k E E' R
    ⊢ run c (onBufs (k0_part27 (F := F)) c w1 w2 w3 w4 w5 w6 w7) fun _ =>
      St X Wt K c (OX c S) A G T D S (21 :: 20 :: S') V V' k E E' R := by
  rw [k0_part27_eq_skeleton]; unfold onBufs k0_part27_skel
  refine send_then 20 ?_
  refine send_then 21 ?_
  exact run_ret (Entails.of_eq rfl)

/-- The rows for device 22 sent. -/
theorem part28 {R : sProp 𝕄} {w1 w2 w3 w4 w5} :
    St X Wt K c (OX c (22 :: S)) A G T D (22 :: S) S' V V' k E E' R
    ⊢ run c (onBufs (k0_part28 (F := F)) c w1 w2 w3 w4 w5) fun _ =>
      St X Wt K c (OX c S) A G T D S (22 :: S') V V' k E E' R := by
  rw [k0_part28_eq_skeleton]; unfold onBufs k0_part28_skel
  refine send_then 22 ?_
  exact run_ret (Entails.of_eq rfl)

/-- The rows for device 23 sent. -/
theorem part29 {R : sProp 𝕄} {w1 w2 w3 w4} :
    St X Wt K c (OX c (23 :: S)) A G T D (23 :: S) S' V V' k E E' R
    ⊢ run c (onBufs (k0_part29 (F := F)) c w1 w2 w3 w4) fun _ =>
      St X Wt K c (OX c S) A G T D S (23 :: S') V V' k E E' R := by
  rw [k0_part29_eq_skeleton]; unfold onBufs k0_part29_skel
  refine send_then 23 ?_
  exact run_ret (Entails.of_eq rfl)

/-- The rows for device 16, 17 sent. -/
theorem part30 {R : sProp 𝕄} {w1 w2 w3 w4 w5 w6} :
    St X Wt K c (OX c (16 :: 17 :: S)) A G T D (16 :: 17 :: S) S' V V' k E E' R
    ⊢ run c (onBufs (k0_part30 (F := F)) c w1 w2 w3 w4 w5 w6) fun _ =>
      St X Wt K c (OX c S) A G T D S (17 :: 16 :: S') V V' k E E' R := by
  rw [k0_part30_eq_skeleton]; unfold onBufs k0_part30_skel
  refine send_then 16 ?_
  refine send_then 17 ?_
  exact run_ret (Entails.of_eq rfl)

/-- The rows for device 18 sent. -/
theorem part31 {R : sProp 𝕄} {w1 w2 w3 w4 w5} :
    St X Wt K c (OX c (18 :: S)) A G T D (18 :: S) S' V V' k E E' R
    ⊢ run c (onBufs (k0_part31 (F := F)) c w1 w2 w3 w4 w5) fun _ =>
      St X Wt K c (OX c S) A G T D S (18 :: S') V V' k E E' R := by
  rw [k0_part31_eq_skeleton]; unfold onBufs k0_part31_skel
  refine send_then 18 ?_
  exact run_ret (Entails.of_eq rfl)

/-- The rows for device 19 sent. -/
theorem part32 {R : sProp 𝕄} {w1 w2 w3 w4 w5 w6} :
    St X Wt K c (OX c (19 :: S)) A G T D (19 :: S) S' V V' k E E' R
    ⊢ run c (onBufs (k0_part32 (F := F)) c w1 w2 w3 w4 w5 w6) fun _ =>
      St X Wt K c (OX c S) A G T D S (19 :: S') V V' k E E' R := by
  rw [k0_part32_eq_skeleton]; unfold onBufs k0_part32_skel
  refine send_then 19 ?_
  exact run_ret (Entails.of_eq rfl)

/-- The rows for device 12, 13 sent. -/
theorem part33 {R : sProp 𝕄} {w1 w2 w3 w4} :
    St X Wt K c (OX c (12 :: 13 :: S)) A G T D (12 :: 13 :: S) S' V V' k E E' R
    ⊢ run c (onBufs (k0_part33 (F := F)) c w1 w2 w3 w4) fun _ =>
      St X Wt K c (OX c S) A G T D S (13 :: 12 :: S') V V' k E E' R := by
  rw [k0_part33_eq_skeleton]; unfold onBufs k0_part33_skel
  refine send_then 12 ?_
  refine send_then 13 ?_
  exact run_ret (Entails.of_eq rfl)

/-- The rows for device 14 sent. -/
theorem part34 {R : sProp 𝕄} {w1 w2 w3 w4 w5 w6 w7} :
    St X Wt K c (OX c (14 :: S)) A G T D (14 :: S) S' V V' k E E' R
    ⊢ run c (onBufs (k0_part34 (F := F)) c w1 w2 w3 w4 w5 w6 w7) fun _ =>
      St X Wt K c (OX c S) A G T D S (14 :: S') V V' k E E' R := by
  rw [k0_part34_eq_skeleton]; unfold onBufs k0_part34_skel
  refine send_then 14 ?_
  exact run_ret (Entails.of_eq rfl)

/-- The rows for device 15, 8 sent. -/
theorem part35 {R : sProp 𝕄} {w1 w2 w3 w4 w5} :
    St X Wt K c (OX c (15 :: 8 :: S)) A G T D (15 :: 8 :: S) S' V V' k E E' R
    ⊢ run c (onBufs (k0_part35 (F := F)) c w1 w2 w3 w4 w5) fun _ =>
      St X Wt K c (OX c S) A G T D S (8 :: 15 :: S') V V' k E E' R := by
  rw [k0_part35_eq_skeleton]; unfold onBufs k0_part35_skel
  refine send_then 15 ?_
  refine send_then 8 ?_
  exact run_ret (Entails.of_eq rfl)

/-- The rows for device 9 sent. -/
theorem part36 {R : sProp 𝕄} {w1 w2 w3} :
    St X Wt K c (OX c (9 :: S)) A G T D (9 :: S) S' V V' k E E' R
    ⊢ run c (onBufs (k0_part36 (F := F)) c w1 w2 w3) fun _ =>
      St X Wt K c (OX c S) A G T D S (9 :: S') V V' k E E' R := by
  rw [k0_part36_eq_skeleton]; unfold onBufs k0_part36_skel
  refine send_then 9 ?_
  exact run_ret (Entails.of_eq rfl)

/-- The rows for device 10 sent. -/
theorem part37 {R : sProp 𝕄} {w1 w2 w3 w4 w5} :
    St X Wt K c (OX c (10 :: S)) A G T D (10 :: S) S' V V' k E E' R
    ⊢ run c (onBufs (k0_part37 (F := F)) c w1 w2 w3 w4 w5) fun _ =>
      St X Wt K c (OX c S) A G T D S (10 :: S') V V' k E E' R := by
  rw [k0_part37_eq_skeleton]; unfold onBufs k0_part37_skel
  refine send_then 10 ?_
  exact run_ret (Entails.of_eq rfl)

/-- The rows for device 11, 4 sent. -/
theorem part38 {R : sProp 𝕄} {w1 w2 w3 w4 w5 w6 w7} :
    St X Wt K c (OX c (11 :: 4 :: S)) A G T D (11 :: 4 :: S) S' V V' k E E' R
    ⊢ run c (onBufs (k0_part38 (F := F)) c w1 w2 w3 w4 w5 w6 w7) fun _ =>
      St X Wt K c (OX c S) A G T D S (4 :: 11 :: S') V V' k E E' R := by
  rw [k0_part38_eq_skeleton]; unfold onBufs k0_part38_skel
  refine send_then 11 ?_
  refine send_then 4 ?_
  exact run_ret (Entails.of_eq rfl)

/-- The rows for device 5 sent. -/
theorem part39 {R : sProp 𝕄} {w1 w2 w3 w4 w5} :
    St X Wt K c (OX c (5 :: S)) A G T D (5 :: S) S' V V' k E E' R
    ⊢ run c (onBufs (k0_part39 (F := F)) c w1 w2 w3 w4 w5) fun _ =>
      St X Wt K c (OX c S) A G T D S (5 :: S') V V' k E E' R := by
  rw [k0_part39_eq_skeleton]; unfold onBufs k0_part39_skel
  refine send_then 5 ?_
  exact run_ret (Entails.of_eq rfl)

/-- The rows for device 6 sent. -/
theorem part40 {R : sProp 𝕄} {w1 w2 w3 w4} :
    St X Wt K c (OX c (6 :: S)) A G T D (6 :: S) S' V V' k E E' R
    ⊢ run c (onBufs (k0_part40 (F := F)) c w1 w2 w3 w4) fun _ =>
      St X Wt K c (OX c S) A G T D S (6 :: S') V V' k E E' R := by
  rw [k0_part40_eq_skeleton]; unfold onBufs k0_part40_skel
  refine send_then 6 ?_
  exact run_ret (Entails.of_eq rfl)

end Parts
end Cert.A2A
-- ==== Proof.A2A.PartsRecv.lean ====
/-
# The all-to-all: the parts that receive and multiply

The blocks of the other devices come in; every fourth one completes the columns that meet a block of the weights.
-/
module

public import proofs.«01_k».proof.Proof.A2A.Loads

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable {X : Dev nD → Vec F S4096x128 .f32} {Wt : Dev nD → Vec F S4096x2048 .f32} {K : Dev nD × CIx → ℕ} {c : Dev nD}
variable {O : CellTallies nD τ sig Unit} {A l : List (Fin 32)} {G : List Slot} {T D : List (Fin 8)} {S S' V V' : List (Fin 32)} {k : ℕ}
  {E E' : List (Fin 32)}

/-- The rows for device 7 sent; the block of device 0 received. -/
theorem part41 {R : sProp 𝕄} {w1 w2 w3 w4 w5 w6} :
    St X Wt K c (OX c [7]) A G T D [7] S' (0 :: V) V' 0 E E' R
    ⊢ run c (onBufs (k0_part41 (F := F)) c w1 w2 w3 w4 w5 w6) fun _ =>
      St X Wt K c 0 A G T D [] (7 :: S') V (0 :: V') 1 E E' R := by
  rw [k0_part41_eq_skeleton]; unfold onBufs k0_part41_skel
  refine send_then 7 ?_
  refine recv_then 0 ?_
  exact run_ret (Entails.of_eq rfl)

/-- The block of device 1, 2 received. -/
theorem part42 {R : sProp 𝕄} {w1 w2 w3 w4 w5 w6 w7} :
    St X Wt K c 0 A G T D S S' (1 :: 2 :: V) V' 1 E E' R
    ⊢ run c (onBufs (k0_part42 (F := F)) c w1 w2 w3 w4 w5 w6 w7) fun _ =>
      St X Wt K c 0 A G T D S S' V (2 :: 1 :: V') 3 E E' R := by
  rw [k0_part42_eq_skeleton]; unfold onBufs k0_part42_skel
  refine recv_then 1 ?_
  refine recv_then 2 ?_
  exact run_ret (Entails.of_eq rfl)

/-- The block of device 3 received; block 0 of the weights awaited and read; the columns it meets read. -/
theorem part43 {R : sProp 𝕄} {w1 w2 w3 w4 w5 w6 w7 w8 w9} :
    St X Wt K c 0 A (.busy 0 :: G) T D S S' (3 :: V) V' 3 E E' R
    ⊢ run c (onBufs (k0_part43 (F := F)) c w1 w2 w3 w4 w5 w6 w7 w8 w9) fun a =>
      iprop(⌜a = k0_pay4 (wslab Wt c 0) (xslab X c 0)⌝ ∗ St X Wt K c 0 A (.full 0 :: G) T (0 :: D) S S' V (3 :: V') 4 E E' R) := by
  rw [k0_part43_eq_skeleton]; unfold onBufs k0_part43_skel
  refine recv_then 3 ?_
  refine wwait_then 0 ?_
  refine wload_then 0 ?_
  refine xload_then 0 ?_
  exact run_ret (St_val rfl)

/-- Block 4 of the weights fetched; the block of device 4 received. -/
theorem part44 {R : sProp 𝕄} {w1 w2} :
    St X Wt K c 0 A (.full 0 :: G) (4 :: T) D S S' (4 :: V) V' 4 E E' R
    ⊢ run c (onBufs (k0_part44 (F := F)) c w1 w2) fun _ =>
      St X Wt K c 0 A (G ++ [.busy 4]) T D S S' V (4 :: V') 5 E E' R := by
  rw [k0_part44_eq_skeleton]; unfold onBufs k0_part44_skel
  refine reuse_then 0 4 rfl ?_
  refine fetch_then 4 ?_
  refine recv_then 4 ?_
  exact run_ret (Entails.of_eq rfl)

/-- The block of device 5, 6 received. -/
theorem part45 {R : sProp 𝕄} {w1 w2 w3 w4 w5} :
    St X Wt K c 0 A G T D S S' (5 :: 6 :: V) V' 5 E E' R
    ⊢ run c (onBufs (k0_part45 (F := F)) c w1 w2 w3 w4 w5) fun _ =>
      St X Wt K c 0 A G T D S S' V (6 :: 5 :: V') 7 E E' R := by
  rw [k0_part45_eq_skeleton]; unfold onBufs k0_part45_skel
  refine recv_then 5 ?_
  refine recv_then 6 ?_
  exact run_ret (Entails.of_eq rfl)

/-- The block of device 7 received; block 1 of the weights awaited and read; the columns it meets read. -/
theorem part46 {R : sProp 𝕄} {acc : FVec F S128x2048 .f32} {w1 w2 w3 w4 w5 w6 w7 w8} :
    St X Wt K c 0 A (.busy 1 :: G) T D S S' (7 :: V) V' 7 E E' R
    ⊢ run c (onBufs (k0_part46 (F := F)) c w1 w2 acc w3 w4 w5 w6 w7 w8) fun a =>
      iprop(⌜a = k0_pay5 acc (wslab Wt c 1) (xslab X c 1)⌝ ∗ St X Wt K c 0 A (.full 1 :: G) T (1 :: D) S S' V (7 :: V') 8 E E' R) := by
  rw [k0_part46_eq_skeleton]; unfold onBufs k0_part46_skel
  refine recv_then 7 ?_
  refine wwait_then 1 ?_
  refine wload_then 1 ?_
  refine xload_then 1 ?_
  exact run_ret (St_val rfl)

/-- Block 5 of the weights fetched; the block of device 8 received. -/
theorem part47 {R : sProp 𝕄} {w1 w2} :
    St X Wt K c 0 A (.full 1 :: G) (5 :: T) D S S' (8 :: V) V' 8 E E' R
    ⊢ run c (onBufs (k0_part47 (F := F)) c w1 w2) fun _ =>
      St X Wt K c 0 A (G ++ [.busy 5]) T D S S' V (8 :: V') 9 E E' R := by
  rw [k0_part47_eq_skeleton]; unfold onBufs k0_part47_skel
  refine reuse_then 1 5 rfl ?_
  refine fetch_then 5 ?_
  refine recv_then 8 ?_
  exact run_ret (Entails.of_eq rfl)

/-- The block of device 9, 10 received. -/
theorem part48 {R : sProp 𝕄} {w1 w2 w3 w4 w5} :
    St X Wt K c 0 A G T D S S' (9 :: 10 :: V) V' 9 E E' R
    ⊢ run c (onBufs (k0_part48 (F := F)) c w1 w2 w3 w4 w5) fun _ =>
      St X Wt K c 0 A G T D S S' V (10 :: 9 :: V') 11 E E' R := by
  rw [k0_part48_eq_skeleton]; unfold onBufs k0_part48_skel
  refine recv_then 9 ?_
  refine recv_then 10 ?_
  exact run_ret (Entails.of_eq rfl)

/-- The block of device 11 received; block 2 of the weights awaited and read; the columns it meets read. -/
theorem part49 {R : sProp 𝕄} {acc : FVec F S128x2048 .f32} {w1 w2 w3 w4 w5 w6 w7 w8} :
    St X Wt K c 0 A (.busy 2 :: G) T D S S' (11 :: V) V' 11 E E' R
    ⊢ run c (onBufs (k0_part49 (F := F)) c w1 w2 acc w3 w4 w5 w6 w7 w8) fun a =>
      iprop(⌜a = k0_pay6 acc (wslab Wt c 2) (xslab X c 2)⌝ ∗ St X Wt K c 0 A (.full 2 :: G) T (2 :: D) S S' V (11 :: V') 12 E E' R) := by
  rw [k0_part49_eq_skeleton]; unfold onBufs k0_part49_skel
  refine recv_then 11 ?_
  refine wwait_then 2 ?_
  refine wload_then 2 ?_
  refine xload_then 2 ?_
  exact run_ret (St_val rfl)

/-- Block 6 of the weights fetched; the block of device 12 received. -/
theorem part50 {R : sProp 𝕄} {w1 w2} :
    St X Wt K c 0 A (.full 2 :: G) (6 :: T) D S S' (12 :: V) V' 12 E E' R
    ⊢ run c (onBufs (k0_part50 (F := F)) c w1 w2) fun _ =>
      St X Wt K c 0 A (G ++ [.busy 6]) T D S S' V (12 :: V') 13 E E' R := by
  rw [k0_part50_eq_skeleton]; unfold onBufs k0_part50_skel
  refine reuse_then 2 6 rfl ?_
  refine fetch_then 6 ?_
  refine recv_then 12 ?_
  exact run_ret (Entails.of_eq rfl)

/-- The block of device 13, 14 received. -/
theorem part51 {R : sProp 𝕄} {w1 w2 w3 w4 w5} :
    St X Wt K c 0 A G T D S S' (13 :: 14 :: V) V' 13 E E' R
    ⊢ run c (onBufs (k0_part51 (F := F)) c w1 w2 w3 w4 w5) fun _ =>
      St X Wt K c 0 A G T D S S' V (14 :: 13 :: V') 15 E E' R := by
  rw [k0_part51_eq_skeleton]; unfold onBufs k0_part51_skel
  refine recv_then 13 ?_
  refine recv_then 14 ?_
  exact run_ret (Entails.of_eq rfl)

/-- The block of device 15 received; block 3 of the weights awaited and read; the columns it meets read. -/
theorem part52 {R : sProp 𝕄} {acc : FVec F S128x2048 .f32} {w1 w2 w3 w4 w5 w6 w7 w8} :
    St X Wt K c 0 A (.busy 3 :: G) T D S S' (15 :: V) V' 15 E E' R
    ⊢ run c (onBufs (k0_part52 (F := F)) c w1 w2 acc w3 w4 w5 w6 w7 w8) fun a =>
      iprop(⌜a = k0_pay7 acc (wslab Wt c 3) (xslab X c 3)⌝ ∗ St X Wt K c 0 A (.full 3 :: G) T (3 :: D) S S' V (15 :: V') 16 E E' R) := by
  rw [k0_part52_eq_skeleton]; unfold onBufs k0_part52_skel
  refine recv_then 15 ?_
  refine wwait_then 3 ?_
  refine wload_then 3 ?_
  refine xload_then 3 ?_
  exact run_ret (St_val rfl)

/-- Block 7 of the weights fetched; the block of device 16 received. -/
theorem part53 {R : sProp 𝕄} {w1 w2} :
    St X Wt K c 0 A (.full 3 :: G) (7 :: T) D S S' (16 :: V) V' 16 E E' R
    ⊢ run c (onBufs (k0_part53 (F := F)) c w1 w2) fun _ =>
      St X Wt K c 0 A (G ++ [.busy 7]) T D S S' V (16 :: V') 17 E E' R := by
  rw [k0_part53_eq_skeleton]; unfold onBufs k0_part53_skel
  refine reuse_then 3 7 rfl ?_
  refine fetch_then 7 ?_
  refine recv_then 16 ?_
  exact run_ret (Entails.of_eq rfl)

/-- The block of device 17, 18 received. -/
theorem part54 {R : sProp 𝕄} {w1 w2 w3 w4 w5} :
    St X Wt K c 0 A G T D S S' (17 :: 18 :: V) V' 17 E E' R
    ⊢ run c (onBufs (k0_part54 (F := F)) c w1 w2 w3 w4 w5) fun _ =>
      St X Wt K c 0 A G T D S S' V (18 :: 17 :: V') 19 E E' R := by
  rw [k0_part54_eq_skeleton]; unfold onBufs k0_part54_skel
  refine recv_then 17 ?_
  refine recv_then 18 ?_
  exact run_ret (Entails.of_eq rfl)

/-- The block of device 19 received; block 4 of the weights awaited and read; the columns it meets read. -/
theorem part55 {R : sProp 𝕄} {acc : FVec F S128x2048 .f32} {w1 w2 w3 w4 w5 w6 w7 w8} :
    St X Wt K c 0 A (.busy 4 :: G) T D S S' (19 :: V) V' 19 E E' R
    ⊢ run c (onBufs (k0_part55 (F := F)) c w1 w2 acc w3 w4 w5 w6 w7 w8) fun a =>
      iprop(⌜a.1 = k0_pay8 acc (wslab Wt c 4) (xslab X c 4)⌝ ∗ St X Wt K c 0 A (G ++ [.full 4]) T (4 :: D) S S' V (19 :: V') 20 E E' R) := by
  rw [k0_part55_eq_skeleton]; unfold onBufs k0_part55_skel
  refine recv_then 19 ?_
  refine wwait_then 4 ?_
  refine wload_then 4 ?_
  refine xload_then 4 ?_
  refine rotate_then ?_
  exact run_ret (St_val rfl)

/-- The block of device 20, 21 received. -/
theorem part56 {R : sProp 𝕄} {w1 w2 w3 w4 w5 w6} :
    St X Wt K c 0 A G T D S S' (20 :: 21 :: V) V' 20 E E' R
    ⊢ run c (onBufs (k0_part56 (F := F)) c w1 w2 w3 w4 w5 w6) fun _ =>
      St X Wt K c 0 A G T D S S' V (21 :: 20 :: V') 22 E E' R := by
  rw [k0_part56_eq_skeleton]; unfold onBufs k0_part56_skel
  refine recv_then 20 ?_
  refine recv_then 21 ?_
  exact run_ret (Entails.of_eq rfl)

/-- The block of device 22, 23 received; block 5 of the weights awaited and read. -/
theorem part57 {R : sProp 𝕄} {w1 w2 w3 w4 w5 w6 w7} :
    St X Wt K c 0 A (.busy 5 :: G) T D S S' (22 :: 23 :: V) V' 22 E E' R
    ⊢ run c (onBufs (k0_part57 (F := F)) c w1 w2 w3 w4 w5 w6 w7) fun a =>
      iprop(⌜a = k0_pay9 (wslab Wt c 5)⌝ ∗ St X Wt K c 0 A (G ++ [.full 5]) T (5 :: D) S S' V (23 :: 22 :: V') 24 E E' R) := by
  rw [k0_part57_eq_skeleton]; unfold onBufs k0_part57_skel
  refine recv_then 22 ?_
  refine recv_then 23 ?_
  refine wwait_then 5 ?_
  refine wload_then 5 ?_
  refine rotate_then ?_
  exact run_ret (St_val rfl)

/-- The block of device 24 received; columns 5 read. -/
theorem part58 {R : sProp 𝕄} {acc : FVec F S128x2048 .f32} {w : FVec F S512x2048 .fp8e5m2} {w1 w2} :
    St X Wt K c 0 A G T D S S' (24 :: V) V' 24 E E' R
    ⊢ run c (onBufs (k0_part58 (F := F)) c w1 w2 acc w) fun a =>
      iprop(⌜a.1 = k0_pay10 acc w (xslab X c 5)⌝ ∗ St X Wt K c 0 A G T D S S' V (24 :: V') 25 E E' R) := by
  rw [k0_part58_eq_skeleton]; unfold onBufs k0_part58_skel
  refine xload_then 5 ?_
  refine recv_then 24 ?_
  exact run_ret (St_val rfl)

/-- The block of device 25, 26 received. -/
theorem part59 {R : sProp 𝕄} {w1 w2 w3 w4 w5 w6} :
    St X Wt K c 0 A G T D S S' (25 :: 26 :: V) V' 25 E E' R
    ⊢ run c (onBufs (k0_part59 (F := F)) c w1 w2 w3 w4 w5 w6) fun _ =>
      St X Wt K c 0 A G T D S S' V (26 :: 25 :: V') 27 E E' R := by
  rw [k0_part59_eq_skeleton]; unfold onBufs k0_part59_skel
  refine recv_then 25 ?_
  refine recv_then 26 ?_
  exact run_ret (Entails.of_eq rfl)

/-- The block of device 27 received; block 6 of the weights awaited and read; the columns it meets read. -/
theorem part60 {R : sProp 𝕄} {acc : FVec F S128x2048 .f32} {w1 w2 w3 w4 w5 w6 w7} :
    St X Wt K c 0 A (.busy 6 :: G) T D S S' (27 :: V) V' 27 E E' R
    ⊢ run c (onBufs (k0_part60 (F := F)) c w1 w2 acc w3 w4 w5 w6 w7) fun a =>
      iprop(⌜a.1 = k0_pay11 acc (wslab Wt c 6) (xslab X c 6)⌝ ∗ St X Wt K c 0 A (G ++ [.full 6]) T (6 :: D) S S' V (27 :: V') 28 E E' R) := by
  rw [k0_part60_eq_skeleton]; unfold onBufs k0_part60_skel
  refine recv_then 27 ?_
  refine wwait_then 6 ?_
  refine wload_then 6 ?_
  refine xload_then 6 ?_
  refine rotate_then ?_
  exact run_ret (St_val rfl)

/-- The block of device 28, 29 received. -/
theorem part61 {R : sProp 𝕄} {w1 w2 w3 w4 w5 w6 w7} :
    St X Wt K c 0 A G T D S S' (28 :: 29 :: V) V' 28 E E' R
    ⊢ run c (onBufs (k0_part61 (F := F)) c w1 w2 w3 w4 w5 w6 w7) fun _ =>
      St X Wt K c 0 A G T D S S' V (29 :: 28 :: V') 30 E E' R := by
  rw [k0_part61_eq_skeleton]; unfold onBufs k0_part61_skel
  refine recv_then 28 ?_
  refine recv_then 29 ?_
  exact run_ret (Entails.of_eq rfl)

/-- The block of device 30, 31 received; block 7 of the weights awaited and read; the columns it meets read. -/
theorem part62 {R : sProp 𝕄} {w1 w2 w3 w4 w5 w6 w7 w8} :
    St X Wt K c 0 A (.busy 7 :: G) T D S S' (30 :: 31 :: V) V' 30 E E' R
    ⊢ run c (onBufs (k0_part62 (F := F)) c w1 w2 w3 w4 w5 w6 w7 w8) fun a =>
      iprop(⌜a.1 = k0_pay12 (wslab Wt c 7) ∧ a.2.1 = xslab X c 7 ∧ a.2.2 = constant S128x2048 .f32 0x00000000#32⌝ ∗ St X Wt K c 0 A (G ++ [.full 7]) T (7 :: D) S S' V (31 :: 30 :: V') 32 E E' R) := by
  rw [k0_part62_eq_skeleton]; unfold onBufs k0_part62_skel
  refine recv_then 30 ?_
  refine recv_then 31 ?_
  refine wwait_then 7 ?_
  refine wload_then 7 ?_
  refine xload_then 7 ?_
  refine rotate_then ?_
  exact run_ret (St_val ⟨rfl, rfl, rfl⟩)

end Parts
end Cert.A2A
-- ==== Proof.A2A.PartsAll.lean ====
/-
# The all-to-all: the parts in a row

The parts of the body one after another, up to the sixth product of a block of gathered columns and a block of the
weights, and what the products have added up to by then.
-/
module

public import proofs.«01_k».proof.Proof.A2A.PartsReady
public import proofs.«01_k».proof.Proof.A2A.PartOwn
public import proofs.«01_k».proof.Proof.A2A.PartsSend
public import proofs.«01_k».proof.Proof.A2A.PartsRecv

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A known fact before a state may be used in what follows. -/
theorem fact_then {α : Type} {P : sProp 𝕄} {φ : Prop} {c : Dev nD} {p : Prog (TpuEff nD τ sig (Elt F) Λ₀ .tc) α} {Q : α → sProp 𝕄}
    (h : φ → P ⊢ run c p Q) : iprop(⌜φ⌝ ∗ P) ⊢ run c p Q := by
  iintro ⟨%hφ, H⟩
  iapply (h hφ); iexact H

section Parts
variable (X : Dev nD → Vec F S4096x128 .f32) (Wt : Dev nD → Vec F S4096x2048 .f32)

/-- The sum of the first seven products of device `c`. -/
def acc7 (c : Dev nD) : FVec F S128x2048 .f32 :=
  k0_pay11 (k0_pay10 (k0_pay8 (k0_pay7 (k0_pay6 (k0_pay5 (k0_pay4 (wslab Wt c 0) (xslab X c 0)) (wslab Wt c 1) (xslab X c 1))
    (wslab Wt c 2) (xslab X c 2)) (wslab Wt c 3) (xslab X c 3)) (wslab Wt c 4) (xslab X c 4)) (k0_pay9 (wslab Wt c 5)) (xslab X c 5))
    (wslab Wt c 6) (xslab X c 6)

variable {X Wt} {K : Dev nD × CIx → ℕ} {c : Dev nD}

attribute [local irreducible] wp

set_option maxHeartbeats 4000000 in
/-- The ready signals, the transfers, and most of what is received and multiplied. -/
theorem part69 {E E' : List (Fin 32)} {R : sProp 𝕄} (fq : Vec F S4096x128 .fp8e5m2) (fx : Vec F S128x4096 .fp8e5m2) :
    St X Wt K c (O₀ c) steps [.free 0, .free 1, .free 2, .free 3] [0, 1, 2, 3, 4, 5, 6, 7] [] [] [] [] [] 0 E E'
      iprop(dutyTok ER (cell (c, none)) 0 ()
        ∗ ((c : Thread nD τ).loc cc0_stg0_0 ↦{fullShare} X c)
        ∗ ((c : Thread nD τ).loc cc0_scratch0 ↦{fullShare} fq)
        ∗ ((c : Thread nD τ).loc cc0_scratch1 ↦[colsD c.val]{fullShare} fx)
        ∗ (cred (tallyAt (cell (c, none)) () 1) ∗ atPos ER (cell (c, none)) 0 ∅ 0)
        ∗ lsep sendOrder (sndT (F := F) c) ∗ lsep order (rcvT (F := F) c) ∗ R)
    ⊢ run c (onBufs (k0_part69 (F := F))) fun a =>
      iprop(⌜a.1 = c ∧ a.2.2.1 = acc7 X Wt c⌝ ∗
        St X Wt K c 0 [] [.busy 7, .full 4, .full 5, .full 6] [] [6, 5, 4, 3, 2, 1, 0] [] sendOrder.reverse [28, 29, 30, 31]
          [27, 26, 25, 24, 23, 22, 21, 20, 19, 18, 17, 16, 15, 14, 13, 12, 11, 10, 9, 8, 7, 6, 5, 4, 3, 2, 1, 0] 28 E E'
          iprop(atPos ER (cell (c, none)) 1 ∅ 0 ∗ ((c : Thread nD τ).loc cc0_stg0_0 ↦{fullShare} X c) ∗ R)) := by
  rw [k0_part69_eq_skeleton]; unfold onBufs k0_part69_skel
  refine run_seq part1 ?_; rintro ⟨d, w2, w3, v4, w5⟩; refine fact_then ?_; rintro ⟨h1, h4⟩; dsimp only at h1 h4; subst h1
  refine run_seq part2 ?_; rintro _
  refine run_seq part3 ?_; rintro ⟨_, _⟩
  refine run_seq part4 ?_; rintro ⟨_, _, _, _, _⟩
  refine run_seq part5 ?_; rintro _
  refine run_seq part6 ?_; rintro ⟨_, _⟩
  refine run_seq part7 ?_; rintro ⟨_, _, _⟩
  refine run_seq part8 ?_; rintro ⟨_, _, _⟩
  refine run_seq part9 ?_; rintro ⟨_, _, _⟩
  refine run_seq part10 ?_; rintro _
  refine run_seq part11 ?_; rintro _
  refine run_seq part12 ?_; rintro ⟨_, _⟩
  refine run_seq part13 ?_; rintro ⟨_, _, _, _, _⟩
  refine run_seq part14 ?_; rintro _
  refine run_seq part15 ?_; rintro _
  refine run_seq part16 ?_; rintro ⟨_, _⟩
  refine run_seq (part17 h4 fq fx) ?_; rintro ⟨_, _⟩
  refine run_seq part18 ?_; rintro ⟨_, _, _, _⟩
  refine run_seq part19 ?_; rintro ⟨_, _, _⟩
  refine run_seq part20 ?_; rintro ⟨_, _, _, _⟩
  refine run_seq part21 ?_; rintro ⟨_, _⟩
  refine run_seq part22 ?_; rintro ⟨_, _, _, _, _⟩
  refine run_seq part23 ?_; rintro ⟨_, _, _⟩
  refine run_seq part24 ?_; rintro _
  refine run_seq part25 ?_; rintro ⟨_, _, _⟩
  refine run_seq part26 ?_; rintro ⟨_, _, _, _, _⟩
  refine run_seq part27 ?_; rintro ⟨_, _, _⟩
  refine run_seq part28 ?_; rintro ⟨_, _⟩
  refine run_seq part29 ?_; rintro ⟨_, _, _, _⟩
  refine run_seq part30 ?_; rintro ⟨_, _, _⟩
  refine run_seq part31 ?_; rintro ⟨_, _, _, _⟩
  refine run_seq part32 ?_; rintro ⟨_, _⟩
  refine run_seq part33 ?_; rintro ⟨_, _, _, _, _⟩
  refine run_seq part34 ?_; rintro ⟨_, _, _⟩
  refine run_seq part35 ?_; rintro _
  refine run_seq part36 ?_; rintro ⟨_, _, _⟩
  refine run_seq part37 ?_; rintro ⟨_, _, _, _, _⟩
  refine run_seq part38 ?_; rintro ⟨_, _, _⟩
  refine run_seq part39 ?_; rintro ⟨_, _⟩
  refine run_seq part40 ?_; rintro ⟨_, _, _, _⟩
  refine run_seq part41 ?_; rintro ⟨_, _, _, _, _, _⟩
  refine run_seq part42 ?_; rintro ⟨_, _, _, _, _, _⟩
  refine run_seq part43 ?_; intro a; refine fact_then ?_; rintro rfl
  refine run_seq part44 ?_; rintro ⟨_, _, _, _⟩
  refine run_seq part45 ?_; rintro ⟨_, _, _, _, _⟩
  refine run_seq part46 ?_; intro a; refine fact_then ?_; rintro rfl
  refine run_seq part47 ?_; rintro ⟨_, _, _, _⟩
  refine run_seq part48 ?_; rintro ⟨_, _, _, _, _⟩
  refine run_seq part49 ?_; intro a; refine fact_then ?_; rintro rfl
  refine run_seq part50 ?_; rintro ⟨_, _, _, _⟩
  refine run_seq part51 ?_; rintro ⟨_, _, _, _, _⟩
  refine run_seq part52 ?_; intro a; refine fact_then ?_; rintro rfl
  refine run_seq part53 ?_; rintro ⟨_, _, _, _⟩
  refine run_seq part54 ?_; rintro ⟨_, _, _, _, _⟩
  refine run_seq part55 ?_; rintro ⟨a, _, _, _, _, _⟩; refine fact_then ?_; intro h; dsimp only at h; subst h
  refine run_seq part56 ?_; rintro ⟨_, _, _, _, _⟩
  refine run_seq part57 ?_; intro a; refine fact_then ?_; rintro rfl
  refine run_seq part58 ?_; rintro ⟨a, _, _, _, _, _⟩; refine fact_then ?_; intro h; dsimp only at h; subst h
  refine run_seq part59 ?_; rintro ⟨_, _, _, _⟩
  refine run_seq part60 ?_; rintro ⟨a, _, _, _, _, _, _⟩; refine fact_then ?_; intro h; dsimp only at h; subst h
  exact run_ret (St_val ⟨rfl, rfl⟩)

end Parts
end Cert.A2A
-- ==== Proof.A2A.PartsOut.lean ====
/-
# The all-to-all: the parts that see the transfers out

The last product is added, and the transfers a device has started are seen out.
-/
module

public import proofs.«01_k».proof.Proof.A2A.Loads

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable {X : Dev nD → Vec F S4096x128 .f32} {Wt : Dev nD → Vec F S4096x2048 .f32} {K : Dev nD × CIx → ℕ} {c : Dev nD}
variable {O : CellTallies nD τ sig Unit} {A l : List (Fin 32)} {G : List Slot} {T D : List (Fin 8)} {S S' V V' : List (Fin 32)} {k : ℕ}
  {E E' : List (Fin 32)}

/-- The transfers 1, 2, 3, 4 places on out. -/
theorem part63 {R : sProp 𝕄} {acc : FVec F S128x2048 .f32} {w : FVec F S512x2048 .fp8e5m2} {x : Vec F S128x512 .fp8e5m2} {z : FVec F S128x2048 .f32} :
    St X Wt K c 0 A G T D S S' V V' k (1 :: 2 :: 3 :: 4 :: E) E' R
    ⊢ run c (onBufs (k0_part63 (F := F)) acc w x z) fun a =>
      iprop(⌜a = k0_pay13 acc w x z⌝ ∗ St X Wt K c 0 A G T D S S' V V' k E (4 :: 3 :: 2 :: 1 :: E') R) := by
  rw [k0_part63_eq_skeleton]; unfold onBufs k0_part63_skel
  refine out_then 1 ?_
  refine out_then 2 ?_
  refine out_then 3 ?_
  refine out_then 4 ?_
  exact run_ret (St_val rfl)

/-- The transfers 5, 6, 7, 8, 9 places on out. -/
theorem part64 {R : sProp 𝕄} :
    St X Wt K c 0 A G T D S S' V V' k (5 :: 6 :: 7 :: 8 :: 9 :: E) E' R
    ⊢ run c (onBufs (k0_part64 (F := F))) fun _ =>
      St X Wt K c 0 A G T D S S' V V' k E (9 :: 8 :: 7 :: 6 :: 5 :: E') R := by
  rw [k0_part64_eq_skeleton]; unfold onBufs k0_part64_skel
  refine out_then 5 ?_
  refine out_then 6 ?_
  refine out_then 7 ?_
  refine out_then 8 ?_
  refine out_then 9 ?_
  exact run_ret (Entails.of_eq rfl)

/-- The transfers 10, 11, 12, 13, 14 places on out. -/
theorem part65 {R : sProp 𝕄} :
    St X Wt K c 0 A G T D S S' V V' k (10 :: 11 :: 12 :: 13 :: 14 :: E) E' R
    ⊢ run c (onBufs (k0_part65 (F := F))) fun _ =>
      St X Wt K c 0 A G T D S S' V V' k E (14 :: 13 :: 12 :: 11 :: 10 :: E') R := by
  rw [k0_part65_eq_skeleton]; unfold onBufs k0_part65_skel
  refine out_then 10 ?_
  refine out_then 11 ?_
  refine out_then 12 ?_
  refine out_then 13 ?_
  refine out_then 14 ?_
  exact run_ret (Entails.of_eq rfl)

/-- The transfers 15, 16, 17, 18, 19 places on out. -/
theorem part66 {R : sProp 𝕄} :
    St X Wt K c 0 A G T D S S' V V' k (15 :: 16 :: 17 :: 18 :: 19 :: E) E' R
    ⊢ run c (onBufs (k0_part66 (F := F))) fun _ =>
      St X Wt K c 0 A G T D S S' V V' k E (19 :: 18 :: 17 :: 16 :: 15 :: E') R := by
  rw [k0_part66_eq_skeleton]; unfold onBufs k0_part66_skel
  refine out_then 15 ?_
  refine out_then 16 ?_
  refine out_then 17 ?_
  refine out_then 18 ?_
  refine out_then 19 ?_
  exact run_ret (Entails.of_eq rfl)

/-- The transfers 20, 21, 22, 23, 24 places on out. -/
theorem part67 {R : sProp 𝕄} :
    St X Wt K c 0 A G T D S S' V V' k (20 :: 21 :: 22 :: 23 :: 24 :: E) E' R
    ⊢ run c (onBufs (k0_part67 (F := F))) fun _ =>
      St X Wt K c 0 A G T D S S' V V' k E (24 :: 23 :: 22 :: 21 :: 20 :: E') R := by
  rw [k0_part67_eq_skeleton]; unfold onBufs k0_part67_skel
  refine out_then 20 ?_
  refine out_then 21 ?_
  refine out_then 22 ?_
  refine out_then 23 ?_
  refine out_then 24 ?_
  exact run_ret (Entails.of_eq rfl)

/-- The transfers 25, 26, 27, 28, 29 places on out. -/
theorem part68 {R : sProp 𝕄} :
    St X Wt K c 0 A G T D S S' V V' k (25 :: 26 :: 27 :: 28 :: 29 :: E) E' R
    ⊢ run c (onBufs (k0_part68 (F := F))) fun _ =>
      St X Wt K c 0 A G T D S S' V V' k E (29 :: 28 :: 27 :: 26 :: 25 :: E') R := by
  rw [k0_part68_eq_skeleton]; unfold onBufs k0_part68_skel
  refine out_then 25 ?_
  refine out_then 26 ?_
  refine out_then 27 ?_
  refine out_then 28 ?_
  refine out_then 29 ?_
  exact run_ret (Entails.of_eq rfl)

end Parts
end Cert.A2A
-- ==== Proof.A2A.Body.lean ====
/-
# The all-to-all: a device's whole run

After the last block of the weights is multiplied the transfers a device made are seen out, the two scales are read,
and the result is written.
-/
module

public import proofs.«01_k».proof.Proof.A2A.PartsAll
public import proofs.«01_k».proof.Proof.A2A.PartsOut

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (X : Dev nD → Vec F S4096x128 .f32) (Wt : Dev nD → Vec F S4096x2048 .f32)

/-- The one element of an array of one. -/
def one1 (f : Vec F S1 .f32) : Elt F .f32 := f (Shape.Idx.first (numel1_S1.symm ▸ Nat.one_pos))

/-- All blocks of the weights multiplied in. -/
def acc8 (c : Dev nD) : FVec F S128x2048 .f32 :=
  k0_pay13 (acc7 X Wt c) (k0_pay12 (wslab Wt c 7)) (xslab X c 7) (constant S128x2048 .f32 0x00000000#32)

/-- What device `c` writes, at the scales `sx` and `sw`. -/
def outv (c : Dev nD) (sx sw : Vec F S1 .f32) : Vec F S128x2048 .f32 := k0_pay1 (acc8 X Wt c) (one1 sx) (one1 sw)

variable {X Wt} {K : Dev nD × CIx → ℕ} {c : Dev nD}

theorem hz1 : (![0] : Fin 1 → Nat) = fun _ => 0 := funext fun a => by fin_cases a; rfl

/-- A scale read. -/
theorem smem_then {α : Type} {O A G T D S S' V V' k E E'} {R : sProp 𝕄} {Q : α → sProp 𝕄}
    {m : Memref sig .tc .smem S1 .f32} {h1} {hp} {f : Buf (Elt F) ((m.access (Rect.unit (s := S1) ![0] S1.size inb_S1_S1_0)).loc (c : Thread nD τ))}
    {p : Elt F .f32 → Prog (TpuEff nD τ sig (Elt F) Λ₀ .tc) α} {g : Vec F S1 .f32}
    (hr : (m.access (Rect.unit (s := S1) ![0] S1.size inb_S1_S1_0)).read (Elt F) f = g)
    (hk : St X Wt K c O A G T D S S' V V' k E E'
        iprop(((m.access (Rect.unit (s := S1) ![0] S1.size inb_S1_S1_0)).loc (c : Thread nD τ) ↦{fullShare} f) ∗ R) ⊢ run c (p (one1 g)) Q) :
    St X Wt K c O A G T D S S' V V' k E E'
        iprop(((m.access (Rect.unit (s := S1) ![0] S1.size inb_S1_S1_0)).loc (c : Thread nD τ) ↦{fullShare} f) ∗ R)
      ⊢ run c (smemLoad m (Rect.unit (s := S1) ![0] S1.size inb_S1_S1_0) h1 hp >>= p) Q := by
  subst hr
  exact load_then (m := m) (r := Rect.unit (s := S1) ![0] S1.size inb_S1_S1_0) (p := fun f => p (f _)) (Finset.subset_univ _) hk

/-- What the transfers left, put in the order of the distances: each is to be seen out. -/
theorem ready_out {O A G T D S V V' k} {R : sProp 𝕄} :
    St X Wt K c O A G T D S sendOrder.reverse V V' k [] []
      iprop((lsep steps fun o => (atPos ER (cell (c, kS o)) 0 ∅ 0 : sProp 𝕄)) ∗ R)
    ⊢ St X Wt K c O A G T D S [] V V' k steps []
      iprop(qPts X c c.val ∗ (bigSep (Finset.univ.erase 0) fun o : Fin 32 => (atPos ER (cell (c, kA o)) 1 ∅ 0 : sProp 𝕄)) ∗ R) := by
  unfold St
  rw [lsep_nil, lsep_nil, lsep_nil, lsep_univ (l := sendOrder.reverse) (by decide) (by decide) (sent X c), sent_out,
    lsep_steps (l := steps) (by decide) (by decide) (outS (F := F) c), lsep_steps (l := steps) (by decide) (by decide),
    bigSep_sep', show (outS (F := F) c) = fun o => iprop(cred (tallyAt (cell (c, kS o)) () NX) ∗ atPos ER (cell (c, kS o)) 0 ∅ 0) from rfl,
    bigSep_sep']
  iintro ⟨#HI, HO, HA, HG, HT, HD, HS, ⟨Hq, Ha, Hc⟩, HV, HV', HX, -, -, Hs, HR⟩
  iframe HI HO HA HG HT HD HS HV HV' HX HR Hq Ha Hc Hs

attribute [local irreducible] wp

set_option maxHeartbeats 4000000 in
/-- The whole run of a device: from the four slots free, the blocks of the weights, the operand and the scales, to the result. -/
theorem body_run {Z : sProp 𝕄} (fq : Vec F S4096x128 .fp8e5m2) (fx : Vec F S128x4096 .fp8e5m2) (sx sw : Vec F S1 .f32) (fo : Vec F S128x2048 .f32) :
    St X Wt K c (O₀ c) steps [.free 0, .free 1, .free 2, .free 3] [0, 1, 2, 3, 4, 5, 6, 7] [] [] [] [] [] 0 [] []
      iprop(dutyTok ER (cell (c, none)) 0 ()
        ∗ ((c : Thread nD τ).loc cc0_stg0_0 ↦{fullShare} X c)
        ∗ ((c : Thread nD τ).loc cc0_scratch0 ↦{fullShare} fq)
        ∗ ((c : Thread nD τ).loc cc0_scratch1 ↦[colsD c.val]{fullShare} fx)
        ∗ (cred (tallyAt (cell (c, none)) () 1) ∗ atPos ER (cell (c, none)) 0 ∅ 0)
        ∗ lsep sendOrder (sndT (F := F) c) ∗ lsep order (rcvT (F := F) c)
        ∗ (lsep steps fun o => (atPos ER (cell (c, kS o)) 0 ∅ 0 : sProp 𝕄))
        ∗ ((c : Thread nD τ).loc cc0_stg1_0 ↦{fullShare} sx)
        ∗ ((c : Thread nD τ).loc cc0_stg2_0 ↦{fullShare} sw)
        ∗ ((c : Thread nD τ).loc cc0_stg3_0 ↦{fullShare} fo) ∗ Z)
    ⊢ run c (onBufs (cc0_body (F := F))) fun _ =>
      St X Wt K c 0 [] [.full 4, .full 5, .full 6, .full 7] [] [7, 6, 5, 4, 3, 2, 1, 0] [] [] []
        [31, 30, 29, 28, 27, 26, 25, 24, 23, 22, 21, 20, 19, 18, 17, 16, 15, 14, 13, 12, 11, 10, 9, 8, 7, 6, 5, 4, 3, 2, 1, 0] 32 []
        [31, 30, 29, 28, 27, 26, 25, 24, 23, 22, 21, 20, 19, 18, 17, 16, 15, 14, 13, 12, 11, 10, 9, 8, 7, 6, 5, 4, 3, 2, 1]
        iprop(((c : Thread nD τ).loc cc0_stg3_0 ↦{fullShare} outv X Wt c sx sw)
          ∗ ((c : Thread nD τ).loc cc0_stg2_0 ↦{fullShare} sw)
          ∗ ((c : Thread nD τ).loc cc0_stg1_0 ↦{fullShare} sx)
          ∗ qPts X c c.val ∗ (bigSep (Finset.univ.erase 0) fun o : Fin 32 => (atPos ER (cell (c, kA o)) 1 ∅ 0 : sProp 𝕄))
          ∗ atPos ER (cell (c, none)) 1 ∅ 0 ∗ ((c : Thread nD τ).loc cc0_stg0_0 ↦{fullShare} X c) ∗ Z) := by
  rw [cc0_body_eq_skeleton]; unfold onBufs cc0_body_skel
  refine run_seq (part69 fq fx) ?_; rintro ⟨d, v2, a, _, _, _, _, _, _⟩; refine fact_then ?_; rintro ⟨h1, h2⟩; dsimp only at h1 h2; subst h1 h2
  refine run_seq part61 ?_; rintro ⟨_, _, _, _, _, _⟩
  refine run_seq part62 ?_; rintro ⟨a, x, z⟩; refine fact_then ?_; rintro ⟨h1, h2, h3⟩; dsimp only at h1 h2 h3; subst h1 h2 h3
  refine rest_then (R' := iprop((lsep steps fun o => (atPos ER (cell (d, kS o)) 0 ∅ 0 : sProp 𝕄))
        ∗ ((d : Thread nD τ).loc cc0_stg1_0 ↦{fullShare} sx)
        ∗ ((d : Thread nD τ).loc cc0_stg2_0 ↦{fullShare} sw)
        ∗ ((d : Thread nD τ).loc cc0_stg3_0 ↦{fullShare} fo)
        ∗ atPos ER (cell (d, none)) 1 ∅ 0 ∗ ((d : Thread nD τ).loc cc0_stg0_0 ↦{fullShare} X d) ∗ Z)) (by
    iintro ⟨H1, H2, H3, H4, H5, H6, H7⟩
    iframe H1 H2 H3 H4 H5 H6 H7) ?_
  refine run_pre ready_out ?_
  refine run_seq part63 ?_; intro a; refine fact_then ?_; rintro rfl
  refine run_seq part64 ?_; rintro _
  refine run_seq part65 ?_; rintro _
  refine run_seq part66 ?_; rintro _
  refine run_seq part67 ?_; rintro _
  refine run_seq part68 ?_; rintro _
  refine out_then 30 ?_
  refine out_then 31 ?_
  refine rest_then (R' := iprop(((d : Thread nD τ).loc cc0_stg1_0 ↦{fullShare} sx)
        ∗ ((d : Thread nD τ).loc cc0_stg2_0 ↦{fullShare} sw)
        ∗ ((d : Thread nD τ).loc cc0_stg3_0 ↦{fullShare} fo)
        ∗ qPts X d d.val ∗ (bigSep (Finset.univ.erase 0) fun o : Fin 32 => (atPos ER (cell (d, kA o)) 1 ∅ 0 : sProp 𝕄))
        ∗ atPos ER (cell (d, none)) 1 ∅ 0 ∗ ((d : Thread nD τ).loc cc0_stg0_0 ↦{fullShare} X d) ∗ Z)) (by
    iintro ⟨H1, H2, H3, H4, H5, H6⟩
    iframe H1 H2 H3 H4 H5 H6) ?_
  refine smem_then (m := Memref.whole cc0_stg1_0) (Memref.readAt_unit_zero (Elt F) cc0_stg1_0 hz1 _ sx) ?_
  refine rest_then (R' := iprop(((d : Thread nD τ).loc cc0_stg2_0 ↦{fullShare} sw)
        ∗ ((d : Thread nD τ).loc cc0_stg3_0 ↦{fullShare} fo)
        ∗ ((d : Thread nD τ).loc cc0_stg1_0 ↦{fullShare} sx)
        ∗ qPts X d d.val ∗ (bigSep (Finset.univ.erase 0) fun o : Fin 32 => (atPos ER (cell (d, kA o)) 1 ∅ 0 : sProp 𝕄))
        ∗ atPos ER (cell (d, none)) 1 ∅ 0 ∗ ((d : Thread nD τ).loc cc0_stg0_0 ↦{fullShare} X d) ∗ Z)) (by
    iintro ⟨H1, H2, H3, H4⟩
    iframe H2 H3 H4
    iexact H1) ?_
  refine smem_then (m := Memref.whole cc0_stg2_0) (Memref.readAt_unit_zero (Elt F) cc0_stg2_0 hz1 _ sw) ?_
  refine rest_then (R' := iprop(((d : Thread nD τ).loc cc0_stg3_0 ↦{fullShare} fo)
        ∗ ((d : Thread nD τ).loc cc0_stg2_0 ↦{fullShare} sw)
        ∗ ((d : Thread nD τ).loc cc0_stg1_0 ↦{fullShare} sx)
        ∗ qPts X d d.val ∗ (bigSep (Finset.univ.erase 0) fun o : Fin 32 => (atPos ER (cell (d, kA o)) 1 ∅ 0 : sProp 𝕄))
        ∗ atPos ER (cell (d, none)) 1 ∅ 0 ∗ ((d : Thread nD τ).loc cc0_stg0_0 ↦{fullShare} X d) ∗ Z)) (by
    iintro ⟨H1, H2, H3, H4⟩
    iframe H2 H3 H4
    iexact H1) ?_
  refine load_then (m := Memref.whole cc0_stg3_0) (r := Rect.unit (s := S128x2048) ![0, 0] S128x2048.size inb_S128x2048_S128x2048_0_0)
    (Finset.subset_univ _) ?_
  refine store_then (m := Memref.whole cc0_stg3_0) (r := Rect.unit (s := S128x2048) ![0, 0] S128x2048.size inb_S128x2048_S128x2048_0_0)
    (Finset.subset_univ _) ?_
  rw [show ((Memref.whole cc0_stg3_0 : Memref sig .tc .vmem S128x2048 .f32).access
      (Rect.unit (s := S128x2048) ![0, 0] S128x2048.size inb_S128x2048_S128x2048_0_0)).write (Elt F) fo
        (k0_pay1 (k0_pay13 (acc7 X Wt d) (k0_pay12 (wslab Wt d 7)) (xslab X d 7) (constant S128x2048 .f32 0x00000000#32)) (one1 sx) (one1 sw))
        Finset.univ = outv X Wt d sx sw from
    Memref.write_access_unit_zero_univ (Elt F) cc0_stg3_0 hz2 _ fo _]
  exact run_ret (Entails.of_eq rfl)

end Body
end Cert.A2A
-- ==== Proof.A2A.Ends.lean ====
/-
# The all-to-all: what a device starts from and what it ends with

A device starts with its semaphores at their first rounds, the duties it is to pay, the credit others will pay it, and
its buffers. It ends with every semaphore past its last round and the buffers whole again.
-/
module

public import proofs.«01_k».proof.Proof.A2A.Body

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## All semaphores of a device -/

/-- Resources for all semaphores of a device, kind by kind. -/
theorem by_kind (Φ : CIx → sProp 𝕄) : bigSep Finset.univ Φ
    = iprop(Φ none ∗ (bigSep Finset.univ fun b => Φ (kW b)) ∗ (bigSep Finset.univ fun o => Φ (kS o))
        ∗ (bigSep Finset.univ fun o => Φ (kR o)) ∗ (bigSep Finset.univ fun o => Φ (kA o))) := by
  have h : bigSep (Finset.univ.erase none) Φ = bigSep Finset.univ fun k : OwnIx => Φ (some k) := by
    rw [show (Finset.univ.erase none : Finset CIx) = Finset.univ.map Function.Embedding.some from by decide +kernel, bigSep_map]; rfl
  rw [bigSep_univ_at Φ none, h, bigSep_univ_sum, bigSep_univ_sum, bigSep_univ_sum]
  rfl

/-- Resources for the distances where the one of distance zero differs. -/
theorem by_off (Φ : Fin 32 → ℕ → sProp 𝕄) (a b : ℕ) : (bigSep Finset.univ fun o : Fin 32 => Φ o (if o = 0 then a else b))
    = iprop(Φ 0 a ∗ bigSep (Finset.univ.erase 0) fun o => Φ o b) := by
  rw [bigSep_univ_at _ (0 : Fin 32), if_pos rfl, bigSep_congr fun o ho => by rw [if_neg (Finset.ne_of_mem_erase ho)]]

/-- The position of device `c` in the rounds of each of its semaphores. -/
def posAll (c : Dev nD) (r : CIx → ℕ) : sProp 𝕄 := bigSep Finset.univ fun k : CIx => (atPos ER (cell (c, k)) (r k) ∅ 0 : sProp 𝕄)

/-- The duties device `c` pays. -/
def payToks (c : Dev nD) : sProp 𝕄 :=
  iprop(dutyTok ER (cell (c, none)) 0 ()
    ∗ (bigSep Finset.univ fun b : Fin 4 => (dutyTok ER (cell (c, kW b)) 0 () : sProp 𝕄))
    ∗ (bigSep Finset.univ fun b : Fin 4 => (dutyTok ER (cell (c, kW b)) 1 () : sProp 𝕄))
    ∗ (bigSep Finset.univ fun o : Fin 32 => (dutyTok ER (cell (c, kS o)) 0 () : sProp 𝕄))
    ∗ (bigSep Finset.univ fun o : Fin 32 => (dutyTok ER (cell (aft c o, kR o)) 0 () : sProp 𝕄))
    ∗ (bigSep Finset.univ fun o : Fin 32 => (dutyTok ER (cell (aft c o, kA (opp o))) 0 () : sProp 𝕄)))

/-- What the devices together owe a semaphore. -/
def owedK : CIx → ℕ
  | none => 1
  | some (.inl _) => 0
  | some (.inr (.inl _)) => 0
  | some (.inr (.inr (.inl o))) => if o = 0 then 0 else NX
  | some (.inr (.inr (.inr o))) => if o = 0 then 0 else 1

/-- The credit for that. -/
def creds (c : Dev nD) : sProp 𝕄 := bigSep Finset.univ fun k : CIx => (cred (tallyAt (cell (c, k)) () (owedK k)) : sProp 𝕄)

/-! ## The start -/

section Ends
variable {X : Dev nD → Vec F S4096x128 .f32} {Wt : Dev nD → Vec F S4096x2048 .f32} {K : Dev nD × CIx → ℕ} {c : Dev nD}

/-- The duties of the weight ring, block by block. -/
theorem ring_toks (t : Fin 4 → ℕ → sProp 𝕄) :
    iprop((bigSep Finset.univ fun b => t b 0) ∗ (bigSep Finset.univ fun b => t b 1)) ⊢ bigSep Finset.univ fun i : Fin 8 => t (slotOf i) (rnd i) := by
  rw [bigSep_univ_eq_bigSepL [0, 1, 2, 3] (by decide) (by decide) (fun b : Fin 4 => t b 0),
    bigSep_univ_eq_bigSepL [0, 1, 2, 3] (by decide) (by decide) (fun b : Fin 4 => t b 1),
    bigSep_univ_eq_bigSepL [0, 1, 2, 3, 4, 5, 6, 7] (by decide) (by decide) (fun i : Fin 8 => t (slotOf i) (rnd i))]
  show iprop((t 0 0 ∗ t 1 0 ∗ t 2 0 ∗ t 3 0) ∗ (t 0 1 ∗ t 1 1 ∗ t 2 1 ∗ t 3 1))
    ⊢ iprop(t 0 0 ∗ t 1 0 ∗ t 2 0 ∗ t 3 0 ∗ t 0 1 ∗ t 1 1 ∗ t 2 1 ∗ t 3 1)
  iintro ⟨⟨H0, H1, H2, H3⟩, H4, H5, H6, H7⟩
  iframe H0 H1 H2 H3 H4 H5 H6 H7

/-- The four slots free. -/
theorem ring_free :
    iprop(Inv X Wt K ∗ (bigSep Finset.univ fun b : Fin 4 => bAny (F := F) c b) ∗ (bigSep Finset.univ fun b : Fin 4 => (atPos ER (cell (c, kW b)) 0 ∅ 0 : sProp 𝕄)))
      ⊢ lsep [.free 0, .free 1, .free 2, .free 3] (slotS Wt c) := by
  rw [bigSep_univ_eq_bigSepL [0, 1, 2, 3] (by decide) (by decide) (fun b : Fin 4 => bAny (F := F) c b),
    bigSep_univ_eq_bigSepL [0, 1, 2, 3] (by decide) (by decide) (fun b : Fin 4 => (atPos ER (cell (c, kW b)) 0 ∅ 0 : sProp 𝕄))]
  show iprop(Inv X Wt K ∗ (bAny (F := F) c 0 ∗ bAny (F := F) c 1 ∗ bAny (F := F) c 2 ∗ bAny (F := F) c 3)
      ∗ (atPos ER (cell (c, kW 0)) 0 ∅ 0 ∗ atPos ER (cell (c, kW 1)) 0 ∅ 0 ∗ atPos ER (cell (c, kW 2)) 0 ∅ 0 ∗ atPos ER (cell (c, kW 3)) 0 ∅ 0))
    ⊢ iprop((bAny (F := F) c 0 ∗ atPos ER (cell (c, kW 0)) 0 ∅ 0 ∗ reached ER (cell (c, kW 0)) 0)
      ∗ (bAny (F := F) c 1 ∗ atPos ER (cell (c, kW 1)) 0 ∅ 0 ∗ reached ER (cell (c, kW 1)) 0)
      ∗ (bAny (F := F) c 2 ∗ atPos ER (cell (c, kW 2)) 0 ∅ 0 ∗ reached ER (cell (c, kW 2)) 0)
      ∗ (bAny (F := F) c 3 ∗ atPos ER (cell (c, kW 3)) 0 ∅ 0 ∗ reached ER (cell (c, kW 3)) 0) ∗ emp)
  iintro ⟨#HI, ⟨H0, H1, H2, H3⟩, G0, G1, G2, G3⟩
  iframe H0 H1 H2 H3 G0 G1 G2 G3
  isplitr; · iapply (Inv_reached X Wt K (c, kW 0)); iexact HI
  isplitr; · iapply (Inv_reached X Wt K (c, kW 1)); iexact HI
  isplitr; · iapply (Inv_reached X Wt K (c, kW 2)); iexact HI
  iapply (Inv_reached X Wt K (c, kW 3)); iexact HI

/-- The ring, cut into its slots. -/
theorem ring_cut (fb : Vec F S4x512x2048 .f32) :
    (((c : Thread nD τ).loc cc0_scratch2) ↦{fullShare} fb : sProp 𝕄) ⊢ bigSep Finset.univ fun b : Fin 4 => bAny (F := F) c b := by
  rw [Ring.pointsTo_blocks (ℓ := (c : Thread nD τ).loc cc0_scratch2) (q := fullShare) (fun b : Fin 4 => slotB b.val) slotB_disjoint slotB_cover fb]
  refine bigSep_mono fun b _ => ?_
  show (((c : Thread nD τ).loc cc0_scratch2) ↦[slotB b.val]{fullShare} fb : sProp 𝕄) ⊢ iprop(∃ f, ((c : Thread nD τ).loc cc0_scratch2) ↦[slotB b.val]{fullShare} f)
  iintro H; iexists fb; iexact H

/-- The weights, cut into their blocks. -/
theorem w_cut : (((c : Thread nD τ).loc main_arg1) ↦{fullShare} Wt c : sProp 𝕄) = bigSep Finset.univ fun i : Fin 8 => wPts Wt c i :=
  Ring.pointsTo_blocks (ℓ := (c : Thread nD τ).loc main_arg1) (q := fullShare) (fun i : Fin 8 => rowsW i.val) rowsW_disjoint rowsW_cover (Wt c)

/-- The gathered operand, cut into the columns of the devices: the own ones, and the others by distance. -/
theorem x_cut (fx : Vec F S128x4096 .fp8e5m2) :
    (((c : Thread nD τ).loc cc0_scratch1) ↦{fullShare} fx : sProp 𝕄)
      ⊢ iprop((((c : Thread nD τ).loc cc0_scratch1) ↦[colsD c.val]{fullShare} fx) ∗ bigSep (Finset.univ.erase 0) fun o : Fin 32 => xAny (F := F) c (aft c o).val) := by
  rw [Ring.pointsTo_blocks (ℓ := (c : Thread nD τ).loc cc0_scratch1) (q := fullShare) (fun d : Fin 32 => colsD d.val) colsD_disjoint colsD_cover fx,
    bigSep_univ_equiv (distEquiv c) (fun d : Fin 32 => (((c : Thread nD τ).loc cc0_scratch1) ↦[colsD d.val]{fullShare} fx : sProp 𝕄)),
    bigSep_univ_at _ (0 : Fin 32), show distEquiv c 0 = c from (aft_eq_self c 0).mpr rfl]
  refine BI.sep_mono (Entails.refl _) (bigSep_mono fun o _ => ?_)
  show (((c : Thread nD τ).loc cc0_scratch1) ↦[colsD (aft c o).val]{fullShare} fx : sProp 𝕄) ⊢ iprop(∃ f, ((c : Thread nD τ).loc cc0_scratch1) ↦[colsD (aft c o).val]{fullShare} f)
  iintro H; iexists fx; iexact H

/-- The semaphores at distance zero, never used. -/
def idle (c : Dev nD) : sProp 𝕄 :=
  iprop(atPos ER (cell (c, kS 0)) 0 ∅ 0 ∗ atPos ER (cell (c, kR 0)) 0 ∅ 0 ∗ atPos ER (cell (c, kA 0)) 0 ∅ 0)

/-- What a device has at the start of its run, in the form the run takes it. -/
theorem start_st (fq : Vec F S4096x128 .fp8e5m2) (fx : Vec F S128x4096 .fp8e5m2) (fb : Vec F S4x512x2048 .f32) {R1 R2 R3 R4 : sProp 𝕄} :
    iprop(Inv X Wt K ∗ owesE c (O₀ c) ∗ posAll (F := F) c (fun _ => 0) ∗ payToks (F := F) c ∗ creds (F := F) c
      ∗ ((c : Thread nD τ).loc cc0_scratch0 ↦{fullShare} fq)
      ∗ ((c : Thread nD τ).loc cc0_scratch1 ↦{fullShare} fx)
      ∗ ((c : Thread nD τ).loc cc0_scratch2 ↦{fullShare} fb)
      ∗ ((c : Thread nD τ).loc main_arg1 ↦{fullShare} Wt c) ∗ R1 ∗ R2 ∗ R3 ∗ R4)
    ⊢ St X Wt K c (O₀ c) steps [.free 0, .free 1, .free 2, .free 3] [0, 1, 2, 3, 4, 5, 6, 7] [] [] [] [] [] 0 [] []
      iprop(dutyTok ER (cell (c, none)) 0 () ∗ R1
        ∗ ((c : Thread nD τ).loc cc0_scratch0 ↦{fullShare} fq)
        ∗ ((c : Thread nD τ).loc cc0_scratch1 ↦[colsD c.val]{fullShare} fx)
        ∗ (cred (tallyAt (cell (c, none)) () 1) ∗ atPos ER (cell (c, none)) 0 ∅ 0)
        ∗ lsep sendOrder (sndT (F := F) c) ∗ lsep order (rcvT (F := F) c)
        ∗ (lsep steps fun o => (atPos ER (cell (c, kS o)) 0 ∅ 0 : sProp 𝕄)) ∗ R2 ∗ R3 ∗ R4 ∗ idle (F := F) c) := by
  have hA : lsep steps (ackT (F := F) c) = iprop((bigSep (Finset.univ.erase 0) fun o : Fin 32 => (dutyTok ER (cell (aft c o, kA (opp o))) 0 () : sProp 𝕄))
      ∗ bigSep (Finset.univ.erase 0) fun o : Fin 32 => xAny (F := F) c (aft c o).val) := by
    rw [lsep_steps (by decide) (by decide), ← bigSep_sep']; rfl
  have hT : lsep [0, 1, 2, 3, 4, 5, 6, 7] (wtodo Wt c) = iprop((bigSep Finset.univ fun i : Fin 8 => wPts Wt c i)
      ∗ bigSep Finset.univ fun i : Fin 8 => (dutyTok ER (cell (c, kW (slotOf i))) (rnd i) () : sProp 𝕄)) := by
    rw [lsep_univ (by decide) (by decide), ← bigSep_sep']; rfl
  have hX : xPts X c (cols 0 (128 * 0)) = iprop(emp) := by
    rw [show cols 0 (128 * 0) = ∅ from by ext j; rw [mem_cols]; simp]
    exact pointsTo_empty
  unfold St posAll payToks creds idle
  rw [hA, hT, hX, lsep_nil, lsep_nil, lsep_nil, lsep_nil, lsep_nil, lsep_nil, lsep_nil, lsep_univ (l := sendOrder) (by decide) (by decide), sndT_out,
    lsep_univ (l := order) (by decide) (by decide), rcvT_in, lsep_steps (by decide) (by decide),
    by_kind (fun k => (atPos ER (cell (c, k)) 0 ∅ 0 : sProp 𝕄)), by_kind (fun k => (cred (tallyAt (cell (c, k)) () (owedK k)) : sProp 𝕄)),
    bigSep_univ_at (fun o : Fin 32 => (atPos ER (cell (c, kS o)) 0 ∅ 0 : sProp 𝕄)) 0,
    bigSep_univ_at (fun o : Fin 32 => (atPos ER (cell (c, kR o)) 0 ∅ 0 : sProp 𝕄)) 0,
    bigSep_univ_at (fun o : Fin 32 => (atPos ER (cell (c, kA o)) 0 ∅ 0 : sProp 𝕄)) 0,
    bigSep_univ_at (fun o : Fin 32 => (dutyTok ER (cell (c, kS o)) 0 () : sProp 𝕄)) 0,
    bigSep_univ_at (fun o : Fin 32 => (dutyTok ER (cell (aft c o, kR o)) 0 () : sProp 𝕄)) 0,
    bigSep_univ_at (fun o : Fin 32 => (dutyTok ER (cell (aft c o, kA (opp o))) 0 () : sProp 𝕄)) 0,
    show (bigSep Finset.univ fun o : Fin 32 => (cred (tallyAt (cell (c, kR o)) () (owedK (kR o))) : sProp 𝕄))
      = iprop(cred (tallyAt (cell (c, kR 0)) () 0) ∗ bigSep (Finset.univ.erase 0) fun o : Fin 32 => cred (tallyAt (cell (c, kR o)) () NX)) from
      by_off (fun o n => cred (tallyAt (cell (c, kR o)) () n)) 0 NX,
    show (bigSep Finset.univ fun o : Fin 32 => (cred (tallyAt (cell (c, kA o)) () (owedK (kA o))) : sProp 𝕄))
      = iprop(cred (tallyAt (cell (c, kA 0)) () 0) ∗ bigSep (Finset.univ.erase 0) fun o : Fin 32 => cred (tallyAt (cell (c, kA o)) () 1)) from
      by_off (fun o n => cred (tallyAt (cell (c, kA o)) () n)) 0 1,
    bigSep_sep', bigSep_sep', bigSep_sep', bigSep_sep', w_cut]
  iintro ⟨#HI, HO, ⟨Pn, Pw, ⟨PS0, PS⟩, ⟨PR0, PR⟩, PA0, PA⟩, ⟨Tn, Tw0, Tw1, ⟨-, TS⟩, ⟨-, TR⟩, -, TA⟩, ⟨Cn, -, -, ⟨-, CR⟩, -, CA⟩, Hq, Hx, Hb, Hw, H1, H2, H3, H4⟩
  ihave Hx := (x_cut fx) $$ Hx
  icases Hx with ⟨Hx, Hxs⟩
  ihave Hb := (ring_cut fb) $$ Hb
  ihave Ht := (ring_toks (fun b r => (dutyTok ER (cell (c, kW b)) r () : sProp 𝕄))) $$ [Tw0 Tw1]
  · isplitl [Tw0] <;> iassumption
  ihave HG := (ring_free (X := X) (Wt := Wt) (K := K) (c := c)) $$ [Hb Pw]
  · isplitr; · iexact HI
    isplitl [Hb] <;> iassumption
  iframe HI HO TA Hxs HG Hw Ht Tn H1 Hq Hx Pn PA CA TS TR CR PR PS H2 H3 H4 PS0 PR0 PA0
  iexact Cn

/-! ## The end -/

/-- The four slots at some contents are the ring at some contents. -/
theorem ring_join (f₀ : Vec F S4x512x2048 .f32) : iprop(bAny (F := F) c 0 ∗ bAny (F := F) c 1 ∗ bAny (F := F) c 2 ∗ bAny (F := F) c 3)
    ⊢ iprop(∃ f : Vec F S4x512x2048 .f32, (c : Thread nD τ).loc cc0_scratch2 ↦{fullShare} f) :=
  (Entails.of_eq (bigSep_univ_eq_bigSepL [0, 1, 2, 3] (by decide) (by decide) (fun b : Fin 4 => bAny (F := F) c b)).symm).trans
    (Ring.pointsTo_blocks_join_exists (ℓ := (c : Thread nD τ).loc cc0_scratch2) (q := fullShare) (fun b : Fin 4 => slotB b.val) slotB_disjoint slotB_cover f₀)

/-- The four slots after their last rounds: the ring is whole again. -/
theorem ring_full : lsep [.full 4, .full 5, .full 6, .full 7] (slotS Wt c)
    ⊢ iprop((bigSep Finset.univ fun b : Fin 4 => (atPos ER (cell (c, kW b)) 2 ∅ 0 : sProp 𝕄))
        ∗ ∃ f : Vec F S4x512x2048 .f32, (c : Thread nD τ).loc cc0_scratch2 ↦{fullShare} f) := by
  rw [bigSep_univ_eq_bigSepL [0, 1, 2, 3] (by decide) (by decide) (fun b : Fin 4 => (atPos ER (cell (c, kW b)) 2 ∅ 0 : sProp 𝕄))]
  show iprop((bPts Wt c 0 4 ∗ atPos ER (cell (c, kW 0)) 2 ∅ 0 ∗ reached ER (cell (c, kW 0)) 2)
      ∗ (bPts Wt c 1 5 ∗ atPos ER (cell (c, kW 1)) 2 ∅ 0 ∗ reached ER (cell (c, kW 1)) 2)
      ∗ (bPts Wt c 2 6 ∗ atPos ER (cell (c, kW 2)) 2 ∅ 0 ∗ reached ER (cell (c, kW 2)) 2)
      ∗ (bPts Wt c 3 7 ∗ atPos ER (cell (c, kW 3)) 2 ∅ 0 ∗ reached ER (cell (c, kW 3)) 2) ∗ emp)
    ⊢ iprop((atPos ER (cell (c, kW 0)) 2 ∅ 0 ∗ atPos ER (cell (c, kW 1)) 2 ∅ 0 ∗ atPos ER (cell (c, kW 2)) 2 ∅ 0 ∗ atPos ER (cell (c, kW 3)) 2 ∅ 0)
      ∗ ∃ f : Vec F S4x512x2048 .f32, (c : Thread nD τ).loc cc0_scratch2 ↦{fullShare} f)
  iintro ⟨⟨H0, P0, -⟩, ⟨H1, P1, -⟩, ⟨H2, P2, -⟩, ⟨H3, P3, -⟩, -⟩
  iframe P0 P1 P2 P3
  iapply (ring_join (bv Wt c 0))
  have hb : ∀ (b : Fin 4) (i : Fin 8), bPts Wt c b i ⊢ bAny (F := F) c b := fun b i => by
    unfold bPts bAny; exact BIClass.exists_intro (Φ := fun f => (bM.view.loc (c : Thread nD τ) ↦[slotB b.val]{fullShare} f : sProp 𝕄)) _
  isplitl [H0]; · iapply (hb 0 4); iexact H0
  isplitl [H1]; · iapply (hb 1 5); iexact H1
  isplitl [H2]; · iapply (hb 2 6); iexact H2
  iapply (hb 3 7); iexact H3

/-- The cast operand whole again. -/
theorem q_join : iprop(qPts X c c.val ∗ bigSep (Finset.univ.erase 0) fun o : Fin 32 => qPts X c (aft c o).val)
    = (((c : Thread nD τ).loc cc0_scratch0) ↦{fullShare} qv X c : sProp 𝕄) := by
  rw [q_cut, bigSep_univ_equiv (distEquiv c) (fun d : Dev nD => qPts X c d.val), bigSep_univ_at _ (0 : Fin 32),
    show distEquiv c 0 = c from (aft_eq_self c 0).mpr rfl]
  rfl

/-- The transfers all seen out. -/
theorem outs : (bigSep (Finset.univ.erase 0) fun o : Fin 32 => outD X c o)
    = iprop((bigSep (Finset.univ.erase 0) fun o : Fin 32 => qPts X c (aft c o).val)
        ∗ bigSep (Finset.univ.erase 0) fun o : Fin 32 => (atPos ER (cell (c, kS o)) 1 ∅ 0 : sProp 𝕄)) := by
  rw [← bigSep_sep']; rfl

/-- The gathered operand is filled. -/
theorem x_full : xPts X c (cols 0 (128 * 32)) = (((c : Thread nD τ).loc cc0_scratch1) ↦{fullShare} xv X c : sProp 𝕄) := by
  rw [show cols 0 (128 * 32) = Finset.univ from by
    ext j; rw [mem_cols]; have := (j 1).isLt; simp at this ⊢; omega]
  rfl

/-- What a device has at the end of its run: every semaphore past its last round, and its buffers whole. -/
theorem end_st {R1 R2 R3 R4 : sProp 𝕄} :
    St X Wt K c 0 [] [.full 4, .full 5, .full 6, .full 7] [] [7, 6, 5, 4, 3, 2, 1, 0] [] [] []
      [31, 30, 29, 28, 27, 26, 25, 24, 23, 22, 21, 20, 19, 18, 17, 16, 15, 14, 13, 12, 11, 10, 9, 8, 7, 6, 5, 4, 3, 2, 1, 0] 32 []
      [31, 30, 29, 28, 27, 26, 25, 24, 23, 22, 21, 20, 19, 18, 17, 16, 15, 14, 13, 12, 11, 10, 9, 8, 7, 6, 5, 4, 3, 2, 1]
      iprop(R1 ∗ R2 ∗ R3 ∗ qPts X c c.val ∗ (bigSep (Finset.univ.erase 0) fun o => (atPos ER (cell (c, kA o)) 1 ∅ 0 : sProp 𝕄))
        ∗ atPos ER (cell (c, none)) 1 ∅ 0 ∗ R4 ∗ idle (F := F) c)
    ⊢ iprop(Inv X Wt K ∗ owesE c 0 ∗ posAll (F := F) c rounds
      ∗ ((c : Thread nD τ).loc cc0_scratch0 ↦{fullShare} qv X c)
      ∗ ((c : Thread nD τ).loc cc0_scratch1 ↦{fullShare} xv X c)
      ∗ (∃ f : Vec F S4x512x2048 .f32, (c : Thread nD τ).loc cc0_scratch2 ↦{fullShare} f)
      ∗ ((c : Thread nD τ).loc main_arg1 ↦{fullShare} Wt c) ∗ R1 ∗ R2 ∗ R3 ∗ R4) := by
  have hp : posAll (F := F) c rounds = iprop(atPos ER (cell (c, none)) 1 ∅ 0
      ∗ (bigSep Finset.univ fun b : Fin 4 => (atPos ER (cell (c, kW b)) 2 ∅ 0 : sProp 𝕄))
      ∗ (atPos ER (cell (c, kS 0)) 0 ∅ 0 ∗ bigSep (Finset.univ.erase 0) fun o : Fin 32 => (atPos ER (cell (c, kS o)) 1 ∅ 0 : sProp 𝕄))
      ∗ (atPos ER (cell (c, kR 0)) 0 ∅ 0 ∗ bigSep (Finset.univ.erase 0) fun o : Fin 32 => (atPos ER (cell (c, kR o)) 1 ∅ 0 : sProp 𝕄))
      ∗ (atPos ER (cell (c, kA 0)) 0 ∅ 0 ∗ bigSep (Finset.univ.erase 0) fun o : Fin 32 => (atPos ER (cell (c, kA o)) 1 ∅ 0 : sProp 𝕄))) := by
    rw [← by_off (fun o n => (atPos ER (cell (c, kS o)) n ∅ 0 : sProp 𝕄)) 0 1, ← by_off (fun o n => (atPos ER (cell (c, kR o)) n ∅ 0 : sProp 𝕄)) 0 1,
      ← by_off (fun o n => (atPos ER (cell (c, kA o)) n ∅ 0 : sProp 𝕄)) 0 1]
    exact by_kind (fun k => (atPos ER (cell (c, k)) (rounds k) ∅ 0 : sProp 𝕄))
  rw [hp]
  unfold St idle
  rw [lsep_univ (l := [7, 6, 5, 4, 3, 2, 1, 0]) (by decide) (by decide), ← w_cut,
    lsep_univ (l := [31, 30, 29, 28, 27, 26, 25, 24, 23, 22, 21, 20, 19, 18, 17, 16, 15, 14, 13, 12, 11, 10, 9, 8, 7, 6, 5, 4, 3, 2, 1, 0]) (by decide) (by decide),
    rcvd_in, lsep_steps (l := [31, 30, 29, 28, 27, 26, 25, 24, 23, 22, 21, 20, 19, 18, 17, 16, 15, 14, 13, 12, 11, 10, 9, 8, 7, 6, 5, 4, 3, 2, 1]) (by decide) (by decide),
    outs, x_full, ← q_join]
  iintro ⟨#HI, HO, -, HG, -, Hw, -, -, -, ⟨-, PR⟩, Hx, -, ⟨Hqs, PS⟩, H1, H2, H3, Hq, PA, Pn, H4, PS0, PR0, PA0⟩
  ihave HG := ring_full $$ HG
  icases HG with ⟨Pw, Hb⟩
  iframe HI HO Pn Pw PS0 PS PR0 PR PA0 PA Hq Hqs Hx Hb Hw H1 H2 H3 H4

/-- Every semaphore past its last round is at zero. -/
theorem close_all : iprop(Inv X Wt K ∗ posAll (F := F) c rounds) ⊢ |={Set.univ}=> (bigSep Finset.univ fun k : CIx => semVal (cell (c, k)) 0 : sProp 𝕄) := by
  refine BI.Entails.trans ?_ (bigSep_fupd Finset.univ fun k : CIx => (semVal (cell (c, k)) 0 : sProp 𝕄))
  refine (BI.sep_mono (BI.bigSep_of_persistent (Finset.univ : Finset CIx) (Inv X Wt K)) (Entails.refl _)).trans ?_
  refine (Entails.of_eq (bigSep_sep' Finset.univ (fun _ : CIx => Inv X Wt K) (fun k => (atPos ER (cell (c, k)) (rounds k) ∅ 0 : sProp 𝕄))).symm).trans ?_
  refine bigSep_mono fun k _ => ?_
  show iprop(Inv X Wt K ∗ atPos ER (cell (c, k)) (rounds k) ∅ 0) ⊢ iprop(|={Set.univ}=> semVal (cell (c, k)) 0)
  iintro ⟨#HI, Hp⟩
  iapply (Rounds.cell_close ER (Rd X Wt) (Set.mem_univ (K (c, k))) (fun h => h) (R := rounds k) (duties_done X Wt c k))
  isplitr; · iapply (Inv_cell X Wt K (c, k)); iexact HI
  iexact Hp

end Ends
end Cert.A2A
-- ==== Proof.A2A.Credit.lean ====
/-
# The all-to-all: what the devices together owe each semaphore

The barrier semaphore of a device is owed one unit, by the device itself; the receive semaphore for distance `o` one
block, by the device `o` places before; the ready semaphore for distance `o` one unit, by the device `o` places on.
-/
module

public import proofs.«01_k».proof.Proof.A2A.Ends
public import Idealize.ShloMosaic.Lib.Pipeline.Launch

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What `d` owes by its transfers to the semaphore `k` of `c`. -/
def sX (d c : Dev nD) : CIx → ℕ
  | some (.inr (.inr (.inl o))) => if d = bef c o then (if o = 0 then 0 else NX) else 0
  | _ => 0
/-- What `d` owes by its ready signals to the semaphore `k` of `c`. -/
def sA (d c : Dev nD) : CIx → ℕ
  | some (.inr (.inr (.inr o))) => if d = aft c o then (if o = 0 then 0 else 1) else 0
  | _ => 0
/-- What `d` owes by its own barrier signal to the semaphore `k` of `c`. -/
def sB (d c : Dev nD) : CIx → ℕ
  | none => if d = c then 1 else 0
  | _ => 0

theorem tally_cell (x y : Dev nD × CIx) (n : ℕ) : tallyAt (cell x) () n (cell y) () = if y = x then n else 0 := by
  rw [tallyAt_apply]
  by_cases h : y = x
  · subst h; rw [if_pos ⟨rfl, rfl⟩, if_pos rfl]
  · rw [if_neg (fun h' => h (cell_injective h'.1)), if_neg h]

theorem oX_cell (d c : Dev nD) (k : CIx) : oX d c (cell (c, k)) () = sX d c k := by
  unfold oX
  by_cases h : c = d
  · subst h
    rw [if_pos rfl]
    show 0 = _
    rcases k with _ | _ | _ | o | o <;> try rfl
    show 0 = if c = bef c o then (if o = 0 then 0 else NX) else 0
    split
    · rename_i h; rw [if_pos ((bef_eq_self c o).mp h.symm)]
    · rfl
  · rw [if_neg h, tally_cell]
    rcases k with _ | _ | _ | o | o
    · exact if_neg (by intro h; cases h)
    · exact if_neg (by intro h; cases h)
    · exact if_neg (by intro h; cases h)
    · show _ = if d = bef c o then (if o = 0 then 0 else NX) else 0
      by_cases hd : d = bef c o
      · subst hd
        rw [dist_bef, if_pos rfl, if_pos rfl, if_neg fun ho => h ((bef_eq_self c o).mpr ho).symm]
      · rw [if_neg hd, if_neg fun h' => hd ?_]
        have : o = dist d c := by injection h' with _ h'; injection h' with h'; injection h' with h'; injection h' with h'; injection h'
        rw [this, bef_dist]
    · exact if_neg (by intro h; cases h)

theorem owed_X (d c : Dev nD) (k : CIx) : OX d sendOrder (cell (c, k)) () = sX d c k := by
  rw [owl_apply, ← List.sum_toFinset _ (by decide), show sendOrder.toFinset = Finset.univ from by decide,
    Finset.sum_eq_single c, oX_cell]
  · exact Nat.zero_add _
  · intro x _ hx
    unfold oX
    split
    · rfl
    · rw [tally_cell, if_neg fun h => hx (congrArg Prod.fst h).symm]
  · intro h; exact absurd (Finset.mem_univ c) h

theorem owed_A (d c : Dev nD) (k : CIx) : (steps.map fun o => oA d o (cell (c, k)) ()).sum = sA d c k := by
  rw [← List.sum_toFinset _ (by decide), show steps.toFinset = Finset.univ.erase 0 from by decide]
  unfold oA
  rw [Finset.sum_congr rfl fun o _ => tally_cell (aft d o, kA (opp o)) (c, k) 1]
  have hz : (∀ o, k ≠ kA o) → (∑ o ∈ Finset.univ.erase (0 : Fin 32), if (c, k) = (aft d o, kA (opp o)) then 1 else 0) = 0 := fun h =>
    Finset.sum_eq_zero fun o _ => if_neg fun h' => h (opp o) (congrArg Prod.snd h')
  rcases k with _ | _ | _ | o | o
  · exact hz fun o h => by cases h
  · exact hz fun o h => by cases h
  · exact hz fun o h => by cases h
  · exact hz fun o h => by cases h
  · have hi : ∀ o', (c, kA o) = (aft d o', kA (opp o')) ↔ d = aft c o ∧ o' = opp o := fun o' => by
      constructor
      · intro h
        have h1 : c = aft d o' := congrArg Prod.fst h
        have h2 : o = opp o' := by have := congrArg Prod.snd h; injection this with h'; injection h' with h'; injection h' with h'; injection h'
        subst h1 h2
        exact ⟨by rw [aft_opp, bef_aft], (opp_opp _).symm⟩
      · rintro ⟨rfl, rfl⟩
        rw [aft_opp, opp_opp, bef_aft]
    show (∑ o' ∈ Finset.univ.erase (0 : Fin 32), if (c, kA o) = (aft d o', kA (opp o')) then 1 else 0) = if d = aft c o then (if o = 0 then 0 else 1) else 0
    rw [Finset.sum_congr rfl fun o' _ => if_congr (hi o') rfl rfl]
    by_cases hd : d = aft c o
    · rw [if_pos hd, Finset.sum_congr rfl fun o' _ => if_congr (show (d = aft c o ∧ o' = opp o) ↔ o' = opp o from ⟨And.right, fun h => ⟨hd, h⟩⟩) rfl rfl,
        Finset.sum_ite_eq' (Finset.univ.erase (0 : Fin 32)) (opp o) fun _ => 1]
      by_cases ho : o = 0
      · rw [if_pos ho, if_neg]
        rw [Finset.mem_erase, not_and_or, not_not]; exact Or.inl ((opp_eq_zero o).mpr ho)
      · rw [if_neg ho, if_pos]
        exact Finset.mem_erase.mpr ⟨fun h => ho ((opp_eq_zero o).mp h), Finset.mem_univ _⟩
    · rw [if_neg hd]
      exact Finset.sum_eq_zero fun o' _ => if_neg fun h => hd h.1

theorem owed (d c : Dev nD) (k : CIx) : O₀ d (cell (c, k)) () = sX d c k + sA d c k + sB d c k := by
  unfold O₀
  rw [Pi.add_apply, Finsupp.add_apply, owl_apply, owed_X, owed_A, tally_cell]
  congr 1
  rcases k with _ | k
  · unfold sB
    by_cases h : d = c
    · subst h; rw [if_pos rfl, if_pos rfl]
    · rw [if_neg h, if_neg fun h' => h (congrArg Prod.fst h').symm]
  · exact if_neg fun h => by cases h

/-- All devices together. -/
theorem owed_sum (c : Dev nD) (k : CIx) : (∑ d : Dev nD, O₀ d (cell (c, k)) ()) = owedK k := by
  rw [Finset.sum_congr rfl fun d _ => owed d c k, Finset.sum_add_distrib, Finset.sum_add_distrib]
  rcases k with _ | _ | _ | o | o <;> simp [sX, sA, sB, owedK]

/-- The launch's credit is the credit the devices start with. -/
theorem creds_intro (c : Dev nD) : (Pipeline.launchCred O₀ c : sProp 𝕄) ⊢ creds (F := F) c := by
  unfold Pipeline.launchCred creds
  refine (bigSep_subset (Finset.subset_univ ((Finset.univ : Finset CIx).map ⟨csem, csem_injective⟩))).trans ?_
  rw [bigSep_map]
  refine bigSep_mono fun k _ => ?_
  show (cred (tallyOn (cell (c, k)) (launchCredit (Pipeline.owing O₀) 0 (cell (c, k)))) : sProp 𝕄) ⊢ _
  refine Entails.of_eq (congrArg cred ?_)
  unfold tallyAt
  refine congrArg _ (Finsupp.ext fun u => ?_)
  cases u
  rw [show cell (c, k) = (((c : Dev nD) : Thread nD τ), csem k) from rfl, Pipeline.launchCredit_owing, Finsupp.single_eq_same]
  exact owed_sum c k

end Cert.A2A
-- ==== Proof.A2A.Tokens.lean ====
/-
# The all-to-all: the ghost state dealt at the launch

Each semaphore's duties are minted with the semaphore; each device then gets the duties it pays: its transfers' into the
devices after it, and its ready signals'. The semaphores' invariants are allocated for all devices at once.
-/
module

public import proofs.«01_k».proof.Proof.A2A.Credit

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The duties -/

/-- A device's own semaphores' duties as minted: each semaphore's at its first round, and the weight ring's at the second. -/
def tokOf : Dev nD × (CIx ⊕ Fin 4) → GSem nD τ sig × ℕ × Unit
  | (c, .inl k) => (cell (c, k), 0, ())
  | (c, .inr b) => (cell (c, kW b), 1, ())

theorem tokOf_injective : Function.Injective tokOf := by
  rintro ⟨c, k | b⟩ ⟨c', k' | b'⟩ h
  · have := cell_injective (congrArg Prod.fst h); injection this with h1 h2; subst h1 h2; rfl
  · exact absurd (show (0 : ℕ) = 1 from congrArg (fun x : GSem nD τ sig × ℕ × Unit => x.2.1) h) Nat.zero_ne_one
  · exact absurd (show (1 : ℕ) = 0 from congrArg (fun x : GSem nD τ sig × ℕ × Unit => x.2.1) h) Nat.one_ne_zero
  · have := cell_injective (congrArg Prod.fst h); injection this with h1 h2; subst h1
    injection h2 with h2; injection h2 with h2; subst h2; rfl

def allCells : Finset (GSem nD τ sig) := Finset.univ.map ⟨cell, cell_injective⟩
def allToks : Finset (GSem nD τ sig × ℕ × Unit) := Finset.univ.map ⟨tokOf, tokOf_injective⟩

/-- The duties of the semaphores of device `c`. -/
def toks (c : Dev nD) : sProp 𝕄 :=
  iprop((bigSep Finset.univ fun k : CIx => (dutyTok ER (cell (c, k)) 0 () : sProp 𝕄))
    ∗ bigSep Finset.univ fun b : Fin 4 => (dutyTok ER (cell (c, kW b)) 1 () : sProp 𝕄))

/-- A family over devices and distances, counted another way. -/
theorem around (e : Dev nD × Fin 32 ≃ Dev nD × Fin 32) (Φ : Dev nD × Fin 32 → sProp 𝕄) :
    (bigSep Finset.univ fun c : Dev nD => bigSep Finset.univ fun o : Fin 32 => Φ (c, o))
      = bigSep Finset.univ fun c : Dev nD => bigSep Finset.univ fun o : Fin 32 => Φ (e (c, o)) := by
  rw [← bigSep_univ_prod Φ, bigSep_univ_equiv e Φ, bigSep_univ_prod (fun a => Φ (e a))]

/-- Each device with the device a distance on. -/
def onward : Dev nD × Fin 32 ≃ Dev nD × Fin 32 :=
  ⟨fun x => (aft x.1 x.2, x.2), fun x => (bef x.1 x.2, x.2), fun x => by simp only [bef_aft], fun x => by simp only [aft_bef]⟩
/-- Each device with the device a distance on, seen from there. -/
def mirror : Dev nD × Fin 32 ≃ Dev nD × Fin 32 :=
  ⟨fun x => (aft x.1 x.2, opp x.2), fun x => (aft x.1 x.2, opp x.2), fun x => by simp only [aft_opp, bef_aft, opp_opp], fun x => by simp only [aft_opp, bef_aft, opp_opp]⟩

/-- The duties dealt to the devices that pay them. -/
theorem toks_around : (bigSep Finset.univ fun c : Dev nD => toks (F := F) c) ⊢ bigSep Finset.univ fun c : Dev nD => payToks (F := F) c := by
  unfold toks payToks
  rw [bigSep_sep', bigSep_congr fun c _ => by_kind (fun k => (dutyTok ER (cell (c, k)) 0 () : sProp 𝕄)),
    bigSep_sep', bigSep_sep', bigSep_sep', bigSep_sep', bigSep_sep', bigSep_sep', bigSep_sep', bigSep_sep', bigSep_sep',
    around onward (fun x => (dutyTok ER (cell (x.1, kR x.2)) 0 () : sProp 𝕄)), around mirror (fun x => (dutyTok ER (cell (x.1, kA x.2)) 0 () : sProp 𝕄))]
  iintro ⟨⟨H1, H2, H3, H4, H5⟩, H6⟩
  isplitl [H1]; · iexact H1
  isplitl [H2]; · iexact H2
  isplitl [H6]; · iexact H6
  isplitl [H3]; · iexact H3
  isplitl [H4]; · iexact H4
  iexact H5

/-! ## What each device is dealt -/

section Deal
variable (X : Dev nD → Vec F S4096x128 .f32) (Wt : Dev nD → Vec F S4096x2048 .f32)

def u₀ : UU := (initOf (Pipeline.cells cfgs cellOf_inj) (Pipeline.launchToks cfgs cellOf_inj), initOf allCells allToks)

/-- The minted state of the semaphores of device `c`. -/
def G (c : Dev nD) : sProp 𝕄 :=
  iprop((bigSep Finset.univ fun k : CIx => roundState ER (Rd X Wt) (cell (c, k)) 0)
    ∗ (posAll (F := F) c (fun _ => 0) ∗ bigSep Finset.univ fun k : CIx => (reached ER (cell (c, k)) 0 : sProp 𝕄)) ∗ toks (F := F) c)

/-- The invariants and that every semaphore has reached its first round. -/
def recs (K : Dev nD × CIx → ℕ) : sProp 𝕄 :=
  iprop((bigSep Finset.univ fun x : Dev nD × CIx => cellInv ER (Rd X Wt) (K x) (cell x))
    ∗ bigSep Finset.univ fun x : Dev nD × CIx => (reached ER (cell x) 0 : sProp 𝕄))

instance recs_persistent (K : Dev nD × CIx → ℕ) : BI.Persistent (recs X Wt K) := by unfold recs; infer_instance

/-- What device `c` has when the launch is done. -/
def G' (c : Dev nD) : sProp 𝕄 := iprop(∃ K, recs X Wt K ∗ posAll (F := F) c (fun _ => 0) ∗ payToks (F := F) c)

/-- The launch mints what each device is dealt. -/
theorem fund_all : BI.own (ER (initOf allCells allToks)) ⊢ (|==> bigSep Finset.univ (G X Wt) : sProp 𝕄) := by
  have hX (Φ : GSem nD τ sig → sProp 𝕄) : bigSep allCells Φ = bigSep Finset.univ fun c : Dev nD => bigSep Finset.univ fun k : CIx => Φ (cell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum]; rfl
  iintro HX
  imod (Rounds.fund ER (Rd X Wt) allCells allToks) $$ HX with ⟨Hst, Hr, Hat, Htok⟩
  imodintro
  ihave Hst' := (Entails.of_eq (hX fun g => roundState ER (Rd X Wt) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posAll; simp only [bigSep_sep']
  isplitl [Hst']; · iexact Hst'
  isplitl [Hat' Hr']
  · isplitl [Hat'] <;> iassumption
  iexact Htok'

/-- The barrier semaphore is the one the launch does not scope; -/
theorem unscopedSems0_eq (c : Dev nD) : (unscopedSems0 c : sProp 𝕄) = semVal (cell (c, none)) 0 := by
  unfold unscopedSems0; rw [bigSep_eq_bigSepL_of_eq [SemLoc.reg barS] (by decide +kernel) (by decide +kernel)]; rfl

/-- the others are the kernel's own. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : CIx => semVal (cell (c, k)) 0 : sProp 𝕄) := by
  rw [unscopedSems0_eq, by_kind (fun k => (semVal (cell (c, k)) 0 : sProp 𝕄))]
  unfold Pipeline.ownSems0
  rw [bigSep_univ_sum, bigSep_univ_sum, bigSep_univ_sum]
  rfl

/-- The invariants of one device. -/
theorem alloc_one (c : Dev nD) :
    iprop(Pipeline.ownSems0 (Ix := Unit) (Name := ℕ) (U := UU) (Lvl := ℕ) (Val := Elt F) (τ := τ) osem c ∗ unscopedSems0 c ∗ G X Wt c)
      ⊢ |={Set.univ}=> iprop((bigSep Finset.univ fun k : CIx => iprop(∃ κ : ℕ, cellInv ER (Rd X Wt) κ (cell (c, k))))
          ∗ (posAll (F := F) c (fun _ => 0) ∗ bigSep Finset.univ fun k : CIx => (reached ER (cell (c, k)) 0 : sProp 𝕄)) ∗ toks (F := F) c) := by
  have ha : iprop((bigSep Finset.univ fun k : CIx => semVal (cell (c, k)) 0) ∗ bigSep Finset.univ fun k : CIx => roundState ER (Rd X Wt) (cell (c, k)) 0)
      ⊢ (|={Set.univ}=> bigSep Finset.univ fun k : CIx => iprop(∃ κ : ℕ, cellInv ER (Rd X Wt) κ (cell (c, k))) : sProp 𝕄) := by
    rw [← bigSep_sep']
    exact (bigSep_mono fun k _ => (Rounds.body_intro ER (Rd X Wt) (cell (c, k))).trans inv_alloc).trans (bigSep_fupd _ _)
  unfold G
  iintro ⟨Hos, Hus, Hst, Hat, Htok⟩
  ihave Hv := (Entails.of_eq (sems0_eq (F := F) c)) $$ [Hos Hus]
  · isplitl [Hus] <;> iassumption
  imod ha $$ [Hv Hst] with Hinv
  · isplitl [Hv] <;> iassumption
  imodintro
  isplitl [Hinv]; · iexact Hinv
  isplitl [Hat]; · iexact Hat
  iexact Htok

/-- All devices know all invariants. -/
theorem deal :
    (bigSep Finset.univ fun c : Dev nD => iprop((bigSep Finset.univ fun k : CIx => iprop(∃ κ : ℕ, cellInv ER (Rd X Wt) κ (cell (c, k))))
          ∗ (posAll (F := F) c (fun _ => 0) ∗ bigSep Finset.univ fun k : CIx => (reached ER (cell (c, k)) 0 : sProp 𝕄)) ∗ toks (F := F) c) : sProp 𝕄)
      ⊢ bigSep Finset.univ (G' X Wt) := by
  rw [bigSep_sep', bigSep_sep', bigSep_sep', ← bigSep_univ_prod (fun x : Dev nD × CIx => iprop(∃ κ : ℕ, cellInv ER (Rd X Wt) κ (cell x))),
    ← bigSep_univ_prod (fun x : Dev nD × CIx => (reached ER (cell x) 0 : sProp 𝕄))]
  have hd (K : Dev nD × CIx → ℕ) : iprop(recs X Wt K ∗ bigSep Finset.univ fun c : Dev nD => iprop(posAll (F := F) c (fun _ => 0) ∗ payToks (F := F) c))
      ⊢ bigSep Finset.univ (G' X Wt) := by
    refine (BI.sep_mono (BI.bigSep_of_persistent (Finset.univ : Finset (Dev nD)) (recs X Wt K)) (Entails.refl _)).trans ?_
    refine (Entails.of_eq (bigSep_sep' Finset.univ (fun _ : Dev nD => recs X Wt K) (fun c => iprop(posAll (F := F) c (fun _ => 0) ∗ payToks (F := F) c))).symm).trans ?_
    refine bigSep_mono fun c _ => ?_
    show iprop(recs X Wt K ∗ posAll (F := F) c (fun _ => 0) ∗ payToks (F := F) c) ⊢ iprop(∃ K, recs X Wt K ∗ posAll (F := F) c (fun _ => 0) ∗ payToks (F := F) c)
    iintro H; iexists K; iexact H
  iintro ⟨HI, ⟨Hat, HR⟩, Htok⟩
  ihave HK := (BI.bigSep_exists_pi Finset.univ (fun (x : Dev nD × CIx) (κ : ℕ) => (cellInv ER (Rd X Wt) κ (cell x) : sProp 𝕄))) $$ HI
  icases HK with ⟨%K, HI⟩
  ihave Htk := (toks_around (F := F)) $$ Htok
  iapply (hd K)
  isplitl [HI HR]
  · unfold recs; isplitl [HI] <;> iassumption
  iapply (Entails.of_eq (bigSep_sep' Finset.univ (fun c : Dev nD => posAll (F := F) c (fun _ => 0)) (fun c => payToks (F := F) c)).symm)
  isplitl [Hat] <;> iassumption

/-- The step of all devices at once. -/
theorem glob : (bigSep Finset.univ fun c : Dev nD => iprop(Pipeline.ownSems0 (Ix := Unit) (Name := ℕ) (U := UU) (Lvl := ℕ) (Val := Elt F) (τ := τ) osem c ∗ unscopedSems0 c ∗ G X Wt c) : sProp 𝕄)
    ⊢ |={Set.univ}=> bigSep Finset.univ (G' X Wt) :=
  ((bigSep_mono fun c _ => alloc_one X Wt c).trans (bigSep_fupd _ _)).trans (BI.fupd_mono (deal X Wt))

end Deal
end Cert.A2A
-- ==== Proof.A2A.Launch.lean ====
/-
# The all-to-all: the run of the program

The kernel's run on every device, put together: from any memory, with all counters at zero, the program ends with the
computed result in place, its arguments unchanged and all counters at zero again.
-/
module

public import proofs.«01_k».proof.Proof.A2A.Tokens
public import proofs.«01_k».proof.Proof.Gen.KernelIdeal.Launch
public import proofs.«01_k».proof.Proof.Gen.KernelIdeal.Points
public import Idealize.ShloMosaic.Lib.Pipeline.Launch
public import Idealize.ShloMosaic.Lib.Pipeline.Value
public import Idealize.ShloMosaic.Lib.Pipeline.CollectiveSegs
public import Idealize.ShloMosaic.Lib.Quiescent

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

section Launch
variable (m : (ℓ : Loc nD τ sig) → Buf (Elt F) ℓ) (ρ : Dev nD → PrngReg)

/-- The memory the program starts from. -/
abbrev s₀ : MemSt nD τ sig (Elt F) := ⟨m, fun _ => 0, ρ⟩

/-- The arguments of each device. -/
abbrev argX (c : Dev nD) : Vec F S4096x128 .f32 := m ((c : Thread nD τ).loc main_arg0)
abbrev argW (c : Dev nD) : Vec F S4096x2048 .f32 := m ((c : Thread nD τ).loc main_arg1)
abbrev argSx (c : Dev nD) : Vec F S1 .f32 := m ((c : Thread nD τ).loc main_arg2)
abbrev argSw (c : Dev nD) : Vec F S1 .f32 := m ((c : Thread nD τ).loc main_arg3)
/-- The result of device `c`. -/
abbrev res (c : Dev nD) : Vec F S128x2048 .f32 := outv (argX m) (argW m) c (argSx m c) (argSw m c)

/-- The semaphores, duties and credit a device starts from, and its weights. -/
def start (c : Dev nD) : sProp 𝕄 :=
  iprop((∃ K, Inv (argX m) (argW m) K ∗ posAll (F := F) c (fun _ => 0) ∗ payToks (F := F) c) ∗ creds (F := F) c
    ∗ ((c : Thread nD τ).loc main_arg1 ↦{fullShare} argW m c))
/-- The scratch buffers at some contents. -/
def scr (c : Dev nD) : sProp 𝕄 :=
  iprop((∃ f : Vec F S4096x128 .fp8e5m2, (c : Thread nD τ).loc cc0_scratch0 ↦{fullShare} f)
    ∗ (∃ f : Vec F S128x4096 .fp8e5m2, (c : Thread nD τ).loc cc0_scratch1 ↦{fullShare} f)
    ∗ (∃ f : Vec F S4x512x2048 .f32, (c : Thread nD τ).loc cc0_scratch2 ↦{fullShare} f))
def Φ₀ (c : Dev nD) : sProp 𝕄 := iprop(start m c ∗ scr (F := F) c)
def Φ₁ (c : Dev nD) : sProp 𝕄 :=
  iprop((bigSep Finset.univ fun k : CIx => (semVal (cell (c, k)) 0 : sProp 𝕄)) ∗ ((c : Thread nD τ).loc main_arg1 ↦{fullShare} argW m c) ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => argX m c
    | ⟨1, _⟩ => argSx m c
    | ⟨2, _⟩ => argSw m c
    | ⟨3, _⟩ => res m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-! ## The windows' blocks are the whole arrays -/

theorem blk0 (f : Vec F S4096x128 .f32) : (win0_0.blk t0_0).view.read (Elt F) f = f := funext fun j => by
  rw [View.read_apply]
  show f ((win0_0.rect t0_0).emb j) = f j
  congr 1
  funext a; apply Fin.ext; rw [Rect.emb_apply]
  show 0 * _ + 1 * (j a).val = (j a).val
  omega
theorem blk1 (f : Vec F S1 .f32) : (win0_1.blk t0_0).view.read (Elt F) f = f := funext fun j => by
  rw [View.read_apply]
  show f ((win0_1.rect t0_0).emb j) = f j
  congr 1
  funext a; apply Fin.ext; rw [Rect.emb_apply]
  show 0 * _ + 1 * (j a).val = (j a).val
  omega
theorem blk2 (f : Vec F S1 .f32) : (win0_2.blk t0_0).view.read (Elt F) f = f := funext fun j => by
  rw [View.read_apply]
  show f ((win0_2.rect t0_0).emb j) = f j
  congr 1
  funext a; apply Fin.ext; rw [Rect.emb_apply]
  show 0 * _ + 1 * (j a).val = (j a).val
  omega
theorem blk3 (f : Vec F S128x2048 .f32) : (win0_3.blk t0_0).view.read (Elt F) f = f := funext fun j => by
  rw [View.read_apply]
  show f ((win0_3.rect t0_0).emb j) = f j
  congr 1
  funext a; apply Fin.ext; rw [Rect.emb_apply]
  show 0 * _ + 1 * (j a).val = (j a).val
  omega

/-! ## The body -/

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ ∗ stg c cc0_stg0_0 (argX m c) ∗ stg c cc0_stg1_0 (argSx m c)
    ∗ stg c cc0_stg2_0 (argSw m c) ∗ stg c cc0_stg3_0 (res m c))

/-- What the run ends with is what is claimed after the body. -/
theorem post_intro (K : Dev nD × CIx → ℕ) (c : Dev nD) :
    iprop(Inv (argX m) (argW m) K ∗ owesE (F := F) c 0 ∗ posAll (F := F) c rounds
      ∗ ((c : Thread nD τ).loc cc0_scratch0 ↦{fullShare} qv (argX m) c)
      ∗ ((c : Thread nD τ).loc cc0_scratch1 ↦{fullShare} xv (argX m) c)
      ∗ (∃ f : Vec F S4x512x2048 .f32, (c : Thread nD τ).loc cc0_scratch2 ↦{fullShare} f)
      ∗ ((c : Thread nD τ).loc main_arg1 ↦{fullShare} argW m c)
      ∗ ((c : Thread nD τ).loc cc0_stg3_0 ↦{fullShare} res m c)
      ∗ ((c : Thread nD τ).loc cc0_stg2_0 ↦{fullShare} argSw m c)
      ∗ ((c : Thread nD τ).loc cc0_stg1_0 ↦{fullShare} argSx m c)
      ∗ ((c : Thread nD τ).loc cc0_stg0_0 ↦{fullShare} argX m c))
    ⊢ |={Set.univ}=> bodyPost m ρ c := by
  iintro ⟨HI, HO, Hp, Hq, Hx, Hb, Hw, H3, H2, H1, H0⟩
  imod (close_all (X := argX m) (Wt := argW m) (K := K) (c := c)) $$ [HI Hp] with Hz
  · isplitl [HI] <;> iassumption
  imodintro
  unfold bodyPost Φ₁ scr Dat.owesAt Pipeline.owesWithin
  rw [show (dats m ρ 0 c).owed t0_0.succ = 0 from rfl]
  isplitl [Hz Hw Hq Hx Hb]
  · isplitl [Hz]; · iexact Hz
    isplitl [Hw]; · iexact Hw
    isplitl [Hq]; · iexists _; iexact Hq
    isplitl [Hx]; · iexists _; iexact Hx
    iexact Hb
  isplitl [HO]
  · unfold owesE
    icases HO with ⟨%W, HO⟩
    iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-- The run of a device, from all it starts with to the end. -/
theorem body_core (K : Dev nD × CIx → ℕ) (c : Dev nD) (fq : Vec F S4096x128 .fp8e5m2) (fx : Vec F S128x4096 .fp8e5m2) (fb : Vec F S4x512x2048 .f32)
    (fo : Vec F S128x2048 .f32) :
    iprop(Inv (argX m) (argW m) K ∗ owesE c (O₀ c) ∗ posAll (F := F) c (fun _ => 0) ∗ payToks (F := F) c ∗ creds (F := F) c
      ∗ ((c : Thread nD τ).loc cc0_scratch0 ↦{fullShare} fq)
      ∗ ((c : Thread nD τ).loc cc0_scratch1 ↦{fullShare} fx)
      ∗ ((c : Thread nD τ).loc cc0_scratch2 ↦{fullShare} fb)
      ∗ ((c : Thread nD τ).loc main_arg1 ↦{fullShare} argW m c)
      ∗ ((c : Thread nD τ).loc cc0_stg0_0 ↦{fullShare} argX m c)
      ∗ ((c : Thread nD τ).loc cc0_stg1_0 ↦{fullShare} argSx m c)
      ∗ ((c : Thread nD τ).loc cc0_stg2_0 ↦{fullShare} argSw m c)
      ∗ ((c : Thread nD τ).loc cc0_stg3_0 ↦{fullShare} fo))
    ⊢ run c (onBufs (cc0_body (F := F))) fun _ => iprop(|={Set.univ}=> bodyPost m ρ c) :=
  run_pre (start_st (X := argX m) (Wt := argW m) (K := K) (c := c) fq fx fb)
    ((body_run fq fx (argSx m c) (argSw m c) fo).trans
      (wp_mono _ _ _ fun _ => (end_st (X := argX m) (Wt := argW m) (K := K) (c := c)).trans (post_intro m ρ K c)))

/-- The body, from what the windows and the launch give it, before the semaphores are closed. -/
theorem body_open (c : Dev nD) : bodyPre m ρ c ⊢ run c (onBufs (cc0_body (F := F))) fun _ => iprop(|={Set.univ}=> bodyPost m ρ c) := by
  unfold bodyPre Φ₀ start scr Dat.owesAt Pipeline.owesWithin
  iintro ⟨⟨⟨⟨%K, #HI, Hp, Ht⟩, Hc, Hw⟩, ⟨%fq, Hq⟩, ⟨%fx, Hx⟩, %fb, Hb⟩, ⟨%W, %hW, HO⟩, ⟨%d0, %g0, %h0, H0⟩, ⟨%d1, %g1, %h1, H1⟩, ⟨%d2, %g2, %h2, H2⟩, ⟨%d3, %g3, %h3, H3⟩⟩
  have e0 : g0 = argX m c := by rw [h0]; unfold Dat.before; rw [if_pos (fetch0_0 t0_0)]; exact blk0 (argX m c)
  have e1 : g1 = argSx m c := by rw [h1]; unfold Dat.before; rw [if_pos (fetch0_1 t0_0)]; exact blk1 (argSx m c)
  have e2 : g2 = argSw m c := by rw [h2]; unfold Dat.before; rw [if_pos (fetch0_2 t0_0)]; exact blk2 (argSw m c)
  subst e0 e1 e2
  iapply (body_core m ρ K c fq fx fb g3)
  isplitr; · iexact HI
  isplitl [HO]; · unfold owesE; iexists W; iexact HO
  isplitl [Hp]; · iexact Hp
  isplitl [Ht]; · iexact Ht
  isplitl [Hc]; · iexact Hc
  isplitl [Hq]; · iexact Hq
  isplitl [Hx]; · iexact Hx
  isplitl [Hb]; · iexact Hb
  isplitl [Hw]; · iexact Hw
  isplitl [H0]; · iexact H0
  isplitl [H1]; · iexact H1
  isplitl [H2]; · iexact H2
  iexact H3

/-- The body, from what the windows and the launch give it. -/
theorem body_sound (c : Dev nD) : bodyPre m ρ c ⊢ run c (onBufs (cc0_body (F := F))) fun _ => bodyPost m ρ c :=
  (body_open m ρ c).trans (wp_fupd _ _ _ _ _)

/-- The body at the one point of the grid. -/
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = _ from funext bigSep_W0]
  simp only [owns_whole]
  exact body_sound m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argX m) (argW m) c)
      ⊢ |={Set.univ}=> iprop(start m c ∗ emp) := by
  rw [show (Pipeline.unscopedRestP Pipeline.Prefetch.none cfg0.spec c (fun b => m ((c : Thread nD τ).loc b)) : sProp 𝕄)
    = ((c : Thread nD τ).loc main_arg1 ↦{fullShare} argW m c) from unscopedRest0_eq c _]
  iintro ⟨Hw, Hlev, Hcr, -, HG⟩
  ihave Hc := (creds_intro (F := F) c) $$ Hcr
  imodintro
  unfold start G' recs Inv
  icases HG with ⟨%K, ⟨HI, HR⟩, Hp, Ht⟩
  isplitl
  · isplitl [HI HR Hp Ht Hlev]
    · iexists K
      isplitl [HI HR Hlev]
      · isplitl [HI]; · iexact HI
        isplitl [HR] <;> iassumption
      isplitl [Hp] <;> iassumption
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop((unscopedSems0 c ∗ ((c : Thread nD τ).loc main_arg1 ↦{fullShare} argW m c)) ∗ Pipeline.ownSems0 osem c ∗ Pipeline.scopedRest cfg0.spec c) := by
  rw [show (dats m ρ 0 c).Φ (Fin.last cfg0.N) = Φ₁ m c from rfl, scopedRest0_eq]
  unfold Φ₁ scr
  rw [← sems0_eq]
  iintro ⟨⟨Hu, Ho⟩, Hw, Hr⟩
  isplitl [Hu Hw]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- At the end the weights are as they were and the semaphores are at zero. -/
abbrev Kept (c : Dev nD) (s : MemSt nD τ sig (Elt F)) : Prop :=
  (∀ sm : SemLoc sig, sm.isScoped .tc = false → s.sem ((c.tc : Thread nD τ), sm) = 0) ∧ s.mem ((c : Thread nD τ).loc main_arg1) = argW m c

/-- What is left at the end is read off the memory. -/
theorem read_end (c : Dev nD) (s' : Phys nD τ sig (Elt F)) :
    iprop((unscopedSems0 c ∗ ((c : Thread nD τ).loc main_arg1 ↦{fullShare} argW m c)) ∗ emp ∗ SI s')
      ⊢ (|={Set.univ}=> iprop(⌜Kept m c s'.mem⌝ ∗ SI s') : sProp 𝕄) := by
  iintro ⟨⟨Hu, Hw⟩, -, HS⟩
  ihave %hw := (SI_pointsTo_agree (st := s') (ℓ := (c : Thread nD τ).loc main_arg1) (I := Finset.univ) (q := fullShare) (f := argW m c)) $$ [HS Hw]
  · isplitl [HS] <;> iassumption
  imod (Pipeline.unscopedSems0_read (X := unscopedSems0 c) (c := c) fupd_intro s') $$ [Hu HS] with ⟨%hs, HS⟩
  · isplitl [Hu] <;> iassumption
  imodintro
  isplitr
  · ipureintro; exact ⟨hs, funext fun i => hw i (Finset.mem_univ i)⟩
  iexact HS

/-- The launch runs to the end: every window's array holds what its blocks wrote to it, the weights are as they were,
    and every semaphore is at zero. -/
theorem run_main : θ_run defs (onTc (τ := τ) (main (F := F))) (s₀ m ρ)
    (fun r => (∀ c : Dev nD, (∀ w, r.2.mem ((cfg0.win w).arr.view.loc (c : Thread nD τ)) = (dats m ρ 0 c).arrAt w cfg0.N)
      ∧ r.2.mem ((c : Thread nD τ).loc main_arg1) = argW m c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := fun c => (body_obligation m ρ c).loose) (hne := fun w => by fin_cases w <;> exact Nat.succ_pos _) (harr := arr_whole0)
    (hstage := stage_whole0) (hshare := share_eq m ρ) (hdistinct := winFacts0.arr_inj)
    (O₀ := O₀) (howed₀ := fun _ => rfl) (howedN := fun _ => rfl) (L := L) (lv := lv) (hL := L_of_ne) (hwaits := waits m ρ)
    (G := G (argX m) (argW m)) (G' := G' (argX m) (argW m)) (u₀ := u₀)
    (hu₀ := by
      unfold u₀
      iintro Hu
      ihave H := (ownU_pair _ _) $$ Hu
      icases H with ⟨HP, HX⟩
      imod (fund_all (argX m) (argW m)) $$ HX with HG
      imodintro
      isplitl [HP] <;> iassumption)
    (hglob := glob (argX m) (argW m)) (hA := fun _ _ => rfl) (hpf := fun _ k => k.elim0)
    (X := start m) (Y := fun c => iprop(unscopedSems0 c ∗ ((c : Thread nD τ).loc main_arg1 ↦{fullShare} argW m c))) (Z := fun _ => iprop(emp))
    (hX := start_intro m ρ) (hin := phi0_intro m ρ) (hout := phi1_exit m ρ)
    (QY := Kept m) (hY := read_end m)
    (hQ := fun _ h hs => ⟨fun c => ⟨(h c).1, (h c).2.2.2⟩, sem_eq_zero hs fun c => (h c).2.2.1⟩)

/-- The result array at the end. -/
theorem final_res (c : Dev nD) : (dats m ρ 0 c).arrAt (3 : Fin 4) cfg0.N = res m c := by
  have h := (dats m ρ 0 c).read_blk_arrAt_eq_flushed (3 : Fin 4) (fun t t' _ _ h => absurd ((fin_N0 t).trans (fin_N0 t').symm) h) cfg0.N t0_0 (by decide) rfl
  exact (blk3 _).symm.trans h

/-- Every device ends with its result, its arguments as they were, and every semaphore at zero. -/
theorem run_all : θ_run defs (onTc (τ := τ) (main (F := F))) (s₀ m ρ)
    (fun r => (∀ c : Dev nD, r.2.mem ((c : Thread nD τ).loc main_v1) = res m c ∧ r.2.mem ((c : Thread nD τ).loc main_arg0) = argX m c
      ∧ r.2.mem ((c : Thread nD τ).loc main_arg1) = argW m c ∧ r.2.mem ((c : Thread nD τ).loc main_arg2) = argSx m c
      ∧ r.2.mem ((c : Thread nD τ).loc main_arg3) = argSw m c) ∧ r.2.sem = fun _ => 0) :=
  (θ_run defs _ _).mono (fun _ h => ⟨fun c => ⟨((h.1 c).1 (3 : Fin 4)).trans (final_res m ρ c),
    ((h.1 c).1 (0 : Fin 4)).trans ((dats m ρ 0 c).arrAt_in (0 : Fin 4) rfl _), (h.1 c).2,
    ((h.1 c).1 (1 : Fin 4)).trans ((dats m ρ 0 c).arrAt_in (1 : Fin 4) rfl _),
    ((h.1 c).1 (2 : Fin 4)).trans ((dats m ρ 0 c).arrAt_in (2 : Fin 4) rfl _)⟩, h.2⟩) (run_main m ρ)

end Launch
end Cert.A2A
-- ==== Proof.A2A.KernelRun.lean ====
/-
# The run of the program as printed

The program as printed for the bits is, definition by definition, the one the run was proved for.
-/
module

public import proofs.«01_k».proof.Defs
public import proofs.«01_k».proof.Proof.Gen.Kernel
public import proofs.«01_k».proof.Proof.A2A.Launch

@[expose] public section

noncomputable section

namespace Cert.A2A

open Idealize.ShloMosaic Idealize.ShloMosaic.TcCoe Idealize.SL.Sem

/-- The two programs' bodies are one. -/
theorem body_eq : Cert.Kernel.cc0_body (F := Bits) = Cert.KernelIdeal.cc0_body (F := Bits) := rfl

/-- At the one label they are called on the same buffers. -/
theorem label_eq (t : Fin Cert.Kernel.grid0.N) (s : (w : Fin 4) → Fin (Cert.Kernel.win0 w).nbuf) :
    Cert.Kernel.defs₀ (F := Bits) .tc 0 (t, s) = Cert.KernelIdeal.defs₀ (F := Bits) .tc 0 (t, s) := by
  show Cert.Kernel.cc0_body (F := Bits) _ _ _ _ _ _ _ _ _ _ _ _ _ _ _ _ _ _ _ _
    = Cert.KernelIdeal.cc0_body (F := Bits) _ _ _ _ _ _ _ _ _ _ _ _ _ _ _ _ _ _ _ _
  rw [body_eq]

/-- The two tables of bodies are one. -/
theorem defs₀_eq : Cert.Kernel.defs₀ (F := Bits) = Cert.KernelIdeal.defs₀ (F := Bits) := by
  funext p
  match p with
  | .scScalar _ => rfl
  | .scVector _ _ => rfl
  | .tc =>
    funext l a
    match l, a with
    | ⟨0, _⟩, (t, s) => exact label_eq t s
    | ⟨_ + 1, h⟩, _ => exact absurd h (Nat.not_lt.2 (Nat.le_add_left _ _))

/-- The two programs' definitions are one. -/
theorem defs_eq : Cert.Kernel.defs (F := Bits) = Cert.KernelIdeal.defs (F := Bits) :=
  congrArg (Pipeline.defs (Cert.Kernel.pcfgs (F := Bits))) defs₀_eq

/-- The run of the program as printed: the arguments end as they were and the semaphores at zero. -/
theorem kernel_run (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r =>
      (∀ c : Dev Cert.Kernel.nD,
        r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1)
        ∧ r.2.mem ((c : Thread Cert.Kernel.nD Cert.Kernel.τ).loc Cert.Kernel.main_arg2) = m ((c : Thread Cert.Kernel.nD Cert.Kernel.τ).loc Cert.Kernel.main_arg2)
        ∧ r.2.mem ((c : Thread Cert.Kernel.nD Cert.Kernel.τ).loc Cert.Kernel.main_arg3) = m ((c : Thread Cert.Kernel.nD Cert.Kernel.τ).loc Cert.Kernel.main_arg3))
      ∧ r.2.sem = fun _ => 0) := by
  rw [defs_eq]
  exact (θ_run Cert.KernelIdeal.defs _ _).mono (fun _ h => ⟨fun c => (h.1 c).2, h.2⟩) (run_all (F := Bits) m ρ)

end Cert.A2A
-- ==== Proof.A2A.Blocks.lean ====
/-
# The blocked product

One block of the contraction is a product of 128 rows by 512 and 512 rows by 2048; the kernel adds eight of them. Over
the extended reals their sum is the sum over all 4096 positions, for addition there is commutative and associative.
-/
module

public import proofs.«01_k».proof.Proof.A2A.Body
public import Idealize.ShloMosaic.Lib.MatmulPlain
public import Idealize.ShloMosaic.PureOps.Ideal.Laws
public import Idealize.ShloMosaic.Lib.Pipeline.Value

@[expose] public section

noncomputable section

namespace Cert.A2A

open Idealize.ShloMosaic Idealize.ShloMosaic.ValueIdx Idealize.ShloMosaic.TcCoe
open scoped BigOperators

open Cert.KernelIdeal Cert.KernelIdeal.Gen

/-- The block of the weights without its leading axis, read at an index. -/
theorem slab_apply (w : Vec Ideal S1x512x2048 .f32) (k : Fin 512) (q : Fin 2048) :
    shapeCast S512x2048 w shapeCasts_S1x512x2048_S512x2048 (ValueIdx.ix2 k q) = w (ix3 0 k q) :=
  shapeCast_apply w _ _ _ (by
    rw [Shape.rowMajor_val_three, Shape.rowMajor_val_two]
    show ((0 * 512 + k.val) * 2048 + q.val) = k.val * 2048 + q.val
    omega)

/-- One block's product at an index. -/
theorem block_product (x : Vec Ideal S128x512 .fp8e5m2) (w : Vec Ideal S1x512x2048 .f32) (r : Fin 128) (q : Fin 2048) :
    matmul (F := Ideal) (φ₁ := .fp8e5m2) (φ₂ := .fp8e5m2) dot_S128x512_S512x2048_S128x2048_1_0_0_1_n_n none x
        (truncf (F := Ideal) .fp8e5m2 (shapeCast S512x2048 w shapeCasts_S1x512x2048_S512x2048) bitsLt_fp8e5m2_f32)
        (constant S128x2048 .f32 0x00000000#32) (ValueIdx.ix2 r q)
      = ∑ k : Fin 512, (x (ValueIdx.ix2 r k) : EReal) * w (ix3 0 k q) := by
  refine (Ideal.matmul_plain_apply (M := 128) (K := 512) (N := 2048) none x _ _ r q).trans ?_
  rw [show (constant (F := Ideal) S128x2048 .f32 0x00000000#32 (ValueIdx.ix2 r q) : EReal) = 0 from Ideal.ofBits_zero_f32, zero_add]
  refine Finset.sum_congr rfl fun k _ => ?_
  exact congrArg (fun z : EReal => (x (ValueIdx.ix2 r k) : EReal) * z) (slab_apply w k q)

/-- A sum over eight blocks of 512 is the sum over 4096. -/
theorem sum_blocks (f : Fin 4096 → EReal) :
    ∑ i : Fin 8, ∑ k : Fin 512, f ⟨512 * i.val + k.val, by omega⟩ = ∑ k : Fin 4096, f k := by
  rw [← Fintype.sum_prod_type', ← Equiv.sum_comp (finProdFinEquiv (m := 8) (n := 512))]
  refine Finset.sum_congr rfl fun p _ => congrArg f (Fin.ext ?_)
  show 512 * p.1.val + p.2.val = p.2.val + 512 * p.1.val
  omega

variable (X : Dev nD → Vec Ideal S4096x128 .f32) (Wt : Dev nD → Vec Ideal S4096x2048 .f32)

/-- The eight blocks multiplied in, at an index. -/
theorem acc8_blocks (c : Dev nD) (r : Fin 128) (q : Fin 2048) :
    acc8 X Wt c (ValueIdx.ix2 r q)
      = ∑ i : Fin 8, ∑ k : Fin 512, (xslab X c i (ValueIdx.ix2 r k) : EReal) * wslab Wt c i (ix3 0 k q) := by
  rw [Fin.sum_univ_eight, ← block_product, ← block_product, ← block_product, ← block_product, ← block_product, ← block_product,
    ← block_product, ← block_product]
  rfl

/-- Column `k` of what a device gathers, from the device that holds it. -/
theorem xv_apply (c : Dev nD) (r : Fin 128) (k : Fin 4096) :
    (xv X c (ValueIdx.ix2 r k) : EReal)
      = X ⟨k.val / 128, by show _ < 32; omega⟩ (ValueIdx.ix2 ⟨128 * c.val + r.val, by have h : c.val < 32 := c.isLt; omega⟩
          ⟨k.val % 128, Nat.mod_lt _ (by decide)⟩) := by
  show k0_pay2 (X _) _ = _
  unfold k0_pay2
  simp only [shapeCast_self]
  show X _ _ = X _ _
  congr 1
  funext a
  match a with
  | ⟨0, _⟩ => rfl
  | ⟨1, _⟩ => rfl

/-- All the blocks multiplied in: the whole row times the whole column. -/
theorem acc8_apply (c : Dev nD) (r : Fin 128) (q : Fin 2048) :
    acc8 X Wt c (ValueIdx.ix2 r q)
      = ∑ k : Fin 4096, (X ⟨k.val / 128, by show _ < 32; omega⟩ (ValueIdx.ix2 ⟨128 * c.val + r.val, by have h : c.val < 32 := c.isLt; omega⟩
          ⟨k.val % 128, Nat.mod_lt _ (by decide)⟩) : EReal) * Wt c (ValueIdx.ix2 k q) := by
  rw [acc8_blocks, ← sum_blocks]
  refine Finset.sum_congr rfl fun i _ => Finset.sum_congr rfl fun k _ => ?_
  rw [← xv_apply X c r]
  have hx : xslab X c i (ValueIdx.ix2 r k) = xv X c (ValueIdx.ix2 r ⟨512 * i.val + k.val, by omega⟩) := by
    unfold xslab
    congr 1
    funext a
    match a with
    | ⟨0, _⟩ => rfl
    | ⟨1, _⟩ => rfl
  have hw : wslab Wt c i (ix3 0 k q) = Wt c (ValueIdx.ix2 ⟨512 * i.val + k.val, by omega⟩ q) := by
    unfold wslab
    congr 1
    funext a
    match a with
    | ⟨0, _⟩ => rfl
    | ⟨1, _⟩ => rfl
  rw [hx, hw]

end Cert.A2A
-- ==== Proof.A2A.Silu.lean ====
/-
# SiLU, two ways

The kernel multiplies a number by its logistic value; the reference divides it by one plus the exponential of its
negative. Over the extended reals the two are the same number, at the infinities too.
-/
module

public import Idealize.ShloMosaic.PureOps.Ideal
public import Idealize.ShloMosaic.PureOps.Ideal.Laws
public import Idealize.ShloMosaic.PureOps.IdealRules

@[expose] public section

noncomputable section

namespace Cert.A2A

open Idealize.ShloMosaic

/-- One plus an exponential is never zero. -/
theorem one_add_exp_ne (y : EReal) : (1 : EReal) + Ideal.exp y ≠ 0 := by
  induction y with
  | bot => rw [Ideal.exp_bot, add_zero]; exact one_ne_zero
  | top => rw [Ideal.exp_top, EReal.add_top_of_ne_bot (show (1 : EReal) ≠ ⊥ from EReal.coe_ne_bot 1)]; exact EReal.top_ne_zero
  | coe r =>
    rw [Ideal.exp_coe, ← EReal.coe_one, ← EReal.coe_add]
    have h : (0 : ℝ) < 1 + Real.exp r := by positivity
    exact_mod_cast h.ne'

/-- A number times its logistic value is the number divided by one plus the exponential of its negative. -/
theorem silu (y : EReal) : y * Ideal.logistic y = Ideal.div y (1 + Ideal.exp (-y)) := by
  unfold Ideal.logistic Ideal.div
  rw [if_neg (one_add_exp_ne _), if_neg (one_add_exp_ne _), one_mul]

/-- The word of the constant one. -/
theorem ofBits_one : Ideal.ofBits .f32 0x3F800000#32 = 1 :=
  IdealRules.sign_bit.ideal_onePat .f32

end Cert.A2A
-- ==== Proof.A2A.Equation.lean ====
/-
# The equation

What the reference computes at an index, what a device computes at an index, and that the device's 128 rows are its
block of the reference's 4096.
-/
module

public import proofs.«01_k».proof.Proof.A2A.Blocks
public import proofs.«01_k».proof.Proof.A2A.Silu
public import proofs.«01_k».proof.Proof.Gen.ReferenceIdeal
public import Idealize.ShloMosaic.Lib.Layout
public import Idealize.ShloMosaic.Lib.IdealHost

@[expose] public section

noncomputable section

namespace Cert.A2A

open Idealize.ShloMosaic Idealize.ShloMosaic.ValueIdx Idealize.ShloMosaic.TcCoe
open scoped BigOperators

/-! ## The reference -/

section Reference
open Cert.ReferenceIdeal Cert.ReferenceIdeal.Gen

variable (A : FVec Ideal S4096x4096 .f32) (W : FVec Ideal S4096x2048 .f32) (sx sw : FVec Ideal S1 .f32)

/-- The scaled product of the reference. -/
def refScaled : FVec Ideal S4096x2048 .f32 :=
  mulf (Host.dotGeneral dot_S4096x4096_S4096x2048_S4096x2048_1_0_0_1_n_n none A W)
    (broadcastInDim S4096x2048 ![0, 1] bcast_S1x1_S4096x2048_0_1 (broadcastInDim S1x1 ![1] bcast_S1_S1x1_1 (mulf sx sw)))

/-- The reference's result. -/
def refOut : FVec Ideal S4096x2048 .f32 :=
  Host.divf (refScaled A W sx sw)
    (addf (broadcastInDim S4096x2048 ![] bcast_S_S4096x2048 (constant S_ .f32 0x3F800000#32)) (Host.exp (Host.negf (refScaled A W sx sw))))

/-- The reference's product at an index. -/
theorem dot_apply (r : Fin 4096) (q : Fin 2048) :
    (Host.dotGeneral dot_S4096x4096_S4096x2048_S4096x2048_1_0_0_1_n_n none A W (ValueIdx.ix2 r q) : EReal)
      = ∑ k : Fin 4096, (A (ValueIdx.ix2 r k) : EReal) * W (ValueIdx.ix2 k q) := by
  have h := Ideal.matmul_plain_apply (M := 4096) (K := 4096) (N := 2048) none A W (fun _ => (0 : EReal)) r q
  rw [zero_add] at h
  exact h

/-- The scaled product at an index. -/
theorem refScaled_apply (r : Fin 4096) (q : Fin 2048) :
    (refScaled A W sx sw (ValueIdx.ix2 r q) : EReal)
      = (∑ k : Fin 4096, (A (ValueIdx.ix2 r k) : EReal) * W (ValueIdx.ix2 k q)) * ((sx (ValueIdx.ix1 0) : EReal) * sw (ValueIdx.ix1 0)) := by
  rw [← dot_apply]
  unfold refScaled
  show _ * broadcastInDim S4096x2048 ![0, 1] bcast_S1x1_S4096x2048_0_1 (broadcastInDim S1x1 ![1] bcast_S1_S1x1_1 (mulf sx sw)) (ValueIdx.ix2 r q) = _
  rw [broadcastInDim_apply (k := ValueIdx.ix2 0 0) (hk := fun a => by match a with | ⟨0, _⟩ => rfl | ⟨1, _⟩ => rfl),
    broadcastInDim_apply (k := ValueIdx.ix1 0) (hk := fun a => by match a with | ⟨0, _⟩ => rfl)]
  rfl

/-- The reference's result at an index, from its scaled product there. -/
theorem refOut_apply (j : S4096x2048.Idx) :
    (refOut A W sx sw j : EReal) = Ideal.div (refScaled A W sx sw j) (1 + Ideal.exp (-(refScaled A W sx sw j : EReal))) := by
  rw [← ofBits_one]
  rfl

end Reference

/-! ## The kernel -/

section Kernel
open Cert.KernelIdeal Cert.KernelIdeal.Gen

variable (X : Dev nD → Vec Ideal S4096x128 .f32) (Wt : Dev nD → Vec Ideal S4096x2048 .f32)

/-- The one element of an array of one, by its index. -/
theorem one1_apply (f : Vec Ideal S1 .f32) : one1 f = f (ValueIdx.ix1 0) :=
  congrArg f (funext fun a => Fin.ext (by
    match a with
    | ⟨0, _⟩ =>
      have h : (Shape.Idx.first (s := S1) (numel1_S1.symm ▸ Nat.one_pos) ⟨0, by decide⟩).val < 1 := Fin.isLt _
      exact Nat.lt_one_iff.mp h))

/-- A device's result at an index, from its scaled product there. -/
theorem outv_apply (c : Dev nD) (sx sw : Vec Ideal S1 .f32) (j : S128x2048.Idx) :
    (outv X Wt c sx sw j : EReal)
      = Ideal.div ((acc8 X Wt c j : EReal) * ((sx (ValueIdx.ix1 0) : EReal) * sw (ValueIdx.ix1 0)))
          (1 + Ideal.exp (-((acc8 X Wt c j : EReal) * ((sx (ValueIdx.ix1 0) : EReal) * sw (ValueIdx.ix1 0))))) := by
  rw [← silu, ← one1_apply sx, ← one1_apply sw]
  rfl

/-- The rows of a device are its block of the reference's. -/
theorem outv_eq (A : FVec Ideal Cert.ReferenceIdeal.S4096x4096 .f32) (W : FVec Ideal Cert.ReferenceIdeal.S4096x2048 .f32)
    (sx sw : FVec Ideal Cert.ReferenceIdeal.S1 .f32)
    (hX : ∀ c, X c = Layout.block ⟨2, ![4096, 128]⟩ ⟨2, ![4096, 4096]⟩ 1 32 c A) (hW : ∀ c, Wt c = W) (c : Dev nD) :
    outv X Wt c sx sw = Layout.block ⟨2, ![128, 2048]⟩ ⟨2, ![4096, 2048]⟩ 0 32 c (refOut A W sx sw) := by
  funext j
  obtain ⟨r, q, rfl⟩ : ∃ (r : Fin 128) (q : Fin 2048), j = ValueIdx.ix2 r q := ⟨j 0, j 1, ValueIdx.eq_ix2 j⟩
  have hc : c.val < 32 := c.isLt
  have hj : Layout.Tiles.idx (S := ⟨2, ![128, 2048]⟩) (T := ⟨2, ![4096, 2048]⟩) (a := 0) (k := 32) (by decide) c (ValueIdx.ix2 r q)
      = ValueIdx.ix2 (n0 := 4096) (n1 := 2048) ⟨128 * c.val + r.val, by omega⟩ q := by
    funext a
    match a with
    | ⟨0, _⟩ => exact Fin.ext (show c.val * 128 + r.val = 128 * c.val + r.val by omega)
    | ⟨1, _⟩ => rfl
  have ha : (acc8 X Wt c (ValueIdx.ix2 r q) : EReal)
      = ∑ k : Fin 4096, (A (ValueIdx.ix2 ⟨128 * c.val + r.val, by omega⟩ k) : EReal) * W (ValueIdx.ix2 k q) := by
    rw [acc8_apply]
    refine Finset.sum_congr rfl fun k _ => ?_
    rw [hX, hW, Layout.block_apply]
    congr 2
    funext a
    match a with
    | ⟨0, _⟩ => rfl
    | ⟨1, _⟩ => exact Fin.ext (show k.val / 128 * 128 + k.val % 128 = k.val by omega)
  refine (outv_apply X Wt c sx sw _).trans ?_
  rw [Layout.block_apply, hj]
  refine Eq.trans ?_ (refOut_apply A W sx sw _).symm
  rw [refScaled_apply, ha]

end Kernel
end Cert.A2A
-- ==== Proof.A2A.Clip.lean ====
/-
# The clipped reference

The reference that clips the exponent to [-60, 60], and that it is the unclipped one wherever the scaled product lies
within these limits.
-/
module

public import proofs.«01_k».proof.Proof.A2A.Equation
public import proofs.«01_k».proof.Proof.Gen.ClippedIdeal
public import proofs.«01_k».proof.Proof.Gen.On_within

@[expose] public section

noncomputable section

namespace Cert.A2A

open Idealize.ShloMosaic
open Cert.ReferenceIdeal Cert.ReferenceIdeal.Gen

variable (A : FVec Ideal S4096x4096 .f32) (W : FVec Ideal S4096x2048 .f32) (sx sw : FVec Ideal S1 .f32)

/-- The lower limit of the exponent, at every index. -/
def limLo : FVec Ideal S4096x2048 .f32 := broadcastInDim S4096x2048 ![] bcast_S_S4096x2048 (constant S_ .f32 0xC2700000#32)

/-- The upper limit of the exponent, at every index. -/
def limHi : FVec Ideal S4096x2048 .f32 := broadcastInDim S4096x2048 ![] bcast_S_S4096x2048 (constant S_ .f32 0x42700000#32)

/-- The clipped reference's result. -/
def clipOut : FVec Ideal S4096x2048 .f32 :=
  Host.divf (refScaled A W sx sw)
    (addf (broadcastInDim S4096x2048 ![] bcast_S_S4096x2048 (constant S_ .f32 0x3F800000#32))
      (Host.exp (Host.negf (minimumf limHi (maximumf limLo (refScaled A W sx sw))))))

/-- The clipped reference's result at an index, from its scaled product there. -/
theorem clipOut_apply (j : S4096x2048.Idx) :
    (clipOut A W sx sw j : EReal)
      = Ideal.div (refScaled A W sx sw j)
          (1 + Ideal.exp (-(min (limHi j : EReal) (max (limLo j : EReal) (refScaled A W sx sw j : EReal))))) := by
  rw [← ofBits_one]
  rfl

/-- A comparison that answers one holds. -/
theorem of_bit {p : Prop} [Decidable p] (h : BitVec.ofBool (decide p) = 1#1) : p := by
  by_contra hn
  rw [decide_eq_false hn] at h
  exact absurd h (by decide)

/-- Two bits whose conjunction is one are both one. -/
theorem both_bits : ∀ a b : BitVec 1, a &&& b = 1#1 → a = 1#1 ∧ b = 1#1 := by decide

/-- The mask selects indices at which the scaled product lies within the limits. -/
theorem within_apply (j : S4096x2048.Idx) (h : Cert.On_within.fn (F := Ideal) A W sx sw j = 1#1) :
    (limLo j : EReal) ≤ refScaled A W sx sw j ∧ (refScaled A W sx sw j : EReal) ≤ limHi j := by
  have hb : BitVec.ofBool (decide ((limLo j : EReal) ≤ refScaled A W sx sw j))
      &&& BitVec.ofBool (decide ((refScaled A W sx sw j : EReal) ≤ limHi j)) = 1#1 := h
  obtain ⟨h1, h2⟩ := both_bits _ _ hb
  exact ⟨of_bit h1, of_bit h2⟩

/-- Where the mask selects, clipping changes nothing. -/
theorem clipOut_eq (j : S4096x2048.Idx) (h : Cert.On_within.fn (F := Ideal) A W sx sw j = 1#1) :
    refOut A W sx sw j = clipOut A W sx sw j := by
  obtain ⟨h1, h2⟩ := within_apply A W sx sw j h
  refine (refOut_apply A W sx sw j).trans (Eq.trans ?_ (clipOut_apply A W sx sw j).symm)
  rw [max_eq_right h1, min_eq_right h2]

end Cert.A2A
-- ==== Proof.lean ====
/-
# The claim

The parts of `Cert.Claim`: the kernel's run at the bits and at the ideal values, the runs of the two references, and the
equations of the results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_within
public import proofs.«01_k».proof.Proof.A2A.Launch
public import proofs.«01_k».proof.Proof.A2A.KernelRun
public import proofs.«01_k».proof.Proof.A2A.Equation
public import proofs.«01_k».proof.Proof.A2A.Clip
public import Idealize.ShloMosaic.Adequacy
public import Idealize.ShloMosaic.Init

@[expose] public section

noncomputable section

namespace Cert.Proof

open Idealize.ShloMosaic Idealize.ShloMosaic.TcCoe Idealize.SL.Sem

/-- The kernel's run at the bits. -/
theorem quiescent_kernel : Cert.quiescent_Kernel := fun m ρ _ => A2A.kernel_run m ρ

/-- The kernel's run at the ideal values. -/
theorem quiescent_kernelIdeal : Cert.quiescent_KernelIdeal := fun m ρ _ =>
  (θ_run Cert.KernelIdeal.defs _ _).mono (fun _ h => ⟨fun c => (h.1 c).2, h.2⟩) (A2A.run_all (F := Ideal) m ρ)

/-- The reference's run; it has no semaphore. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device ends holding its rows of what the reference ends holding. -/
theorem algebraic : Cert.algebraic_KernelIdeal_ReferenceIdeal := fun m ρ m' ρ' _ h =>
  ⟨A2A.refOut (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3)),
    (θ_run Cert.KernelIdeal.defs _ _).mono (fun _ hr c => ⟨(hr.1 c).1.trans (by
        unfold A2A.res A2A.argSx A2A.argSw
        rw [(h c).2.2.1, (h c).2.2.2]
        exact A2A.outv_eq (A2A.argX m) (A2A.argW m) _ _ _ _ (fun d => (h d).1) (fun d => (h d).2.1) c), (hr.1 c).2⟩)
      (A2A.run_all (F := Ideal) m ρ),
    (θ_run Cert.ReferenceIdeal.defs _ _).mono (fun _ hr => hr 0) (Cert.ReferenceIdeal.Value.run (F := Ideal) m' ρ')⟩

/-- The clipped reference's run; it has no semaphore. -/
theorem quiescent_clipped : Cert.quiescent_ClippedIdeal := fun m ρ _ =>
  (θ_run Cert.ClippedIdeal.defs _ _).mono (fun r h => ⟨fun c => (h c).2, sem_eq_zero_of_no_sems (by decide) r.2⟩)
    (Cert.ClippedIdeal.Value.run (F := Ideal) m ρ)

/-- Where the scaled product lies within the limits, each device ends holding its rows of what the clipped reference ends
holding. -/
theorem algebraic_clipped : Cert.algebraic_KernelIdeal_ClippedIdeal_on_within := fun m ρ m' ρ' _ h =>
  ⟨A2A.clipOut (m' (((0 : Dev Cert.ClippedIdeal.nD) : Thread Cert.ClippedIdeal.nD Cert.ClippedIdeal.τ).loc Cert.ClippedIdeal.main_arg0))
      (m' (((0 : Dev Cert.ClippedIdeal.nD) : Thread Cert.ClippedIdeal.nD Cert.ClippedIdeal.τ).loc Cert.ClippedIdeal.main_arg1))
      (m' (((0 : Dev Cert.ClippedIdeal.nD) : Thread Cert.ClippedIdeal.nD Cert.ClippedIdeal.τ).loc Cert.ClippedIdeal.main_arg2))
      (m' (((0 : Dev Cert.ClippedIdeal.nD) : Thread Cert.ClippedIdeal.nD Cert.ClippedIdeal.τ).loc Cert.ClippedIdeal.main_arg3)),
    (θ_run Cert.KernelIdeal.defs _ _).mono (fun _ hr c => ⟨fun i hi => by
        rw [Layout.block_apply] at hi
        rw [(hr.1 c).1]
        unfold A2A.res A2A.argSx A2A.argSw
        rw [(h c).2.2.1, (h c).2.2.2,
          A2A.outv_eq (A2A.argX m) (A2A.argW m) _ _ _ _ (fun d => (h d).1) (fun d => (h d).2.1) c, Layout.block_apply, Layout.block_apply]
        exact A2A.clipOut_eq _ _ _ _ _ hi, (hr.1 c).2⟩)
      (A2A.run_all (F := Ideal) m ρ),
    (θ_run Cert.ClippedIdeal.defs _ _).mono (fun _ hr => ⟨fun i _ => congrFun (hr 0).1 i, (hr 0).2⟩)
      (Cert.ClippedIdeal.Value.run (F := Ideal) m' ρ')⟩

/-- The claims. -/
theorem claim : Cert.Claim := ⟨Cert.Kernel.Gen.facts, Cert.KernelIdeal.Gen.facts, Cert.ReferenceIdeal.Gen.facts,
  Cert.ClippedIdeal.Gen.facts, Cert.On_within.Gen.facts,
  quiescent_kernel, quiescent_kernelIdeal, quiescent_reference, quiescent_clipped, trivial, algebraic, algebraic_clipped⟩

end Cert.Proof

end
